-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInReferenceIdeal (m : (ℓ : Loc Cert.MixInReferenceIdeal.nD Cert.MixInReferenceIdeal.τ Cert.MixInReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnGrad (m : (ℓ : Loc Cert.FfnGrad.nD Cert.FfnGrad.τ Cert.FfnGrad.sig) → Buf (Elt Bits) ℓ) : Prop :=
  True

def Pre_FfnGradIdeal (m : (ℓ : Loc Cert.FfnGradIdeal.nD Cert.FfnGradIdeal.τ Cert.FfnGradIdeal.sig) → Buf (Elt Ideal) ℓ) : Prop :=
  True

def Pre_FfnGradIdeal_ffn_finite [hPre_ffn_finite : Cert.Pre_ffn_finite.Facts] (m : (ℓ : Loc Cert.FfnGradIdeal.nD Cert.FfnGradIdeal.τ Cert.FfnGradIdeal.sig) → Buf (Elt Ideal) ℓ) : Prop :=
  ∀ c : Dev Cert.FfnGradIdeal.nD,
    (Cert.Pre_ffn_finite.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).1 = (fun _ => 1#1)
    ∧ (Cert.Pre_ffn_finite.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).2.1 = (fun _ => 1#1)
    ∧ (Cert.Pre_ffn_finite.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).2.2.1 = (fun _ => 1#1)
    ∧ (Cert.Pre_ffn_finite.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).2.2.2.1 = (fun _ => 1#1)
    ∧ (Cert.Pre_ffn_finite.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).2.2.2.2.1 = (fun _ => 1#1)
    ∧ (Cert.Pre_ffn_finite.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).2.2.2.2.2 = (fun _ => 1#1)

def Pre_FfnGradReferenceIdeal (m : (ℓ : Loc Cert.FfnGradReferenceIdeal.nD Cert.FfnGradReferenceIdeal.τ Cert.FfnGradReferenceIdeal.sig) → Buf (Elt Ideal) ℓ) : Prop :=
  True

def Pre_FfnGradReferenceIdeal_ffn_finite [hPre_ffn_finite : Cert.Pre_ffn_finite.Facts] (m : (ℓ : Loc Cert.FfnGradReferenceIdeal.nD Cert.FfnGradReferenceIdeal.τ Cert.FfnGradReferenceIdeal.sig) → Buf (Elt Ideal) ℓ) : Prop :=
  ∀ c : Dev Cert.FfnGradReferenceIdeal.nD,
    (Cert.Pre_ffn_finite.fn (F := Ideal) (m ((c.tc : Thread Cert.FfnGradReferenceIdeal.nD Cert.FfnGradReferenceIdeal.τ).loc Cert.FfnGradReferenceIdeal.main_arg0)) (m ((c.tc : Thread Cert.FfnGradReferenceIdeal.nD Cert.FfnGradReferenceIdeal.τ).loc Cert.FfnGradReferenceIdeal.main_arg1)) (m ((c.tc : Thread Cert.FfnGradReferenceIdeal.nD Cert.FfnGradReferenceIdeal.τ).loc Cert.FfnGradReferenceIdeal.main_arg2)) (m ((c.tc : Thread Cert.FfnGradReferenceIdeal.nD Cert.FfnGradReferenceIdeal.τ).loc Cert.FfnGradReferenceIdeal.main_arg3)) (m ((c.tc : Thread Cert.FfnGradReferenceIdeal.nD Cert.FfnGradReferenceIdeal.τ).loc Cert.FfnGradReferenceIdeal.main_arg4)) (m ((c.tc : Thread Cert.FfnGradReferenceIdeal.nD Cert.FfnGradReferenceIdeal.τ).loc Cert.FfnGradReferenceIdeal.main_arg5))).1 = (fun _ => 1#1)
    ∧ (Cert.Pre_ffn_finite.fn (F := Ideal) (m ((c.tc : Thread Cert.FfnGradReferenceIdeal.nD Cert.FfnGradReferenceIdeal.τ).loc Cert.FfnGradReferenceIdeal.main_arg0)) (m ((c.tc : Thread Cert.FfnGradReferenceIdeal.nD Cert.FfnGradReferenceIdeal.τ).loc Cert.FfnGradReferenceIdeal.main_arg1)) (m ((c.tc : Thread Cert.FfnGradReferenceIdeal.nD Cert.FfnGradReferenceIdeal.τ).loc Cert.FfnGradReferenceIdeal.main_arg2)) (m ((c.tc : Thread Cert.FfnGradReferenceIdeal.nD Cert.FfnGradReferenceIdeal.τ).loc Cert.FfnGradReferenceIdeal.main_arg3)) (m ((c.tc : Thread Cert.FfnGradReferenceIdeal.nD Cert.FfnGradReferenceIdeal.τ).loc Cert.FfnGradReferenceIdeal.main_arg4)) (m ((c.tc : Thread Cert.FfnGradReferenceIdeal.nD Cert.FfnGradReferenceIdeal.τ).loc Cert.FfnGradReferenceIdeal.main_arg5))).2.1 = (fun _ => 1#1)
    ∧ (Cert.Pre_ffn_finite.fn (F := Ideal) (m ((c.tc : Thread Cert.FfnGradReferenceIdeal.nD Cert.FfnGradReferenceIdeal.τ).loc Cert.FfnGradReferenceIdeal.main_arg0)) (m ((c.tc : Thread Cert.FfnGradReferenceIdeal.nD Cert.FfnGradReferenceIdeal.τ).loc Cert.FfnGradReferenceIdeal.main_arg1)) (m ((c.tc : Thread Cert.FfnGradReferenceIdeal.nD Cert.FfnGradReferenceIdeal.τ).loc Cert.FfnGradReferenceIdeal.main_arg2)) (m ((c.tc : Thread Cert.FfnGradReferenceIdeal.nD Cert.FfnGradReferenceIdeal.τ).loc Cert.FfnGradReferenceIdeal.main_arg3)) (m ((c.tc : Thread Cert.FfnGradReferenceIdeal.nD Cert.FfnGradReferenceIdeal.τ).loc Cert.FfnGradReferenceIdeal.main_arg4)) (m ((c.tc : Thread Cert.FfnGradReferenceIdeal.nD Cert.FfnGradReferenceIdeal.τ).loc Cert.FfnGradReferenceIdeal.main_arg5))).2.2.1 = (fun _ => 1#1)
    ∧ (Cert.Pre_ffn_finite.fn (F := Ideal) (m ((c.tc : Thread Cert.FfnGradReferenceIdeal.nD Cert.FfnGradReferenceIdeal.τ).loc Cert.FfnGradReferenceIdeal.main_arg0)) (m ((c.tc : Thread Cert.FfnGradReferenceIdeal.nD Cert.FfnGradReferenceIdeal.τ).loc Cert.FfnGradReferenceIdeal.main_arg1)) (m ((c.tc : Thread Cert.FfnGradReferenceIdeal.nD Cert.FfnGradReferenceIdeal.τ).loc Cert.FfnGradReferenceIdeal.main_arg2)) (m ((c.tc : Thread Cert.FfnGradReferenceIdeal.nD Cert.FfnGradReferenceIdeal.τ).loc Cert.FfnGradReferenceIdeal.main_arg3)) (m ((c.tc : Thread Cert.FfnGradReferenceIdeal.nD Cert.FfnGradReferenceIdeal.τ).loc Cert.FfnGradReferenceIdeal.main_arg4)) (m ((c.tc : Thread Cert.FfnGradReferenceIdeal.nD Cert.FfnGradReferenceIdeal.τ).loc Cert.FfnGradReferenceIdeal.main_arg5))).2.2.2.1 = (fun _ => 1#1)
    ∧ (Cert.Pre_ffn_finite.fn (F := Ideal) (m ((c.tc : Thread Cert.FfnGradReferenceIdeal.nD Cert.FfnGradReferenceIdeal.τ).loc Cert.FfnGradReferenceIdeal.main_arg0)) (m ((c.tc : Thread Cert.FfnGradReferenceIdeal.nD Cert.FfnGradReferenceIdeal.τ).loc Cert.FfnGradReferenceIdeal.main_arg1)) (m ((c.tc : Thread Cert.FfnGradReferenceIdeal.nD Cert.FfnGradReferenceIdeal.τ).loc Cert.FfnGradReferenceIdeal.main_arg2)) (m ((c.tc : Thread Cert.FfnGradReferenceIdeal.nD Cert.FfnGradReferenceIdeal.τ).loc Cert.FfnGradReferenceIdeal.main_arg3)) (m ((c.tc : Thread Cert.FfnGradReferenceIdeal.nD Cert.FfnGradReferenceIdeal.τ).loc Cert.FfnGradReferenceIdeal.main_arg4)) (m ((c.tc : Thread Cert.FfnGradReferenceIdeal.nD Cert.FfnGradReferenceIdeal.τ).loc Cert.FfnGradReferenceIdeal.main_arg5))).2.2.2.2.1 = (fun _ => 1#1)
    ∧ (Cert.Pre_ffn_finite.fn (F := Ideal) (m ((c.tc : Thread Cert.FfnGradReferenceIdeal.nD Cert.FfnGradReferenceIdeal.τ).loc Cert.FfnGradReferenceIdeal.main_arg0)) (m ((c.tc : Thread Cert.FfnGradReferenceIdeal.nD Cert.FfnGradReferenceIdeal.τ).loc Cert.FfnGradReferenceIdeal.main_arg1)) (m ((c.tc : Thread Cert.FfnGradReferenceIdeal.nD Cert.FfnGradReferenceIdeal.τ).loc Cert.FfnGradReferenceIdeal.main_arg2)) (m ((c.tc : Thread Cert.FfnGradReferenceIdeal.nD Cert.FfnGradReferenceIdeal.τ).loc Cert.FfnGradReferenceIdeal.main_arg3)) (m ((c.tc : Thread Cert.FfnGradReferenceIdeal.nD Cert.FfnGradReferenceIdeal.τ).loc Cert.FfnGradReferenceIdeal.main_arg4)) (m ((c.tc : Thread Cert.FfnGradReferenceIdeal.nD Cert.FfnGradReferenceIdeal.τ).loc Cert.FfnGradReferenceIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3))
      ∧ r.2.sem = fun _ => 0)

def quiescent_MixInReferenceIdeal [hMixInReferenceIdeal : Cert.MixInReferenceIdeal.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1)
      ∧ r.2.mem ((c.tc : Thread Cert.MixInReferenceIdeal.nD Cert.MixInReferenceIdeal.τ).loc Cert.MixInReferenceIdeal.main_arg2) = m ((c.tc : Thread Cert.MixInReferenceIdeal.nD Cert.MixInReferenceIdeal.τ).loc Cert.MixInReferenceIdeal.main_arg2)
      ∧ r.2.mem ((c.tc : Thread Cert.MixInReferenceIdeal.nD Cert.MixInReferenceIdeal.τ).loc Cert.MixInReferenceIdeal.main_arg3) = m ((c.tc : Thread Cert.MixInReferenceIdeal.nD Cert.MixInReferenceIdeal.τ).loc Cert.MixInReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnGrad [hFfnGrad : Cert.FfnGrad.Facts] : Prop :=
  ∀ (m : (ℓ : Loc Cert.FfnGrad.nD Cert.FfnGrad.τ Cert.FfnGrad.sig) → Buf (Elt Bits) ℓ) (g : Dev Cert.FfnGrad.nD → PrngReg), Pre_FfnGrad m →
    θ_run (Cert.FfnGrad.defs (F := Bits)) (onTc (τ := Cert.FfnGrad.τ) (Cert.FfnGrad.main (F := Bits))) ⟨m, fun _ => 0, g⟩ (fun r => (∀ c : Dev Cert.FfnGrad.nD,
      r.2.mem ((c.tc : Thread Cert.FfnGrad.nD Cert.FfnGrad.τ).loc Cert.FfnGrad.main_arg0) = m ((c.tc : Thread Cert.FfnGrad.nD Cert.FfnGrad.τ).loc Cert.FfnGrad.main_arg0)
      ∧ r.2.mem ((c.tc : Thread Cert.FfnGrad.nD Cert.FfnGrad.τ).loc Cert.FfnGrad.main_arg1) = m ((c.tc : Thread Cert.FfnGrad.nD Cert.FfnGrad.τ).loc Cert.FfnGrad.main_arg1)
      ∧ r.2.mem ((c.tc : Thread Cert.FfnGrad.nD Cert.FfnGrad.τ).loc Cert.FfnGrad.main_arg2) = m ((c.tc : Thread Cert.FfnGrad.nD Cert.FfnGrad.τ).loc Cert.FfnGrad.main_arg2)
      ∧ r.2.mem ((c.tc : Thread Cert.FfnGrad.nD Cert.FfnGrad.τ).loc Cert.FfnGrad.main_arg3) = m ((c.tc : Thread Cert.FfnGrad.nD Cert.FfnGrad.τ).loc Cert.FfnGrad.main_arg3)
      ∧ r.2.mem ((c.tc : Thread Cert.FfnGrad.nD Cert.FfnGrad.τ).loc Cert.FfnGrad.main_arg4) = m ((c.tc : Thread Cert.FfnGrad.nD Cert.FfnGrad.τ).loc Cert.FfnGrad.main_arg4)
      ∧ r.2.mem ((c.tc : Thread Cert.FfnGrad.nD Cert.FfnGrad.τ).loc Cert.FfnGrad.main_arg5) = m ((c.tc : Thread Cert.FfnGrad.nD Cert.FfnGrad.τ).loc Cert.FfnGrad.main_arg5))
      ∧ r.2.sem = fun _ => 0)

def quiescent_FfnGradIdeal [hFfnGradIdeal : Cert.FfnGradIdeal.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
      ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
      ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5))
      ∧ r.2.sem = fun _ => 0)

def quiescent_FfnGradIdeal_pre_ffn_finite [hFfnGradIdeal : Cert.FfnGradIdeal.Facts] [hPre_ffn_finite : Cert.Pre_ffn_finite.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal_ffn_finite m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
      ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
      ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5))
      ∧ r.2.sem = fun _ => 0)

def quiescent_FfnGradReferenceIdeal [hFfnGradReferenceIdeal : Cert.FfnGradReferenceIdeal.Facts] : Prop :=
  ∀ (m : (ℓ : Loc Cert.FfnGradReferenceIdeal.nD Cert.FfnGradReferenceIdeal.τ Cert.FfnGradReferenceIdeal.sig) → Buf (Elt Ideal) ℓ) (g : Dev Cert.FfnGradReferenceIdeal.nD → PrngReg), Pre_FfnGradReferenceIdeal m →
    θ_run (Cert.FfnGradReferenceIdeal.defs (F := Ideal)) (onTc (τ := Cert.FfnGradReferenceIdeal.τ) (Cert.FfnGradReferenceIdeal.main (F := Ideal))) ⟨m, fun _ => 0, g⟩ (fun r => (∀ c : Dev Cert.FfnGradReferenceIdeal.nD,
      r.2.mem ((c.tc : Thread Cert.FfnGradReferenceIdeal.nD Cert.FfnGradReferenceIdeal.τ).loc Cert.FfnGradReferenceIdeal.main_arg0) = m ((c.tc : Thread Cert.FfnGradReferenceIdeal.nD Cert.FfnGradReferenceIdeal.τ).loc Cert.FfnGradReferenceIdeal.main_arg0)
      ∧ r.2.mem ((c.tc : Thread Cert.FfnGradReferenceIdeal.nD Cert.FfnGradReferenceIdeal.τ).loc Cert.FfnGradReferenceIdeal.main_arg1) = m ((c.tc : Thread Cert.FfnGradReferenceIdeal.nD Cert.FfnGradReferenceIdeal.τ).loc Cert.FfnGradReferenceIdeal.main_arg1)
      ∧ r.2.mem ((c.tc : Thread Cert.FfnGradReferenceIdeal.nD Cert.FfnGradReferenceIdeal.τ).loc Cert.FfnGradReferenceIdeal.main_arg2) = m ((c.tc : Thread Cert.FfnGradReferenceIdeal.nD Cert.FfnGradReferenceIdeal.τ).loc Cert.FfnGradReferenceIdeal.main_arg2)
      ∧ r.2.mem ((c.tc : Thread Cert.FfnGradReferenceIdeal.nD Cert.FfnGradReferenceIdeal.τ).loc Cert.FfnGradReferenceIdeal.main_arg3) = m ((c.tc : Thread Cert.FfnGradReferenceIdeal.nD Cert.FfnGradReferenceIdeal.τ).loc Cert.FfnGradReferenceIdeal.main_arg3)
      ∧ r.2.mem ((c.tc : Thread Cert.FfnGradReferenceIdeal.nD Cert.FfnGradReferenceIdeal.τ).loc Cert.FfnGradReferenceIdeal.main_arg4) = m ((c.tc : Thread Cert.FfnGradReferenceIdeal.nD Cert.FfnGradReferenceIdeal.τ).loc Cert.FfnGradReferenceIdeal.main_arg4)
      ∧ r.2.mem ((c.tc : Thread Cert.FfnGradReferenceIdeal.nD Cert.FfnGradReferenceIdeal.τ).loc Cert.FfnGradReferenceIdeal.main_arg5) = m ((c.tc : Thread Cert.FfnGradReferenceIdeal.nD Cert.FfnGradReferenceIdeal.τ).loc Cert.FfnGradReferenceIdeal.main_arg5))
      ∧ r.2.sem = fun _ => 0)

def quiescent_FfnGradReferenceIdeal_pre_ffn_finite [hFfnGradReferenceIdeal : Cert.FfnGradReferenceIdeal.Facts] [hPre_ffn_finite : Cert.Pre_ffn_finite.Facts] : Prop :=
  ∀ (m : (ℓ : Loc Cert.FfnGradReferenceIdeal.nD Cert.FfnGradReferenceIdeal.τ Cert.FfnGradReferenceIdeal.sig) → Buf (Elt Ideal) ℓ) (g : Dev Cert.FfnGradReferenceIdeal.nD → PrngReg), Pre_FfnGradReferenceIdeal_ffn_finite m →
    θ_run (Cert.FfnGradReferenceIdeal.defs (F := Ideal)) (onTc (τ := Cert.FfnGradReferenceIdeal.τ) (Cert.FfnGradReferenceIdeal.main (F := Ideal))) ⟨m, fun _ => 0, g⟩ (fun r => (∀ c : Dev Cert.FfnGradReferenceIdeal.nD,
      r.2.mem ((c.tc : Thread Cert.FfnGradReferenceIdeal.nD Cert.FfnGradReferenceIdeal.τ).loc Cert.FfnGradReferenceIdeal.main_arg0) = m ((c.tc : Thread Cert.FfnGradReferenceIdeal.nD Cert.FfnGradReferenceIdeal.τ).loc Cert.FfnGradReferenceIdeal.main_arg0)
      ∧ r.2.mem ((c.tc : Thread Cert.FfnGradReferenceIdeal.nD Cert.FfnGradReferenceIdeal.τ).loc Cert.FfnGradReferenceIdeal.main_arg1) = m ((c.tc : Thread Cert.FfnGradReferenceIdeal.nD Cert.FfnGradReferenceIdeal.τ).loc Cert.FfnGradReferenceIdeal.main_arg1)
      ∧ r.2.mem ((c.tc : Thread Cert.FfnGradReferenceIdeal.nD Cert.FfnGradReferenceIdeal.τ).loc Cert.FfnGradReferenceIdeal.main_arg2) = m ((c.tc : Thread Cert.FfnGradReferenceIdeal.nD Cert.FfnGradReferenceIdeal.τ).loc Cert.FfnGradReferenceIdeal.main_arg2)
      ∧ r.2.mem ((c.tc : Thread Cert.FfnGradReferenceIdeal.nD Cert.FfnGradReferenceIdeal.τ).loc Cert.FfnGradReferenceIdeal.main_arg3) = m ((c.tc : Thread Cert.FfnGradReferenceIdeal.nD Cert.FfnGradReferenceIdeal.τ).loc Cert.FfnGradReferenceIdeal.main_arg3)
      ∧ r.2.mem ((c.tc : Thread Cert.FfnGradReferenceIdeal.nD Cert.FfnGradReferenceIdeal.τ).loc Cert.FfnGradReferenceIdeal.main_arg4) = m ((c.tc : Thread Cert.FfnGradReferenceIdeal.nD Cert.FfnGradReferenceIdeal.τ).loc Cert.FfnGradReferenceIdeal.main_arg4)
      ∧ r.2.mem ((c.tc : Thread Cert.FfnGradReferenceIdeal.nD Cert.FfnGradReferenceIdeal.τ).loc Cert.FfnGradReferenceIdeal.main_arg5) = m ((c.tc : Thread Cert.FfnGradReferenceIdeal.nD Cert.FfnGradReferenceIdeal.τ).loc Cert.FfnGradReferenceIdeal.main_arg5))
      ∧ r.2.sem = fun _ => 0)

def preserves_Kernel_KernelIdeal : Prop :=
  IdealRules.named_const.Statement Cert.KernelIdeal.κ "gelu_c" .f32 0x3D372713#32 ((8943 / 200000 : ℝ) : EReal)
  ∧ IdealRules.named_const.Statement Cert.KernelIdeal.κ "gelu_3c" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v34_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_MixIn_MixInIdeal : Prop :=
  True

def algebraic_MixInIdeal_MixInReferenceIdeal [hMixInIdeal : Cert.MixInIdeal.Facts] [hMixInReferenceIdeal : Cert.MixInReferenceIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInReferenceIdeal.nD Cert.MixInReferenceIdeal.τ Cert.MixInReferenceIdeal.sig) → Buf (Elt Ideal) ℓ) (g' : Dev Cert.MixInReferenceIdeal.nD → PrngReg), Pre_MixInIdeal m →
    (∀ c : Dev Cert.MixInIdeal.nD,
      m' ((c.tc : Thread Cert.MixInReferenceIdeal.nD Cert.MixInReferenceIdeal.τ).loc Cert.MixInReferenceIdeal.main_arg0) = m ((c.tc : Thread Cert.MixInIdeal.nD Cert.MixInIdeal.τ).loc Cert.MixInIdeal.main_arg0)
      ∧ m' ((c.tc : Thread Cert.MixInReferenceIdeal.nD Cert.MixInReferenceIdeal.τ).loc Cert.MixInReferenceIdeal.main_arg1) = m ((c.tc : Thread Cert.MixInIdeal.nD Cert.MixInIdeal.τ).loc Cert.MixInIdeal.main_arg1)
      ∧ m' ((c.tc : Thread Cert.MixInReferenceIdeal.nD Cert.MixInReferenceIdeal.τ).loc Cert.MixInReferenceIdeal.main_arg2) = m ((c.tc : Thread Cert.MixInIdeal.nD Cert.MixInIdeal.τ).loc Cert.MixInIdeal.main_arg2)
      ∧ m' ((c.tc : Thread Cert.MixInReferenceIdeal.nD Cert.MixInReferenceIdeal.τ).loc Cert.MixInReferenceIdeal.main_arg3) = m ((c.tc : Thread Cert.MixInIdeal.nD Cert.MixInIdeal.τ).loc Cert.MixInIdeal.main_arg3)) →
    ∃ (v0 : (c : Dev Cert.MixInIdeal.nD) → Buf (Elt Ideal) ((c.tc : Thread Cert.MixInIdeal.nD Cert.MixInIdeal.τ).loc Cert.MixInIdeal.main_v5_0)) (v1 : (c : Dev Cert.MixInIdeal.nD) → Buf (Elt Ideal) ((c.tc : Thread Cert.MixInIdeal.nD Cert.MixInIdeal.τ).loc Cert.MixInIdeal.main_v5_1)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v5_0) = v0 c
          ∧ r.2.mem ((c.tc : Thread Cert.MixInIdeal.nD Cert.MixInIdeal.τ).loc Cert.MixInIdeal.main_v5_1) = v1 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3))
      ∧ θ_run (Cert.MixInReferenceIdeal.defs (F := Ideal)) (onTc (τ := Cert.MixInReferenceIdeal.τ) (Cert.MixInReferenceIdeal.main (F := Ideal))) ⟨m', fun _ => 0, g'⟩ (fun r => ∀ c : Dev Cert.MixInReferenceIdeal.nD,
          r.2.mem ((c.tc : Thread Cert.MixInReferenceIdeal.nD Cert.MixInReferenceIdeal.τ).loc Cert.MixInReferenceIdeal.main_v28) = v0 c
          ∧ r.2.mem ((c.tc : Thread Cert.MixInReferenceIdeal.nD Cert.MixInReferenceIdeal.τ).loc Cert.MixInReferenceIdeal.main_v30) = v1 c
          ∧ r.2.mem ((c.tc : Thread Cert.MixInReferenceIdeal.nD Cert.MixInReferenceIdeal.τ).loc Cert.MixInReferenceIdeal.main_arg0) = m' ((c.tc : Thread Cert.MixInReferenceIdeal.nD Cert.MixInReferenceIdeal.τ).loc Cert.MixInReferenceIdeal.main_arg0)
          ∧ r.2.mem ((c.tc : Thread Cert.MixInReferenceIdeal.nD Cert.MixInReferenceIdeal.τ).loc Cert.MixInReferenceIdeal.main_arg1) = m' ((c.tc : Thread Cert.MixInReferenceIdeal.nD Cert.MixInReferenceIdeal.τ).loc Cert.MixInReferenceIdeal.main_arg1)
          ∧ r.2.mem ((c.tc : Thread Cert.MixInReferenceIdeal.nD Cert.MixInReferenceIdeal.τ).loc Cert.MixInReferenceIdeal.main_arg2) = m' ((c.tc : Thread Cert.MixInReferenceIdeal.nD Cert.MixInReferenceIdeal.τ).loc Cert.MixInReferenceIdeal.main_arg2)
          ∧ r.2.mem ((c.tc : Thread Cert.MixInReferenceIdeal.nD Cert.MixInReferenceIdeal.τ).loc Cert.MixInReferenceIdeal.main_arg3) = m' ((c.tc : Thread Cert.MixInReferenceIdeal.nD Cert.MixInReferenceIdeal.τ).loc Cert.MixInReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v6_0)) (v1 : (c : Dev Cert.FfnIdeal.nD) → Buf (Elt Ideal) ((c.tc : Thread Cert.FfnIdeal.nD Cert.FfnIdeal.τ).loc Cert.FfnIdeal.main_v6_1)) (v2 : (c : Dev Cert.FfnIdeal.nD) → Buf (Elt Ideal) ((c.tc : Thread Cert.FfnIdeal.nD Cert.FfnIdeal.τ).loc Cert.FfnIdeal.main_v6_2)) (v3 : (c : Dev Cert.FfnIdeal.nD) → Buf (Elt Ideal) ((c.tc : Thread Cert.FfnIdeal.nD Cert.FfnIdeal.τ).loc Cert.FfnIdeal.main_v6_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6_0) = v0 c
          ∧ r.2.mem ((c.tc : Thread Cert.FfnIdeal.nD Cert.FfnIdeal.τ).loc Cert.FfnIdeal.main_v6_1) = v1 c
          ∧ r.2.mem ((c.tc : Thread Cert.FfnIdeal.nD Cert.FfnIdeal.τ).loc Cert.FfnIdeal.main_v6_2) = v2 c
          ∧ r.2.mem ((c.tc : Thread Cert.FfnIdeal.nD Cert.FfnIdeal.τ).loc Cert.FfnIdeal.main_v6_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v41) = v0 c
          ∧ r.2.mem ((c.tc : Thread Cert.FfnReferenceIdeal.nD Cert.FfnReferenceIdeal.τ).loc Cert.FfnReferenceIdeal.main_v42) = v1 c
          ∧ r.2.mem ((c.tc : Thread Cert.FfnReferenceIdeal.nD Cert.FfnReferenceIdeal.τ).loc Cert.FfnReferenceIdeal.main_v45) = v2 c
          ∧ r.2.mem ((c.tc : Thread Cert.FfnReferenceIdeal.nD Cert.FfnReferenceIdeal.τ).loc Cert.FfnReferenceIdeal.main_v46) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_FfnGrad_FfnGradIdeal : Prop :=
  True

def algebraic_FfnGradIdeal_FfnGradReferenceIdeal_pre_ffn_finite [hFfnGradIdeal : Cert.FfnGradIdeal.Facts] [hFfnGradReferenceIdeal : Cert.FfnGradReferenceIdeal.Facts] [hPre_ffn_finite : Cert.Pre_ffn_finite.Facts] : Prop :=
  ∀ (m : (ℓ : Loc Cert.FfnGradIdeal.nD Cert.FfnGradIdeal.τ Cert.FfnGradIdeal.sig) → Buf (Elt Ideal) ℓ) (g : Dev Cert.FfnGradIdeal.nD → PrngReg)
    (m' : (ℓ : Loc Cert.FfnGradReferenceIdeal.nD Cert.FfnGradReferenceIdeal.τ Cert.FfnGradReferenceIdeal.sig) → Buf (Elt Ideal) ℓ) (g' : Dev Cert.FfnGradReferenceIdeal.nD → PrngReg), Pre_FfnGradIdeal_ffn_finite m →
    (∀ c : Dev Cert.FfnGradIdeal.nD,
      m' ((c.tc : Thread Cert.FfnGradReferenceIdeal.nD Cert.FfnGradReferenceIdeal.τ).loc Cert.FfnGradReferenceIdeal.main_arg0) = m ((c.tc : Thread Cert.FfnGradIdeal.nD Cert.FfnGradIdeal.τ).loc Cert.FfnGradIdeal.main_arg0)
      ∧ m' ((c.tc : Thread Cert.FfnGradReferenceIdeal.nD Cert.FfnGradReferenceIdeal.τ).loc Cert.FfnGradReferenceIdeal.main_arg1) = m ((c.tc : Thread Cert.FfnGradIdeal.nD Cert.FfnGradIdeal.τ).loc Cert.FfnGradIdeal.main_arg1)
      ∧ m' ((c.tc : Thread Cert.FfnGradReferenceIdeal.nD Cert.FfnGradReferenceIdeal.τ).loc Cert.FfnGradReferenceIdeal.main_arg2) = m ((c.tc : Thread Cert.FfnGradIdeal.nD Cert.FfnGradIdeal.τ).loc Cert.FfnGradIdeal.main_arg2)
      ∧ m' ((c.tc : Thread Cert.FfnGradReferenceIdeal.nD Cert.FfnGradReferenceIdeal.τ).loc Cert.FfnGradReferenceIdeal.main_arg3) = m ((c.tc : Thread Cert.FfnGradIdeal.nD Cert.FfnGradIdeal.τ).loc Cert.FfnGradIdeal.main_arg3)
      ∧ m' ((c.tc : Thread Cert.FfnGradReferenceIdeal.nD Cert.FfnGradReferenceIdeal.τ).loc Cert.FfnGradReferenceIdeal.main_arg4) = m ((c.tc : Thread Cert.FfnGradIdeal.nD Cert.FfnGradIdeal.τ).loc Cert.FfnGradIdeal.main_arg4)
      ∧ m' ((c.tc : Thread Cert.FfnGradReferenceIdeal.nD Cert.FfnGradReferenceIdeal.τ).loc Cert.FfnGradReferenceIdeal.main_arg5) = m ((c.tc : Thread Cert.FfnGradIdeal.nD Cert.FfnGradIdeal.τ).loc Cert.FfnGradIdeal.main_arg5)) →
    ∃ (v0 : (c : Dev Cert.FfnGradIdeal.nD) → Buf (Elt Ideal) ((c.tc : Thread Cert.FfnGradIdeal.nD Cert.FfnGradIdeal.τ).loc Cert.FfnGradIdeal.main_v44_0)) (v1 : (c : Dev Cert.FfnGradIdeal.nD) → Buf (Elt Ideal) ((c.tc : Thread Cert.FfnGradIdeal.nD Cert.FfnGradIdeal.τ).loc Cert.FfnGradIdeal.main_v44_1)) (v2 : (c : Dev Cert.FfnGradIdeal.nD) → Buf (Elt Ideal) ((c.tc : Thread Cert.FfnGradIdeal.nD Cert.FfnGradIdeal.τ).loc Cert.FfnGradIdeal.main_v44_2)) (v3 : (c : Dev Cert.FfnGradIdeal.nD) → Buf (Elt Ideal) ((c.tc : Thread Cert.FfnGradIdeal.nD Cert.FfnGradIdeal.τ).loc Cert.FfnGradIdeal.main_v44_3)),
      θ_run (Cert.FfnGradIdeal.defs (F := Ideal)) (onTc (τ := Cert.FfnGradIdeal.τ) (Cert.FfnGradIdeal.main (F := Ideal))) ⟨m, fun _ => 0, g⟩ (fun r => ∀ c : Dev Cert.FfnGradIdeal.nD,
          r.2.mem ((c.tc : Thread Cert.FfnGradIdeal.nD Cert.FfnGradIdeal.τ).loc Cert.FfnGradIdeal.main_v44_0) = v0 c
          ∧ r.2.mem ((c.tc : Thread Cert.FfnGradIdeal.nD Cert.FfnGradIdeal.τ).loc Cert.FfnGradIdeal.main_v44_1) = v1 c
          ∧ r.2.mem ((c.tc : Thread Cert.FfnGradIdeal.nD Cert.FfnGradIdeal.τ).loc Cert.FfnGradIdeal.main_v44_2) = v2 c
          ∧ r.2.mem ((c.tc : Thread Cert.FfnGradIdeal.nD Cert.FfnGradIdeal.τ).loc Cert.FfnGradIdeal.main_v44_3) = v3 c
          ∧ r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
          ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
          ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
          ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
          ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
          ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5))
      ∧ θ_run (Cert.FfnGradReferenceIdeal.defs (F := Ideal)) (onTc (τ := Cert.FfnGradReferenceIdeal.τ) (Cert.FfnGradReferenceIdeal.main (F := Ideal))) ⟨m', fun _ => 0, g'⟩ (fun r => ∀ c : Dev Cert.FfnGradReferenceIdeal.nD,
          r.2.mem ((c.tc : Thread Cert.FfnGradReferenceIdeal.nD Cert.FfnGradReferenceIdeal.τ).loc Cert.FfnGradReferenceIdeal.main_v72) = v0 c
          ∧ r.2.mem ((c.tc : Thread Cert.FfnGradReferenceIdeal.nD Cert.FfnGradReferenceIdeal.τ).loc Cert.FfnGradReferenceIdeal.main_v75) = v1 c
          ∧ r.2.mem ((c.tc : Thread Cert.FfnGradReferenceIdeal.nD Cert.FfnGradReferenceIdeal.τ).loc Cert.FfnGradReferenceIdeal.main_v78) = v2 c
          ∧ r.2.mem ((c.tc : Thread Cert.FfnGradReferenceIdeal.nD Cert.FfnGradReferenceIdeal.τ).loc Cert.FfnGradReferenceIdeal.main_v79) = v3 c
          ∧ r.2.mem ((c.tc : Thread Cert.FfnGradReferenceIdeal.nD Cert.FfnGradReferenceIdeal.τ).loc Cert.FfnGradReferenceIdeal.main_arg0) = m' ((c.tc : Thread Cert.FfnGradReferenceIdeal.nD Cert.FfnGradReferenceIdeal.τ).loc Cert.FfnGradReferenceIdeal.main_arg0)
          ∧ r.2.mem ((c.tc : Thread Cert.FfnGradReferenceIdeal.nD Cert.FfnGradReferenceIdeal.τ).loc Cert.FfnGradReferenceIdeal.main_arg1) = m' ((c.tc : Thread Cert.FfnGradReferenceIdeal.nD Cert.FfnGradReferenceIdeal.τ).loc Cert.FfnGradReferenceIdeal.main_arg1)
          ∧ r.2.mem ((c.tc : Thread Cert.FfnGradReferenceIdeal.nD Cert.FfnGradReferenceIdeal.τ).loc Cert.FfnGradReferenceIdeal.main_arg2) = m' ((c.tc : Thread Cert.FfnGradReferenceIdeal.nD Cert.FfnGradReferenceIdeal.τ).loc Cert.FfnGradReferenceIdeal.main_arg2)
          ∧ r.2.mem ((c.tc : Thread Cert.FfnGradReferenceIdeal.nD Cert.FfnGradReferenceIdeal.τ).loc Cert.FfnGradReferenceIdeal.main_arg3) = m' ((c.tc : Thread Cert.FfnGradReferenceIdeal.nD Cert.FfnGradReferenceIdeal.τ).loc Cert.FfnGradReferenceIdeal.main_arg3)
          ∧ r.2.mem ((c.tc : Thread Cert.FfnGradReferenceIdeal.nD Cert.FfnGradReferenceIdeal.τ).loc Cert.FfnGradReferenceIdeal.main_arg4) = m' ((c.tc : Thread Cert.FfnGradReferenceIdeal.nD Cert.FfnGradReferenceIdeal.τ).loc Cert.FfnGradReferenceIdeal.main_arg4)
          ∧ r.2.mem ((c.tc : Thread Cert.FfnGradReferenceIdeal.nD Cert.FfnGradReferenceIdeal.τ).loc Cert.FfnGradReferenceIdeal.main_arg5) = m' ((c.tc : Thread Cert.FfnGradReferenceIdeal.nD Cert.FfnGradReferenceIdeal.τ).loc Cert.FfnGradReferenceIdeal.main_arg5))

def Claim : Prop :=
  ∃ (hKernel : Cert.Kernel.Facts) (hKernelIdeal : Cert.KernelIdeal.Facts) (hReferenceIdeal : Cert.ReferenceIdeal.Facts) (hMixIn : Cert.MixIn.Facts) (hMixInIdeal : Cert.MixInIdeal.Facts) (hMixInReferenceIdeal : Cert.MixInReferenceIdeal.Facts) (hFfn : Cert.Ffn.Facts) (hFfnIdeal : Cert.FfnIdeal.Facts) (hFfnReferenceIdeal : Cert.FfnReferenceIdeal.Facts) (hFfnGrad : Cert.FfnGrad.Facts) (hFfnGradIdeal : Cert.FfnGradIdeal.Facts) (hFfnGradReferenceIdeal : Cert.FfnGradReferenceIdeal.Facts) (hPre_finite : Cert.Pre_finite.Facts) (hPre_ffn_finite : Cert.Pre_ffn_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MixIn (hMixIn := hMixIn)
    ∧ quiescent_MixInIdeal (hMixInIdeal := hMixInIdeal)
    ∧ quiescent_MixInReferenceIdeal (hMixInReferenceIdeal := hMixInReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_FfnGrad (hFfnGrad := hFfnGrad)
    ∧ quiescent_FfnGradIdeal (hFfnGradIdeal := hFfnGradIdeal)
    ∧ quiescent_FfnGradIdeal_pre_ffn_finite (hFfnGradIdeal := hFfnGradIdeal) (hPre_ffn_finite := hPre_ffn_finite)
    ∧ quiescent_FfnGradReferenceIdeal (hFfnGradReferenceIdeal := hFfnGradReferenceIdeal)
    ∧ quiescent_FfnGradReferenceIdeal_pre_ffn_finite (hFfnGradReferenceIdeal := hFfnGradReferenceIdeal) (hPre_ffn_finite := hPre_ffn_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_MixIn_MixInIdeal
    ∧ algebraic_MixInIdeal_MixInReferenceIdeal (hMixInIdeal := hMixInIdeal) (hMixInReferenceIdeal := hMixInReferenceIdeal)
    ∧ preserves_Ffn_FfnIdeal
    ∧ algebraic_FfnIdeal_FfnReferenceIdeal (hFfnIdeal := hFfnIdeal) (hFfnReferenceIdeal := hFfnReferenceIdeal)
    ∧ preserves_FfnGrad_FfnGradIdeal
    ∧ algebraic_FfnGradIdeal_FfnGradReferenceIdeal_pre_ffn_finite (hFfnGradIdeal := hFfnGradIdeal) (hFfnGradReferenceIdeal := hFfnGradReferenceIdeal) (hPre_ffn_finite := hPre_ffn_finite)
-- ==== Pre_ffn_finite.lean ====
abbrev S4096x1024 : Shape := ⟨2, ![4096, 1024]⟩
abbrev S9x1024 : Shape := ⟨2, ![9, 1024]⟩
abbrev S1024 : Shape := ⟨1, ![1024]⟩
abbrev S8x1024x704 : Shape := ⟨3, ![8, 1024, 704]⟩
abbrev S8x352x1024 : Shape := ⟨3, ![8, 352, 1024]⟩
abbrev S_ : Shape := ⟨0, ![]⟩

class Facts : Prop where
  bcast_S_S4096x1024 : S_.BroadcastsInDim S4096x1024 (![] : Fin 0 → Fin S4096x1024.rank)
  bcast_S_S9x1024 : S_.BroadcastsInDim S9x1024 (![] : Fin 0 → Fin S9x1024.rank)
  bcast_S_S1024 : S_.BroadcastsInDim S1024 (![] : Fin 0 → Fin S1024.rank)
  bcast_S_S8x1024x704 : S_.BroadcastsInDim S8x1024x704 (![] : Fin 0 → Fin S8x1024x704.rank)
  bcast_S_S8x352x1024 : S_.BroadcastsInDim S8x352x1024 (![] : Fin 0 → Fin S8x352x1024.rank)

variable [Facts]

def fn {F : FTy → Type} [FloatOps F] (main_arg0 : FVec F S4096x1024 .f32) (main_arg1 : FVec F S4096x1024 .f32) (main_arg2 : FVec F S9x1024 .f32) (main_arg3 : FVec F S1024 .f32) (main_arg4 : FVec F S8x1024x704 .f32) (main_arg5 : FVec F S8x352x1024 .f32) : IVec S4096x1024 1 × IVec S4096x1024 1 × IVec S9x1024 1 × IVec S1024 1 × IVec S8x1024x704 1 × IVec S8x352x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S9x1024 .f32 := Host.absf main_arg2
  let main_cst_1 : FVec F S_ .f32 := constant S_ .f32 0x7F800000#32
  let main_v7 : FVec F S9x1024 .f32 := broadcastInDim S9x1024 ![] bcast_S_S9x1024 main_cst_1
  let main_v8 : IVec S9x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S8x1024x704 .f32 := Host.absf main_arg4
  let main_cst_3 : FVec F S_ .f32 := constant S_ .f32 0x7F800000#32
  let main_v13 : FVec F S8x1024x704 .f32 := broadcastInDim S8x1024x704 ![] bcast_S_S8x1024x704 main_cst_3
  let main_v14 : IVec S8x1024x704 1 := cmpf .olt main_v12 main_v13
  let main_v15 : FVec F S8x352x1024 .f32 := Host.absf main_arg5
  let main_cst_4 : FVec F S_ .f32 := constant S_ .f32 0x7F800000#32
  let main_v16 : FVec F S8x352x1024 .f32 := broadcastInDim S8x352x1024 ![] bcast_S_S8x352x1024 main_cst_4
  let main_v17 : IVec S8x352x1024 1 := cmpf .olt main_v15 main_v16
  (main_v2, main_v5, main_v8, main_v11, main_v14, main_v17)
-- ==== Pre_finite.lean ====
abbrev S4096x512 : Shape := ⟨2, ![4096, 512]⟩
abbrev S8x4096x256 : Shape := ⟨3, ![8, 4096, 256]⟩
abbrev S4x512 : Shape := ⟨2, ![4, 512]⟩
abbrev S512 : Shape := ⟨1, ![512]⟩
abbrev S8x64x64 : Shape := ⟨3, ![8, 64, 64]⟩
abbrev S8x64 : Shape := ⟨2, ![8, 64]⟩
abbrev S_ : Shape := ⟨0, ![]⟩

class Facts : Prop where
  bcast_S_S4096x512 : S_.BroadcastsInDim S4096x512 (![] : Fin 0 → Fin S4096x512.rank)
  bcast_S_S8x4096x256 : S_.BroadcastsInDim S8x4096x256 (![] : Fin 0 → Fin S8x4096x256.rank)
  bcast_S_S4x512 : S_.BroadcastsInDim S4x512 (![] : Fin 0 → Fin S4x512.rank)
  bcast_S_S512 : S_.BroadcastsInDim S512 (![] : Fin 0 → Fin S512.rank)

variable [Facts]

def fn {F : FTy → Type} [FloatOps F] (main_arg0 : FVec F S4096x512 .f32) (main_arg1 : FVec F S8x4096x256 .f32) (main_arg2 : FVec F S4x512 .f32) (main_arg3 : FVec F S512 .f32) (main_arg4 : FVec F S8x64x64 .f32) (main_arg5 : FVec F S8x64 .f32) (main_arg6 : FVec F S8x64x64 .f32) (main_arg7 : FVec F S8x64 .f32) (main_arg8 : FVec F S512 .f32) : IVec S4096x512 1 × IVec S8x4096x256 1 × IVec S4x512 1 × IVec S512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S8x4096x256 .f32 := Host.absf main_arg1
  let main_cst_0 : FVec F S_ .f32 := constant S_ .f32 0x7F800000#32
  let main_v4 : FVec F S8x4096x256 .f32 := broadcastInDim S8x4096x256 ![] bcast_S_S8x4096x256 main_cst_0
  let main_v5 : IVec S8x4096x256 1 := cmpf .olt main_v3 main_v4
  let main_v6 : FVec F S4x512 .f32 := Host.absf main_arg2
  let main_cst_1 : FVec F S_ .f32 := constant S_ .f32 0x7F800000#32
  let main_v7 : FVec F S4x512 .f32 := broadcastInDim S4x512 ![] bcast_S_S4x512 main_cst_1
  let main_v8 : IVec S4x512 1 := cmpf .olt main_v6 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  (main_v2, main_v5, main_v8, main_v11)
-- ==== Kernel.lean ====
abbrev S4096x512 : Shape := ⟨2, ![4096, 512]⟩
abbrev S8x4096x256 : Shape := ⟨3, ![8, 4096, 256]⟩
abbrev S4x512 : Shape := ⟨2, ![4, 512]⟩
abbrev S512 : Shape := ⟨1, ![512]⟩
abbrev S8x64x64 : Shape := ⟨3, ![8, 64, 64]⟩
abbrev S8x64 : Shape := ⟨2, ![8, 64]⟩
abbrev S1x512 : Shape := ⟨2, ![1, 512]⟩
abbrev S8x512 : Shape := ⟨2, ![8, 512]⟩
abbrev S4x2x64x64 : Shape := ⟨4, ![4, 2, 64, 64]⟩
abbrev S2x2 : Shape := ⟨2, ![2, 2]⟩
abbrev S_ : Shape := ⟨0, ![]⟩
abbrev S4x2x64x1x64 : Shape := ⟨5, ![4, 2, 64, 1, 64]⟩
abbrev S1x2x1x2x1 : Shape := ⟨5, ![1, 2, 1, 2, 1]⟩
abbrev S4x2x64x2x64 : Shape := ⟨5, ![4, 2, 64, 2, 64]⟩
abbrev S4x128x128 : Shape := ⟨3, ![4, 128, 128]⟩
abbrev S1x4096x128 : Shape := ⟨3, ![1, 4096, 128]⟩
abbrev S8x128 : Shape := ⟨2, ![8, 128]⟩
abbrev S1x128x128 : Shape := ⟨3, ![1, 128, 128]⟩
abbrev S4096x128 : Shape := ⟨2, ![4096, 128]⟩
abbrev S1x128 : Shape := ⟨2, ![1, 128]⟩
abbrev S128x128 : Shape := ⟨2, ![128, 128]⟩
abbrev S2x4096x256 : Shape := ⟨3, ![2, 4096, 256]⟩
abbrev S128 : Shape := ⟨1, ![128]⟩

abbrev nBuf : Space → Nat
  | .hbm => 52
  | .vmem => 46
  | .smem => 0
  | _ => 0

abbrev bufTy : (tb : Table) → Fin (tcTables nBuf tb) → BufTy
  | .hbm, ⟨0, _⟩ => ⟨S4096x512, .f32⟩
  | .hbm, ⟨1, _⟩ => ⟨S8x4096x256, .f32⟩
  | .hbm, ⟨2, _⟩ => ⟨S4x512, .f32⟩
  | .hbm, ⟨3, _⟩ => ⟨S512, .f32⟩
  | .hbm, ⟨4, _⟩ => ⟨S8x64x64, .f32⟩
  | .hbm, ⟨5, _⟩ => ⟨S8x64, .f32⟩
  | .hbm, ⟨6, _⟩ => ⟨S8x64x64, .f32⟩
  | .hbm, ⟨7, _⟩ => ⟨S8x64, .f32⟩
  | .hbm, ⟨8, _⟩ => ⟨S512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S8x512, .f32⟩
  | .hbm, ⟨14, _⟩ => ⟨S4x2x64x64, .f32⟩
  | .hbm, ⟨15, _⟩ => ⟨S2x2, .i32⟩
  | .hbm, ⟨16, _⟩ => ⟨S2x2, .i32⟩
  | .hbm, ⟨17, _⟩ => ⟨S_, .i32⟩
  | .hbm, ⟨18, _⟩ => ⟨S2x2, .i32⟩
  | .hbm, ⟨19, _⟩ => ⟨S2x2, .i32⟩
  | .hbm, ⟨20, _⟩ => ⟨S2x2, .i1⟩
  | .hbm, ⟨21, _⟩ => ⟨S2x2, .f32⟩
  | .hbm, ⟨22, _⟩ => ⟨S4x2x64x1x64, .f32⟩
  | .hbm, ⟨23, _⟩ => ⟨S1x2x1x2x1, .f32⟩
  | .hbm, ⟨24, _⟩ => ⟨S4x2x64x2x64, .f32⟩
  | .hbm, ⟨25, _⟩ => ⟨S4x2x64x2x64, .f32⟩
  | .hbm, ⟨26, _⟩ => ⟨S4x2x64x2x64, .f32⟩
  | .hbm, ⟨27, _⟩ => ⟨S4x128x128, .f32⟩
  | .hbm, ⟨28, _⟩ => ⟨S4x128x128, .bf16⟩
  | .hbm, ⟨29, _⟩ => ⟨S4x2x64x64, .f32⟩
  | .hbm, ⟨30, _⟩ => ⟨S2x2, .i32⟩
  | .hbm, ⟨31, _⟩ => ⟨S2x2, .i32⟩
  | .hbm, ⟨32, _⟩ => ⟨S_, .i32⟩
  | .hbm, ⟨33, _⟩ => ⟨S2x2, .i32⟩
  | .hbm, ⟨34, _⟩ => ⟨S2x2, .i32⟩
  | .hbm, ⟨35, _⟩ => ⟨S2x2, .i1⟩
  | .hbm, ⟨36, _⟩ => ⟨S2x2, .f32⟩
  | .hbm, ⟨37, _⟩ => ⟨S4x2x64x1x64, .f32⟩
  | .hbm, ⟨38, _⟩ => ⟨S1x2x1x2x1, .f32⟩
  | .hbm, ⟨39, _⟩ => ⟨S4x2x64x2x64, .f32⟩
  | .hbm, ⟨40, _⟩ => ⟨S4x2x64x2x64, .f32⟩
  | .hbm, ⟨41, _⟩ => ⟨S4x2x64x2x64, .f32⟩
  | .hbm, ⟨42, _⟩ => ⟨S4x128x128, .f32⟩
  | .hbm, ⟨43, _⟩ => ⟨S4x128x128, .bf16⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S2x4096x256, .bf16⟩
  | .hbm, ⟨48, _⟩ => ⟨S2x4096x256, .bf16⟩
  | .hbm, ⟨49, _⟩ => ⟨S8x512, .f32⟩
  | .hbm, ⟨50, _⟩ => ⟨S4x128x128, .f32⟩
  | .hbm, ⟨51, _⟩ => ⟨S4x128x128, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S8x128, .f32⟩
  | .local _ .vmem, ⟨5, _⟩ => ⟨S8x128, .f32⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S1x4096x128, .f32⟩
  | .local _ .vmem, ⟨21, _⟩ => ⟨S1x4096x128, .f32⟩
  | .local _ .vmem, ⟨22, _⟩ => ⟨S1x4096x128, .f32⟩
  | .local _ .vmem, ⟨23, _⟩ => ⟨S1x4096x128, .f32⟩
  | .local _ .vmem, ⟨24, _⟩ => ⟨S4096x128, .f32⟩
  | .local _ .vmem, ⟨25, _⟩ => ⟨S4096x128, .f32⟩
  | .local _ .vmem, ⟨26, _⟩ => ⟨S4096x128, .f32⟩
  | .local _ .vmem, ⟨27, _⟩ => ⟨S4096x128, .f32⟩
  | .local _ .vmem, ⟨28, _⟩ => ⟨S8x128, .f32⟩
  | .local _ .vmem, ⟨29, _⟩ => ⟨S8x128, .f32⟩
  | .local _ .vmem, ⟨30, _⟩ => ⟨S1x128x128, .bf16⟩
  | .local _ .vmem, ⟨31, _⟩ => ⟨S1x128x128, .bf16⟩
  | .local _ .vmem, ⟨32, _⟩ => ⟨S1x128x128, .bf16⟩
  | .local _ .vmem, ⟨33, _⟩ => ⟨S1x128x128, .bf16⟩
  | .local _ .vmem, ⟨34, _⟩ => ⟨S1x4096x128, .bf16⟩
  | .local _ .vmem, ⟨35, _⟩ => ⟨S1x4096x128, .bf16⟩
  | .local _ .vmem, ⟨36, _⟩ => ⟨S1x4096x128, .bf16⟩
  | .local _ .vmem, ⟨37, _⟩ => ⟨S1x4096x128, .bf16⟩
  | .local _ .vmem, ⟨38, _⟩ => ⟨S8x128, .f32⟩
  | .local _ .vmem, ⟨39, _⟩ => ⟨S8x128, .f32⟩
  | .local _ .vmem, ⟨40, _⟩ => ⟨S1x128x128, .f32⟩
  | .local _ .vmem, ⟨41, _⟩ => ⟨S1x128x128, .f32⟩
  | .local _ .vmem, ⟨42, _⟩ => ⟨S1x128x128, .f32⟩
  | .local _ .vmem, ⟨43, _⟩ => ⟨S1x128x128, .f32⟩
  | .local _ .vmem, ⟨44, _⟩ => ⟨S4096x128, .f32⟩
  | .local _ .vmem, ⟨45, _⟩ => ⟨S4096x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33_0 : Ref sig .tc := ⟨.hbm, 44, rfl⟩
abbrev main_v33_1 : Ref sig .tc := ⟨.hbm, 45, rfl⟩
abbrev main_v33_2 : Ref sig .tc := ⟨.hbm, 46, rfl⟩
abbrev main_v34_0 : Ref sig .tc := ⟨.hbm, 47, rfl⟩
abbrev main_v34_1 : Ref sig .tc := ⟨.hbm, 48, rfl⟩
abbrev main_v34_2 : Ref sig .tc := ⟨.hbm, 49, rfl⟩
abbrev main_v34_3 : Ref sig .tc := ⟨.hbm, 50, rfl⟩
abbrev main_v34_4 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc1_stg9_0 : Ref sig .tc := ⟨.vmem, 36, rfl⟩
abbrev cc1_stg9_1 : Ref sig .tc := ⟨.vmem, 37, rfl⟩
abbrev cc1_stg10_0 : Ref sig .tc := ⟨.vmem, 38, rfl⟩
abbrev cc1_stg10_1 : Ref sig .tc := ⟨.vmem, 39, rfl⟩
abbrev cc1_stg11_0 : Ref sig .tc := ⟨.vmem, 40, rfl⟩
abbrev cc1_stg11_1 : Ref sig .tc := ⟨.vmem, 41, rfl⟩
abbrev cc1_stg12_0 : Ref sig .tc := ⟨.vmem, 42, rfl⟩
abbrev cc1_stg12_1 : Ref sig .tc := ⟨.vmem, 43, rfl⟩
abbrev cc1_scratch0 : Ref sig .tc := ⟨.vmem, 44, rfl⟩
abbrev cc1_scratch1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c64_i32 : BitVec 32 := 64#32
  let v106 : BitVec 32 := Scalar.addi c0_i32 c64_i32
  let c1_i32_43 : BitVec 32 := 1#32
  ⟨c0_i32, v106, c1_i32_43⟩
def k0_mult1 (k0_t1 : Fin k0_t1_loop.trips) : BitVec 32 :=
  let c0_i32 : BitVec 32 := 0#32
  let c1_i32_43 : BitVec 32 := 1#32
  let arg11 : BitVec 32 := Scf.iv c0_i32 c1_i32_43 k0_t1
  let c8_i32 : BitVec 32 := 8#32
  let v127 : BitVec 32 := Scalar.muli arg11 c8_i32
  let c0_i32_56 : BitVec 32 := 0#32
  let v128 : BitVec 32 := Scalar.addi v127 c0_i32_56
  let c8_i32_57 : BitVec 32 := 8#32
  let v129 : BitVec 32 := Scalar.muli v128 c8_i32_57
  v129
def k0_off1 (k0_t1 : Fin k0_t1_loop.trips) (c0_i32_56 : BitVec 32) : Fin 2 → Nat :=
  let c0_i32 : BitVec 32 := 0#32
  let c1_i32_43 : BitVec 32 := 1#32
  let arg11 : BitVec 32 := Scf.iv c0_i32 c1_i32_43 k0_t1
  let c8_i32 : BitVec 32 := 8#32
  let v127 : BitVec 32 := Scalar.muli arg11 c8_i32
  let v128 : BitVec 32 := Scalar.addi v127 c0_i32_56
  let c8_i32_57 : BitVec 32 := 8#32
  let v129 : BitVec 32 := Scalar.muli v128 c8_i32_57
  let v130 : BitVec 32 := v129
  let v131 : Index := Scalar.indexCast v130
  let c0_58 : Index := 0#32
  ![v131.toNat, 0]
def k0_mult2 (k0_t1 : Fin k0_t1_loop.trips) : BitVec 32 :=
  let c0_i32 : BitVec 32 := 0#32
  let c1_i32_43 : BitVec 32 := 1#32
  let arg11 : BitVec 32 := Scf.iv c0_i32 c1_i32_43 k0_t1
  let c8_i32_75 : BitVec 32 := 8#32
  let v174 : BitVec 32 := Scalar.muli arg11 c8_i32_75
  let c1_i32_76 : BitVec 32 := 1#32
  let v175 : BitVec 32 := Scalar.addi v174 c1_i32_76
  let c8_i32_77 : BitVec 32 := 8#32
  let v176 : BitVec 32 := Scalar.muli v175 c8_i32_77
  v176
def k0_mult3 (k0_t1 : Fin k0_t1_loop.trips) : BitVec 32 :=
  let c0_i32 : BitVec 32 := 0#32
  let c1_i32_43 : BitVec 32 := 1#32
  let arg11 : BitVec 32 := Scf.iv c0_i32 c1_i32_43 k0_t1
  let c8_i32_96 : BitVec 32 := 8#32
  let v221 : BitVec 32 := Scalar.muli arg11 c8_i32_96
  let c2_i32_97 : BitVec 32 := 2#32
  let v222 : BitVec 32 := Scalar.addi v221 c2_i32_97
  let c8_i32_98 : BitVec 32 := 8#32
  let v223 : BitVec 32 := Scalar.muli v222 c8_i32_98
  v223
def k0_mult4 (k0_t1 : Fin k0_t1_loop.trips) : BitVec 32 :=
  let c0_i32 : BitVec 32 := 0#32
  let c1_i32_43 : BitVec 32 := 1#32
  let arg11 : BitVec 32 := Scf.iv c0_i32 c1_i32_43 k0_t1
  let c8_i32_117 : BitVec 32 := 8#32
  let v268 : BitVec 32 := Scalar.muli arg11 c8_i32_117
  let c3_i32_118 : BitVec 32 := 3#32
  let v269 : BitVec 32 := Scalar.addi v268 c3_i32_118
  let c8_i32_119 : BitVec 32 := 8#32
  let v270 : BitVec 32 := Scalar.muli v269 c8_i32_119
  v270
def k0_mult5 (k0_t1 : Fin k0_t1_loop.trips) : BitVec 32 :=
  let c0_i32 : BitVec 32 := 0#32
  let c1_i32_43 : BitVec 32 := 1#32
  let arg11 : BitVec 32 := Scf.iv c0_i32 c1_i32_43 k0_t1
  let c8_i32_138 : BitVec 32 := 8#32
  let v315 : BitVec 32 := Scalar.muli arg11 c8_i32_138
  let c4_i32_139 : BitVec 32 := 4#32
  let v316 : BitVec 32 := Scalar.addi v315 c4_i32_139
  let c8_i32_140 : BitVec 32 := 8#32
  let v317 : BitVec 32 := Scalar.muli v316 c8_i32_140
  v317
def k0_mult6 (k0_t1 : Fin k0_t1_loop.trips) : BitVec 32 :=
  let c0_i32 : BitVec 32 := 0#32
  let c1_i32_43 : BitVec 32 := 1#32
  let arg11 : BitVec 32 := Scf.iv c0_i32 c1_i32_43 k0_t1
  let c8_i32_159 : BitVec 32 := 8#32
  let v362 : BitVec 32 := Scalar.muli arg11 c8_i32_159
  let c5_i32 : BitVec 32 := 5#32
  let v363 : BitVec 32 := Scalar.addi v362 c5_i32
  let c8_i32_160 : BitVec 32 := 8#32
  let v364 : BitVec 32 := Scalar.muli v363 c8_i32_160
  v364
def k0_mult7 (k0_t1 : Fin k0_t1_loop.trips) : BitVec 32 :=
  let c0_i32 : BitVec 32 := 0#32
  let c1_i32_43 : BitVec 32 := 1#32
  let arg11 : BitVec 32 := Scf.iv c0_i32 c1_i32_43 k0_t1
  let c8_i32_179 : BitVec 32 := 8#32
  let v409 : BitVec 32 := Scalar.muli arg11 c8_i32_179
  let c6_i32 : BitVec 32 := 6#32
  let v410 : BitVec 32 := Scalar.addi v409 c6_i32
  let c8_i32_180 : BitVec 32 := 8#32
  let v411 : BitVec 32 := Scalar.muli v410 c8_i32_180
  v411
def k0_mult8 (k0_t1 : Fin k0_t1_loop.trips) : BitVec 32 :=
  let c0_i32 : BitVec 32 := 0#32
  let c1_i32_43 : BitVec 32 := 1#32
  let arg11 : BitVec 32 := Scf.iv c0_i32 c1_i32_43 k0_t1
  let c8_i32_199 : BitVec 32 := 8#32
  let v456 : BitVec 32 := Scalar.muli arg11 c8_i32_199
  let c7_i32 : BitVec 32 := 7#32
  let v457 : BitVec 32 := Scalar.addi v456 c7_i32
  let c8_i32_200 : BitVec 32 := 8#32
  let v458 : BitVec 32 := Scalar.muli v457 c8_i32_200
  v458
def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

@[reducible] def k1_t1_loop : Scf.Loop 32 :=
  let c0_i32 : BitVec 32 := 0#32
  let c64_i32 : BitVec 32 := 64#32
  let v109 : BitVec 32 := Scalar.addi c0_i32 c64_i32
  let c1_i32 : BitVec 32 := 1#32
  ⟨c0_i32, v109, c1_i32⟩
def k1_mult1 (k1_t1 : Fin k1_t1_loop.trips) : BitVec 32 :=
  let c511_i32 : BitVec 32 := 511#32
  let c0_i32 : BitVec 32 := 0#32
  let c1_i32 : BitVec 32 := 1#32
  let arg16 : BitVec 32 := Scf.iv c0_i32 c1_i32 k1_t1
  let c8_i32 : BitVec 32 := 8#32
  let v258 : BitVec 32 := Scalar.muli arg16 c8_i32
  let c0_i32_129 : BitVec 32 := 0#32
  let v259 : BitVec 32 := Scalar.addi v258 c0_i32_129
  let v260 : BitVec 32 := Scalar.subi c511_i32 v259
  let c8_i32_130 : BitVec 32 := 8#32
  let v261 : BitVec 32 := Scalar.muli v260 c8_i32_130
  v261
def k1_off1 (k1_t1 : Fin k1_t1_loop.trips) (c0_i32_129 : BitVec 32) : Fin 2 → Nat :=
  let c511_i32 : BitVec 32 := 511#32
  let c0_i32 : BitVec 32 := 0#32
  let c1_i32 : BitVec 32 := 1#32
  let arg16 : BitVec 32 := Scf.iv c0_i32 c1_i32 k1_t1
  let c8_i32 : BitVec 32 := 8#32
  let v258 : BitVec 32 := Scalar.muli arg16 c8_i32
  let v259 : BitVec 32 := Scalar.addi v258 c0_i32_129
  let v260 : BitVec 32 := Scalar.subi c511_i32 v259
  let c8_i32_130 : BitVec 32 := 8#32
  let v261 : BitVec 32 := Scalar.muli v260 c8_i32_130
  let v262 : BitVec 32 := v261
  let v263 : Index := Scalar.indexCast v262
  let c0_131 : Index := 0#32
  ![v263.toNat, 0]
def k1_mult2 (k1_t1 : Fin k1_t1_loop.trips) : BitVec 32 :=
  let c511_i32_148 : BitVec 32 := 511#32
  let c0_i32 : BitVec 32 := 0#32
  let c1_i32 : BitVec 32 := 1#32
  let arg16 : BitVec 32 := Scf.iv c0_i32 c1_i32 k1_t1
  let c8_i32_146 : BitVec 32 := 8#32
  let v308 : BitVec 32 := Scalar.muli arg16 c8_i32_146
  let c1_i32_147 : BitVec 32 := 1#32
  let v309 : BitVec 32 := Scalar.addi v308 c1_i32_147
  let v310 : BitVec 32 := Scalar.subi c511_i32_148 v309
  let c8_i32_149 : BitVec 32 := 8#32
  let v311 : BitVec 32 := Scalar.muli v310 c8_i32_149
  v311
def k1_mult3 (k1_t1 : Fin k1_t1_loop.trips) : BitVec 32 :=
  let c511_i32_170 : BitVec 32 := 511#32
  let c0_i32 : BitVec 32 := 0#32
  let c1_i32 : BitVec 32 := 1#32
  let arg16 : BitVec 32 := Scf.iv c0_i32 c1_i32 k1_t1
  let c8_i32_168 : BitVec 32 := 8#32
  let v358 : BitVec 32 := Scalar.muli arg16 c8_i32_168
  let c2_i32_169 : BitVec 32 := 2#32
  let v359 : BitVec 32 := Scalar.addi v358 c2_i32_169
  let v360 : BitVec 32 := Scalar.subi c511_i32_170 v359
  let c8_i32_171 : BitVec 32 := 8#32
  let v361 : BitVec 32 := Scalar.muli v360 c8_i32_171
  v361
def k1_mult4 (k1_t1 : Fin k1_t1_loop.trips) : BitVec 32 :=
  let c511_i32_192 : BitVec 32 := 511#32
  let c0_i32 : BitVec 32 := 0#32
  let c1_i32 : BitVec 32 := 1#32
  let arg16 : BitVec 32 := Scf.iv c0_i32 c1_i32 k1_t1
  let c8_i32_190 : BitVec 32 := 8#32
  let v408 : BitVec 32 := Scalar.muli arg16 c8_i32_190
  let c3_i32_191 : BitVec 32 := 3#32
  let v409 : BitVec 32 := Scalar.addi v408 c3_i32_191
  let v410 : BitVec 32 := Scalar.subi c511_i32_192 v409
  let c8_i32_193 : BitVec 32 := 8#32
  let v411 : BitVec 32 := Scalar.muli v410 c8_i32_193
  v411
def k1_mult5 (k1_t1 : Fin k1_t1_loop.trips) : BitVec 32 :=
  let c511_i32_214 : BitVec 32 := 511#32
  let c0_i32 : BitVec 32 := 0#32
  let c1_i32 : BitVec 32 := 1#32
  let arg16 : BitVec 32 := Scf.iv c0_i32 c1_i32 k1_t1
  let c8_i32_212 : BitVec 32 := 8#32
  let v458 : BitVec 32 := Scalar.muli arg16 c8_i32_212
  let c4_i32_213 : BitVec 32 := 4#32
  let v459 : BitVec 32 := Scalar.addi v458 c4_i32_213
  let v460 : BitVec 32 := Scalar.subi c511_i32_214 v459
  let c8_i32_215 : BitVec 32 := 8#32
  let v461 : BitVec 32 := Scalar.muli v460 c8_i32_215
  v461
def k1_mult6 (k1_t1 : Fin k1_t1_loop.trips) : BitVec 32 :=
  let c511_i32_235 : BitVec 32 := 511#32
  let c0_i32 : BitVec 32 := 0#32
  let c1_i32 : BitVec 32 := 1#32
  let arg16 : BitVec 32 := Scf.iv c0_i32 c1_i32 k1_t1
  let c8_i32_234 : BitVec 32 := 8#32
  let v508 : BitVec 32 := Scalar.muli arg16 c8_i32_234
  let c5_i32 : BitVec 32 := 5#32
  let v509 : BitVec 32 := Scalar.addi v508 c5_i32
  let v510 : BitVec 32 := Scalar.subi c511_i32_235 v509
  let c8_i32_236 : BitVec 32 := 8#32
  let v511 : BitVec 32 := Scalar.muli v510 c8_i32_236
  v511
def k1_mult7 (k1_t1 : Fin k1_t1_loop.trips) : BitVec 32 :=
  let c511_i32_257 : BitVec 32 := 511#32
  let c0_i32 : BitVec 32 := 0#32
  let c1_i32 : BitVec 32 := 1#32
  let arg16 : BitVec 32 := Scf.iv c0_i32 c1_i32 k1_t1
  let c8_i32_255 : BitVec 32 := 8#32
  let v558 : BitVec 32 := Scalar.muli arg16 c8_i32_255
  let c6_i32_256 : BitVec 32 := 6#32
  let v559 : BitVec 32 := Scalar.addi v558 c6_i32_256
  let v560 : BitVec 32 := Scalar.subi c511_i32_257 v559
  let c8_i32_258 : BitVec 32 := 8#32
  let v561 : BitVec 32 := Scalar.muli v560 c8_i32_258
  v561
def k1_mult8 (k1_t1 : Fin k1_t1_loop.trips) : BitVec 32 :=
  let c511_i32_279 : BitVec 32 := 511#32
  let c0_i32 : BitVec 32 := 0#32
  let c1_i32 : BitVec 32 := 1#32
  let arg16 : BitVec 32 := Scf.iv c0_i32 c1_i32 k1_t1
  let c8_i32_277 : BitVec 32 := 8#32
  let v608 : BitVec 32 := Scalar.muli arg16 c8_i32_277
  let c7_i32_278 : BitVec 32 := 7#32
  let v609 : BitVec 32 := Scalar.addi v608 c7_i32_278
  let v610 : BitVec 32 := Scalar.subi c511_i32_279 v609
  let c8_i32_280 : BitVec 32 := 8#32
  let v611 : BitVec 32 := Scalar.muli v610 c8_i32_280
  v611
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc1_transform_2 (i : grid1.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc1_transform_9 (i : grid1.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x4096x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x4096x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S8x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x128x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x128x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]
-- ==== KernelIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== ReferenceIdeal.lean ====
abbrev S4096x512 : Shape := ⟨2, ![4096, 512]⟩
abbrev S8x4096x256 : Shape := ⟨3, ![8, 4096, 256]⟩
abbrev S4x512 : Shape := ⟨2, ![4, 512]⟩
abbrev S512 : Shape := ⟨1, ![512]⟩
abbrev S8x64x64 : Shape := ⟨3, ![8, 64, 64]⟩
abbrev S8x64 : Shape := ⟨2, ![8, 64]⟩
abbrev S4096x8x256 : Shape := ⟨3, ![4096, 8, 256]⟩
abbrev S4096x2048 : Shape := ⟨2, ![4096, 2048]⟩
abbrev S_ : Shape := ⟨0, ![]⟩
abbrev S3x512 : Shape := ⟨2, ![3, 512]⟩
abbrev S4099x512 : Shape := ⟨2, ![4099, 512]⟩
abbrev S1x512 : Shape := ⟨2, ![1, 512]⟩
abbrev S4096x8x64 : Shape := ⟨3, ![4096, 8, 64]⟩
abbrev S8x64x4096 : Shape := ⟨3, ![8, 64, 4096]⟩
abbrev S1x8x64 : Shape := ⟨3, ![1, 8, 64]⟩
abbrev S4096x2x256 : Shape := ⟨3, ![4096, 2, 256]⟩
abbrev S2x4096x256 : Shape := ⟨3, ![2, 4096, 256]⟩

abbrev nBuf : Space → Nat
  | .hbm => 170
  | .vmem => 0
  | .smem => 0
  | _ => 0

abbrev hbmTy0_0 (i : Nat) : BufTy := match i % 128 with
  | 0 => ⟨S4096x512, .f32⟩
  | 1 => ⟨S8x4096x256, .f32⟩
  | 2 => ⟨S4x512, .f32⟩
  | 3 => ⟨S512, .f32⟩
  | 4 => ⟨S8x64x64, .f32⟩
  | 5 => ⟨S8x64, .f32⟩
  | 6 => ⟨S8x64x64, .f32⟩
  | 7 => ⟨S8x64, .f32⟩
  | 8 => ⟨S512, .f32⟩
  | 9 => ⟨S4096x8x256, .f32⟩
  | 10 => ⟨S4096x2048, .f32⟩
  | 11 => ⟨S4096x512, .f32⟩
  | 12 => ⟨S_, .f32⟩
  | 13 => ⟨S3x512, .f32⟩
  | 14 => ⟨S4099x512, .f32⟩
  | 15 => ⟨S4096x512, .f32⟩
  | 16 => ⟨S1x512, .f32⟩
  | 17 => ⟨S512, .f32⟩
  | 18 => ⟨S1x512, .f32⟩
  | 19 => ⟨S4096x512, .f32⟩
  | 20 => ⟨S4096x512, .f32⟩
  | 21 => ⟨S1x512, .f32⟩
  | 22 => ⟨S4096x512, .f32⟩
  | 23 => ⟨S4096x512, .f32⟩
  | 24 => ⟨S4096x512, .f32⟩
  | 25 => ⟨S1x512, .f32⟩
  | 26 => ⟨S512, .f32⟩
  | 27 => ⟨S1x512, .f32⟩
  | 28 => ⟨S4096x512, .f32⟩
  | 29 => ⟨S4096x512, .f32⟩
  | 30 => ⟨S4096x512, .f32⟩
  | 31 => ⟨S4096x512, .f32⟩
  | 32 => ⟨S1x512, .f32⟩
  | 33 => ⟨S512, .f32⟩
  | 34 => ⟨S1x512, .f32⟩
  | 35 => ⟨S4096x512, .f32⟩
  | 36 => ⟨S4096x512, .f32⟩
  | 37 => ⟨S4096x512, .f32⟩
  | 38 => ⟨S4096x512, .f32⟩
  | 39 => ⟨S1x512, .f32⟩
  | 40 => ⟨S512, .f32⟩
  | 41 => ⟨S1x512, .f32⟩
  | 42 => ⟨S4096x512, .f32⟩
  | 43 => ⟨S4096x512, .f32⟩
  | 44 => ⟨S4096x512, .f32⟩
  | 45 => ⟨S4096x8x64, .f32⟩
  | 46 => ⟨S8x64x4096, .f32⟩
  | 47 => ⟨S4096x8x64, .f32⟩
  | 48 => ⟨S1x8x64, .f32⟩
  | 49 => ⟨S4096x8x64, .f32⟩
  | 50 => ⟨S4096x8x64, .f32⟩
  | 51 => ⟨S4096x8x64, .f32⟩
  | 52 => ⟨S4096x8x64, .f32⟩
  | 53 => ⟨S_, .f32⟩
  | 54 => ⟨S4096x8x64, .f32⟩
  | 55 => ⟨S4096x8x64, .f32⟩
  | 56 => ⟨S_, .f32⟩
  | 57 => ⟨S4096x8x64, .f32⟩
  | 58 => ⟨S4096x8x64, .f32⟩
  | 59 => ⟨S4096x512, .f32⟩
  | 60 => ⟨S8x64x4096, .f32⟩
  | 61 => ⟨S4096x8x64, .f32⟩
  | 62 => ⟨S1x8x64, .f32⟩
  | 63 => ⟨S4096x8x64, .f32⟩
  | 64 => ⟨S4096x8x64, .f32⟩
  | 65 => ⟨S4096x8x64, .f32⟩
  | 66 => ⟨S4096x8x64, .f32⟩
  | 67 => ⟨S_, .f32⟩
  | 68 => ⟨S4096x8x64, .f32⟩
  | 69 => ⟨S4096x8x64, .f32⟩
  | 70 => ⟨S_, .f32⟩
  | 71 => ⟨S4096x8x64, .f32⟩
  | 72 => ⟨S4096x8x64, .f32⟩
  | 73 => ⟨S4096x512, .f32⟩
  | 74 => ⟨S_, .f32⟩
  | 75 => ⟨S4096x512, .f32⟩
  | 76 => ⟨S4096x512, .f32⟩
  | 77 => ⟨S512, .f32⟩
  | 78 => ⟨S512, .f32⟩
  | 79 => ⟨S512, .f32⟩
  | 80 => ⟨S512, .f32⟩
  | 81 => ⟨S1x512, .f32⟩
  | 82 => ⟨S4096x512, .f32⟩
  | 83 => ⟨S4096x512, .f32⟩
  | 84 => ⟨S4096x512, .f32⟩
  | 85 => ⟨S_, .f32⟩
  | 86 => ⟨S4096x512, .f32⟩
  | 87 => ⟨S4096x512, .f32⟩
  | 88 => ⟨S4096x512, .f32⟩
  | 89 => ⟨S4096x512, .f32⟩
  | 90 => ⟨S4096x512, .f32⟩
  | 91 => ⟨S4096x512, .f32⟩
  | 92 => ⟨S4096x512, .f32⟩
  | 93 => ⟨S_, .f32⟩
  | 94 => ⟨S512, .f32⟩
  | 95 => ⟨S_, .f32⟩
  | 96 => ⟨S4096x512, .f32⟩
  | 97 => ⟨S_, .i32⟩
  | 98 => ⟨S4096x512, .f32⟩
  | 99 => ⟨S4096x512, .f32⟩
  | 100 => ⟨S_, .i32⟩
  | 101 => ⟨S512, .f32⟩
  | 102 => ⟨S4096x512, .f32⟩
  | 103 => ⟨S_, .i32⟩
  | 104 => ⟨S_, .i1⟩
  | 105 => ⟨S_, .i32⟩
  | 106 => ⟨S1x512, .f32⟩
  | 107 => ⟨S512, .f32⟩
  | 108 => ⟨S_, .i32⟩
  | 109 => ⟨S1x512, .f32⟩
  | 110 => ⟨S512, .f32⟩
  | 111 => ⟨S512, .f32⟩
  | 112 => ⟨S512, .f32⟩
  | 113 => ⟨S1x512, .f32⟩
  | 114 => ⟨S_, .i32⟩
  | 115 => ⟨S4096x512, .f32⟩
  | 116 => ⟨S_, .i32⟩
  | 117 => ⟨S_, .i32⟩
  | 118 => ⟨S4096x8x256, .f32⟩
  | 119 => ⟨S4096x2048, .f32⟩
  | 120 => ⟨S4096x512, .f32⟩
  | 121 => ⟨S_, .f32⟩
  | 122 => ⟨S_, .f32⟩
  | 123 => ⟨S_, .f32⟩
  | 124 => ⟨S4096x512, .f32⟩
  | 125 => ⟨S4096x512, .f32⟩
  | 126 => ⟨S4096x512, .f32⟩
  | 127 => ⟨S_, .f32⟩
  | _ => ⟨S4096x512, .f32⟩

abbrev hbmTy0_1 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x512, .f32⟩
  | 5 => ⟨S_, .f32⟩
  | 6 => ⟨S4096x512, .f32⟩
  | 7 => ⟨S4096x512, .f32⟩
  | 8 => ⟨S4096x512, .f32⟩
  | 9 => ⟨S_, .f32⟩
  | 10 => ⟨S4096x512, .f32⟩
  | 11 => ⟨S4096x512, .f32⟩
  | 12 => ⟨S_, .f32⟩
  | 13 => ⟨S4096x512, .f32⟩
  | 14 => ⟨S4096x512, .f32⟩
  | 15 => ⟨S4096x512, .f32⟩
  | 16 => ⟨S_, .f32⟩
  | 17 => ⟨S4096x512, .f32⟩
  | 18 => ⟨S4096x512, .f32⟩
  | 19 => ⟨S_, .f32⟩
  | 20 => ⟨S4096x512, .f32⟩
  | 21 => ⟨S4096x512, .f32⟩
  | 22 => ⟨S4096x512, .f32⟩
  | 23 => ⟨S4096x512, .f32⟩
  | 24 => ⟨S4096x512, .f32⟩
  | 25 => ⟨S4096x512, .f32⟩
  | 26 => ⟨S4096x512, .f32⟩
  | 27 => ⟨S_, .f32⟩
  | 28 => ⟨S4096x512, .f32⟩
  | 29 => ⟨S4096x512, .f32⟩
  | 30 => ⟨S4096x512, .f32⟩
  | 31 => ⟨S_, .f32⟩
  | 32 => ⟨S4096x512, .f32⟩
  | 33 => ⟨S4096x512, .f32⟩
  | 34 => ⟨S4096x512, .f32⟩
  | 35 => ⟨S4096x512, .f32⟩
  | 36 => ⟨S4096x512, .f32⟩
  | 37 => ⟨S4096x512, .f32⟩
  | 38 => ⟨S4096x512, .f32⟩
  | 39 => ⟨S4096x2x256, .f32⟩
  | 40 => ⟨S2x4096x256, .f32⟩
  | 41 => ⟨S2x4096x256, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_0 : Ref sig .tc := ⟨.hbm, 53, rfl⟩
abbrev main_v43 : Ref sig .tc := ⟨.hbm, 54, rfl⟩
abbrev main_v44 : Ref sig .tc := ⟨.hbm, 55, rfl⟩
abbrev main_cst_1 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_2 : Ref sig .tc := ⟨.hbm, 67, rfl⟩
abbrev main_v55 : Ref sig .tc := ⟨.hbm, 68, rfl⟩
abbrev main_v56 : Ref sig .tc := ⟨.hbm, 69, rfl⟩
abbrev main_cst_3 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_4 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_5 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_6 : Ref sig .tc := ⟨.hbm, 93, rfl⟩
abbrev main_v77 : Ref sig .tc := ⟨.hbm, 94, rfl⟩
abbrev main_cst_7 : Ref sig .tc := ⟨.hbm, 95, rfl⟩
abbrev main_v78 : Ref sig .tc := ⟨.hbm, 96, rfl⟩
abbrev main_c : Ref sig .tc := ⟨.hbm, 97, rfl⟩
abbrev main_v79_0 : Ref sig .tc := ⟨.hbm, 98, rfl⟩
abbrev main_v79_1 : Ref sig .tc := ⟨.hbm, 99, rfl⟩
abbrev main_v79_2 : Ref sig .tc := ⟨.hbm, 100, rfl⟩
abbrev main_v79_3 : Ref sig .tc := ⟨.hbm, 101, rfl⟩
abbrev main_v79_4 : Ref sig .tc := ⟨.hbm, 102, rfl⟩
abbrev main_while0c_c_22 : Ref sig .tc := ⟨.hbm, 103, rfl⟩
abbrev main_while0c_v122 : Ref sig .tc := ⟨.hbm, 104, rfl⟩
abbrev main_while0b_call0_c : Ref sig .tc := ⟨.hbm, 105, rfl⟩
abbrev main_while0b_call0_v0 : Ref sig .tc := ⟨.hbm, 106, rfl⟩
abbrev main_while0b_v122 : Ref sig .tc := ⟨.hbm, 107, rfl⟩
abbrev main_while0b_call1_c : Ref sig .tc := ⟨.hbm, 108, rfl⟩
abbrev main_while0b_call1_v0 : Ref sig .tc := ⟨.hbm, 109, rfl⟩
abbrev main_while0b_v123 : Ref sig .tc := ⟨.hbm, 110, rfl⟩
abbrev main_while0b_v124 : Ref sig .tc := ⟨.hbm, 111, rfl⟩
abbrev main_while0b_v125 : Ref sig .tc := ⟨.hbm, 112, rfl⟩
abbrev main_while0b_call2_v0 : Ref sig .tc := ⟨.hbm, 113, rfl⟩
abbrev main_while0b_call2_c : Ref sig .tc := ⟨.hbm, 114, rfl⟩
abbrev main_while0b_v126 : Ref sig .tc := ⟨.hbm, 115, rfl⟩
abbrev main_while0b_c_22 : Ref sig .tc := ⟨.hbm, 116, rfl⟩
abbrev main_while0b_v127 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_8 : Ref sig .tc := ⟨.hbm, 121, rfl⟩
abbrev main_cst_9 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_10 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_11 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_12 : Ref sig .tc := ⟨.hbm, 137, rfl⟩
abbrev main_v95 : Ref sig .tc := ⟨.hbm, 138, rfl⟩
abbrev main_v96 : Ref sig .tc := ⟨.hbm, 139, rfl⟩
abbrev main_cst_13 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_14 : Ref sig .tc := ⟨.hbm, 144, rfl⟩
abbrev main_v100 : Ref sig .tc := ⟨.hbm, 145, rfl⟩
abbrev main_v101 : Ref sig .tc := ⟨.hbm, 146, rfl⟩
abbrev main_cst_15 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_16 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_17 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩

abbrev nD : Nat := 1
abbrev τ : Topo := Topo.v7x

variable {F : FTy → Type} [FloatOps F]

abbrev main_while0_count : Scf.Loop 32 := ⟨0#32, 4096#32, 1#32⟩
-- ==== MixIn.lean ====
abbrev S4096x1024 : Shape := ⟨2, ![4096, 1024]⟩
abbrev S9x1024 : Shape := ⟨2, ![9, 1024]⟩
abbrev S1024 : Shape := ⟨1, ![1024]⟩
abbrev S8x1024x256 : Shape := ⟨3, ![8, 1024, 256]⟩
abbrev S3x1024 : Shape := ⟨2, ![3, 1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S8x4096x256 : Shape := ⟨3, ![8, 4096, 256]⟩
abbrev S512x1024 : Shape := ⟨2, ![512, 1024]⟩
abbrev S8x512x256 : Shape := ⟨3, ![8, 512, 256]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x512x256 : Shape := ⟨3, ![1, 512, 256]⟩

abbrev nBuf : Space → Nat
  | .hbm => 12
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S9x1024, .f32⟩
  | .hbm, ⟨2, _⟩ => ⟨S1024, .f32⟩
  | .hbm, ⟨3, _⟩ => ⟨S8x1024x256, .f32⟩
  | .hbm, ⟨4, _⟩ => ⟨S3x1024, .f32⟩
  | .hbm, ⟨5, _⟩ => ⟨S1x1024, .f32⟩
  | .hbm, ⟨6, _⟩ => ⟨S_, .f32⟩
  | .hbm, ⟨7, _⟩ => ⟨S4x1024, .f32⟩
  | .hbm, ⟨8, _⟩ => ⟨S8x1024, .f32⟩
  | .hbm, ⟨9, _⟩ => ⟨S8x1024x256, .bf16⟩
  | .hbm, ⟨10, _⟩ => ⟨S4096x1024, .bf16⟩
  | .hbm, ⟨11, _⟩ => ⟨S8x4096x256, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024x256, .bf16⟩
  | .local _ .vmem, ⟨4, _⟩ => ⟨S512x1024, .bf16⟩
  | .local _ .vmem, ⟨5, _⟩ => ⟨S512x1024, .bf16⟩
  | .local _ .vmem, ⟨6, _⟩ => ⟨S8x512x256, .f32⟩
  | .local _ .vmem, ⟨7, _⟩ => ⟨S8x512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixInReferenceIdeal.lean ====
abbrev S4096x1024 : Shape := ⟨2, ![4096, 1024]⟩
abbrev S9x1024 : Shape := ⟨2, ![9, 1024]⟩
abbrev S1024 : Shape := ⟨1, ![1024]⟩
abbrev S8x1024x256 : Shape := ⟨3, ![8, 1024, 256]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x8x256 : Shape := ⟨3, ![1024, 8, 256]⟩
abbrev S1024x2048 : Shape := ⟨2, ![1024, 2048]⟩
abbrev S4096x2048 : Shape := ⟨2, ![4096, 2048]⟩
abbrev S4096x8x256 : Shape := ⟨3, ![4096, 8, 256]⟩
abbrev S8x4096x256 : Shape := ⟨3, ![8, 4096, 256]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S9x1024, .f32⟩
  | .hbm, ⟨2, _⟩ => ⟨S1024, .f32⟩
  | .hbm, ⟨3, _⟩ => ⟨S8x1024x256, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S1024x8x256, .f32⟩
  | .hbm, ⟨34, _⟩ => ⟨S1024x2048, .f32⟩
  | .hbm, ⟨35, _⟩ => ⟨S4096x2048, .f32⟩
  | .hbm, ⟨36, _⟩ => ⟨S4096x1024, .bf16⟩
  | .hbm, ⟨37, _⟩ => ⟨S4096x8x256, .f32⟩
  | .hbm, ⟨38, _⟩ => ⟨S8x4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Ffn.lean ====
abbrev S4096x1024 : Shape := ⟨2, ![4096, 1024]⟩
abbrev S9x1024 : Shape := ⟨2, ![9, 1024]⟩
abbrev S1024 : Shape := ⟨1, ![1024]⟩
abbrev S8x1024x704 : Shape := ⟨3, ![8, 1024, 704]⟩
abbrev S8x352x1024 : Shape := ⟨3, ![8, 352, 1024]⟩
abbrev S3x1024 : Shape := ⟨2, ![3, 1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S8x4096x704 : Shape := ⟨3, ![8, 4096, 704]⟩
abbrev S512x1024 : Shape := ⟨2, ![512, 1024]⟩
abbrev S8x512x704 : Shape := ⟨3, ![8, 512, 704]⟩
abbrev S2816x1024 : Shape := ⟨2, ![2816, 1024]⟩
abbrev S2x8 : Shape := ⟨2, ![2, 8]⟩
abbrev S1x8 : Shape := ⟨2, ![1, 8]⟩
abbrev S8 : Shape := ⟨1, ![8]⟩
abbrev S1 : Shape := ⟨1, ![1]⟩
abbrev S1x1024x704 : Shape := ⟨3, ![1, 1024, 704]⟩
abbrev S1024x704 : Shape := ⟨2, ![1024, 704]⟩
abbrev S352x1024 : Shape := ⟨2, ![352, 1024]⟩
abbrev S1x352x1024 : Shape := ⟨3, ![1, 352, 1024]⟩
abbrev S512 : Shape := ⟨1, ![512]⟩
abbrev S512x1 : Shape := ⟨2, ![512, 1]⟩
abbrev S512x704 : Shape := ⟨2, ![512, 704]⟩
abbrev S1x512x704 : Shape := ⟨3, ![1, 512, 704]⟩
abbrev S704x1024 : Shape := ⟨2, ![704, 1024]⟩

abbrev nBuf : Space → Nat
  | .hbm => 16
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S9x1024, .f32⟩
  | .hbm, ⟨2, _⟩ => ⟨S1024, .f32⟩
  | .hbm, ⟨3, _⟩ => ⟨S8x1024x704, .f32⟩
  | .hbm, ⟨4, _⟩ => ⟨S8x352x1024, .f32⟩
  | .hbm, ⟨5, _⟩ => ⟨S3x1024, .f32⟩
  | .hbm, ⟨6, _⟩ => ⟨S1x1024, .f32⟩
  | .hbm, ⟨7, _⟩ => ⟨S_, .f32⟩
  | .hbm, ⟨8, _⟩ => ⟨S4x1024, .f32⟩
  | .hbm, ⟨9, _⟩ => ⟨S8x1024, .f32⟩
  | .hbm, ⟨10, _⟩ => ⟨S8x1024x704, .bf16⟩
  | .hbm, ⟨11, _⟩ => ⟨S8x352x1024, .bf16⟩
  | .hbm, ⟨12, _⟩ => ⟨S4096x1024, .f32⟩
  | .hbm, ⟨13, _⟩ => ⟨S4096x1024, .bf16⟩
  | .hbm, ⟨14, _⟩ => ⟨S8x4096x704, .bf16⟩
  | .hbm, ⟨15, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S8x512x704, .bf16⟩
  | .local _ .vmem, ⟨8, _⟩ => ⟨S8x512x704, .bf16⟩
  | .local _ .vmem, ⟨9, _⟩ => ⟨S512x1024, .bf16⟩
  | .local _ .vmem, ⟨10, _⟩ => ⟨S512x1024, .bf16⟩
  | .local _ .vmem, ⟨11, _⟩ => ⟨S8x1024x704, .bf16⟩
  | .local _ .vmem, ⟨12, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S4096x1024 : Shape := ⟨2, ![4096, 1024]⟩
abbrev S9x1024 : Shape := ⟨2, ![9, 1024]⟩
abbrev S1024 : Shape := ⟨1, ![1024]⟩
abbrev S8x1024x704 : Shape := ⟨3, ![8, 1024, 704]⟩
abbrev S8x352x1024 : Shape := ⟨3, ![8, 352, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x8x704 : Shape := ⟨3, ![1024, 8, 704]⟩
abbrev S1024x5632 : Shape := ⟨2, ![1024, 5632]⟩
abbrev S4096x5632 : Shape := ⟨2, ![4096, 5632]⟩
abbrev S4096x2816 : Shape := ⟨2, ![4096, 2816]⟩
abbrev S2816x1024 : Shape := ⟨2, ![2816, 1024]⟩
abbrev S4096x8x704 : Shape := ⟨3, ![4096, 8, 704]⟩
abbrev S8x4096x704 : Shape := ⟨3, ![8, 4096, 704]⟩

abbrev nBuf : Space → Nat
  | .hbm => 65
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S9x1024, .f32⟩
  | .hbm, ⟨2, _⟩ => ⟨S1024, .f32⟩
  | .hbm, ⟨3, _⟩ => ⟨S8x1024x704, .f32⟩
  | .hbm, ⟨4, _⟩ => ⟨S8x352x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1024x8x704, .f32⟩
  | .hbm, ⟨35, _⟩ => ⟨S1024x5632, .f32⟩
  | .hbm, ⟨36, _⟩ => ⟨S4096x5632, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S_, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S2816x1024, .f32⟩
  | .hbm, ⟨50, _⟩ => ⟨S4096x1024, .f32⟩
  | .hbm, ⟨51, _⟩ => ⟨S1x1024, .f32⟩
  | .hbm, ⟨52, _⟩ => ⟨S1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .bf16⟩
  | .hbm, ⟨61, _⟩ => ⟨S4096x8x704, .f32⟩
  | .hbm, ⟨62, _⟩ => ⟨S8x4096x704, .f32⟩
  | .hbm, ⟨63, _⟩ => ⟨S8x4096x704, .bf16⟩
  | .hbm, ⟨64, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_3 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== FfnGrad.lean ====
abbrev S4096x1024 : Shape := ⟨2, ![4096, 1024]⟩
abbrev S9x1024 : Shape := ⟨2, ![9, 1024]⟩
abbrev S1024 : Shape := ⟨1, ![1024]⟩
abbrev S8x1024x704 : Shape := ⟨3, ![8, 1024, 704]⟩
abbrev S8x352x1024 : Shape := ⟨3, ![8, 352, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x8x704 : Shape := ⟨3, ![1024, 8, 704]⟩
abbrev S1024x5632 : Shape := ⟨2, ![1024, 5632]⟩
abbrev S4096x5632 : Shape := ⟨2, ![4096, 5632]⟩
abbrev S4096x2816 : Shape := ⟨2, ![4096, 2816]⟩
abbrev S2816x1024 : Shape := ⟨2, ![2816, 1024]⟩
abbrev S4096x8x704 : Shape := ⟨3, ![4096, 8, 704]⟩
abbrev S8x4096x704 : Shape := ⟨3, ![8, 4096, 704]⟩
abbrev S3x1024 : Shape := ⟨2, ![3, 1024]⟩
abbrev S4x1024 : Shape := ⟨2, ![4, 1024]⟩
abbrev S8x1024 : Shape := ⟨2, ![8, 1024]⟩
abbrev S4x4096x704 : Shape := ⟨3, ![4, 4096, 704]⟩
abbrev S256x1024 : Shape := ⟨2, ![256, 1024]⟩
abbrev S8x256x704 : Shape := ⟨3, ![8, 256, 704]⟩
abbrev S4x256x704 : Shape := ⟨3, ![4, 256, 704]⟩
abbrev S2x8 : Shape := ⟨2, ![2, 8]⟩
abbrev S1x8 : Shape := ⟨2, ![1, 8]⟩
abbrev S8 : Shape := ⟨1, ![8]⟩
abbrev S1 : Shape := ⟨1, ![1]⟩
abbrev S1x1024x704 : Shape := ⟨3, ![1, 1024, 704]⟩
abbrev S1024x704 : Shape := ⟨2, ![1024, 704]⟩
abbrev S352x1024 : Shape := ⟨2, ![352, 1024]⟩
abbrev S1x352x1024 : Shape := ⟨3, ![1, 352, 1024]⟩
abbrev S704x1024 : Shape := ⟨2, ![704, 1024]⟩
abbrev S256x704 : Shape := ⟨2, ![256, 704]⟩
abbrev S1x256x704 : Shape := ⟨3, ![1, 256, 704]⟩
abbrev S256 : Shape := ⟨1, ![256]⟩
abbrev S256x1 : Shape := ⟨2, ![256, 1]⟩

abbrev nBuf : Space → Nat
  | .hbm => 68
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S9x1024, .f32⟩
  | .hbm, ⟨3, _⟩ => ⟨S1024, .f32⟩
  | .hbm, ⟨4, _⟩ => ⟨S8x1024x704, .f32⟩
  | .hbm, ⟨5, _⟩ => ⟨S8x352x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S1024x8x704, .f32⟩
  | .hbm, ⟨36, _⟩ => ⟨S1024x5632, .f32⟩
  | .hbm, ⟨37, _⟩ => ⟨S4096x5632, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S_, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S2816x1024, .f32⟩
  | .hbm, ⟨51, _⟩ => ⟨S4096x1024, .f32⟩
  | .hbm, ⟨52, _⟩ => ⟨S4096x8x704, .f32⟩
  | .hbm, ⟨53, _⟩ => ⟨S8x4096x704, .f32⟩
  | .hbm, ⟨54, _⟩ => ⟨S8x4096x704, .bf16⟩
  | .hbm, ⟨55, _⟩ => ⟨S4096x1024, .bf16⟩
  | .hbm, ⟨56, _⟩ => ⟨S3x1024, .f32⟩
  | .hbm, ⟨57, _⟩ => ⟨S1x1024, .f32⟩
  | .hbm, ⟨58, _⟩ => ⟨S_, .f32⟩
  | .hbm, ⟨59, _⟩ => ⟨S4x1024, .f32⟩
  | .hbm, ⟨60, _⟩ => ⟨S8x1024, .f32⟩
  | .hbm, ⟨61, _⟩ => ⟨S8x1024x704, .bf16⟩
  | .hbm, ⟨62, _⟩ => ⟨S8x352x1024, .bf16⟩
  | .hbm, ⟨63, _⟩ => ⟨S4096x1024, .f32⟩
  | .hbm, ⟨64, _⟩ => ⟨S8x4096x704, .bf16⟩
  | .hbm, ⟨65, _⟩ => ⟨S4x4096x704, .bf16⟩
  | .hbm, ⟨66, _⟩ => ⟨S4096x1024, .bf16⟩
  | .hbm, ⟨67, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x256x704, .bf16⟩
  | .local _ .vmem, ⟨5, _⟩ => ⟨S8x256x704, .bf16⟩
  | .local _ .vmem, ⟨6, _⟩ => ⟨S256x1024, .bf16⟩
  | .local _ .vmem, ⟨7, _⟩ => ⟨S256x1024, .bf16⟩
  | .local _ .vmem, ⟨8, _⟩ => ⟨S8x1024, .f32⟩
  | .local _ .vmem, ⟨9, _⟩ => ⟨S256x1024, .f32⟩
  | .local _ .vmem, ⟨10, _⟩ => ⟨S256x1024, .f32⟩
  | .local _ .vmem, ⟨11, _⟩ => ⟨S8x256x704, .bf16⟩
  | .local _ .vmem, ⟨12, _⟩ => ⟨S8x256x704, .bf16⟩
  | .local _ .vmem, ⟨13, _⟩ => ⟨S4x256x704, .bf16⟩
  | .local _ .vmem, ⟨14, _⟩ => ⟨S4x256x704, .bf16⟩
  | .local _ .vmem, ⟨15, _⟩ => ⟨S256x1024, .bf16⟩
  | .local _ .vmem, ⟨16, _⟩ => ⟨S256x1024, .bf16⟩
  | .local _ .vmem, ⟨17, _⟩ => ⟨S8x1024, .f32⟩
  | .local _ .vmem, ⟨18, _⟩ => ⟨S8x1024x704, .bf16⟩
  | .local _ .vmem, ⟨19, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_3 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44_0 : Ref sig .tc := ⟨.hbm, 63, rfl⟩
abbrev main_v44_1 : Ref sig .tc := ⟨.hbm, 64, rfl⟩
abbrev main_v44_2 : Ref sig .tc := ⟨.hbm, 65, rfl⟩
abbrev main_v44_3 : Ref sig .tc := ⟨.hbm, 66, rfl⟩
abbrev main_v44_4 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnGradReferenceIdeal.lean ====
abbrev S4096x1024 : Shape := ⟨2, ![4096, 1024]⟩
abbrev S9x1024 : Shape := ⟨2, ![9, 1024]⟩
abbrev S1024 : Shape := ⟨1, ![1024]⟩
abbrev S8x1024x704 : Shape := ⟨3, ![8, 1024, 704]⟩
abbrev S8x352x1024 : Shape := ⟨3, ![8, 352, 1024]⟩
abbrev S1024x8x704 : Shape := ⟨3, ![1024, 8, 704]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S4096x8x704 : Shape := ⟨3, ![4096, 8, 704]⟩
abbrev S8x4096x704 : Shape := ⟨3, ![8, 4096, 704]⟩
abbrev S4096x4x704 : Shape := ⟨3, ![4096, 4, 704]⟩
abbrev S4x4096x704 : Shape := ⟨3, ![4, 4096, 704]⟩

abbrev nBuf : Space → Nat
  | .hbm => 110
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S9x1024, .f32⟩
  | .hbm, ⟨3, _⟩ => ⟨S1024, .f32⟩
  | .hbm, ⟨4, _⟩ => ⟨S8x1024x704, .f32⟩
  | .hbm, ⟨5, _⟩ => ⟨S8x352x1024, .f32⟩
  | .hbm, ⟨6, _⟩ => ⟨S1024x8x704, .f32⟩
  | .hbm, ⟨7, _⟩ => ⟨S1024x5632, .f32⟩
  | .hbm, ⟨8, _⟩ => ⟨S2816x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x5632, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S_, .f32⟩
  | .hbm, ⟨48, _⟩ => ⟨S4096x2816, .f32⟩
  | .hbm, ⟨49, _⟩ => ⟨S4096x2816, .f32⟩
  | .hbm, ⟨50, _⟩ => ⟨S_, .f32⟩
  | .hbm, ⟨51, _⟩ => ⟨S4096x2816, .f32⟩
  | .hbm, ⟨52, _⟩ => ⟨S4096x2816, .f32⟩
  | .hbm, ⟨53, _⟩ => ⟨S_, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x1024, .f32⟩
  | .hbm, ⟨60, _⟩ => ⟨S1x1024, .f32⟩
  | .hbm, ⟨61, _⟩ => ⟨S1024, .f32⟩
  | .hbm, ⟨62, _⟩ => ⟨S_, .f32⟩
  | .hbm, ⟨63, _⟩ => ⟨S1024, .f32⟩
  | .hbm, ⟨64, _⟩ => ⟨S1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x2816, .f32⟩
  | .hbm, ⟨73, _⟩ => ⟨S4096x2816, .f32⟩
  | .hbm, ⟨74, _⟩ => ⟨S4096x2816, .f32⟩
  | .hbm, ⟨75, _⟩ => ⟨S4096x2816, .f32⟩
  | .hbm, ⟨76, _⟩ => ⟨S4096x2816, .f32⟩
  | .hbm, ⟨77, _⟩ => ⟨S4096x2816, .f32⟩
  | .hbm, ⟨78, _⟩ => ⟨S4096x2816, .f32⟩
  | .hbm, ⟨79, _⟩ => ⟨S4096x5632, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S4096x1024, .f32⟩
  | .hbm, ⟨90, _⟩ => ⟨S4096x1024, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S_, .f32⟩
  | .hbm, ⟨96, _⟩ => ⟨S4096, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x8x704, .f32⟩
  | .hbm, ⟨104, _⟩ => ⟨S8x4096x704, .f32⟩
  | .hbm, ⟨105, _⟩ => ⟨S8x4096x704, .bf16⟩
  | .hbm, ⟨106, _⟩ => ⟨S4096x4x704, .f32⟩
  | .hbm, ⟨107, _⟩ => ⟨S4x4096x704, .f32⟩
  | .hbm, ⟨108, _⟩ => ⟨S4x4096x704, .bf16⟩
  | .hbm, ⟨109, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v34_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v34_1 : Ref sig .tc := ⟨.hbm, 56, rfl⟩
abbrev main_v34_0 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_4 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_5 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_6 : Ref sig .tc := ⟨.hbm, 92, rfl⟩
abbrev main_v64 : Ref sig .tc := ⟨.hbm, 93, rfl⟩
abbrev main_v65 : Ref sig .tc := ⟨.hbm, 94, rfl⟩
abbrev main_cst_7 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]
-- ==== Proof.Bits.Body1.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Pipeline.FrameSuffix
public import Idealize.ShloMosaic.Lib.Ring
public import Idealize.ShloMosaic.Lib.Tactic
public import proofs.«01_k».proof.Proof.Bits.Body0
@[expose] public section

set_option maxRecDepth 16384

noncomputable section

namespace Cert.Kernel.Lru

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- Eight stores of one row each, the last row last, read back row by row. -/
theorem read8 (v : View sig .tc .vmem S8x128 .f32) (f : v.ty.Contents (Elt F)) (w0 w1 w2 w3 w4 w5 w6 w7 : Vec F S1x128 .f32)
    (W : Fin 8 → FVec F S1x128 .f32) (i0 i1 i2 i3 i4 i5 i6 i7)
    (e0 : w0 = W 0) (e1 : w1 = W 1) (e2 : w2 = W 2) (e3 : w3 = W 3) (e4 : w4 = W 4) (e5 : w5 = W 5) (e6 : w6 = W 6) (e7 : w7 = W 7) :
    v.read (Elt F) (v.writes (Elt F) f
      [⟨Rect.unit (s := S8x128) ![7, 0] S1x128.size i7, w7⟩, ⟨Rect.unit (s := S8x128) ![6, 0] S1x128.size i6, w6⟩,
       ⟨Rect.unit (s := S8x128) ![5, 0] S1x128.size i5, w5⟩, ⟨Rect.unit (s := S8x128) ![4, 0] S1x128.size i4, w4⟩,
       ⟨Rect.unit (s := S8x128) ![3, 0] S1x128.size i3, w3⟩, ⟨Rect.unit (s := S8x128) ![2, 0] S1x128.size i2, w2⟩,
       ⟨Rect.unit (s := S8x128) ![1, 0] S1x128.size i1, w1⟩, ⟨Rect.unit (s := S8x128) ![0, 0] S1x128.size i0, w0⟩])
      = fun y => W (y (0 : Fin 2)) (ValueIdx.ix2 (0 : Fin 1) (y (1 : Fin 2))) := by
  subst e0 e1 e2 e3 e4 e5 e6 e7
  have key : ∀ (r : Fin 8) (y : S8x128.Idx) (hy : y (0 : Fin 2) = r) (o : ℕ), r.val = o →
      (y (0 : Fin 2)).val = o + ((ValueIdx.ix2 (0 : Fin 1) (y (1 : Fin 2))) (0 : Fin 2)).val := fun r y hy o h => by
    rw [hy, h]; rfl
  funext y
  obtain ⟨r, hr⟩ : ∃ r : Fin 8, y (0 : Fin 2) = r := ⟨_, rfl⟩
  have hv : (y (0 : Fin 2)).val = r.val := by rw [hr]
  show _ = W (y (0 : Fin 2)) _
  rw [hr]
  fin_cases r
  · refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    exact View.read_writes_cons_rows_of_mem v f _ _ _ y (ValueIdx.ix2 (0 : Fin 1) (y (1 : Fin 2))) rfl (key _ y hr 0 rfl) rfl
  · refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    exact View.read_writes_cons_rows_of_mem v f _ _ _ y (ValueIdx.ix2 (0 : Fin 1) (y (1 : Fin 2))) rfl (key _ y hr 1 rfl) rfl
  · refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    exact View.read_writes_cons_rows_of_mem v f _ _ _ y (ValueIdx.ix2 (0 : Fin 1) (y (1 : Fin 2))) rfl (key _ y hr 2 rfl) rfl
  · refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    exact View.read_writes_cons_rows_of_mem v f _ _ _ y (ValueIdx.ix2 (0 : Fin 1) (y (1 : Fin 2))) rfl (key _ y hr 3 rfl) rfl
  · refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    exact View.read_writes_cons_rows_of_mem v f _ _ _ y (ValueIdx.ix2 (0 : Fin 1) (y (1 : Fin 2))) rfl (key _ y hr 4 rfl) rfl
  · refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    exact View.read_writes_cons_rows_of_mem v f _ _ _ y (ValueIdx.ix2 (0 : Fin 1) (y (1 : Fin 2))) rfl (key _ y hr 5 rfl) rfl
  · refine (View.read_writes_cons_rows_of_not_mem v f _ _ _ y rfl rfl (Or.inl (by rw [hv]; decide))).trans ?_
    exact View.read_writes_cons_rows_of_mem v f _ _ _ y (ValueIdx.ix2 (0 : Fin 1) (y (1 : Fin 2))) rfl (key _ y hr 6 rfl) rfl
  · exact View.read_writes_cons_rows_of_mem v f _ _ _ y (ValueIdx.ix2 (0 : Fin 1) (y (1 : Fin 2))) rfl (key _ y hr 7 rfl) rfl

/-- Eight stores of one row each leave the same block over any contents. -/
theorem rows_agree (v : View sig .tc .vmem S8x128 .f32) (f f' : v.ty.Contents (Elt F)) (w0 w1 w2 w3 w4 w5 w6 w7 : Vec F S1x128 .f32) (i0 i1 i2 i3 i4 i5 i6 i7) :
    v.read (Elt F) (v.writes (Elt F) f
      [⟨Rect.unit (s := S8x128) ![7, 0] S1x128.size i7, w7⟩, ⟨Rect.unit (s := S8x128) ![6, 0] S1x128.size i6, w6⟩,
       ⟨Rect.unit (s := S8x128) ![5, 0] S1x128.size i5, w5⟩, ⟨Rect.unit (s := S8x128) ![4, 0] S1x128.size i4, w4⟩,
       ⟨Rect.unit (s := S8x128) ![3, 0] S1x128.size i3, w3⟩, ⟨Rect.unit (s := S8x128) ![2, 0] S1x128.size i2, w2⟩,
       ⟨Rect.unit (s := S8x128) ![1, 0] S1x128.size i1, w1⟩, ⟨Rect.unit (s := S8x128) ![0, 0] S1x128.size i0, w0⟩])
      = v.read (Elt F) (v.writes (Elt F) f'
      [⟨Rect.unit (s := S8x128) ![7, 0] S1x128.size i7, w7⟩, ⟨Rect.unit (s := S8x128) ![6, 0] S1x128.size i6, w6⟩,
       ⟨Rect.unit (s := S8x128) ![5, 0] S1x128.size i5, w5⟩, ⟨Rect.unit (s := S8x128) ![4, 0] S1x128.size i4, w4⟩,
       ⟨Rect.unit (s := S8x128) ![3, 0] S1x128.size i3, w3⟩, ⟨Rect.unit (s := S8x128) ![2, 0] S1x128.size i2, w2⟩,
       ⟨Rect.unit (s := S8x128) ![1, 0] S1x128.size i1, w1⟩, ⟨Rect.unit (s := S8x128) ![0, 0] S1x128.size i0, w0⟩]) :=
  (read8 v f w0 w1 w2 w3 w4 w5 w6 w7 ![w0, w1, w2, w3, w4, w5, w6, w7] i0 i1 i2 i3 i4 i5 i6 i7 rfl rfl rfl rfl rfl rfl rfl rfl).trans
    (read8 v f' w0 w1 w2 w3 w4 w5 w6 w7 ![w0, w1, w2, w3, w4, w5, w6, w7] i0 i1 i2 i3 i4 i5 i6 i7 rfl rfl rfl rfl rfl rfl rfl rfl).symm

/-- A store of the whole window leaves the same block over any contents. -/
theorem full_agree {s : Shape} {e : EltTy} (v : View sig .tc .vmem s e) (f f' : v.ty.Contents (Elt F)) {off : Fin s.rank → ℕ}
    (inb : ∀ a, off a + s.size a ≤ s.size a) (w : (Rect.unit off s.size inb).shape.Idx → Elt F e) :
    v.read (Elt F) (v.writes (Elt F) f [⟨Rect.unit off s.size inb, w⟩])
      = v.read (Elt F) (v.writes (Elt F) f' [⟨Rect.unit off s.size inb, w⟩]) :=
  (View.read_writes_full v f inb w []).trans (View.read_writes_full v f' inb w []).symm

section B1

variable (c : Dev nD) (i : grid1.Coords) (arg1 : Memref sig .tc .vmem S4096x128 .f32) (harg1 : arg1.IsWhole) (arg2 : Memref sig .tc .vmem S1x4096x128 .f32) (harg2 : arg2.IsWhole) (arg3 : Memref sig .tc .vmem S1x4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S8x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S1x4096x128 .bf16) (harg9 : arg9.IsWhole) (arg10 : Memref sig .tc .vmem S1x4096x128 .bf16) (harg10 : arg10.IsWhole) (arg11 : Memref sig .tc .vmem S8x128 .f32) (harg11 : arg11.IsWhole) (arg12 : Memref sig .tc .vmem S1x128x128 .f32) (harg12 : arg12.IsWhole) (arg13 : Memref sig .tc .vmem S1x128x128 .f32) (harg13 : arg13.IsWhole) (arg14 : Memref sig .tc .vmem S4096x128 .f32) (harg14 : arg14.IsWhole) (arg15 : Memref sig .tc .vmem S4096x128 .f32) (harg15 : arg15.IsWhole) (x0 : Vec F S4096x128 .f32) (x1 : Vec F S1x4096x128 .f32) (x2 : Vec F S1x4096x128 .f32) (x3 : Vec F S4096x128 .f32) (x4 : Vec F S4096x128 .f32) (x5 : Vec F S8x128 .f32) (x6 : Vec F S1x128x128 .bf16) (x7 : Vec F S1x128x128 .bf16)

/-- What the body leaves in output window 8: its stores over zeros. -/
def o8 : Vec F S1x4096x128 .bf16 :=
  arg9.view.read (Elt F) (arg9.view.writes (Elt F) (harg9.unread (constant S1x4096x128 .bf16 0x0000#16)) (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).1)

/-- The stores cover the window, so they leave the same block over any contents. -/
theorem read1_9 (f : arg9.view.ty.Contents (Elt F)) :
    arg9.view.read (Elt F) (arg9.view.writes (Elt F) f (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).1) = o8 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 := by
  unfold o8 run1
  dsimp only
  exact full_agree _ _ _ _ _

/-- What the body leaves in output window 9: its stores over zeros. -/
def o9 : Vec F S1x4096x128 .bf16 :=
  arg10.view.read (Elt F) (arg10.view.writes (Elt F) (harg10.unread (constant S1x4096x128 .bf16 0x0000#16)) (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1)

/-- The stores cover the window, so they leave the same block over any contents. -/
theorem read1_10 (f : arg10.view.ty.Contents (Elt F)) :
    arg10.view.read (Elt F) (arg10.view.writes (Elt F) f (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1) = o9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 := by
  unfold o9 run1
  dsimp only
  exact full_agree _ _ _ _ _

/-- What the body leaves in output window 10: its stores over zeros. -/
def o10 : Vec F S8x128 .f32 :=
  arg11.view.read (Elt F) (arg11.view.writes (Elt F) (harg11.unread (constant S8x128 .f32 0x00000000#32)) (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.1)

/-- The stores cover the window, so they leave the same block over any contents. -/
theorem read1_11 (f : arg11.view.ty.Contents (Elt F)) :
    arg11.view.read (Elt F) (arg11.view.writes (Elt F) f (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.1) = o10 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 := by
  unfold o10 run1
  dsimp only
  exact rows_agree _ _ _ _ _ _ _ _ _ _ _ _ _ _ _ _ _ _ _

/-- What the body leaves in output window 11: its stores over zeros. -/
def o11 : Vec F S1x128x128 .f32 :=
  arg12.view.read (Elt F) (arg12.view.writes (Elt F) (harg12.unread (constant S1x128x128 .f32 0x00000000#32)) (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.1)

/-- The stores cover the window, so they leave the same block over any contents. -/
theorem read1_12 (f : arg12.view.ty.Contents (Elt F)) :
    arg12.view.read (Elt F) (arg12.view.writes (Elt F) f (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.1) = o11 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 := by
  unfold o11 run1
  dsimp only
  exact full_agree _ _ _ _ _

/-- What the body leaves in output window 12: its stores over zeros. -/
def o12 : Vec F S1x128x128 .f32 :=
  arg13.view.read (Elt F) (arg13.view.writes (Elt F) (harg13.unread (constant S1x128x128 .f32 0x00000000#32)) (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.1)

/-- The stores cover the window, so they leave the same block over any contents. -/
theorem read1_13 (f : arg13.view.ty.Contents (Elt F)) :
    arg13.view.read (Elt F) (arg13.view.writes (Elt F) f (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.1) = o12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 := by
  unfold o12 run1
  dsimp only
  exact full_agree _ _ _ _ _

end B1

end Cert.Kernel.Lru

end
-- ==== Proof.RRun.lean ====
module

public import proofs.«01_k».proof.Proof.Gen.ReferenceIdeal.Run
public import proofs.«01_k».proof.Proof.Gen.ReferenceIdeal.Step

@[expose] public section

set_option maxRecDepth 16384

noncomputable section

/-! # The run of the reference

The reference's one loop is the recurrence. `Carries V s j` says that the memory `V` before trip `j` holds the
state `s`: the hidden row, the rows written so far, and the two arrays the trips read.
-/

namespace Cert.ReferenceIdeal.Lru

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- The memory before trip `j` holds the state `s` and the number `j`. -/
def Carries (V : Valuation τ sig (Elt F)) (s : State F) (j : ℕ) : Prop :=
  (V (Proc.devRef .tc main_v79_3) = s.main_v79_3 ∧ V (Proc.devRef .tc main_v79_4) = s.main_v79_4)
    ∧ (V (Proc.devRef .tc main_v79_0) = s.main_v79_0 ∧ V (Proc.devRef .tc main_v79_1) = s.main_v79_1)
    ∧ V (Proc.devRef .tc main_v79_2) = constantI S_ 32 (BitVec.ofNat 32 j)

/-- The hidden row a trip computes. -/
theorem hidden_eq {V : Valuation τ sig (Elt F)} {s : State F} {j : ℕ} (h : Carries V s j) :
    res_main_while0b_v125 V = b7 j s := by
  obtain ⟨⟨h3, -⟩, ⟨h0, h1⟩, h2⟩ := h
  unfold res_main_while0b_v125 b7 b6 b5 b4 b3 b2 b1 b0
  rw [h0, h1, h2, h3]
  rfl

/-- One trip steps the hidden row. -/
theorem trip_hidden {V : Valuation τ sig (Elt F)} {s : State F} {j : ℕ} (h : Carries V s j) :
    Value.step_main_v79_3 V = b7 j s := by
  unfold Value.step_main_v79_3
  exact hidden_eq h

/-- One trip writes the hidden row into row `j`. -/
theorem trip_rows {V : Valuation τ sig (Elt F)} {s : State F} {j : ℕ} (h : Carries V s j) :
    Value.step_main_v79_4 V = b10 j s := by
  have hid := hidden_eq h
  obtain ⟨⟨-, h4⟩, -, h2⟩ := h
  unfold Value.step_main_v79_4 b10 b9 b8
  rw [hid, h4, h2]
  rfl

/-- One trip adds one to the trip's number. -/
theorem trip_number {V : Valuation τ sig (Elt F)} {s : State F} {j : ℕ} (h : Carries V s j) :
    Value.step_main_v79_2 V = constantI S_ 32 (BitVec.ofNat 32 (j + 1)) := by
  unfold Value.step_main_v79_2
  rw [h.2.2]
  funext i
  exact (BitVec.ofNat_add j 1).symm

/-- One trip of the loop is one step of the state. -/
theorem trip {V : Valuation τ sig (Elt F)} {s : State F} {j : ℕ} (h : Carries V s j) :
    Carries (STEP V) (step j s) (j + 1) :=
  ⟨⟨(STEP_main_v79_3 V).trans (trip_hidden h), (STEP_main_v79_4 V).trans (trip_rows h)⟩,
    ⟨(STEP_main_v79_0 V).trans h.2.1.1, (STEP_main_v79_1 V).trans h.2.1.2⟩,
    (STEP_main_v79_2 V).trans (trip_number h)⟩

variable (m : (ℓ : Loc nD τ sig) → Buf (Elt F) ℓ) (c : Dev nD)

/-- The states of core `c`: what the operations before the loop leave, then one step per trip. -/
def states : ℕ → State F
  | 0 => init (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) (m ((c.tc : Thread nD τ).loc main_arg8))
  | j + 1 => step j (states j)

set_option maxRecDepth 65536 in
set_option maxHeartbeats 400000 in
/-- The loop starts from the first state. -/
theorem enters : Carries (entryContents preI m c) (states m c 0) 0 := by
  refine ⟨⟨?_, ?_⟩, ⟨?_, ?_⟩, ?_⟩ <;>
    (simp only [entryContents, afterL_cons, afterL_nil]; after_reads_simp) <;> rfl

/-- Before trip `k` the loop's memory holds state `k`. -/
theorem carries : ∀ k, Carries (STEP^[k] (entryContents preI m c)) (states m c k) k
  | 0 => enters m c
  | k + 1 => by
    rw [Function.iterate_succ_apply']
    exact trip (carries k)

set_option maxRecDepth 65536 in
/-- The gated output, of the last state. -/
theorem out_y {V : Valuation τ sig (Elt F)} {s : State F} {j : ℕ} (h : Carries V s j)
    {x1 : (⟨S8x4096x256, .f32⟩ : BufTy).Contents (Elt F)} (h1 : V (Proc.devRef .tc main_arg1) = x1) :
    out_main_v105 V = R_main_v105 s x1 := by
  obtain ⟨⟨-, h4⟩, -, -⟩ := h
  unfold out_main_v105 R_main_v105
  rw [h4, h1]

set_option maxRecDepth 65536 in
/-- The gate's gradient, of the last state. -/
theorem out_dg {V : Valuation τ sig (Elt F)} {s : State F} {j : ℕ} (h : Carries V s j)
    {x0 : (⟨S4096x512, .f32⟩ : BufTy).Contents (Elt F)} (h0 : V (Proc.devRef .tc main_arg0) = x0)
    {x1 : (⟨S8x4096x256, .f32⟩ : BufTy).Contents (Elt F)} (h1 : V (Proc.devRef .tc main_arg1) = x1) :
    out_main_v121 V = R_main_v121 s x0 x1 := by
  obtain ⟨⟨-, h4⟩, -, -⟩ := h
  unfold out_main_v121 R_main_v121
  rw [h4, h0, h1]

/-- Every run of the reference ends, with its two results the functions of the state after 4096 trips, and with
    its arguments as they were. -/
theorem run (ρ : Dev nD → PrngReg) :
    θ_run (defs (F := F)) (onTc (τ := τ) (main (F := F))) ⟨m, fun _ => 0, ρ⟩ fun r => ∀ c : Dev nD,
      (r.2.mem ((c.tc : Thread nD τ).loc main_v105)
          = R_main_v105 (states m c 4096) (m ((c.tc : Thread nD τ).loc main_arg1))
        ∧ r.2.mem ((c.tc : Thread nD τ).loc main_v121)
          = R_main_v121 (states m c 4096) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨⟨(h c).1.trans (out_y (carries m c 4096) (iter_main_arg1 m c 4096)),
      (h c).2.1.trans (out_dg (carries m c 4096) (iter_main_arg0 m c 4096) (iter_main_arg1 m c 4096))⟩,
      (h c).2.2⟩) (Value.run m ρ)

end Cert.ReferenceIdeal.Lru

end
-- ==== Proof.RFrame.lean ====
module

public import proofs.«01_k».proof.Proof.RRun
@[expose] public section

noncomputable section

namespace Cert.ReferenceIdeal.Lru

open Idealize.ShloMosaic Idealize.SL Idealize.SL.Sem

/-- The reference has no semaphore, so that nothing is left in one. -/
instance noSem : IsEmpty (SemLoc sig) := by
  constructor
  rintro ⟨⟩
  all_goals exact Fin.elim0 (by assumption)

/-- The reference's runs end with the arguments as they were and, there being no semaphore, with every counter at zero. -/
theorem frame {F : FTy → Type} [FloatOps F] [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0 :=
  (θ_run defs _ _).mono (fun _ h => ⟨fun c => (h c).2, funext fun x => isEmptyElim x.2⟩) (run m ρ)

end Cert.ReferenceIdeal.Lru

end
-- ==== Proof.Run0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.FrameSuffix
public import Idealize.ShloMosaic.Lib.Ring
public import Idealize.ShloMosaic.Lib.Tactic

@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

set_option maxHeartbeats 1000000 in
/-- What the stores of region 0's body leave in its outputs' staging memrefs, as pieces, with the triple of the body:
    inputs kept, every output holding its pieces over what it held, the scratch buffers at some contents. -/
def run0 (c : Dev nD) (i : grid0.Coords) (arg1 : Memref sig .tc .vmem S1x4096x128 .f32) (harg1 : arg1.IsWhole) (arg2 : Memref sig .tc .vmem S1x4096x128 .f32) (harg2 : arg2.IsWhole) (arg3 : Memref sig .tc .vmem S8x128 .f32) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole)
    (x0 : Vec F S1x4096x128 .f32) (x1 : Vec F S1x4096x128 .f32) (x2 : Vec F S8x128 .f32) (x3 : Vec F S1x128x128 .bf16) (x4 : Vec F S1x128x128 .bf16) :
    Σ' (L5 : BufTy.Contents (Elt F) arg8.view.ty → List (View.Piece (Elt F) S4096x128 .f32)), Σ' (L6 : List (View.Piece (Elt F) S4096x128 .f32)), { L7 : List (View.Piece (Elt F) S4096x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, ∃ g, arg6.view.loc (c : Thread nD τ) ↦[arg6.view.set]{fullShare} arg6.view.writes (Elt F) f (L5 g)) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d) ∗ (∃ d, owns (c : Thread nD τ) arg10 fullShare d)) -∗ K ⟨⟩))
          ⊢ wp frame (wpE (defs₀ (F := F)) Variants.none c none) E (cc0_lru_fwd_0 i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0_lru_fwd_0_eq_skeleton]; unfold cc0_lru_fwd_0_skel
    simp only [k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _, f7; iexact H5
    isplitl [H6]; · iexists _; iexact H6
    isplitl [H7]; · iexists _; iexact H7
    isplitl [H8]
    · iexists _, _; isplitr; swap; · iexact H8
      ipureintro; rfl
    iexists _, _; isplitr; swap; · iexact H9
    ipureintro; rfl

end Cert.KernelIdeal.Lru

end
-- ==== Proof.Run1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.FrameSuffix
public import Idealize.ShloMosaic.Lib.Ring
public import Idealize.ShloMosaic.Lib.Tactic

@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

set_option maxHeartbeats 1000000 in
/-- What the stores of region 1's body leave in its outputs' staging memrefs, as pieces, with the triple of the body:
    inputs kept, every output holding its pieces over what it held, the scratch buffers at some contents. -/
def run1 (c : Dev nD) (i : grid1.Coords) (arg1 : Memref sig .tc .vmem S4096x128 .f32) (harg1 : arg1.IsWhole) (arg2 : Memref sig .tc .vmem S1x4096x128 .f32) (harg2 : arg2.IsWhole) (arg3 : Memref sig .tc .vmem S1x4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S8x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S1x4096x128 .bf16) (harg9 : arg9.IsWhole) (arg10 : Memref sig .tc .vmem S1x4096x128 .bf16) (harg10 : arg10.IsWhole) (arg11 : Memref sig .tc .vmem S8x128 .f32) (harg11 : arg11.IsWhole) (arg12 : Memref sig .tc .vmem S1x128x128 .f32) (harg12 : arg12.IsWhole) (arg13 : Memref sig .tc .vmem S1x128x128 .f32) (harg13 : arg13.IsWhole) (arg14 : Memref sig .tc .vmem S4096x128 .f32) (harg14 : arg14.IsWhole) (arg15 : Memref sig .tc .vmem S4096x128 .f32) (harg15 : arg15.IsWhole)
    (x0 : Vec F S4096x128 .f32) (x1 : Vec F S1x4096x128 .f32) (x2 : Vec F S1x4096x128 .f32) (x3 : Vec F S4096x128 .f32) (x4 : Vec F S4096x128 .f32) (x5 : Vec F S8x128 .f32) (x6 : Vec F S1x128x128 .bf16) (x7 : Vec F S1x128x128 .bf16) :
    Σ' (L8 : List (View.Piece (Elt F) S1x4096x128 .bf16)), Σ' (L9 : List (View.Piece (Elt F) S1x4096x128 .bf16)), Σ' (L10 : List (View.Piece (Elt F) S8x128 .f32)), Σ' (L11 : List (View.Piece (Elt F) S1x128x128 .f32)), { L12 : List (View.Piece (Elt F) S1x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ d, owns (c : Thread nD τ) arg14 fullShare d) ∗ (∃ d, owns (c : Thread nD τ) arg15 fullShare d)) -∗ K ⟨⟩))
          ⊢ wp frame (wpE (defs₀ (F := F)) Variants.none c none) E (cc1_lru_bwd_0 i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc1_lru_bwd_0_eq_skeleton]; unfold cc1_lru_bwd_0_skel
    simp only [k1_part10_eq_skeleton, k1_part11_eq_skeleton, k1_part12_eq_skeleton, k1_part13_eq_skeleton, k1_part14_eq_skeleton, k1_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]
    · iexists _, _; isplitr; swap; · iexact H13
      ipureintro; rfl
    iexists _, _; isplitr; swap; · iexact H14
    ipureintro; rfl

end Cert.KernelIdeal.Lru

end
-- ==== Proof.Scan0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.ValueIdx
public import Idealize.ShloMosaic.Lib.WritesUnit
public import Idealize.ShloMosaic.Lib.VecWindow

@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

/-! ## Eight rows at a time -/

/-- The eight rows of `x` that start at row `8 n`. -/
def win (x : Vec F S4096x128 .f32) (n : ℕ) : Vec F S8x128 .f32 :=
  fun y => x (ValueIdx.ix2 (⟨(8 * n + (y (0 : Fin 2)).val) % 4096, Nat.mod_lt _ (by norm_num)⟩ : Fin 4096) (y (1 : Fin 2)))

/-- The rows a block of the forward scan leaves: the multipliers `A`, the inputs `B`, the state `h` before the block. -/
def blkF (I : IVec S8x128 32) (A B : Vec F S8x128 .f32) (h : FVec F S1x128 .f32) : FVec F S8x128 .f32 :=
  k0_pay10 h (k0_pay5 I A B) (k0_pay6 I A) (k0_pay8 I A) (k0_pay9 I A B)

/-- The last row of a block. -/
def lastRow (H : FVec F S8x128 .f32) : FVec F S1x128 .f32 := extractStridedSlice S1x128 ![7, 0] H slices_S8x128_o7_0_S1x128

/-- The state before block `n` of the forward scan. -/
def carF (I : IVec S8x128 32) (a b : Vec F S4096x128 .f32) (h : FVec F S1x128 .f32) : ℕ → FVec F S1x128 .f32
  | 0 => h
  | n + 1 => lastRow (blkF I (win a n) (win b n) (carF I a b h n))

/-- Every row of the forward scan. -/
def scanF (I : IVec S8x128 32) (a b : Vec F S4096x128 .f32) (h : FVec F S1x128 .f32) : Vec F S4096x128 .f32 :=
  fun y => blkF I (win a ((y (0 : Fin 2)).val / 8)) (win b ((y (0 : Fin 2)).val / 8)) (carF I a b h ((y (0 : Fin 2)).val / 8))
    (ValueIdx.ix2 (⟨(y (0 : Fin 2)).val % 8, Nat.mod_lt _ (by norm_num)⟩ : Fin 8) (y (1 : Fin 2)))

/-- A load of eight whole rows reads a window. -/
theorem readAt_rows (v : View sig .tc .vmem S4096x128 .f32) (f : v.ty.Contents (Elt F)) {off : Fin 2 → ℕ}
    (inb : ∀ a, off a + S8x128.size a ≤ S4096x128.size a) (n : ℕ) (h : off = ![8 * n, 0]) :
    v.readAt (Elt F) (Rect.unit (s := S4096x128) off S8x128.size inb).toLoadRect f = win (v.read (Elt F) f) n := by
  subst h
  funext y
  have h0 := inb 0
  refine congrArg (v.read (Elt F) f) (funext fun a => Fin.ext ?_)
  have hy : (y (0 : Fin 2)).val < 8 := (y (0 : Fin 2)).isLt
  have h0' : 8 * n + 8 ≤ 4096 := h0
  fin_cases a
  · change 8 * n + 1 * (y (0 : Fin 2)).val = (8 * n + (y (0 : Fin 2)).val) % 4096
    rw [Nat.mod_eq_of_lt (by omega)]; omega
  · change 0 + 1 * (y (1 : Fin 2)).val = (y (1 : Fin 2)).val
    omega

section Loop0

variable (𝒱 : Variants) (c : Dev nD) (bd : Option 𝒱.V) (i : grid0.Coords) (arg1 : Memref sig .tc .vmem S1x4096x128 .f32) (harg1 : arg1.IsWhole) (arg2 : Memref sig .tc .vmem S1x4096x128 .f32) (harg2 : arg2.IsWhole) (arg3 : Memref sig .tc .vmem S8x128 .f32) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (v40 v56 v70 : FVec F S4096x128 .f32) (v72 : FVec F S1x128 .f32) (cst_32 : F .f32) (v104 : IVec S8x128 32)

/-- The rows of `X` that block `q` of trip `k` loads. -/
abbrev ld0 (v : View sig .tc .vmem S4096x128 .f32) (X : v.ty.Contents (Elt F)) (k : Fin k0_t1_loop.trips) (q : Fin 8) : Vec F S8x128 .f32 :=
  v.readAt (Elt F) (Rect.unit (s := S4096x128) (k0_off1 k (BitVec.ofNat 32 q.val)) S8x128.size (k0_off1_inb k q)).toLoadRect X

/-- The state after block `q` of trip `k`, from the state before it. -/
abbrev nx0 (I : IVec S8x128 32) (v9 v10 : View sig .tc .vmem S4096x128 .f32) (X9 : v9.ty.Contents (Elt F)) (X10 : v10.ty.Contents (Elt F)) (k : Fin k0_t1_loop.trips)
    (q : Fin 8) (acc : FVec F S1x128 .f32) : FVec F S1x128 .f32 :=
  lastRow (blkF I (ld0 v9 X9 k q) (ld0 v10 X10 k q) acc)

/-- The piece block `q` of trip `k` stores, from the state before it. -/
abbrev pc0 (I : IVec S8x128 32) (v9 v10 : View sig .tc .vmem S4096x128 .f32) (X9 : v9.ty.Contents (Elt F)) (X10 : v10.ty.Contents (Elt F)) (k : Fin k0_t1_loop.trips)
    (q : Fin 8) (acc : FVec F S1x128 .f32) : View.Piece (Elt F) S4096x128 .f32 :=
  ⟨Rect.unit (s := S4096x128) (k0_off1 k (BitVec.ofNat 32 q.val)) S8x128.size (k0_off1_inb k q), blkF I (ld0 v9 X9 k q) (ld0 v10 X10 k q) acc⟩

set_option maxHeartbeats 2000000 in
/-- What one trip yields: the state after its eight blocks. -/
theorem tripR0 (X9 : BufTy.Contents (Elt F) arg9.view.ty) (X10 : BufTy.Contents (Elt F) arg10.view.ty) (k : Fin k0_t1_loop.trips) (acc : FVec F S1x128 .f32) :
    tripR_k0_t1 𝒱 c bd i arg1 harg1 arg2 harg2 arg3 harg3 arg4 harg4 arg5 harg5 arg6 harg6 arg7 harg7 arg8 harg8 arg9 harg9 arg10 harg10 v40 v56 v70 v72 cst_32 v104 X9 X10 k acc = (nx0 v104 arg9.view arg10.view X9 X10 k 7 (nx0 v104 arg9.view arg10.view X9 X10 k 6 (nx0 v104 arg9.view arg10.view X9 X10 k 5 (nx0 v104 arg9.view arg10.view X9 X10 k 4 (nx0 v104 arg9.view arg10.view X9 X10 k 3 (nx0 v104 arg9.view arg10.view X9 X10 k 2 (nx0 v104 arg9.view arg10.view X9 X10 k 1 (nx0 v104 arg9.view arg10.view X9 X10 k 0 acc)))))))) := by
  unfold tripR_k0_t1 trip_k0_t1
  rfl

set_option maxHeartbeats 2000000 in
/-- What one trip stores: its eight blocks, last first. -/
theorem tripL0 (X9 : BufTy.Contents (Elt F) arg9.view.ty) (X10 : BufTy.Contents (Elt F) arg10.view.ty) (k : Fin k0_t1_loop.trips) (acc : FVec F S1x128 .f32) :
    tripL_k0_t1 𝒱 c bd i arg1 harg1 arg2 harg2 arg3 harg3 arg4 harg4 arg5 harg5 arg6 harg6 arg7 harg7 arg8 harg8 arg9 harg9 arg10 harg10 v40 v56 v70 v72 cst_32 v104 X9 X10 k acc
      = [pc0 v104 arg9.view arg10.view X9 X10 k 7 (nx0 v104 arg9.view arg10.view X9 X10 k 6 (nx0 v104 arg9.view arg10.view X9 X10 k 5 (nx0 v104 arg9.view arg10.view X9 X10 k 4 (nx0 v104 arg9.view arg10.view X9 X10 k 3 (nx0 v104 arg9.view arg10.view X9 X10 k 2 (nx0 v104 arg9.view arg10.view X9 X10 k 1 (nx0 v104 arg9.view arg10.view X9 X10 k 0 acc))))))), pc0 v104 arg9.view arg10.view X9 X10 k 6 (nx0 v104 arg9.view arg10.view X9 X10 k 5 (nx0 v104 arg9.view arg10.view X9 X10 k 4 (nx0 v104 arg9.view arg10.view X9 X10 k 3 (nx0 v104 arg9.view arg10.view X9 X10 k 2 (nx0 v104 arg9.view arg10.view X9 X10 k 1 (nx0 v104 arg9.view arg10.view X9 X10 k 0 acc)))))), pc0 v104 arg9.view arg10.view X9 X10 k 5 (nx0 v104 arg9.view arg10.view X9 X10 k 4 (nx0 v104 arg9.view arg10.view X9 X10 k 3 (nx0 v104 arg9.view arg10.view X9 X10 k 2 (nx0 v104 arg9.view arg10.view X9 X10 k 1 (nx0 v104 arg9.view arg10.view X9 X10 k 0 acc))))), pc0 v104 arg9.view arg10.view X9 X10 k 4 (nx0 v104 arg9.view arg10.view X9 X10 k 3 (nx0 v104 arg9.view arg10.view X9 X10 k 2 (nx0 v104 arg9.view arg10.view X9 X10 k 1 (nx0 v104 arg9.view arg10.view X9 X10 k 0 acc)))), pc0 v104 arg9.view arg10.view X9 X10 k 3 (nx0 v104 arg9.view arg10.view X9 X10 k 2 (nx0 v104 arg9.view arg10.view X9 X10 k 1 (nx0 v104 arg9.view arg10.view X9 X10 k 0 acc))), pc0 v104 arg9.view arg10.view X9 X10 k 2 (nx0 v104 arg9.view arg10.view X9 X10 k 1 (nx0 v104 arg9.view arg10.view X9 X10 k 0 acc)), pc0 v104 arg9.view arg10.view X9 X10 k 1 (nx0 v104 arg9.view arg10.view X9 X10 k 0 acc), pc0 v104 arg9.view arg10.view X9 X10 k 0 acc] := by
  unfold tripL_k0_t1 trip_k0_t1
  rfl

/-- The state and the rows after `n` trips. -/
theorem loop0 (X9 : BufTy.Contents (Elt F) arg9.view.ty) (X10 : BufTy.Contents (Elt F) arg10.view.ty) (h : FVec F S1x128 .f32)
    (f : arg8.view.ty.Contents (Elt F)) (n : ℕ) (hn : n ≤ k0_t1_loop.trips) :
    (st_k0_t1 𝒱 c bd i arg1 harg1 arg2 harg2 arg3 harg3 arg4 harg4 arg5 harg5 arg6 harg6 arg7 harg7 arg8 harg8 arg9 harg9 arg10 harg10 v40 v56 v70 v72 cst_32 v104 X9 X10 h n).1 = carF v104 (arg9.view.read (Elt F) X9) (arg10.view.read (Elt F) X10) h (8 * n)
    ∧ ∀ y : S4096x128.Idx, (y (0 : Fin 2)).val < 64 * n →
        arg8.view.read (Elt F) (arg8.view.writes (Elt F) f (st_k0_t1 𝒱 c bd i arg1 harg1 arg2 harg2 arg3 harg3 arg4 harg4 arg5 harg5 arg6 harg6 arg7 harg7 arg8 harg8 arg9 harg9 arg10 harg10 v40 v56 v70 v72 cst_32 v104 X9 X10 h n).2) y
          = scanF v104 (arg9.view.read (Elt F) X9) (arg10.view.read (Elt F) X10) h y := by
  induction n with
  | zero => exact ⟨rfl, fun y hy => absurd hy (by omega)⟩
  | succ n ih =>
    obtain ⟨ih1, ih2⟩ := ih (by omega)
    have hs := st_k0_t1_succ 𝒱 c bd i arg1 harg1 arg2 harg2 arg3 harg3 arg4 harg4 arg5 harg5 arg6 harg6 arg7 harg7 arg8 harg8 arg9 harg9 arg10 harg10 v40 v56 v70 v72 cst_32 v104 X9 X10 h ⟨n, hn⟩
    have ht : k0_t1_loop.trips = 64 := by decide +kernel
    have hn64 : n < 64 := by omega
    have hoff : ∀ q : Fin 8, k0_off1 ⟨n, hn⟩ (BitVec.ofNat 32 q.val) = ![8 * (8 * n + q.val), 0] := fun q => by
      rw [k0_off1_eq ⟨n, hn⟩ q]; congr 1; simp only []; omega
    have hl9 : ∀ q : Fin 8, ld0 arg9.view X9 ⟨n, hn⟩ q = win (arg9.view.read (Elt F) X9) (8 * n + q.val) := fun q =>
      readAt_rows _ _ _ _ (hoff q)
    have hl10 : ∀ q : Fin 8, ld0 arg10.view X10 ⟨n, hn⟩ q = win (arg10.view.read (Elt F) X10) (8 * n + q.val) := fun q =>
      readAt_rows _ _ _ _ (hoff q)
    have hnx : ∀ q : Fin 8, nx0 v104 arg9.view arg10.view X9 X10 ⟨n, hn⟩ q (carF v104 (arg9.view.read (Elt F) X9) (arg10.view.read (Elt F) X10) h (8 * n + q.val))
        = carF v104 (arg9.view.read (Elt F) X9) (arg10.view.read (Elt F) X10) h (8 * n + q.val + 1) := fun q => by
      unfold nx0; rw [hl9, hl10]; rfl
    have e0 := hnx 0
    have e1 := hnx 1
    have e2 := hnx 2
    have e3 := hnx 3
    have e4 := hnx 4
    have e5 := hnx 5
    have e6 := hnx 6
    have e7 := hnx 7
    simp only [Fin.isValue, Fin.val_zero, Fin.val_one, Fin.val_two, Fin.reduceFinMk, Nat.add_zero, Fin.coe_ofNat_eq_mod, Nat.reduceMod, add_assoc, Nat.reduceAdd] at e0 e1 e2 e3 e4 e5 e6 e7
    have hpc : ∀ (q : Fin 8) (L : List (View.Piece (Elt F) S4096x128 .f32)) (y : S4096x128.Idx),
        arg8.view.read (Elt F) (arg8.view.writes (Elt F) f (pc0 v104 arg9.view arg10.view X9 X10 ⟨n, hn⟩ q
            (carF v104 (arg9.view.read (Elt F) X9) (arg10.view.read (Elt F) X10) h (8 * n + q.val)) :: L)) y
          = if (y (0 : Fin 2)).val / 8 = 8 * n + q.val then scanF v104 (arg9.view.read (Elt F) X9) (arg10.view.read (Elt F) X10) h y
            else arg8.view.read (Elt F) (arg8.view.writes (Elt F) f L) y := fun q L y => by
      have hq := q.isLt
      split
      · rename_i hy
        refine (View.read_writes_cons_rows_of_mem arg8.view f _ _ L y (ValueIdx.ix2 (⟨(y (0 : Fin 2)).val % 8, Nat.mod_lt _ (by norm_num)⟩ : Fin 8) (y (1 : Fin 2))) (hoff q) ?_ rfl).trans ?_
        · change (y (0 : Fin 2)).val = 8 * (8 * n + q.val) + (y (0 : Fin 2)).val % 8
          omega
        · unfold scanF; rw [hl9, hl10, hy]; rfl
      · rename_i hy
        exact View.read_writes_cons_rows_of_not_mem arg8.view f _ _ L y (hoff q) (W := 8) rfl (by omega)
    have p0 := hpc 0
    have p1 := hpc 1
    have p2 := hpc 2
    have p3 := hpc 3
    have p4 := hpc 4
    have p5 := hpc 5
    have p6 := hpc 6
    have p7 := hpc 7
    simp only [Fin.isValue, Fin.val_zero, Fin.val_one, Fin.val_two, Fin.reduceFinMk, Nat.add_zero, Fin.coe_ofNat_eq_mod, Nat.reduceMod, add_assoc, Nat.reduceAdd] at p0 p1 p2 p3 p4 p5 p6 p7
    simp only [] at hs
    rw [hs, tripR0, tripL0, ih1]
    simp only [e0, e1, e2, e3, e4, e5, e6, e7]
    refine ⟨rfl, fun y hy => ?_⟩
    simp only [List.cons_append, List.nil_append, p0, p1, p2, p3, p4, p5, p6, p7]
    by_cases h8 : (y (0 : Fin 2)).val < 64 * n
    · rw [ih2 y h8]; simp only [ite_self]
    · have hq : ∃ q, q < 8 ∧ (y (0 : Fin 2)).val / 8 = 8 * n + q := ⟨(y (0 : Fin 2)).val / 8 - 8 * n, by omega, by omega⟩
      obtain ⟨q, hq8, hq⟩ := hq
      rw [hq]
      interval_cases q <;> simp

/-- The forward loop leaves the scan of the two buffers it reads. -/
theorem loop0_read (X9 : BufTy.Contents (Elt F) arg9.view.ty) (X10 : BufTy.Contents (Elt F) arg10.view.ty) (h : FVec F S1x128 .f32)
    (f : arg8.view.ty.Contents (Elt F)) :
    arg8.view.read (Elt F) (arg8.view.writes (Elt F) f (st_k0_t1 𝒱 c bd i arg1 harg1 arg2 harg2 arg3 harg3 arg4 harg4 arg5 harg5 arg6 harg6 arg7 harg7 arg8 harg8 arg9 harg9 arg10 harg10 v40 v56 v70 v72 cst_32 v104 X9 X10 h (Scf.trips k0_t1_loop.lb k0_t1_loop.ub k0_t1_loop.st)).2)
      = scanF v104 (arg9.view.read (Elt F) X9) (arg10.view.read (Elt F) X10) h := by
  have ht : k0_t1_loop.trips = 64 := by decide +kernel
  funext y
  refine (loop0 𝒱 c bd i arg1 harg1 arg2 harg2 arg3 harg3 arg4 harg4 arg5 harg5 arg6 harg6 arg7 harg7 arg8 harg8 arg9 harg9 arg10 harg10 v40 v56 v70 v72 cst_32 v104 X9 X10 h f k0_t1_loop.trips le_rfl).2 y ?_
  have := (y (0 : Fin 2)).isLt
  rw [ht]
  exact this

end Loop0

end Cert.KernelIdeal.Lru

end
-- ==== Proof.Scan1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.FrameSuffix
public import Idealize.ShloMosaic.Lib.Ring
public import Idealize.ShloMosaic.Lib.Tactic
public import proofs.«01_k».proof.Proof.Scan0
public import Idealize.ShloMosaic.Lib.Pointwise.Reshape

@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

/-! ## The scan from the last row to the first -/

/-- The row of every entry of an eight-row block. -/
abbrev iota8 : IVec S8x128 32 := iota .tc S8x128 32 [0] iota_S8x128_d0_w32

/-- The rows a block of the backward scan leaves: the multipliers `A`, the inputs `B`, the state `h` from the block after it. -/
def blkB (I : IVec S8x128 32) (A B : Vec F S8x128 .f32) (h : FVec F S1x128 .f32) : FVec F S8x128 .f32 :=
  k1_pay11 h (k1_pay5 I A B) (k1_pay6 I A) (k1_pay7 I) (k1_pay8 I A) (k1_pay9 I A B) k1_pay10

/-- The first row of a block. -/
def firstRow (H : FVec F S8x128 .f32) : FVec F S1x128 .f32 := extractStridedSlice S1x128 ![0, 0] H slices_S8x128_o0_0_S1x128

/-- The state after the last `m` blocks. -/
def carB (I : IVec S8x128 32) (a b : Vec F S4096x128 .f32) (h : FVec F S1x128 .f32) : ℕ → FVec F S1x128 .f32
  | 0 => h
  | m + 1 => firstRow (blkB I (win a (511 - m)) (win b (511 - m)) (carB I a b h m))

/-- Every row of the backward scan. -/
def scanB (I : IVec S8x128 32) (a b : Vec F S4096x128 .f32) (h : FVec F S1x128 .f32) : Vec F S4096x128 .f32 :=
  fun y => blkB I (win a ((y (0 : Fin 2)).val / 8)) (win b ((y (0 : Fin 2)).val / 8)) (carB I a b h (511 - (y (0 : Fin 2)).val / 8))
    (ValueIdx.ix2 (⟨(y (0 : Fin 2)).val % 8, Nat.mod_lt _ (by norm_num)⟩ : Fin 8) (y (1 : Fin 2)))

section Loop1

variable (𝒱 : Variants) (c : Dev nD) (bd : Option 𝒱.V) (i : grid1.Coords) (arg1 : Memref sig .tc .vmem S4096x128 .f32) (harg1 : arg1.IsWhole) (arg2 : Memref sig .tc .vmem S1x4096x128 .f32) (harg2 : arg2.IsWhole) (arg3 : Memref sig .tc .vmem S1x4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S8x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S1x4096x128 .bf16) (harg9 : arg9.IsWhole) (arg10 : Memref sig .tc .vmem S1x4096x128 .bf16) (harg10 : arg10.IsWhole) (arg11 : Memref sig .tc .vmem S8x128 .f32) (harg11 : arg11.IsWhole) (arg12 : Memref sig .tc .vmem S1x128x128 .f32) (harg12 : arg12.IsWhole) (arg13 : Memref sig .tc .vmem S1x128x128 .f32) (harg13 : arg13.IsWhole) (arg14 : Memref sig .tc .vmem S4096x128 .f32) (harg14 : arg14.IsWhole) (arg15 : Memref sig .tc .vmem S4096x128 .f32) (harg15 : arg15.IsWhole) (v2 : IVec S4096x128 32) (v48 : FVec F S4096x128 .f32) (v59 : Vec F S4096x128 .f32) (v61 : FVec F S4096x128 .f32) (v62 : FVec F S4096x128 .f32) (v73 : FVec F S4096x128 .f32) (v74 : FVec F S4096x128 .f32) (v76 : FVec F S4096x128 .f32) (v77 : FVec F S4096x128 .f32) (cst_35 : F .f32)

/-- The rows of `X` that block `q` of trip `k` loads. -/
abbrev ld1 (v : View sig .tc .vmem S4096x128 .f32) (X : v.ty.Contents (Elt F)) (k : Fin k1_t1_loop.trips) (q : Fin 8) : Vec F S8x128 .f32 :=
  v.readAt (Elt F) (Rect.unit (s := S4096x128) (k1_off1 k (BitVec.ofNat 32 q.val)) S8x128.size (k1_off1_inb k q)).toLoadRect X

/-- Block `q` of trip `k`: from the state and the pieces before it, the state and the pieces after it. -/
abbrev stp1 (I : IVec S8x128 32) (v14 v15 : View sig .tc .vmem S4096x128 .f32) (X14 : v14.ty.Contents (Elt F)) (k : Fin k1_t1_loop.trips)
    (q : Fin 8) (f : v15.ty.Contents (Elt F)) (s : FVec F S1x128 .f32 × List (View.Piece (Elt F) S4096x128 .f32)) :
    FVec F S1x128 .f32 × List (View.Piece (Elt F) S4096x128 .f32) :=
  (firstRow (blkB I (ld1 v14 X14 k q) (ld1 v15 (v15.writes (Elt F) f s.2) k q) s.1),
   ⟨Rect.unit (s := S4096x128) (k1_off1 k (BitVec.ofNat 32 q.val)) S8x128.size (k1_off1_inb k q),
      shapeCast S8x128 (blkB I (ld1 v14 X14 k q) (ld1 v15 (v15.writes (Elt F) f s.2) k q) s.1) shapeCasts_S8x128_S8x128⟩ :: s.2)

set_option maxHeartbeats 2000000 in
/-- What one trip yields. -/
theorem tripR1 (𝒱 : Variants) (c : Dev nD) (bd : Option 𝒱.V) (i : grid1.Coords) (arg1 : Memref sig .tc .vmem S4096x128 .f32) (harg1 : arg1.IsWhole) (arg2 : Memref sig .tc .vmem S1x4096x128 .f32) (harg2 : arg2.IsWhole) (arg3 : Memref sig .tc .vmem S1x4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S8x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S1x4096x128 .bf16) (harg9 : arg9.IsWhole) (arg10 : Memref sig .tc .vmem S1x4096x128 .bf16) (harg10 : arg10.IsWhole) (arg11 : Memref sig .tc .vmem S8x128 .f32) (harg11 : arg11.IsWhole) (arg12 : Memref sig .tc .vmem S1x128x128 .f32) (harg12 : arg12.IsWhole) (arg13 : Memref sig .tc .vmem S1x128x128 .f32) (harg13 : arg13.IsWhole) (arg14 : Memref sig .tc .vmem S4096x128 .f32) (harg14 : arg14.IsWhole) (arg15 : Memref sig .tc .vmem S4096x128 .f32) (harg15 : arg15.IsWhole) (v2 : IVec S4096x128 32) (v48 : FVec F S4096x128 .f32) (v59 : Vec F S4096x128 .f32) (v61 : FVec F S4096x128 .f32) (v62 : FVec F S4096x128 .f32) (v73 : FVec F S4096x128 .f32) (v74 : FVec F S4096x128 .f32) (v76 : FVec F S4096x128 .f32) (v77 : FVec F S4096x128 .f32) (cst_35 : F .f32) (X14 : BufTy.Contents (Elt F) arg14.view.ty) (k : Fin k1_t1_loop.trips) (acc : FVec F S1x128 .f32) (f : BufTy.Contents (Elt F) arg15.view.ty) :
    tripR_k1_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v2 v48 v59 v61 v62 v73 v74 v76 v77 cst_35 iota8 X14 k acc f = (stp1 iota8 arg14.view arg15.view X14 k 7 f (stp1 iota8 arg14.view arg15.view X14 k 6 f (stp1 iota8 arg14.view arg15.view X14 k 5 f (stp1 iota8 arg14.view arg15.view X14 k 4 f (stp1 iota8 arg14.view arg15.view X14 k 3 f (stp1 iota8 arg14.view arg15.view X14 k 2 f (stp1 iota8 arg14.view arg15.view X14 k 1 f (stp1 iota8 arg14.view arg15.view X14 k 0 f (acc, []))))))))).1 := by
  unfold tripR_k1_t1 trip_k1_t1
  rfl

set_option maxHeartbeats 2000000 in
/-- What one trip stores. -/
theorem tripL1 (𝒱 : Variants) (c : Dev nD) (bd : Option 𝒱.V) (i : grid1.Coords) (arg1 : Memref sig .tc .vmem S4096x128 .f32) (harg1 : arg1.IsWhole) (arg2 : Memref sig .tc .vmem S1x4096x128 .f32) (harg2 : arg2.IsWhole) (arg3 : Memref sig .tc .vmem S1x4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S8x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S1x4096x128 .bf16) (harg9 : arg9.IsWhole) (arg10 : Memref sig .tc .vmem S1x4096x128 .bf16) (harg10 : arg10.IsWhole) (arg11 : Memref sig .tc .vmem S8x128 .f32) (harg11 : arg11.IsWhole) (arg12 : Memref sig .tc .vmem S1x128x128 .f32) (harg12 : arg12.IsWhole) (arg13 : Memref sig .tc .vmem S1x128x128 .f32) (harg13 : arg13.IsWhole) (arg14 : Memref sig .tc .vmem S4096x128 .f32) (harg14 : arg14.IsWhole) (arg15 : Memref sig .tc .vmem S4096x128 .f32) (harg15 : arg15.IsWhole) (v2 : IVec S4096x128 32) (v48 : FVec F S4096x128 .f32) (v59 : Vec F S4096x128 .f32) (v61 : FVec F S4096x128 .f32) (v62 : FVec F S4096x128 .f32) (v73 : FVec F S4096x128 .f32) (v74 : FVec F S4096x128 .f32) (v76 : FVec F S4096x128 .f32) (v77 : FVec F S4096x128 .f32) (cst_35 : F .f32) (X14 : BufTy.Contents (Elt F) arg14.view.ty) (k : Fin k1_t1_loop.trips) (acc : FVec F S1x128 .f32) (f : BufTy.Contents (Elt F) arg15.view.ty) :
    tripL_k1_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v2 v48 v59 v61 v62 v73 v74 v76 v77 cst_35 iota8 X14 k acc f = (stp1 iota8 arg14.view arg15.view X14 k 7 f (stp1 iota8 arg14.view arg15.view X14 k 6 f (stp1 iota8 arg14.view arg15.view X14 k 5 f (stp1 iota8 arg14.view arg15.view X14 k 4 f (stp1 iota8 arg14.view arg15.view X14 k 3 f (stp1 iota8 arg14.view arg15.view X14 k 2 f (stp1 iota8 arg14.view arg15.view X14 k 1 f (stp1 iota8 arg14.view arg15.view X14 k 0 f (acc, []))))))))).2 := by
  unfold tripL_k1_t1 trip_k1_t1
  rfl

/-- After the last `m` blocks: the state, the scan's rows from row `4096 - 8 m` on, the rows found before it. -/
def Inv1 (I : IVec S8x128 32) (v15 : View sig .tc .vmem S4096x128 .f32) (a b : Vec F S4096x128 .f32) (h : FVec F S1x128 .f32) (f : v15.ty.Contents (Elt F)) (m : ℕ)
    (s : FVec F S1x128 .f32 × List (View.Piece (Elt F) S4096x128 .f32)) : Prop :=
  s.1 = carB I a b h m ∧ ∀ y : S4096x128.Idx, v15.read (Elt F) (v15.writes (Elt F) f s.2) y
    = if 4096 ≤ (y (0 : Fin 2)).val + 8 * m then scanB I a b h y else b y

/-- One block extends the rows done by eight. -/
theorem Inv1.step (I : IVec S8x128 32) (v14 v15 : View sig .tc .vmem S4096x128 .f32) (X14 : v14.ty.Contents (Elt F)) (b : Vec F S4096x128 .f32) (h : FVec F S1x128 .f32)
    (f : v15.ty.Contents (Elt F)) (k : Fin k1_t1_loop.trips) (q : Fin 8) (s : FVec F S1x128 .f32 × List (View.Piece (Elt F) S4096x128 .f32)) (m : ℕ) (hm : m = 8 * k.val + q.val)
    (H : Inv1 I v15 (v14.read (Elt F) X14) b h f m s) : Inv1 I v15 (v14.read (Elt F) X14) b h f (m + 1) (stp1 I v14 v15 X14 k q f s) := by
  have ht : k1_t1_loop.trips = 64 := by decide +kernel
  have hk := k.isLt
  have hq := q.isLt
  have hoff : k1_off1 k (BitVec.ofNat 32 q.val) = ![8 * (511 - m), 0] := by
    rw [k1_off1_eq k q]; congr 1; omega
  obtain ⟨h1, h2⟩ := H
  have e14 : ld1 v14 X14 k q = win (v14.read (Elt F) X14) (511 - m) := readAt_rows _ _ _ _ hoff
  have e15 : ld1 v15 (v15.writes (Elt F) f s.2) k q = win b (511 - m) := by
    refine (readAt_rows _ _ _ _ hoff).trans (funext fun y => ?_)
    have hy : (y (0 : Fin 2)).val < 8 := (y (0 : Fin 2)).isLt
    refine (h2 _).trans (if_neg ?_)
    change ¬ 4096 ≤ (8 * (511 - m) + (y (0 : Fin 2)).val) % 4096 + 8 * m
    rw [Nat.mod_eq_of_lt (by omega)]; omega
  refine ⟨?_, fun y => ?_⟩
  · refine (congrArg firstRow (?_ : blkB I _ _ _ = blkB I (win (v14.read (Elt F) X14) (511 - m)) (win b (511 - m)) (carB I (v14.read (Elt F) X14) b h m)))
    rw [← e14, ← e15, ← h1]
  · change v15.read (Elt F) (v15.writes (Elt F) f (_ :: s.2)) y = _
    have hy : (y (0 : Fin 2)).val < 4096 := (y (0 : Fin 2)).isLt
    by_cases hc : (y (0 : Fin 2)).val / 8 = 511 - m
    · rw [if_pos (by omega)]
      refine (View.read_writes_cons_rows_of_mem v15 f _ _ s.2 y (ValueIdx.ix2 (⟨(y (0 : Fin 2)).val % 8, Nat.mod_lt _ (by norm_num)⟩ : Fin 8) (y (1 : Fin 2))) hoff ?_ rfl).trans ?_
      · change (y (0 : Fin 2)).val = 8 * (511 - m) + (y (0 : Fin 2)).val % 8
        omega
      · rw [shapeCast_id]
        unfold scanB; rw [e14, e15, h1, hc, show 511 - (511 - m) = m by omega]; rfl
    · refine (View.read_writes_cons_rows_of_not_mem v15 f _ _ s.2 y hoff (W := 8) rfl (by omega)).trans ?_
      rw [h2 y]
      by_cases hd : 4096 ≤ (y (0 : Fin 2)).val + 8 * m
      · rw [if_pos hd, if_pos (by omega)]
      · rw [if_neg hd, if_neg (by omega)]

/-- The pieces of earlier trips may be read as contents. -/
theorem Inv1.shift (I : IVec S8x128 32) (v15 : View sig .tc .vmem S4096x128 .f32) (a b : Vec F S4096x128 .f32) (h : FVec F S1x128 .f32) (f : v15.ty.Contents (Elt F)) (m : ℕ)
    (c : FVec F S1x128 .f32) (L L' : List (View.Piece (Elt F) S4096x128 .f32)) :
    Inv1 I v15 a b h (v15.writes (Elt F) f L) m (c, L') ↔ Inv1 I v15 a b h f m (c, L' ++ L) := by
  unfold Inv1
  rw [View.writes_append]

/-- The state and the rows after `n` trips. -/
theorem loop1 (𝒱 : Variants) (c : Dev nD) (bd : Option 𝒱.V) (i : grid1.Coords) (arg1 : Memref sig .tc .vmem S4096x128 .f32) (harg1 : arg1.IsWhole) (arg2 : Memref sig .tc .vmem S1x4096x128 .f32) (harg2 : arg2.IsWhole) (arg3 : Memref sig .tc .vmem S1x4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S8x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S1x4096x128 .bf16) (harg9 : arg9.IsWhole) (arg10 : Memref sig .tc .vmem S1x4096x128 .bf16) (harg10 : arg10.IsWhole) (arg11 : Memref sig .tc .vmem S8x128 .f32) (harg11 : arg11.IsWhole) (arg12 : Memref sig .tc .vmem S1x128x128 .f32) (harg12 : arg12.IsWhole) (arg13 : Memref sig .tc .vmem S1x128x128 .f32) (harg13 : arg13.IsWhole) (arg14 : Memref sig .tc .vmem S4096x128 .f32) (harg14 : arg14.IsWhole) (arg15 : Memref sig .tc .vmem S4096x128 .f32) (harg15 : arg15.IsWhole) (v2 : IVec S4096x128 32) (v48 : FVec F S4096x128 .f32) (v59 : Vec F S4096x128 .f32) (v61 : FVec F S4096x128 .f32) (v62 : FVec F S4096x128 .f32) (v73 : FVec F S4096x128 .f32) (v74 : FVec F S4096x128 .f32) (v76 : FVec F S4096x128 .f32) (v77 : FVec F S4096x128 .f32) (cst_35 : F .f32) (X14 : BufTy.Contents (Elt F) arg14.view.ty) (h : FVec F S1x128 .f32)
    (f : arg15.view.ty.Contents (Elt F)) (n : ℕ) (hn : n ≤ k1_t1_loop.trips) :
    Inv1 iota8 arg15.view (arg14.view.read (Elt F) X14) (arg15.view.read (Elt F) f) h f (8 * n) (st_k1_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v2 v48 v59 v61 v62 v73 v74 v76 v77 cst_35 iota8 X14 f h n) := by
  induction n with
  | zero =>
    refine ⟨rfl, fun y => ?_⟩
    have := (y (0 : Fin 2)).isLt
    have : ¬ 4096 ≤ (y (0 : Fin 2)).val + 8 * (8 * 0) := by
      have hy : (y (0 : Fin 2)).val < 4096 := (y (0 : Fin 2)).isLt
      omega
    rw [if_neg this]
    rfl
  | succ n ih =>
    have ih' := ih (by omega)
    have hs := st_k1_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v2 v48 v59 v61 v62 v73 v74 v76 v77 cst_35 iota8 X14 f h ⟨n, hn⟩
    simp only [] at hs
    rw [hs, tripR1, tripL1]
    generalize st_k1_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v2 v48 v59 v61 v62 v73 v74 v76 v77 cst_35 iota8 X14 f h n = s at ih' ⊢
    obtain ⟨c0, L0⟩ := s
    rw [← Inv1.shift]
    have hstep := fun (q : Fin 8) s m hm => Inv1.step iota8 arg14.view arg15.view X14 (arg15.view.read (Elt F) f) h (arg15.view.writes (Elt F) f L0) ⟨n, hn⟩ q s m hm
    have z := (Inv1.shift iota8 arg15.view _ _ h f (8 * n) c0 L0 []).mpr ih'
    have z0 := hstep 0 _ _ rfl z
    have z1 := hstep 1 _ _ rfl z0
    have z2 := hstep 2 _ _ rfl z1
    have z3 := hstep 3 _ _ rfl z2
    have z4 := hstep 4 _ _ rfl z3
    have z5 := hstep 5 _ _ rfl z4
    have z6 := hstep 6 _ _ rfl z5
    exact hstep 7 _ _ rfl z6

/-- The backward loop leaves the scan of the buffer it reads and the contents it finds. -/
theorem loop1_read (𝒱 : Variants) (c : Dev nD) (bd : Option 𝒱.V) (i : grid1.Coords) (arg1 : Memref sig .tc .vmem S4096x128 .f32) (harg1 : arg1.IsWhole) (arg2 : Memref sig .tc .vmem S1x4096x128 .f32) (harg2 : arg2.IsWhole) (arg3 : Memref sig .tc .vmem S1x4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S8x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S1x4096x128 .bf16) (harg9 : arg9.IsWhole) (arg10 : Memref sig .tc .vmem S1x4096x128 .bf16) (harg10 : arg10.IsWhole) (arg11 : Memref sig .tc .vmem S8x128 .f32) (harg11 : arg11.IsWhole) (arg12 : Memref sig .tc .vmem S1x128x128 .f32) (harg12 : arg12.IsWhole) (arg13 : Memref sig .tc .vmem S1x128x128 .f32) (harg13 : arg13.IsWhole) (arg14 : Memref sig .tc .vmem S4096x128 .f32) (harg14 : arg14.IsWhole) (arg15 : Memref sig .tc .vmem S4096x128 .f32) (harg15 : arg15.IsWhole) (v2 : IVec S4096x128 32) (v48 : FVec F S4096x128 .f32) (v59 : Vec F S4096x128 .f32) (v61 : FVec F S4096x128 .f32) (v62 : FVec F S4096x128 .f32) (v73 : FVec F S4096x128 .f32) (v74 : FVec F S4096x128 .f32) (v76 : FVec F S4096x128 .f32) (v77 : FVec F S4096x128 .f32) (cst_35 : F .f32) (X14 : BufTy.Contents (Elt F) arg14.view.ty) (h : FVec F S1x128 .f32)
    (f : arg15.view.ty.Contents (Elt F)) :
    arg15.view.read (Elt F) (arg15.view.writes (Elt F) f (st_k1_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v2 v48 v59 v61 v62 v73 v74 v76 v77 cst_35 iota8 X14 f h (Scf.trips k1_t1_loop.lb k1_t1_loop.ub k1_t1_loop.st)).2)
      = scanB iota8 (arg14.view.read (Elt F) X14) (arg15.view.read (Elt F) f) h := by
  have ht : k1_t1_loop.trips = 64 := by decide +kernel
  funext y
  refine ((loop1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v2 v48 v59 v61 v62 v73 v74 v76 v77 cst_35 X14 h f k1_t1_loop.trips le_rfl).2 y).trans (if_pos ?_)
  rw [ht]
  exact Nat.le_add_left _ _

end Loop1

end Cert.KernelIdeal.Lru

end
-- ==== Proof.Vals.lean ====
module

public import proofs.«01_k».proof.Proof.Scan1

@[expose] public section

set_option maxRecDepth 16384

noncomputable section

/-! # What the two calls compute, as functions of their blocks

One block is 128 columns of the sequence. The names follow the recurrence: `xc` the convolution's output,
`h` the state, `y` the gated output; a leading `d` is a gradient.
-/

namespace Cert.KernelIdeal.Lru

open Cert.KernelIdeal.Gen
open Idealize.ShloMosaic Idealize.ShloMosaic.TcCoe

variable {F : FTy → Type} [FloatOps F] [Named F]

/-- Row `r` of the eight rows of parameters. -/
def row (x : Vec F S8x128 .f32) (r : Fin 8) : Vec F S1x128 .f32 := fun y => x (ValueIdx.ix2 r (y (1 : Fin 2)))

/-- The row of every entry of a whole column tile. -/
abbrev iotaS : IVec S4096x128 32 := iota .tc S4096x128 32 [0] iota_S4096x128_d0_w32

abbrev zeroF : F .f32 := Scalar.ofBits .f32 0x00000000#32
abbrev oneF : F .f32 := Scalar.ofBits .f32 0x3F800000#32

section Fwd

variable (x0 x1 : Vec F S1x4096x128 .f32) (x2 : Vec F S8x128 .f32) (x3 x4 : Vec F S1x128x128 .bf16)

/-- The causal convolution of the block. -/
def fXc : FVec F S4096x128 .f32 :=
  k0_pay59 (k0_pay54 x0 (row x2 4) (row x2 3) (row x2 2) (row x2 1)) (k0_pay55 (row x2 0)) k0_pay56 (k0_pay57 x0) k0_pay58

/-- The recurrence gate. -/
def fR : FVec F S4096x128 .f32 :=
  k0_pay61 (k0_pay54 x0 (row x2 4) (row x2 3) (row x2 2) (row x2 1)) (k0_pay55 (row x2 0)) k0_pay56 (k0_pay57 x0) k0_pay58 x3 (row x2 5)

/-- The input gate. -/
def fI : FVec F S4096x128 .f32 :=
  k0_pay62 (k0_pay54 x0 (row x2 4) (row x2 3) (row x2 2) (row x2 1)) (k0_pay55 (row x2 0)) k0_pay56 (k0_pay57 x0) k0_pay58 x4 (row x2 6)

/-- The recurrence's multipliers. -/
def fA : FVec F S4096x128 .f32 := k0_pay66 (fR x0 x2 x3) (k0_pay63 (row x2 7)) zeroF

/-- The recurrence's inputs. -/
def fB : FVec F S4096x128 .f32 := k0_pay67 (fXc x0 x2) (fR x0 x2 x3) (fI x0 x2 x4) (k0_pay63 (row x2 7)) zeroF

/-- The states. -/
def fH : Vec F S4096x128 .f32 := scanF iota8 (fA x0 x2 x3) (fB x0 x2 x3 x4) k0_pay68

/-- The gated output. -/
def fY : FVec F S4096x128 .f32 := k0_pay1 (k0_pay71 (fH x0 x2 x3 x4)) (k0_pay72 x1)

end Fwd

section Bwd

variable (x0 : Vec F S4096x128 .f32) (x1 x2 : Vec F S1x4096x128 .f32) (x3 x4 : Vec F S4096x128 .f32) (x5 : Vec F S8x128 .f32)
  (x6 x7 : Vec F S1x128x128 .bf16)

/-- The recurrence gate. -/
def gR : FVec F S4096x128 .f32 := k1_pay62 x3 x6 (row x5 5)
/-- The input gate. -/
def gI : FVec F S4096x128 .f32 := k1_pay63 x3 x7 (row x5 6)
/-- The log of the base, eight times over. -/
def gL : FVec F S1x128 .f32 := k1_pay66 (k1_pay64 (row x5 7)) (k1_pay65 (row x5 7))
/-- The recurrence's multipliers. -/
def gA : FVec F S4096x128 .f32 := k1_pay68 (gR x3 x5 x6) (k1_pay64 (row x5 7)) (k1_pay65 (row x5 7))
/-- The input's multiplier. -/
def gM : FVec F S4096x128 .f32 := k1_pay69 (gR x3 x5 x6) (k1_pay64 (row x5 7)) (k1_pay65 (row x5 7))
/-- The gradient at every state. -/
def gS : Vec F S4096x128 .f32 := scanB iota8 (k1_pay79 iotaS (gA x3 x5 x6)) (k1_pay80 x0 (k1_pay75 x2)) k1_pay81
/-- The gradient at the convolution's output, without the gates' part. -/
def gX : FVec F S4096x128 .f32 := k1_pay86 (gI x3 x5 x7) (gM x3 x5 x6) (gS x0 x2 x3 x5 x6)
/-- The gradient at the recurrence gate's sum. -/
def gPa : FVec F S4096x128 .f32 :=
  k1_pay89 (k1_pay60 x3) (gR x3 x5 x6) (gI x3 x5 x7) (gL x5) (gA x3 x5 x6) (gM x3 x5 x6) (k1_pay71 x4) (gS x0 x2 x3 x5 x6) (k1_pay85 iotaS)
/-- The gradient at the input gate's sum. -/
def gPx : FVec F S4096x128 .f32 := k1_pay90 (k1_pay60 x3) (gI x3 x5 x7) (gM x3 x5 x6) (gS x0 x2 x3 x5 x6)
/-- The recurrence gate's gradient as the products read it. -/
def gPaN : FVec F S4096x128 .bf16 :=
  k1_pay91 (k1_pay60 x3) (gR x3 x5 x6) (gI x3 x5 x7) (gL x5) (gA x3 x5 x6) (gM x3 x5 x6) (k1_pay71 x4) (gS x0 x2 x3 x5 x6) (k1_pay85 iotaS)
/-- The input gate's gradient as the products read it. -/
def gPxN : FVec F S4096x128 .bf16 := k1_pay92 (k1_pay60 x3) (gI x3 x5 x7) (gM x3 x5 x6) (gS x0 x2 x3 x5 x6)
/-- The gradient at the convolution's output. -/
def gXc : FVec F S4096x128 .f32 := k1_pay96 (gX x0 x2 x3 x5 x6 x7) (gPaN x0 x2 x3 x4 x5 x6 x7) (gPxN x0 x2 x3 x5 x6 x7) x6 x7

/-- The gradient of the convolution's input. -/
def gDx : FVec F S1x4096x128 .bf16 := k1_pay1 (k1_pay107 iotaS (gXc x0 x2 x3 x4 x5 x6 x7) (row x5 3) (row x5 2) (row x5 1) (row x5 0))
/-- The gradient of the output gate's input. -/
def gDg : FVec F S1x4096x128 .bf16 := k1_pay78 x0 (k1_pay71 x4) (k1_pay72 x2) (k1_pay74 x2) (k1_pay76 x2) (k1_pay77 x2) oneF
/-- The recurrence gate's weights' gradient. -/
def gDwa : FVec F S1x128x128 .f32 := k1_pay94 (gPaN x0 x2 x3 x4 x5 x6 x7) (k1_pay93 (k1_pay60 x3))
/-- The input gate's weights' gradient. -/
def gDwx : FVec F S1x128x128 .f32 := k1_pay95 (gPxN x0 x2 x3 x5 x6 x7) (k1_pay93 (k1_pay60 x3))
/-- One row of the parameters' gradients. -/
def gDlpRow : Fin 8 → FVec F S1x128 .f32
  | 0 => k1_pay98 iotaS (gX x0 x2 x3 x5 x6 x7) (gPaN x0 x2 x3 x4 x5 x6 x7) (gPxN x0 x2 x3 x5 x6 x7) x6 x7 x1
  | 1 => k1_pay101 (gXc x0 x2 x3 x4 x5 x6 x7) (k1_pay99 iotaS) (k1_pay100 x1)
  | 2 => k1_pay102 iotaS (gXc x0 x2 x3 x4 x5 x6 x7) (k1_pay97 x1)
  | 3 => k1_pay103 (gXc x0 x2 x3 x4 x5 x6 x7) (k1_pay97 x1)
  | 4 => k1_pay104 (gXc x0 x2 x3 x4 x5 x6 x7)
  | 5 => k1_pay105 (gPa x0 x2 x3 x4 x5 x6 x7)
  | 6 => k1_pay106 (gPx x0 x2 x3 x5 x6 x7)
  | 7 => k1_pay88 (k1_pay60 x3) (gR x3 x5 x6) (gI x3 x5 x7) (gA x3 x5 x6) (gM x3 x5 x6) (k1_pay71 x4) (gS x0 x2 x3 x5 x6) (k1_pay85 iotaS) (row x5 7)
/-- The parameters' gradients. -/
def gDlp : Vec F S8x128 .f32 := fun y => gDlpRow x0 x1 x2 x3 x4 x5 x6 x7 (y (0 : Fin 2)) (ValueIdx.ix2 (0 : Fin 1) (y (1 : Fin 2)))

end Bwd

end Cert.KernelIdeal.Lru

end
-- ==== Proof.Body0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.FrameSuffix
public import Idealize.ShloMosaic.Lib.Ring
public import Idealize.ShloMosaic.Lib.Tactic
public import proofs.«01_k».proof.Proof.Run0
public import proofs.«01_k».proof.Proof.Run1
public import proofs.«01_k».proof.Proof.Vals
public import Idealize.ShloMosaic.Lib.Pipeline.Value
public import Idealize.ShloMosaic.Lib.Pointwise.Reshape
@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

/-- A load of one row of the parameters' block. -/
theorem ldRow (m : Memref sig .tc .vmem S8x128 .f32) (h : m.IsWhole) (x : Vec F S8x128 .f32) (n : ℕ) (hn : n < 8)
    (inb : ∀ a, (![n, 0] : Fin 2 → ℕ) a + (![1, 128] : Fin 2 → ℕ) a ≤ S8x128.size a) :
    m.view.readAt (Elt F) (Rect.unit (s := S8x128) ![n, 0] ![1, 128] inb).toLoadRect (h.unread x) = row x ⟨n, hn⟩ := by
  rw [View.readAt_unit m.view _ inb rfl inb, h.read_unread]
  funext y
  refine congrArg x (funext fun a => Fin.ext ?_)
  have h0 : (y (0 : Fin 2)).val < 1 := (y (0 : Fin 2)).isLt
  fin_cases a
  · change n + 1 * (y (0 : Fin 2)).val = n
    omega
  · change 0 + 1 * (y (1 : Fin 2)).val = (y (1 : Fin 2)).val
    omega

/-- A load of a whole staging buffer. -/
theorem ldAll {s : Shape} {e : EltTy} (m : Memref sig .tc .vmem s e) (h : m.IsWhole) (x : Vec F s e) {off : Fin s.rank → ℕ}
    (inb : ∀ a, off a + s.size a ≤ s.size a) :
    m.view.readAt (Elt F) (Rect.unit off s.size inb).toLoadRect (h.unread x) = x := by
  rw [View.readAt_full m.view _ inb, h.read_unread]

theorem ldX (m : Memref sig .tc .vmem S1x4096x128 .f32) (h : m.IsWhole) (x : Vec F S1x4096x128 .f32) (inb) :
    m.view.readAt (Elt F) (Rect.unit (s := S1x4096x128) ![0, 0, 0] ![1, 4096, 128] inb).toLoadRect (h.unread x) = x := ldAll m h x inb

theorem ldW (m : Memref sig .tc .vmem S1x128x128 .bf16) (h : m.IsWhole) (x : Vec F S1x128x128 .bf16) (inb) :
    m.view.readAt (Elt F) (Rect.unit (s := S1x128x128) ![0, 0, 0] ![1, 128, 128] inb).toLoadRect (h.unread x) = x := ldAll m h x inb

theorem ldS (m : Memref sig .tc .vmem S4096x128 .f32) (h : m.IsWhole) (x : Vec F S4096x128 .f32) (inb) :
    m.view.readAt (Elt F) (Rect.unit (s := S4096x128) ![0, 0] ![4096, 128] inb).toLoadRect (h.unread x) = x := ldAll m h x inb

section B0

variable (c : Dev nD) (i : grid0.Coords) (arg1 : Memref sig .tc .vmem S1x4096x128 .f32) (harg1 : arg1.IsWhole) (arg2 : Memref sig .tc .vmem S1x4096x128 .f32) (harg2 : arg2.IsWhole) (arg3 : Memref sig .tc .vmem S8x128 .f32) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (x0 : Vec F S1x4096x128 .f32) (x1 : Vec F S1x4096x128 .f32) (x2 : Vec F S8x128 .f32) (x3 : Vec F S1x128x128 .bf16) (x4 : Vec F S1x128x128 .bf16)

theorem read0_7 (f : arg7.view.ty.Contents (Elt F)) :
    arg7.view.read (Elt F) (arg7.view.writes (Elt F) f (run0 c i arg1 harg1 arg2 harg2 arg3 harg3 arg4 harg4 arg5 harg5 arg6 harg6 arg7 harg7 arg8 harg8 arg9 harg9 arg10 harg10 x0 x1 x2 x3 x4).2.1) = fXc x0 x2 := by
  unfold run0
  refine (View.read_writes_full _ _ _ _ _).trans ?_
  simp only [run0.sl.r, run0.sl.r_1, run0.sl.r_2, run0.sl.r_3, run0.sl.r_4, run0.sl.r_5, run0.sl.r_6, ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  rfl

theorem read0_8 (f : arg8.view.ty.Contents (Elt F)) :
    arg8.view.read (Elt F) (arg8.view.writes (Elt F) f (run0 c i arg1 harg1 arg2 harg2 arg3 harg3 arg4 harg4 arg5 harg5 arg6 harg6 arg7 harg7 arg8 harg8 arg9 harg9 arg10 harg10 x0 x1 x2 x3 x4).2.2.1) = fH x0 x2 x3 x4 := by
  unfold run0
  refine (loop0_read Variants.none c none i arg1 harg1 arg2 harg2 arg3 harg3 arg4 harg4 arg5 harg5 arg6 harg6 arg7 harg7 arg8 harg8 arg9 harg9 arg10 harg10 _ _ _ _ _ _ _ _ _ f).trans ?_
  unfold run0.sl.H8_1 run0.sl.H9_1
  refine (congrArg₂ (fun a b => scanF _ a b _) (View.read_writes_full _ _ _ _ _) (View.read_writes_full _ _ _ _ _)).trans ?_
  simp only [run0.sl.r, run0.sl.r_1, run0.sl.r_2, run0.sl.r_3, run0.sl.r_4, run0.sl.r_5, run0.sl.r_6, ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  rfl

theorem read0_6 (f : arg6.view.ty.Contents (Elt F)) (g : arg8.view.ty.Contents (Elt F)) :
    arg6.view.read (Elt F) (arg6.view.writes (Elt F) f ((run0 c i arg1 harg1 arg2 harg2 arg3 harg3 arg4 harg4 arg5 harg5 arg6 harg6 arg7 harg7 arg8 harg8 arg9 harg9 arg10 harg10 x0 x1 x2 x3 x4).1 g)) = fY x0 x1 x2 x3 x4 := by
  unfold run0
  refine (View.read_writes_full _ _ _ _ _).trans ?_
  simp only [run0.sl.r, run0.sl.r_1, run0.sl.r_2, run0.sl.r_3, run0.sl.r_4, run0.sl.r_5, run0.sl.r_6, run0.sl.r_7, run0.sl.r_8, ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  unfold run0.sl.v108
  refine (congrArg (fun z => k0_pay1 (k0_pay71 z) (k0_pay72 x1)) (View.readAt_full _ _ _)).trans ?_
  exact congrArg (fun z => k0_pay1 (k0_pay71 z) (k0_pay72 x1)) (read0_8 c i arg1 harg1 arg2 harg2 arg3 harg3 arg4 harg4 arg5 harg5 arg6 harg6 arg7 harg7 arg8 harg8 arg9 harg9 arg10 harg10 x0 x1 x2 x3 x4 g)

end B0

end Cert.KernelIdeal.Lru

end
-- ==== Proof.Point0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.FrameSuffix
public import Idealize.ShloMosaic.Lib.Ring
public import Idealize.ShloMosaic.Lib.Tactic
public import proofs.«01_k».proof.Proof.Body0
@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

/-- The body of call 0 at any blocks: its inputs are kept and every output holds its function of them. -/
theorem body0 (c : Dev nD) (i : grid0.Coords) (arg1 : Memref sig .tc .vmem S1x4096x128 .f32) (harg1 : arg1.IsWhole) (arg2 : Memref sig .tc .vmem S1x4096x128 .f32) (harg2 : arg2.IsWhole) (arg3 : Memref sig .tc .vmem S8x128 .f32) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (x0 : Vec F S1x4096x128 .f32) (x1 : Vec F S1x4096x128 .f32) (x2 : Vec F S8x128 .f32) (x3 : Vec F S1x128x128 .bf16) (x4 : Vec F S1x128x128 .bf16) (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (fY x0 x1 x2 x3 x4) ∗ owns (c : Thread nD τ) arg7 fullShare (fXc x0 x2) ∗ owns (c : Thread nD τ) arg8 fullShare (fH x0 x2 x3 x4) ∗ (∃ d, owns (c : Thread nD τ) arg9 fullShare d) ∗ (∃ d, owns (c : Thread nD τ) arg10 fullShare d)) -∗ Q ⟨⟩))
      ⊢ wp frame (wpE (defs₀ (F := F)) Variants.none c none) E (cc0_lru_fwd_0 i arg1 harg1 arg2 harg2 arg3 harg3 arg4 harg4 arg5 harg5 arg6 harg6 arg7 harg7 arg8 harg8 arg9 harg9 arg10 harg10) Q := by
  have h := (run0 c i arg1 harg1 arg2 harg2 arg3 harg3 arg4 harg4 arg5 harg5 arg6 harg6 arg7 harg7 arg8 harg8 arg9 harg9 arg10 harg10 x0 x1 x2 x3 x4).2.2.2 E Q
  refine BIBase.Entails.trans ?_ h
  iintro ⟨H0, H1, H2, H3, H4, H5, H6, H7, H8, H9, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, ⟨%e5, %g5, H5⟩, ⟨%e6, H6⟩, ⟨%e7, H7⟩, H8, H9⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact read0_6 c i arg1 harg1 arg2 harg2 arg3 harg3 arg4 harg4 arg5 harg5 arg6 harg6 arg7 harg7 arg8 harg8 arg9 harg9 arg10 harg10 x0 x1 x2 x3 x4 _ _
  isplitl [H6]
  · unfold owns; iexists _; isplitr
    swap; · iexact H6
    ipureintro; exact read0_7 c i arg1 harg1 arg2 harg2 arg3 harg3 arg4 harg4 arg5 harg5 arg6 harg6 arg7 harg7 arg8 harg8 arg9 harg9 arg10 harg10 x0 x1 x2 x3 x4 _
  isplitl [H7]
  · unfold owns; iexists _; isplitr
    swap; · iexact H7
    ipureintro; exact read0_8 c i arg1 harg1 arg2 harg2 arg3 harg3 arg4 harg4 arg5 harg5 arg6 harg6 arg7 harg7 arg8 harg8 arg9 harg9 arg10 harg10 x0 x1 x2 x3 x4 _
  isplitl [H8]; · iexact H8
  iexact H9

section Pipe0

variable (V : (c : Dev nD) → (b : Ref sig .tc) → Buf (Elt F) ((c : Thread nD τ).loc b))

/-- Window `w`'s block at point `t` of call 0's grid, read off its array's contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0_0 (t : Fin cfg0.N) : Memref sig .tc .vmem S1x4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x128 .f32 := win0_7.stage (cfg0.slots t 7)
abbrev hs0_7 (t : Fin cfg0.N) : (ms0_7 t).IsWhole := hstage0_7 ((cfg0.slots t 7).cast nbuf0_7)
abbrev scM0_0 : Memref sig .tc .vmem S4096x128 .f32 := Memref.whole cc0_scratch0
abbrev scM0_1 : Memref sig .tc .vmem S4096x128 .f32 := Memref.whole cc0_scratch1

/-- The buffers beside the windows: the two scratch buffers, each at some contents, and the rest unopened. -/
theorem scratch0 (c : Dev nD) :
    (Pipeline.scopedRest spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ Pipeline.scopedRestBut spec0 c [cc0_scratch0, cc0_scratch1]) := by
  refine (Pipeline.scopedRest_split_of_list spec0 c [cc0_scratch0, cc0_scratch1] (by decide) (by decide)).trans ?_
  exact Idealize.SL.BI.Entails.antisymm Idealize.SL.BI.sep_assoc Idealize.SL.BI.sep_assoc'

theorem inv0 (c : Dev nD) :
    (Pipeline.ΦA spec0 c : sProp 𝕄)
      = iprop(iprop((∃ d, owns (c : Thread nD τ) scM0_0 fullShare d) ∗ (∃ d, owns (c : Thread nD τ) scM0_1 fullShare d) ∗ Pipeline.scopedRestBut spec0 c [cc0_scratch0, cc0_scratch1]) ∗ (∃ r, prngReg c r)) := by
  unfold Pipeline.ΦA; rw [scratch0]; simp only [scM0_0, scM0_1, owns_whole]; try rfl

/-- The proof data of call 0: every input's buffer at its block after the body, every output's at its function of the blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => fY (iblk0 V c 0 t) (iblk0 V c 1 t) (iblk0 V c 2 t) (iblk0 V c 3 t) (iblk0 V c 4 t)
    | ⟨6, _⟩ => fXc (iblk0 V c 0 t) (iblk0 V c 2 t)
    | ⟨7, _⟩ => fH (iblk0 V c 0 t) (iblk0 V c 2 t) (iblk0 V c 3 t) (iblk0 V c 4 t)
  Φ _ := Pipeline.ΦA spec0 c
  q w := Pipeline.shareOf spec0 w
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = fY (iblk0 V c 0 t) (iblk0 V c 1 t) (iblk0 V c 2 t) (iblk0 V c 3 t) (iblk0 V c 4 t) := by dsimp only [dat0]
theorem after0_6 (c : Dev nD) (t : Fin cfg0.N) : (dat0 V c).after 6 t = fXc (iblk0 V c 0 t) (iblk0 V c 2 t) := by dsimp only [dat0]
theorem after0_7 (c : Dev nD) (t : Fin cfg0.N) : (dat0 V c).after 7 t = fH (iblk0 V c 0 t) (iblk0 V c 2 t) (iblk0 V c 3 t) (iblk0 V c 4 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- What the body is called with at a point, window by window, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 1200000 in
/-- The body at any point of the grid. -/
theorem sound0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  rw [show (dat0 V c).Φ t.castSucc = Pipeline.ΦA spec0 c from rfl, inv0]
  iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body0 c (grid0.coords t) _ _ _ _ _ _ _ _ _ _ _ _ _ _ _ _ _ _ _ _ (iblk0 V c 0 t) (iblk0 V c 1 t) (iblk0 V c 2 t) (iblk0 V c 3 t) (iblk0 V c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  iintro ⟨H0, H1, H2, H3, H4, H5, H6, H7, HS0, HS1⟩
  isplitl [HS0 HS1 HR Hg]
  · isplitl [HS0 HS1 HR]
    · isplitl [HS0]; · iexact HS0
      isplitl [HS1]; · iexact HS1
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem row_eq0 (t : Fin cfg0.N) : defs₀ (F := F) .tc cfg0.body (cfg0.bodyArgs t (cfg0.slots t)) = bodyAt0 t := by
  unfold defs₀; rw [Defs.onTc_tc]

theorem obligation0 (c : Dev nD) : BodyObligation (dat0 (F := F) V c) (defs₀ (F := F)) Variants.none () Set.univ := fun t => by
  rw [bigSep_W0, bigSep_W0, row_eq0]
  exact triple_restated (sound0 V c t) rfl .rfl fun _ => .rfl

end Pipe0

end Cert.KernelIdeal.Lru

end
-- ==== Proof.Body1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.FrameSuffix
public import Idealize.ShloMosaic.Lib.Ring
public import Idealize.ShloMosaic.Lib.Tactic
public import proofs.«01_k».proof.Proof.Body0
@[expose] public section

set_option maxRecDepth 16384
set_option maxHeartbeats 2000000

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

section B1

variable (c : Dev nD) (i : grid1.Coords) (arg1 : Memref sig .tc .vmem S4096x128 .f32) (harg1 : arg1.IsWhole) (arg2 : Memref sig .tc .vmem S1x4096x128 .f32) (harg2 : arg2.IsWhole) (arg3 : Memref sig .tc .vmem S1x4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S8x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S1x4096x128 .bf16) (harg9 : arg9.IsWhole) (arg10 : Memref sig .tc .vmem S1x4096x128 .bf16) (harg10 : arg10.IsWhole) (arg11 : Memref sig .tc .vmem S8x128 .f32) (harg11 : arg11.IsWhole) (arg12 : Memref sig .tc .vmem S1x128x128 .f32) (harg12 : arg12.IsWhole) (arg13 : Memref sig .tc .vmem S1x128x128 .f32) (harg13 : arg13.IsWhole) (arg14 : Memref sig .tc .vmem S4096x128 .f32) (harg14 : arg14.IsWhole) (arg15 : Memref sig .tc .vmem S4096x128 .f32) (harg15 : arg15.IsWhole) (x0 : Vec F S4096x128 .f32) (x1 : Vec F S1x4096x128 .f32) (x2 : Vec F S1x4096x128 .f32) (x3 : Vec F S4096x128 .f32) (x4 : Vec F S4096x128 .f32) (x5 : Vec F S8x128 .f32) (x6 : Vec F S1x128x128 .bf16) (x7 : Vec F S1x128x128 .bf16)

theorem v1_eq : run1.sl.v1 c arg4 harg4 x3 = k1_pay60 x3 := by
  unfold run1.sl.v1
  simp only [ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  rfl

theorem gR_eq : run1.sl.v17 c arg4 harg4 arg6 harg6 arg7 harg7 x3 x5 x6 = gR x3 x5 x6 := by
  unfold run1.sl.v17
  simp only [run1.sl.cst, run1.sl.cst_5, run1.sl.cst_6, run1.sl.v10, run1.sl.v11, run1.sl.v12, run1.sl.v13, run1.sl.v14, run1.sl.v15, run1.sl.v3, run1.sl.v5, run1.sl.v6, run1.sl.v8, run1.sl.v9, v1_eq c arg4 harg4 x3, ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  rfl

theorem gI_eq : run1.sl.v31 c arg4 harg4 arg6 harg6 arg8 harg8 x3 x5 x7 = gI x3 x5 x7 := by
  unfold run1.sl.v31
  simp only [run1.sl.cst, run1.sl.cst_5, run1.sl.cst_6, run1.sl.v11, run1.sl.v14, run1.sl.v19, run1.sl.v20, run1.sl.v22, run1.sl.v23, run1.sl.v24, run1.sl.v26, run1.sl.v27, run1.sl.v29, run1.sl.v3, v1_eq c arg4 harg4 x3, ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  rfl

theorem gL_eq : run1.sl.r c arg6 harg6 x5 = gL x5 := by
  unfold run1.sl.r
  simp only [run1.sl.cst_5, run1.sl.v33, run1.sl.v34, run1.sl.v35, ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  rfl

theorem gA_eq : run1.sl.r_1 c arg4 harg4 arg6 harg6 arg7 harg7 x3 x5 x6 = gA x3 x5 x6 := by
  unfold run1.sl.r_1
  simp only [run1.sl.cst_5, run1.sl.v33, run1.sl.v34, run1.sl.v35, gR_eq c arg4 harg4 arg6 harg6 arg7 harg7 x3 x5 x6, ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  rfl

theorem gM_eq : run1.sl.r_2 c arg4 harg4 arg6 harg6 arg7 harg7 x3 x5 x6 = gM x3 x5 x6 := by
  unfold run1.sl.r_2
  simp only [run1.sl.cst_5, run1.sl.v33, run1.sl.v34, run1.sl.v35, gR_eq c arg4 harg4 arg6 harg6 arg7 harg7 x3 x5 x6, ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  rfl

theorem r3_eq : run1.sl.r_3 c arg1 harg1 x0 = x0 := by
  unfold run1.sl.r_3
  simp only [ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]

theorem r4_eq : run1.sl.r_4 c arg5 harg5 x4 = k1_pay71 x4 := by
  unfold run1.sl.r_4
  simp only [ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]

theorem r5_eq : run1.sl.r_5 c arg3 harg3 x2 = k1_pay72 x2 := by
  unfold run1.sl.r_5
  simp only [ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]

theorem r6_eq : run1.sl.r_6 c arg3 harg3 x2 = k1_pay74 x2 := by
  unfold run1.sl.r_6
  simp only [ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]

theorem r7_eq : run1.sl.r_7 c arg3 harg3 x2 = k1_pay75 x2 := by
  unfold run1.sl.r_7
  simp only [ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]

theorem r8_eq : run1.sl.r_8 c arg3 harg3 x2 = k1_pay76 x2 := by
  unfold run1.sl.r_8
  simp only [ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]

theorem r9_eq : run1.sl.r_9 c arg3 harg3 x2 = k1_pay77 x2 := by
  unfold run1.sl.r_9
  simp only [ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]

theorem gS_eq : run1.sl.v111 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 = gS x0 x2 x3 x5 x6 := by
  unfold run1.sl.v111 View.readCov
  refine (View.readAt_full _ _ _).trans ?_
  rw [View.writes_append]
  refine (loop1_read Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _).trans ?_
  unfold run1.sl.H13_1 run1.sl.H14_1
  refine (congrArg₂ (fun a b => scanB _ a b _) (View.read_writes_full _ _ _ _ _) (View.read_writes_full _ _ _ _ _)).trans ?_
  simp only [run1.sl.v2, gA_eq c arg4 harg4 arg6 harg6 arg7 harg7 x3 x5 x6, r3_eq c arg1 harg1 x0, r7_eq c arg3 harg3 x2]
  rfl

theorem gX_eq : run1.sl.v123 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7 = gX x0 x2 x3 x5 x6 x7 := by
  unfold run1.sl.v123
  simp only [run1.sl.v122, gM_eq c arg4 harg4 arg6 harg6 arg7 harg7 x3 x5 x6, gS_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6, gI_eq c arg4 harg4 arg6 harg6 arg8 harg8 x3 x5 x7, ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  rfl

theorem gPa_eq : run1.sl.v153 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7 = gPa x0 x2 x3 x4 x5 x6 x7 := by
  unfold run1.sl.v153
  simp only [run1.sl.cst_54, run1.sl.cst_55, run1.sl.cst_62, run1.sl.v114, run1.sl.v115, run1.sl.v116, run1.sl.v117, run1.sl.v118, run1.sl.v119, run1.sl.v124, run1.sl.v125, run1.sl.v126, run1.sl.v127, run1.sl.v128, run1.sl.v129, run1.sl.v130, run1.sl.v131, run1.sl.v132, run1.sl.v150, run1.sl.v151, run1.sl.v152, run1.sl.v2, gL_eq c arg6 harg6 x5, gA_eq c arg4 harg4 arg6 harg6 arg7 harg7 x3 x5 x6, gM_eq c arg4 harg4 arg6 harg6 arg7 harg7 x3 x5 x6, r4_eq c arg5 harg5 x4, v1_eq c arg4 harg4 x3, gS_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6, gR_eq c arg4 harg4 arg6 harg6 arg7 harg7 x3 x5 x6, gI_eq c arg4 harg4 arg6 harg6 arg8 harg8 x3 x5 x7, ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  rfl

theorem gPx_eq : run1.sl.v157 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7 = gPx x0 x2 x3 x5 x6 x7 := by
  unfold run1.sl.v157
  simp only [run1.sl.cst_62, run1.sl.v120, run1.sl.v121, run1.sl.v151, run1.sl.v154, run1.sl.v156, gM_eq c arg4 harg4 arg6 harg6 arg7 harg7 x3 x5 x6, v1_eq c arg4 harg4 x3, gS_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6, gI_eq c arg4 harg4 arg6 harg6 arg8 harg8 x3 x5 x7, ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  rfl

theorem gPaN_eq : run1.sl.v158 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7 = gPaN x0 x2 x3 x4 x5 x6 x7 := by
  unfold run1.sl.v158
  simp only [gPa_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7, ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  rfl

theorem gPxN_eq : run1.sl.v159 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7 = gPxN x0 x2 x3 x5 x6 x7 := by
  unfold run1.sl.v159
  simp only [gPx_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7, ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  rfl

theorem gXc_eq : run1.sl.v176 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7 = gXc x0 x2 x3 x4 x5 x6 x7 := by
  unfold run1.sl.v176
  simp only [run1.sl.cst_77, run1.sl.v170, run1.sl.v171, run1.sl.v172, run1.sl.v174, run1.sl.v175, gX_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7, gPaN_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7, gPxN_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7, ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  rfl

theorem gDwa_eq : run1.sl.v164 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7 = gDwa x0 x2 x3 x4 x5 x6 x7 := by
  unfold run1.sl.v164
  simp only [run1.sl.cst_66, run1.sl.v160, run1.sl.v161, v1_eq c arg4 harg4 x3, gPaN_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7, ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  rfl

theorem gDwx_eq : run1.sl.v168 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7 = gDwx x0 x2 x3 x5 x6 x7 := by
  unfold run1.sl.v168
  simp only [run1.sl.cst_66, run1.sl.v160, run1.sl.v165, v1_eq c arg4 harg4 x3, gPxN_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7, ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  rfl

theorem v178_eq : run1.sl.v178 c arg2 harg2 x1 = k1_pay97 x1 := by
  unfold run1.sl.v178
  simp only [ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  rfl

theorem row0_eq : run1.sl.v186 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = gDlpRow x0 x1 x2 x3 x4 x5 x6 x7 0 := by
  unfold run1.sl.v186
  simp only [run1.sl.cst_54, run1.sl.v115, run1.sl.v179, run1.sl.v181, run1.sl.v183, run1.sl.v184, run1.sl.v185, run1.sl.v2, gXc_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7, v178_eq c arg2 harg2 x1, ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  rfl

theorem row1_eq : run1.sl.v195 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = gDlpRow x0 x1 x2 x3 x4 x5 x6 x7 1 := by
  unfold run1.sl.v195
  simp only [run1.sl.cst_54, run1.sl.v115, run1.sl.v188, run1.sl.v190, run1.sl.v192, run1.sl.v193, run1.sl.v194, run1.sl.v2, gXc_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7, v178_eq c arg2 harg2 x1, ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  rfl

theorem row2_eq : run1.sl.v204 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = gDlpRow x0 x1 x2 x3 x4 x5 x6 x7 2 := by
  unfold run1.sl.v204
  simp only [run1.sl.cst_54, run1.sl.v115, run1.sl.v197, run1.sl.v199, run1.sl.v2, run1.sl.v201, run1.sl.v202, run1.sl.v203, gXc_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7, v178_eq c arg2 harg2 x1, ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  rfl

theorem row3_eq : run1.sl.v208 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = gDlpRow x0 x1 x2 x3 x4 x5 x6 x7 3 := by
  unfold run1.sl.v208
  simp only [run1.sl.v206, run1.sl.v207, gXc_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7, v178_eq c arg2 harg2 x1, ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  rfl

theorem row4_eq : run1.sl.v211 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7 = gDlpRow x0 x1 x2 x3 x4 x5 x6 x7 4 := by
  unfold run1.sl.v211
  simp only [run1.sl.v210, gXc_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7, ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  rfl

theorem row5_eq : run1.sl.v214 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7 = gDlpRow x0 x1 x2 x3 x4 x5 x6 x7 5 := by
  unfold run1.sl.v214
  simp only [run1.sl.v213, gPa_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7, ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  rfl

theorem row6_eq : run1.sl.v217 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7 = gDlpRow x0 x1 x2 x3 x4 x5 x6 x7 6 := by
  unfold run1.sl.v217
  simp only [run1.sl.v216, gPx_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7, ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  rfl

theorem row7_eq : run1.sl.v149 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7 = gDlpRow x0 x1 x2 x3 x4 x5 x6 x7 7 := by
  unfold run1.sl.v149
  simp only [run1.sl.cst_54, run1.sl.cst_55, run1.sl.cst_62, run1.sl.v114, run1.sl.v115, run1.sl.v116, run1.sl.v117, run1.sl.v118, run1.sl.v119, run1.sl.v124, run1.sl.v125, run1.sl.v126, run1.sl.v127, run1.sl.v128, run1.sl.v129, run1.sl.v133, run1.sl.v134, run1.sl.v135, run1.sl.v137, run1.sl.v139, run1.sl.v140, run1.sl.v141, run1.sl.v143, run1.sl.v144, run1.sl.v145, run1.sl.v146, run1.sl.v148, run1.sl.v2, gA_eq c arg4 harg4 arg6 harg6 arg7 harg7 x3 x5 x6, gM_eq c arg4 harg4 arg6 harg6 arg7 harg7 x3 x5 x6, r4_eq c arg5 harg5 x4, v1_eq c arg4 harg4 x3, gS_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6, gR_eq c arg4 harg4 arg6 harg6 arg7 harg7 x3 x5 x6, gI_eq c arg4 harg4 arg6 harg6 arg8 harg8 x3 x5 x7, ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  rfl

theorem dx_eq : run1.sl.r_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7 = k1_pay107 iotaS (gXc x0 x2 x3 x4 x5 x6 x7) (row x5 3) (row x5 2) (row x5 1) (row x5 0) := by
  unfold run1.sl.r_10
  simp only [run1.sl.v2, gXc_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7, ldX, ldW, ldS, ldRow _ _ _ 0 (by decide), ldRow _ _ _ 1 (by decide), ldRow _ _ _ 2 (by decide), ldRow _ _ _ 3 (by decide), ldRow _ _ _ 4 (by decide), ldRow _ _ _ 5 (by decide), ldRow _ _ _ 6 (by decide), ldRow _ _ _ 7 (by decide)]
  rfl

/-- Eight stores of one row each, the last row last, read back row by row. -/
theorem read8 (v : View sig .tc .vmem S8x128 .f32) (f : v.ty.Contents (Elt F)) (w0 w1 w2 w3 w4 w5 w6 w7 : Vec F S1x128 .f32)
    (W : Fin 8 → FVec F S1x128 .f32) (i0 i1 i2 i3 i4 i5 i6 i7)
    (e0 : w0 = W 0) (e1 : w1 = W 1) (e2 : w2 = W 2) (e3 : w3 = W 3) (e4 : w4 = W 4) (e5 : w5 = W 5) (e6 : w6 = W 6) (e7 : w7 = W 7) :
    v.read (Elt F) (v.writes (Elt F) f
      [⟨Rect.unit (s := S8x128) ![7, 0] S1x128.size i7, w7⟩, ⟨Rect.unit (s := S8x128) ![6, 0] S1x128.size i6, w6⟩,
       ⟨Rect.unit (s := S8x128) ![5, 0] S1x128.size i5, w5⟩, ⟨Rect.unit (s := S8x128) ![4, 0] S1x128.size i4, w4⟩,
       ⟨Rect.unit (s := S8x128) ![3, 0] S1x128.size i3, w3⟩, ⟨Rect.unit (s := S8x128) ![2, 0] S1x128.size i2, w2⟩,
       ⟨Rect.unit (s := S8x128) ![1, 0] S1x128.size i1, w1⟩, ⟨Rect.unit (s := S8x128) ![0, 0] S1x128.size i0, w0⟩])
      = fun y => W (y (0 : Fin 2)) (ValueIdx.ix2 (0 : Fin 1) (y (1 : Fin 2))) := by
  subst e0 e1 e2 e3 e4 e5 e6 e7
  have key : ∀ (r : Fin 8) (y : S8x128.Idx) (hy : y (0 : Fin 2) = r) (o : ℕ), r.val = o →
      (y (0 : Fin 2)).val = o + ((ValueIdx.ix2 (0 : Fin 1) (y (1 : Fin 2))) (0 : Fin 2)).val := fun r y hy o h => by
    rw [hy, h]; rfl
  funext y
  obtain ⟨r, hr⟩ : ∃ r : Fin 8, y (0 : Fin 2) = r := ⟨_, rfl⟩
  have hv : (y (0 : Fin 2)).val = r.val := by rw [hr]
  show _ = W (y (0 : Fin 2)) _
  rw [hr]
  fin_cases r
  · refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    exact View.read_writes_cons_rows_of_mem v f _ _ _ y (ValueIdx.ix2 (0 : Fin 1) (y (1 : Fin 2))) rfl (key _ y hr 0 rfl) rfl
  · refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    exact View.read_writes_cons_rows_of_mem v f _ _ _ y (ValueIdx.ix2 (0 : Fin 1) (y (1 : Fin 2))) rfl (key _ y hr 1 rfl) rfl
  · refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    exact View.read_writes_cons_rows_of_mem v f _ _ _ y (ValueIdx.ix2 (0 : Fin 1) (y (1 : Fin 2))) rfl (key _ y hr 2 rfl) rfl
  · refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    exact View.read_writes_cons_rows_of_mem v f _ _ _ y (ValueIdx.ix2 (0 : Fin 1) (y (1 : Fin 2))) rfl (key _ y hr 3 rfl) rfl
  · refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    exact View.read_writes_cons_rows_of_mem v f _ _ _ y (ValueIdx.ix2 (0 : Fin 1) (y (1 : Fin 2))) rfl (key _ y hr 4 rfl) rfl
  · refine (View.read_writes_cons_rows_of_not_mem v f _ _ _ y rfl rfl (Or.inl (by rw [hv]; decide))).trans ?_
    refine (View.read_writes_cons_rows_of_not_mem v f _ _ _ y rfl rfl (Or.inl (by rw [hv]; decide))).trans ?_
    exact View.read_writes_cons_rows_of_mem v f _ _ _ y (ValueIdx.ix2 (0 : Fin 1) (y (1 : Fin 2))) rfl (key _ y hr 5 rfl) rfl
  · refine (View.read_writes_cons_rows_of_not_mem v f _ _ _ y rfl rfl (Or.inl (by rw [hv]; decide))).trans ?_
    exact View.read_writes_cons_rows_of_mem v f _ _ _ y (ValueIdx.ix2 (0 : Fin 1) (y (1 : Fin 2))) rfl (key _ y hr 6 rfl) rfl
  · exact View.read_writes_cons_rows_of_mem v f _ _ _ y (ValueIdx.ix2 (0 : Fin 1) (y (1 : Fin 2))) rfl (key _ y hr 7 rfl) rfl

theorem read1_9 (f : arg9.view.ty.Contents (Elt F)) :
    arg9.view.read (Elt F) (arg9.view.writes (Elt F) f (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).1) = gDx x0 x2 x3 x4 x5 x6 x7 := by
  unfold run1
  refine (View.read_writes_full _ _ _ _ _).trans ?_
  simp only [dx_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7]
  rfl

theorem read1_10 (f : arg10.view.ty.Contents (Elt F)) :
    arg10.view.read (Elt F) (arg10.view.writes (Elt F) f (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1) = gDg x0 x2 x4 := by
  unfold run1 run1.sl.H9_1
  refine (View.read_writes_full _ _ _ _ _).trans ?_
  simp only [r3_eq c arg1 harg1 x0, r4_eq c arg5 harg5 x4, r5_eq c arg3 harg3 x2, r6_eq c arg3 harg3 x2, r8_eq c arg3 harg3 x2, r9_eq c arg3 harg3 x2]
  rfl

theorem read1_12 (f : arg12.view.ty.Contents (Elt F)) :
    arg12.view.read (Elt F) (arg12.view.writes (Elt F) f (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.1) = gDwa x0 x2 x3 x4 x5 x6 x7 := by
  unfold run1
  refine (View.read_writes_full _ _ _ _ _).trans ?_
  simp only [gDwa_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7]

theorem read1_13 (f : arg13.view.ty.Contents (Elt F)) :
    arg13.view.read (Elt F) (arg13.view.writes (Elt F) f (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.1) = gDwx x0 x2 x3 x5 x6 x7 := by
  unfold run1
  refine (View.read_writes_full _ _ _ _ _).trans ?_
  simp only [gDwx_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7]

theorem read1_11 (f : arg11.view.ty.Contents (Elt F)) :
    arg11.view.read (Elt F) (arg11.view.writes (Elt F) f (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.1) = gDlp x0 x1 x2 x3 x4 x5 x6 x7 := by
  unfold run1
  exact (read8 _ _ _ _ _ _ _ _ _ _ (gDlpRow x0 x1 x2 x3 x4 x5 x6 x7) _ _ _ _ _ _ _ _ (row0_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) (row1_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) (row2_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) (row3_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) (row4_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) (row5_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) (row6_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) (row7_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7)).trans rfl

end B1

end Cert.KernelIdeal.Lru

end
-- ==== Proof.Point1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.FrameSuffix
public import Idealize.ShloMosaic.Lib.Ring
public import Idealize.ShloMosaic.Lib.Tactic
public import proofs.«01_k».proof.Proof.Body1
@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

/-- The body of call 1 at any blocks: its inputs are kept and every output holds its function of them. -/
theorem body1 (c : Dev nD) (i : grid1.Coords) (arg1 : Memref sig .tc .vmem S4096x128 .f32) (harg1 : arg1.IsWhole) (arg2 : Memref sig .tc .vmem S1x4096x128 .f32) (harg2 : arg2.IsWhole) (arg3 : Memref sig .tc .vmem S1x4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S8x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S1x4096x128 .bf16) (harg9 : arg9.IsWhole) (arg10 : Memref sig .tc .vmem S1x4096x128 .bf16) (harg10 : arg10.IsWhole) (arg11 : Memref sig .tc .vmem S8x128 .f32) (harg11 : arg11.IsWhole) (arg12 : Memref sig .tc .vmem S1x128x128 .f32) (harg12 : arg12.IsWhole) (arg13 : Memref sig .tc .vmem S1x128x128 .f32) (harg13 : arg13.IsWhole) (arg14 : Memref sig .tc .vmem S4096x128 .f32) (harg14 : arg14.IsWhole) (arg15 : Memref sig .tc .vmem S4096x128 .f32) (harg15 : arg15.IsWhole) (x0 : Vec F S4096x128 .f32) (x1 : Vec F S1x4096x128 .f32) (x2 : Vec F S1x4096x128 .f32) (x3 : Vec F S4096x128 .f32) (x4 : Vec F S4096x128 .f32) (x5 : Vec F S8x128 .f32) (x6 : Vec F S1x128x128 .bf16) (x7 : Vec F S1x128x128 .bf16) (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (gDx x0 x2 x3 x4 x5 x6 x7) ∗ owns (c : Thread nD τ) arg10 fullShare (gDg x0 x2 x4) ∗ owns (c : Thread nD τ) arg11 fullShare (gDlp x0 x1 x2 x3 x4 x5 x6 x7) ∗ owns (c : Thread nD τ) arg12 fullShare (gDwa x0 x2 x3 x4 x5 x6 x7) ∗ owns (c : Thread nD τ) arg13 fullShare (gDwx x0 x2 x3 x5 x6 x7) ∗ (∃ d, owns (c : Thread nD τ) arg14 fullShare d) ∗ (∃ d, owns (c : Thread nD τ) arg15 fullShare d)) -∗ Q ⟨⟩))
      ⊢ wp frame (wpE (defs₀ (F := F)) Variants.none c none) E (cc1_lru_bwd_0 i arg1 harg1 arg2 harg2 arg3 harg3 arg4 harg4 arg5 harg5 arg6 harg6 arg7 harg7 arg8 harg8 arg9 harg9 arg10 harg10 arg11 harg11 arg12 harg12 arg13 harg13 arg14 harg14 arg15 harg15) Q := by
  have h := (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.2 E Q
  refine BIBase.Entails.trans ?_ h
  iintro ⟨H0, H1, H2, H3, H4, H5, H6, H7, H8, H9, H10, H11, H12, H13, H14, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, ⟨%e8, H8⟩, ⟨%e9, H9⟩, ⟨%e10, H10⟩, ⟨%e11, H11⟩, ⟨%e12, H12⟩, H13, H14⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact read1_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 _
  isplitl [H9]
  · unfold owns; iexists _; isplitr
    swap; · iexact H9
    ipureintro; exact read1_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 _
  isplitl [H10]
  · unfold owns; iexists _; isplitr
    swap; · iexact H10
    ipureintro; exact read1_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 _
  isplitl [H11]
  · unfold owns; iexists _; isplitr
    swap; · iexact H11
    ipureintro; exact read1_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 _
  isplitl [H12]
  · unfold owns; iexists _; isplitr
    swap; · iexact H12
    ipureintro; exact read1_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 _
  isplitl [H13]; · iexact H13
  iexact H14

section Pipe1

variable (V : (c : Dev nD) → (b : Ref sig .tc) → Buf (Elt F) ((c : Thread nD τ).loc b))

/-- Window `w`'s block at point `t` of call 1's grid, read off its array's contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ms1_0 (t : Fin cfg1.N) : Memref sig .tc .vmem S4096x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128x128 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128x128 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x4096x128 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x4096x128 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S8x128 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x128x128 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1x128x128 .f32 := win1_12.stage (cfg1.slots t 12)
abbrev hs1_12 (t : Fin cfg1.N) : (ms1_12 t).IsWhole := hstage1_12 ((cfg1.slots t 12).cast nbuf1_12)
abbrev scM1_0 : Memref sig .tc .vmem S4096x128 .f32 := Memref.whole cc1_scratch0
abbrev scM1_1 : Memref sig .tc .vmem S4096x128 .f32 := Memref.whole cc1_scratch1

/-- The buffers beside the windows: the two scratch buffers, each at some contents, and the rest unopened. -/
theorem scratch1 (c : Dev nD) :
    (Pipeline.scopedRest spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ Pipeline.scopedRestBut spec1 c [cc1_scratch0, cc1_scratch1]) := by
  refine (Pipeline.scopedRest_split_of_list spec1 c [cc1_scratch0, cc1_scratch1] (by decide) (by decide)).trans ?_
  exact Idealize.SL.BI.Entails.antisymm Idealize.SL.BI.sep_assoc Idealize.SL.BI.sep_assoc'

theorem inv1 (c : Dev nD) :
    (Pipeline.ΦA spec1 c : sProp 𝕄)
      = iprop(iprop((∃ d, owns (c : Thread nD τ) scM1_0 fullShare d) ∗ (∃ d, owns (c : Thread nD τ) scM1_1 fullShare d) ∗ Pipeline.scopedRestBut spec1 c [cc1_scratch0, cc1_scratch1]) ∗ (∃ r, prngReg c r)) := by
  unfold Pipeline.ΦA; rw [scratch1]; simp only [scM1_0, scM1_1, owns_whole]; try rfl

/-- The proof data of call 1: every input's buffer at its block after the body, every output's at its function of the blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => gDx (iblk1 V c 0 t) (iblk1 V c 2 t) (iblk1 V c 3 t) (iblk1 V c 4 t) (iblk1 V c 5 t) (iblk1 V c 6 t) (iblk1 V c 7 t)
    | ⟨9, _⟩ => gDg (iblk1 V c 0 t) (iblk1 V c 2 t) (iblk1 V c 4 t)
    | ⟨10, _⟩ => gDlp (iblk1 V c 0 t) (iblk1 V c 1 t) (iblk1 V c 2 t) (iblk1 V c 3 t) (iblk1 V c 4 t) (iblk1 V c 5 t) (iblk1 V c 6 t) (iblk1 V c 7 t)
    | ⟨11, _⟩ => gDwa (iblk1 V c 0 t) (iblk1 V c 2 t) (iblk1 V c 3 t) (iblk1 V c 4 t) (iblk1 V c 5 t) (iblk1 V c 6 t) (iblk1 V c 7 t)
    | ⟨12, _⟩ => gDwx (iblk1 V c 0 t) (iblk1 V c 2 t) (iblk1 V c 3 t) (iblk1 V c 5 t) (iblk1 V c 6 t) (iblk1 V c 7 t)
  Φ _ := Pipeline.ΦA spec1 c
  q w := Pipeline.shareOf spec1 w
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = gDx (iblk1 V c 0 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = gDg (iblk1 V c 0 t) (iblk1 V c 2 t) (iblk1 V c 4 t) := by dsimp only [dat1]
theorem after1_10 (c : Dev nD) (t : Fin cfg1.N) : (dat1 V c).after 10 t = gDlp (iblk1 V c 0 t) (iblk1 V c 1 t) (iblk1 V c 2 t) (iblk1 V c 3 t) (iblk1 V c 4 t) (iblk1 V c 5 t) (iblk1 V c 6 t) (iblk1 V c 7 t) := by dsimp only [dat1]
theorem after1_11 (c : Dev nD) (t : Fin cfg1.N) : (dat1 V c).after 11 t = gDwa (iblk1 V c 0 t) (iblk1 V c 2 t) (iblk1 V c 3 t) (iblk1 V c 4 t) (iblk1 V c 5 t) (iblk1 V c 6 t) (iblk1 V c 7 t) := by dsimp only [dat1]
theorem after1_12 (c : Dev nD) (t : Fin cfg1.N) : (dat1 V c).after 12 t = gDwx (iblk1 V c 0 t) (iblk1 V c 2 t) (iblk1 V c 3 t) (iblk1 V c 5 t) (iblk1 V c 6 t) (iblk1 V c 7 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-- What the body is called with at a point, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t))

set_option maxHeartbeats 1200000 in
/-- The body at any point of the grid. -/
theorem sound1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  rw [show (dat1 V c).Φ t.castSucc = Pipeline.ΦA spec1 c from rfl, inv1]
  iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body1 c (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  iintro ⟨H0, H1, H2, H3, H4, H5, H6, H7, H8, H9, H10, H11, H12, HS0, HS1⟩
  isplitl [HS0 HS1 HR Hg]
  · isplitl [HS0 HS1 HR]
    · isplitl [HS0]; · iexact HS0
      isplitl [HS1]; · iexact HS1
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem row_eq1 (t : Fin cfg1.N) : defs₀ (F := F) .tc cfg1.body (cfg1.bodyArgs t (cfg1.slots t)) = bodyAt1 t := by
  unfold defs₀; rw [Defs.onTc_tc]

theorem obligation1 (c : Dev nD) : BodyObligation (dat1 (F := F) V c) (defs₀ (F := F)) Variants.none () Set.univ := fun t => by
  rw [bigSep_W1, bigSep_W1, row_eq1]
  exact triple_restated (sound1 V c t) rfl .rfl fun _ => .rfl

end Pipe1

end Cert.KernelIdeal.Lru

end
-- ==== Proof.KRun.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.FrameSuffix
public import Idealize.ShloMosaic.Lib.Ring
public import Idealize.ShloMosaic.Lib.Tactic
public import proofs.«01_k».proof.Proof.Point0
public import proofs.«01_k».proof.Proof.Point1
public import proofs.«01_k».proof.Proof.Gen.KernelIdeal.Regions
public import Idealize.ShloMosaic.Lib.Pipeline.RegionsLoop
@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The arguments' arrays. -/
abbrev argRefs : List (Ref sig .tc) := [main_arg0, main_arg1, main_arg2, main_arg3, main_arg4, main_arg5, main_arg6, main_arg7, main_arg8]

theorem host0_args : ∀ a ∈ argRefs, a ∉ hostOps0_W := ListAll.forall_mem_of_all_decide (by decide +kernel)

/-! ## The buffers' contents between the parts of the program -/

/-- At the launch, -/
abbrev W0 : Dev nD → Valuation τ sig (Elt F) := fun c b => (s₀ m ρ).mem ((c : Dev nD), b)
/-- after the host operations that lay the arguments out, -/
abbrev W1 : Dev nD → Valuation τ sig (Elt F) := fun c => StableHlo.after hostOps0 (W0 m ρ c)
/-- the same, as the first call reads it, -/
abbrev X1 : (c : Dev nD) → (b : Ref sig .tc) → Buf (Elt F) ((c : Thread nD τ).loc b) := fun c b => W1 m ρ c b
/-- after call 0: its arrays as its write-backs leave them, every other buffer as it was, -/
def W2 (c : Dev nD) : Valuation τ sig (Elt F) :=
  Pipeline.withArrays spec0 c (W1 m ρ c) fun w => (dat0 (X1 m ρ) c).arrAt w cfg0.N
theorem W2_arr (c : Dev nD) (w : Fin cfg0.W) :
    W2 m ρ c (Proc.devRef .tc (Pipeline.arrRef spec0 w)) = (dat0 (X1 m ρ) c).arrAt w cfg0.N := by
  unfold W2; exact (dat0 (X1 m ρ) c).withArrays_arrAt launch₀0.sharedIn _ (A_eq0 (X1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is no output of call 0 keeps its contents. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (X1 m ρ) c).arrAt_in w (h w rfl) _).trans (A_eq0 (X1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
/-- the same, by the core's references, -/
abbrev X2 : (c : Dev nD) → (b : Ref sig .tc) → Buf (Elt F) ((c : Thread nD τ).loc b) := fun c b => W2 m ρ c b
theorem hF0 (c : Dev nD) (w : Fin cfg0.W) : (dat0 (X1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = X1 m ρ c b :=
  fun b hb => W2_of_ne m ρ c b fun w e => hb (Finset.mem_image.mpr ⟨w, Finset.mem_univ _, e⟩)
/-- after call 1: its arrays as its write-backs leave them, every other buffer as it was, -/
def W3 (c : Dev nD) : Valuation τ sig (Elt F) :=
  Pipeline.withArrays spec1 c (W2 m ρ c) fun w => (dat1 (X2 m ρ) c).arrAt w cfg1.N
theorem W3_arr (c : Dev nD) (w : Fin cfg1.W) :
    W3 m ρ c (Proc.devRef .tc (Pipeline.arrRef spec1 w)) = (dat1 (X2 m ρ) c).arrAt w cfg1.N := by
  unfold W3; exact (dat1 (X2 m ρ) c).withArrays_arrAt launch₀1.sharedIn _ (A_eq1 (X2 m ρ) c) w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A buffer that is no output of call 1 keeps its contents. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (X2 m ρ) c).arrAt_in w (h w rfl) _).trans (A_eq1 (X2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
/-- the same, by the core's references, -/
abbrev X3 : (c : Dev nD) → (b : Ref sig .tc) → Buf (Elt F) ((c : Thread nD τ).loc b) := fun c b => W3 m ρ c b
theorem hF1 (c : Dev nD) (w : Fin cfg1.W) : (dat1 (X2 m ρ) c).arrAt w cfg1.N = X3 m ρ c (Pipeline.arrRef spec1 w) :=
  (W3_arr m ρ c w).symm
theorem hrest1 (c : Dev nD) : ∀ b, b ∉ Finset.univ.image (Pipeline.arrRef spec1) → X3 m ρ c b = X2 m ρ c b :=
  fun b hb => W3_of_ne m ρ c b fun w e => hb (Finset.mem_image.mpr ⟨w, Finset.mem_univ _, e⟩)
/-- An argument's array holds at the end what it held at the launch. -/
theorem W3_args (c : Dev nD) (a : Ref sig .tc) (ha : a ∈ argRefs) : W3 m ρ c (Proc.devRef .tc a) = m ((c : Thread nD τ).loc a) :=
  (W3_of m ρ c a (argsIn1 a ha)).trans ((W2_of m ρ c a (argsIn0 a ha)).trans
    (StableHlo.after_of_writes_sub hostOps0 _ hostOps0_writes (host0_args a ha)))

/-! ## The program as segments -/

/-- Both calls' proof data. -/
def pdats : (p : Fin 2) → (c : Dev nD) → Dat τ (Elt F) Unit ℕ (UR sig nD τ) ℕ (Pipeline.pin (pcfgs (F := F)) adm p) c
  | ⟨0, _⟩ => fun c => dat0 (X1 m ρ) c
  | ⟨1, _⟩ => fun c => dat1 (X2 m ρ) c
abbrev L : GSem nD τ sig → Finset Unit := fun _ => ∅
abbrev lv : GSem nD τ sig → Unit → ℕ := fun _ _ => 0
/-- What rides beside the buffers: the generator's register at some state, and nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state at the end. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- Call 0: entered with the buffers as the part before leaves them, left with its arrays written. -/
def reg0 : Pipeline.RegionSeg (pcfgs (F := F)) adm (pdats m ρ) () defs₀ Variants.none L lv 0 where
  win := launch₀0.win
  block_pos := launch₀0.block_pos
  stage_whole := launch₀0.stage_whole
  K := PEmpty
  osem k := k.elim
  ho := Pipeline.OwnSemFacts.none _
  hbody c := (obligation0 (X1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (X1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (X1 m ρ c) (A_eq0 (X1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (X1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1: entered with the buffers as the part before leaves them, left with its arrays written. -/
def reg1 : Pipeline.RegionSeg (pcfgs (F := F)) adm (pdats m ρ) () defs₀ Variants.none L lv 1 where
  win := launch₀1.win
  block_pos := launch₀1.block_pos
  stage_whole := launch₀1.stage_whole
  K := PEmpty
  osem k := k.elim
  ho := Pipeline.OwnSemFacts.none _
  hbody c := (obligation1 (X2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (X2 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (X2 m ρ c) (A_eq1 (X2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (X2 m ρ c) (X3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's three parts in order. -/
abbrev runSegs : List (Pipeline.Seg (pcfgs (F := F)) adm (pdats m ρ) () defs₀ Variants.none L lv) :=
  [ .host (hseg hostOps0 hostOps0_sub hostOps0_fresh (W0 m ρ)),
    .region (reg0 m ρ),
    .region (reg1 m ρ) ]
theorem main_run (c : Dev nD) : main (F := F) c = Pipeline.Seg.run (runSegs m ρ) := (main_chain c).trans (by chain_rfl)

/-- What call 1 leaves, regrouped as the state at the end and nothing owed. -/
theorem atEnd (c : Dev nD) :
    iprop(StableHlo.held (c : Thread nD τ) (Pipeline.ucRefs τ sig) (W3 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

theorem no_unscoped : ∀ sm : SemLoc sig, sm.isScoped .tc = true := by decide

set_option backward.isDefEq.respectTransparency.types false in
/-- Every execution of the program terminates with every buffer that is not a kernel's own at its contents `W3`, and every counter at zero. -/
theorem run : θ_run defs (onTc (τ := τ) (main (F := F))) ⟨m, fun _ => 0, ρ⟩ (fun r =>
      (∀ (c : Dev nD), ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ Variants.none L lv m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => atEnd m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- The arguments are kept. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c =>
    ⟨(h.1 c _ (mem_uc main_arg0 (by decide))).trans (W3_args m ρ c main_arg0 (by decide)),
     (h.1 c _ (mem_uc main_arg1 (by decide))).trans (W3_args m ρ c main_arg1 (by decide)),
     (h.1 c _ (mem_uc main_arg2 (by decide))).trans (W3_args m ρ c main_arg2 (by decide)),
     (h.1 c _ (mem_uc main_arg3 (by decide))).trans (W3_args m ρ c main_arg3 (by decide)),
     (h.1 c _ (mem_uc main_arg4 (by decide))).trans (W3_args m ρ c main_arg4 (by decide)),
     (h.1 c _ (mem_uc main_arg5 (by decide))).trans (W3_args m ρ c main_arg5 (by decide)),
     (h.1 c _ (mem_uc main_arg6 (by decide))).trans (W3_args m ρ c main_arg6 (by decide)),
     (h.1 c _ (mem_uc main_arg7 (by decide))).trans (W3_args m ρ c main_arg7 (by decide)),
     (h.1 c _ (mem_uc main_arg8 (by decide))).trans (W3_args m ρ c main_arg8 (by decide))⟩, h.2⟩) (run m ρ)

end Cert.KernelIdeal.Lru

end
-- ==== Proof.Spec.lean ====
module

public import Idealize.ShloMosaic.PureOps.Ideal
public import Idealize.ShloMosaic.Lib.Pointwise

@[expose] public section

noncomputable section

/-! # The gated linear recurrence, entry by entry, on the extended reals

The block's arguments as plain functions of a time `t` and a channel `c`, and the values the block computes from
them. The eight heads have 64 channels each.
-/

namespace Cert.Lru

open Idealize.ShloMosaic

/-- The head of a channel. -/
abbrev hd (c : Fin 512) : Fin 8 := ⟨c.val / 64, by omega⟩
/-- A channel's place within its head. -/
abbrev hi (c : Fin 512) : Fin 64 := ⟨c.val % 64, by omega⟩
/-- The channel at place `i` of head `k`. -/
abbrev ch (k : Fin 8) (i : Fin 64) : Fin 512 := ⟨64 * k.val + i.val, by omega⟩

/-- The block's arguments. -/
structure In where
  /-- the recurrence's input -/
  x : Fin 4096 → Fin 512 → EReal
  /-- the output gate's input -/
  g : Fin 4096 → Fin 512 → EReal
  /-- the gradient at the output -/
  dy : Fin 4096 → Fin 512 → EReal
  /-- the convolution's weights -/
  cw : Fin 4 → Fin 512 → EReal
  /-- the convolution's bias -/
  cb : Fin 512 → EReal
  /-- the recurrence gate's weights -/
  wa : Fin 8 → Fin 64 → Fin 64 → EReal
  /-- the recurrence gate's bias -/
  ba : Fin 8 → Fin 64 → EReal
  /-- the input gate's weights -/
  wx : Fin 8 → Fin 64 → Fin 64 → EReal
  /-- the input gate's bias -/
  bx : Fin 8 → Fin 64 → EReal
  /-- the recurrence's parameter -/
  lam : Fin 512 → EReal

/-- The time `d` steps before `t`, wrapping at the start. -/
abbrev bk (t : Fin 4096) (d : ℕ) : Fin 4096 := ⟨(t.val + 4096 - d) % 4096, Nat.mod_lt _ (by norm_num)⟩

/-- The logistic function. -/
def sg (z : EReal) : EReal := Ideal.div 1 (1 + Ideal.exp (-z))
/-- The logarithm of the logistic function. -/
def lsg (l : EReal) : EReal := -(Ideal.log (1 + Ideal.exp (-l)))
/-- The gate's slope constant, as its pattern reads. -/
def gk : EReal := Ideal.ofBits .f32 0x3F4C422A#32
/-- The gate's cubic constant. -/
def gc : EReal := ((8943 / 200000 : ℝ) : EReal)
/-- The hyperbolic tangent inside the gate. -/
def gt (v : EReal) : EReal := Ideal.tanh (gk * (v + gc * (v * v * v)))
/-- The output gate. -/
def gel (v : EReal) : EReal := v * (((1 / 2 : ℝ) : EReal) * (1 + gt v))

namespace In

variable (p : In)

/-- The input `d` steps back, zero before the start. -/
def tap (t : Fin 4096) (c : Fin 512) (d : ℕ) : EReal := if t.val < d then 0 else p.x (bk t d) c
/-- The causal convolution. -/
def xc (t : Fin 4096) (c : Fin 512) : EReal :=
  p.cb c + p.tap t c 3 * p.cw 0 c + p.tap t c 2 * p.cw 1 c + p.tap t c 1 * p.cw 2 c + p.x t c * p.cw 3 c
/-- A gate's sum. -/
def z (w : Fin 8 → Fin 64 → Fin 64 → EReal) (b : Fin 8 → Fin 64 → EReal) (t : Fin 4096) (c : Fin 512) : EReal :=
  (∑ i : Fin 64, w (hd c) i (hi c) * p.xc t (ch (hd c) i)) + b (hd c) (hi c)
/-- The recurrence gate. -/
def r (t : Fin 4096) (c : Fin 512) : EReal := sg (p.z p.wa p.ba t c)
/-- The input gate. -/
def i (t : Fin 4096) (c : Fin 512) : EReal := sg (p.z p.wx p.bx t c)
/-- The logarithm of the multiplier. -/
def la (t : Fin 4096) (c : Fin 512) : EReal := ((8 : ℝ) : EReal) * p.r t c * lsg (p.lam c)
/-- The multiplier. -/
def a (t : Fin 4096) (c : Fin 512) : EReal := Ideal.exp (p.la t c)
/-- The recurrence's input. -/
def b (t : Fin 4096) (c : Fin 512) : EReal :=
  Ideal.sqrt (-(Ideal.exp (((2 : ℝ) : EReal) * p.la t c) - 1)) * (p.i t c * p.xc t c)
/-- The time `t`, wrapping at the end. -/
abbrev at' (t : ℕ) : Fin 4096 := ⟨t % 4096, Nat.mod_lt _ (by norm_num)⟩
/-- The state after `t` steps. -/
def h (c : Fin 512) : ℕ → EReal
  | 0 => 0
  | t + 1 => p.a (at' t) c * h c t + p.b (at' t) c
/-- The gated output. -/
def y (t : Fin 4096) (c : Fin 512) : EReal := p.h c (t.val + 1) * gel (p.g t c)

end In

/-- The output gate's gradient, of real arguments: the state `h`, the gradient `d` at the output, the gate's input `v`. -/
def dgR (k h d v : ℝ) : ℝ :=
  let T := Real.tanh (k * (v + 8943 / 200000 * (v * v * v)))
  h * d * (1 / 2 * (1 + T)) + h * d * (1 / 2 * v * ((1 - T * T) * (k * (1 + 26829 / 200000 * (v * v)))))

/-! ## Facts about the scalar functions -/

theorem exp_bot : Ideal.exp ⊥ = 0 := rfl
theorem exp_top : Ideal.exp ⊤ = ⊤ := rfl
theorem log_top : Ideal.log ⊤ = ⊤ := rfl
theorem tanh_bot : Ideal.tanh ⊥ = -1 := rfl
theorem tanh_top : Ideal.tanh ⊤ = 1 := rfl
theorem one_add_top : (1 : EReal) + ⊤ = ⊤ := EReal.coe_add_top 1
theorem log_one : Ideal.log 1 = 0 := by
  rw [← EReal.coe_one, Ideal.log_coe, if_neg (by norm_num), Real.log_one, EReal.coe_zero]
theorem sqrt_one : Ideal.sqrt 1 = 1 := by
  rw [← EReal.coe_one, Ideal.sqrt_coe, if_neg (by norm_num), Real.sqrt_one]
theorem one_add_exp (x : ℝ) : (1 : EReal) + Ideal.exp (x : EReal) = ((1 + Real.exp x : ℝ) : EReal) := by
  rw [Ideal.exp_coe]; norm_cast
theorem log_one_add_exp (x : ℝ) : Ideal.log (1 + Ideal.exp (x : EReal)) = ((Real.log (1 + Real.exp x) : ℝ) : EReal) := by
  rw [one_add_exp, Ideal.log_coe, if_neg]
  have := Real.exp_pos x; linarith

/-- The logarithm of the logistic function, in the form that never takes a large exponential. -/
theorem lsg_eq (l : EReal) : min l 0 - Ideal.log (1 + Ideal.exp (0 - max l (-l))) = lsg l := by
  unfold lsg
  induction l using EReal.rec with
  | bot => simp [exp_bot, exp_top, log_top, one_add_top]
  | top => simp [exp_bot, exp_top, log_one, one_add_top]
  | coe l =>
    rw [← EReal.coe_neg, log_one_add_exp]
    rcases le_total l 0 with hl | hl
    · have h1 : (l : EReal) ≤ 0 := by exact_mod_cast hl
      have h2 : (l : EReal) ≤ ((-l : ℝ) : EReal) := by exact_mod_cast (by linarith : l ≤ -l)
      rw [min_eq_left h1, max_eq_right h2, EReal.coe_neg, zero_sub, neg_neg, log_one_add_exp]
      norm_cast
      have e : 1 + Real.exp (-l) = Real.exp (-l) * (1 + Real.exp l) := by
        rw [mul_add, ← Real.exp_add]; simp [add_comm]
      have hp := Real.exp_pos l
      rw [e, Real.log_mul (Real.exp_pos _).ne' (by linarith), Real.log_exp]
      ring
    · have h1 : (0 : EReal) ≤ (l : EReal) := by exact_mod_cast hl
      have h2 : ((-l : ℝ) : EReal) ≤ (l : EReal) := by exact_mod_cast (by linarith : -l ≤ l)
      rw [min_eq_right h1, max_eq_left h2, zero_sub, zero_sub, ← EReal.coe_neg, log_one_add_exp]

/-- The logistic function is a number between zero and one. -/
theorem sg_real (z : EReal) : ∃ s : ℝ, 0 ≤ s ∧ s ≤ 1 ∧ sg z = (s : EReal) := by
  unfold sg
  induction z using EReal.rec with
  | bot => exact ⟨0, le_rfl, zero_le_one, by simp [exp_top, Ideal.div, one_add_top]⟩
  | top => exact ⟨1, zero_le_one, le_rfl, by simp [exp_bot, Ideal.div]⟩
  | coe z =>
    have hp : (0 : ℝ) < 1 + Real.exp (-z) := by positivity
    refine ⟨1 / (1 + Real.exp (-z)), by positivity, ?_, ?_⟩
    · rw [div_le_one hp]; linarith [Real.exp_pos (-z)]
    · rw [← EReal.coe_neg, one_add_exp, Ideal.div_coe hp.ne', one_mul]

/-- The logarithm of the logistic function is at most zero. -/
theorem lsg_le (l : EReal) : lsg l ≤ 0 := by
  unfold lsg
  induction l using EReal.rec with
  | bot => simp [exp_top, log_top, one_add_top]
  | top => simp [exp_bot, log_one]
  | coe l =>
    rw [← EReal.coe_neg, log_one_add_exp, ← EReal.coe_neg, ← EReal.coe_zero, EReal.coe_le_coe_iff, neg_nonpos]
    exact Real.log_nonneg (by linarith [Real.exp_pos (-l)])

/-- The difference under the square root, from the hyperbolic tangent. -/
theorem sqrt_arg (x : EReal) : (0 - Ideal.tanh x) * (Ideal.exp x * Ideal.exp x + 1) = -(Ideal.exp (((2 : ℝ) : EReal) * x) - 1) := by
  induction x using EReal.rec with
  | bot => rw [EReal.coe_mul_bot_of_pos (by norm_num)]; simp [exp_bot, tanh_bot]
  | top => rw [EReal.coe_mul_top_of_pos (by norm_num)]; simp [exp_top, tanh_top]; rfl
  | coe x =>
    rw [Ideal.tanh_coe, ← EReal.coe_mul, Ideal.exp_coe, Ideal.exp_coe]
    norm_cast
    rw [Real.tanh_eq_sinh_div_cosh, Real.sinh_eq, Real.cosh_eq, two_mul, Real.exp_add, Real.exp_neg]
    have := Real.exp_pos x
    field_simp
    ring

/-- The exponential of something at most zero is a number between zero and one. -/
theorem exp_real {x : EReal} (hx : x ≤ 0) : ∃ s : ℝ, 0 ≤ s ∧ s ≤ 1 ∧ Ideal.exp x = (s : EReal) := by
  induction x using EReal.rec with
  | bot => exact ⟨0, le_rfl, zero_le_one, rfl⟩
  | top => exact absurd hx (by simp)
  | coe x => exact ⟨Real.exp x, (Real.exp_pos x).le, Real.exp_le_one_iff.mpr (by exact_mod_cast hx), rfl⟩

/-- The square root that scales the recurrence's input is a number. -/
theorem mult_real {x : EReal} (hx : x ≤ 0) :
    ∃ s : ℝ, Ideal.sqrt (-(Ideal.exp (((2 : ℝ) : EReal) * x) - 1)) = (s : EReal) := by
  induction x using EReal.rec with
  | bot => exact ⟨1, by rw [EReal.coe_mul_bot_of_pos (by norm_num)]; simp [exp_bot, sqrt_one]⟩
  | top => exact absurd hx (by simp)
  | coe x =>
    have hx' : x ≤ 0 := by exact_mod_cast hx
    refine ⟨Real.sqrt (-(Real.exp (2 * x) - 1)), ?_⟩
    rw [← EReal.coe_mul, Ideal.exp_coe, ← EReal.coe_one, ← EReal.coe_sub, ← EReal.coe_neg, Ideal.sqrt_coe, if_neg]
    have := Real.exp_le_one_iff.mpr (by linarith : 2 * x ≤ 0)
    linarith

/-- A number at least zero distributes over every sum. -/
theorem coe_mul_add {s : ℝ} (hs : 0 ≤ s) (x y : EReal) : (s : EReal) * (x + y) = s * x + s * y :=
  EReal.left_distrib_of_nonneg_of_ne_top (by exact_mod_cast hs) (EReal.coe_ne_top s) x y

namespace In

variable (p : In)

theorem la_le (t : Fin 4096) (c : Fin 512) : p.la t c ≤ 0 := by
  unfold la r
  obtain ⟨s, hs, -, e⟩ := sg_real (p.z p.wa p.ba t c)
  rw [e, ← EReal.coe_mul]
  have h := lsg_le (p.lam c)
  have h8 : (0 : EReal) ≤ ((8 * s : ℝ) : EReal) := by exact_mod_cast (by positivity : (0 : ℝ) ≤ 8 * s)
  exact mul_nonpos_of_nonneg_of_nonpos h8 h

theorem a_real (t : Fin 4096) (c : Fin 512) : ∃ s : ℝ, 0 ≤ s ∧ p.a t c = (s : EReal) :=
  let ⟨s, h, _, e⟩ := exp_real (p.la_le t c); ⟨s, h, e⟩

/-- With a finite input and a finite convolution the convolution's output is a number, -/
theorem xc_real (hx : ∀ t c, ∃ s : ℝ, p.x t c = s) (hw : ∀ k c, ∃ s : ℝ, p.cw k c = s) (hb : ∀ c, ∃ s : ℝ, p.cb c = s)
    (t : Fin 4096) (c : Fin 512) : ∃ s : ℝ, p.xc t c = s := by
  have ht : ∀ d, ∃ s : ℝ, p.tap t c d = s := fun d => by
    unfold tap; split
    · exact ⟨0, rfl⟩
    · exact hx _ _
  obtain ⟨b, eb⟩ := hb c
  obtain ⟨t3, e3⟩ := ht 3; obtain ⟨t2, e2⟩ := ht 2; obtain ⟨t1, e1⟩ := ht 1; obtain ⟨t0, e0⟩ := hx t c
  obtain ⟨w0, f0⟩ := hw 0 c; obtain ⟨w1, f1⟩ := hw 1 c; obtain ⟨w2, f2⟩ := hw 2 c; obtain ⟨w3, f3⟩ := hw 3 c
  refine ⟨b + t3 * w0 + t2 * w1 + t1 * w2 + t0 * w3, ?_⟩
  unfold xc
  rw [eb, e3, e2, e1, e0, f0, f1, f2, f3]
  push_cast
  rfl

/-- and so is every state. -/
theorem h_real (hx : ∀ t c, ∃ s : ℝ, p.x t c = s) (hw : ∀ k c, ∃ s : ℝ, p.cw k c = s) (hb : ∀ c, ∃ s : ℝ, p.cb c = s)
    (c : Fin 512) (t : ℕ) : ∃ s : ℝ, p.h c t = s := by
  induction t with
  | zero => exact ⟨0, rfl⟩
  | succ t ih =>
    obtain ⟨s, e⟩ := ih
    obtain ⟨a, -, ea⟩ := p.a_real (at' t) c
    obtain ⟨m, em⟩ := mult_real (p.la_le (at' t) c)
    obtain ⟨q, -, -, eq⟩ := sg_real (p.z p.wx p.bx (at' t) c)
    obtain ⟨x, ex⟩ := p.xc_real hx hw hb (at' t) c
    refine ⟨a * s + m * (q * x), ?_⟩
    rw [h, e, ea, b, em, i, eq, ex]
    push_cast
    rfl

end In

end Cert.Lru

end
-- ==== Proof.ScanEq.lean ====
module

public import proofs.«01_k».proof.Proof.Spec
public import proofs.«01_k».proof.Proof.Vals
public import Idealize.ShloMosaic.Lib.WordCmp

@[expose] public section

set_option maxRecDepth 16384

noncomputable section

namespace Cert.KernelIdeal.Lru

open Cert.KernelIdeal.Gen
open Idealize.ShloMosaic Idealize.ShloMosaic.TcCoe Idealize.ShloMosaic.WordCmp Cert.Lru

/-- One column of the recurrence, unrolled. -/
def col (a b : ℕ → EReal) (h : EReal) : ℕ → EReal
  | 0 => h
  | t + 1 => a t * col a b h t + b t

/-- A choice by whether one small number is at least another. -/
theorem sel_sge {α : Type} (r d : ℕ) (hr : r < 2147483648) (hd : d < 2147483648) (x y : α) :
    Scalar.select (IntOp.cmpi .sge (BitVec.ofNat 32 r) (BitVec.ofNat 32 d)) x y = if d ≤ r then x else y := by
  unfold Scalar.select
  exact if_congr (cmpi_sge_ofNat_eq_one_iff (w := 32) hr hd) rfl rfl

set_option maxHeartbeats 4000000 in
/-- Eight rows at once are eight steps one by one. -/
theorem blkF_eq (A B : Vec Ideal S8x128 .f32) (h : FVec Ideal S1x128 .f32) (j : Fin 128)
    (hA : ∀ r : Fin 8, ∃ s : ℝ, 0 ≤ s ∧ A (ix2 r j) = (s : EReal)) (r : Fin 8) :
    blkF (F := Ideal) iota8 A B h (ix2 r j)
      = col (fun k => A (ix2 ⟨k % 8, Nat.mod_lt _ (by norm_num)⟩ j)) (fun k => B (ix2 ⟨k % 8, Nat.mod_lt _ (by norm_num)⟩ j)) (h (ix2 0 j)) (r.val + 1) := by
  obtain ⟨s0, p0, e0⟩ := hA 0
  obtain ⟨s1, p1, e1⟩ := hA 1
  obtain ⟨s2, p2, e2⟩ := hA 2
  obtain ⟨s3, p3, e3⟩ := hA 3
  obtain ⟨s4, p4, e4⟩ := hA 4
  obtain ⟨s5, p5, e5⟩ := hA 5
  obtain ⟨s6, p6, e6⟩ := hA 6
  obtain ⟨s7, p7, e7⟩ := hA 7
  pointwise [blkF, k0_pay10, k0_pay5, k0_pay6, k0_pay8, k0_pay9, k0_pay2, k0_pay3, k0_pay4, k0_pay7, iota8]
  have hr := r.isLt
  have hm : ∀ n : ℕ, n % 8 < 2147483648 := fun n => by omega
  simp only [sel_sge _ _ (hm _), sel_sge r.val _ (by omega), Nat.reduceLT]
  obtain ⟨q, hq⟩ : ∃ q : EReal, h (ix2 0 j) = q := ⟨_, rfl⟩
  obtain ⟨b0, f0⟩ : ∃ b : EReal, B (ix2 0 j) = b := ⟨_, rfl⟩
  obtain ⟨b1, f1⟩ : ∃ b : EReal, B (ix2 1 j) = b := ⟨_, rfl⟩
  obtain ⟨b2, f2⟩ : ∃ b : EReal, B (ix2 2 j) = b := ⟨_, rfl⟩
  obtain ⟨b3, f3⟩ : ∃ b : EReal, B (ix2 3 j) = b := ⟨_, rfl⟩
  obtain ⟨b4, f4⟩ : ∃ b : EReal, B (ix2 4 j) = b := ⟨_, rfl⟩
  obtain ⟨b5, f5⟩ : ∃ b : EReal, B (ix2 5 j) = b := ⟨_, rfl⟩
  obtain ⟨b6, f6⟩ : ∃ b : EReal, B (ix2 6 j) = b := ⟨_, rfl⟩
  obtain ⟨b7, f7⟩ : ∃ b : EReal, B (ix2 7 j) = b := ⟨_, rfl⟩
  simp only [hq]
  fin_cases r
  all_goals
    simp only [Fin.zero_eta, Fin.mk_one, Fin.reduceFinMk, Fin.isValue, Nat.reduceAdd, Nat.reduceSub, Nat.reduceMod, Nat.reduceLeDiff, ite_true, ite_false,
      Fin.val_zero, Fin.val_one, Fin.val_two, Fin.coe_ofNat_eq_mod, col, e0, e1, e2, e3, e4, e5, e6, e7, f0, f1, f2, f3, f4, f5, f6, f7, zero_add, le_refl]
    try simp only [coe_mul_add p0, coe_mul_add p1, coe_mul_add p2, coe_mul_add p3, coe_mul_add p4, coe_mul_add p5, coe_mul_add p6, coe_mul_add p7, mul_one, one_mul, mul_zero, zero_mul, add_zero, zero_add, mul_assoc]
    abel

/-- A column depends only on the steps it has taken. -/
theorem col_congr {a b a' b' : ℕ → EReal} (h : EReal) (n : ℕ) (ha : ∀ k < n, a k = a' k) (hb : ∀ k < n, b k = b' k) :
    col a b h n = col a' b' h n := by
  induction n with
  | zero => rfl
  | succ n ih =>
    simp only [col]
    rw [ih (fun k hk => ha k (by omega)) fun k hk => hb k (by omega), ha n (by omega), hb n (by omega)]

/-- A column started where another stands goes on as the other. -/
theorem col_shift (a b : ℕ → EReal) (h : EReal) (m k : ℕ) :
    col (fun k => a (m + k)) (fun k => b (m + k)) (col a b h m) k = col a b h (m + k) := by
  induction k with
  | zero => rfl
  | succ k ih => rw [← Nat.add_assoc]; simp only [col, ih]

section Whole

variable (a b : Vec Ideal S4096x128 .f32) (h : FVec Ideal S1x128 .f32) (j : Fin 128)

/-- Column `j` of a tile, by the row's number. -/
abbrev at4 (a : Vec Ideal S4096x128 .f32) (k : ℕ) : EReal := a (ix2 ⟨k % 4096, Nat.mod_lt _ (by norm_num)⟩ j)

/-- A block's rows go on from the state before it. -/
theorem blk_col (ha : ∀ t : Fin 4096, ∃ s : ℝ, 0 ≤ s ∧ a (ix2 t j) = (s : EReal)) (q : FVec Ideal S1x128 .f32) (n : ℕ)
    (hq : q (ix2 0 j) = col (at4 j a) (at4 j b) (h (ix2 0 j)) (8 * n)) (r : Fin 8) :
    blkF (F := Ideal) iota8 (win a n) (win b n) q (ix2 r j) = col (at4 j a) (at4 j b) (h (ix2 0 j)) (8 * n + r.val + 1) := by
  refine (blkF_eq (win a n) (win b n) q j (fun r => ha _) r).trans ?_
  rw [hq, Nat.add_assoc, ← col_shift (at4 j a) (at4 j b) (h (ix2 0 j)) (8 * n)]
  have hr := r.isLt
  refine col_congr _ _ (fun k hk => ?_) fun k hk => ?_
  · have e : k % 8 = k := Nat.mod_eq_of_lt (by omega)
    change a (ix2 ⟨(8 * n + k % 8) % 4096, _⟩ j) = _
    simp only [e]
  · have e : k % 8 = k := Nat.mod_eq_of_lt (by omega)
    change b (ix2 ⟨(8 * n + k % 8) % 4096, _⟩ j) = _
    simp only [e]

/-- The last row of a block. -/
theorem lastRow_eq (X : FVec Ideal S8x128 .f32) : lastRow X (ix2 0 j) = X (ix2 7 j) := by
  pointwise [lastRow]

/-- The state before a block. -/
theorem carF_eq (ha : ∀ t : Fin 4096, ∃ s : ℝ, 0 ≤ s ∧ a (ix2 t j) = (s : EReal)) (n : ℕ) :
    carF iota8 a b h n (ix2 0 j) = col (at4 j a) (at4 j b) (h (ix2 0 j)) (8 * n) := by
  induction n with
  | zero => rfl
  | succ n ih =>
    refine (lastRow_eq j _).trans ?_
    exact blk_col a b h j ha _ n ih 7

/-- The scan, eight rows at a time, is the recurrence. -/
theorem scanF_eq (ha : ∀ t : Fin 4096, ∃ s : ℝ, 0 ≤ s ∧ a (ix2 t j) = (s : EReal)) (t : Fin 4096) :
    scanF iota8 a b h (ix2 t j) = col (at4 j a) (at4 j b) (h (ix2 0 j)) (t.val + 1) := by
  refine (blk_col a b h j ha _ (t.val / 8) (carF_eq a b h j ha (t.val / 8)) ⟨t.val % 8, Nat.mod_lt _ (by norm_num)⟩).trans ?_
  exact congrArg (fun n => col (at4 j a) (at4 j b) (h (ix2 0 j)) (n + 1)) (Nat.div_add_mod t.val 8)

end Whole

end Cert.KernelIdeal.Lru

end
-- ==== Proof.Consts.lean ====
module

public import proofs.«01_k».proof.Proof.Spec

@[expose] public section

set_option maxRecDepth 16384

noncomputable section

/-! # The constants of both programs, as numbers -/

namespace Cert.Lru

open Idealize.ShloMosaic

theorem c8 : Ideal.ofBits FTy.f32 1090519040#32 = ((8 : ℝ) : EReal) := by
  simp [Ideal.ofBits, Ideal.ieee, -EReal.coe_mul]; norm_num
theorem c2 : Ideal.ofBits FTy.f32 1073741824#32 = ((2 : ℝ) : EReal) := by
  simp [Ideal.ofBits, Ideal.ieee, -EReal.coe_mul]; norm_num
theorem c3 : Ideal.ofBits FTy.f32 1077936128#32 = ((3 : ℝ) : EReal) := by
  simp [Ideal.ofBits, Ideal.ieee, -EReal.coe_mul]; norm_num
theorem chalf : Ideal.ofBits FTy.f32 1056964608#32 = ((1 / 2 : ℝ) : EReal) := by
  simp [Ideal.ofBits, Ideal.ieee, -EReal.coe_mul]; norm_num
theorem cnum : Ideal.ofBits FTy.f32 1194240768#32 = ((44715 : ℝ) : EReal) := by
  simp [Ideal.ofBits, Ideal.ieee, -EReal.coe_mul]; norm_num
theorem cden : Ideal.ofBits FTy.f32 1232348160#32 = ((1000000 : ℝ) : EReal) := by
  simp [Ideal.ofBits, Ideal.ieee, -EReal.coe_mul]; norm_num
/-- The gate's cubic constant is the quotient the reference divides out. -/
theorem cquot : Ideal.div (Ideal.ofBits FTy.f32 1194240768#32) (Ideal.ofBits FTy.f32 1232348160#32) = gc := by
  rw [cnum, cden, Ideal.div_coe (by norm_num), gc]
  rw [← EReal.coe_mul]
  norm_num
/-- The gate's slope constant, a number. -/
theorem gk_real : gk = ((13386282 / 16777216 : ℝ) : EReal) := by
  unfold gk
  simp [Ideal.ofBits, Ideal.ieee, -EReal.coe_mul]; norm_num

end Cert.Lru

end
-- ==== Proof.Tile.lean ====
module

public import proofs.«01_k».proof.Proof.ScanEq
public import proofs.«01_k».proof.Proof.Consts

@[expose] public section

set_option maxRecDepth 16384

noncomputable section

/-! # One tile of 128 channels computes the recurrence's values -/

namespace Cert.KernelIdeal.Lru

open Cert.KernelIdeal.Gen
open Idealize.ShloMosaic Idealize.ShloMosaic.TcCoe Cert.Lru

/-- Channel `j` of tile `n`. -/
abbrev cl (n : Fin 4) (j : Fin 128) : Fin 512 := ⟨128 * n.val + j.val, by omega⟩

/-- A tile's blocks hold the arguments of the tile's channels. -/
structure Holds (p : In) (n : Fin 4) (x0 x1 : Vec Ideal S1x4096x128 .f32) (x2 : Vec Ideal S8x128 .f32)
    (x3 x4 : Vec Ideal S1x128x128 .bf16) : Prop where
  x : ∀ t j, x0 (ix3 0 t j) = p.x t (cl n j)
  g : ∀ t j, x1 (ix3 0 t j) = p.g t (cl n j)
  w0 : ∀ j, x2 (ix2 0 j) = p.cw 0 (cl n j)
  w1 : ∀ j, x2 (ix2 1 j) = p.cw 1 (cl n j)
  w2 : ∀ j, x2 (ix2 2 j) = p.cw 2 (cl n j)
  w3 : ∀ j, x2 (ix2 3 j) = p.cw 3 (cl n j)
  cb : ∀ j, x2 (ix2 4 j) = p.cb (cl n j)
  ba : ∀ j, x2 (ix2 5 j) = p.ba (hd (cl n j)) (hi (cl n j))
  bx : ∀ j, x2 (ix2 6 j) = p.bx (hd (cl n j)) (hi (cl n j))
  lam : ∀ j, x2 (ix2 7 j) = p.lam (cl n j)
  wa : ∀ i j, x3 (ix3 0 i j) = if i.val / 64 = j.val / 64 then p.wa (hd (cl n i)) (hi (cl n i)) (hi (cl n j)) else 0
  wx : ∀ i j, x4 (ix3 0 i j) = if i.val / 64 = j.val / 64 then p.wx (hd (cl n i)) (hi (cl n i)) (hi (cl n j)) else 0

variable {p : In} {n : Fin 4} {x0 x1 : Vec Ideal S1x4096x128 .f32} {x2 : Vec Ideal S8x128 .f32}
  {x3 x4 : Vec Ideal S1x128x128 .bf16}

/-- A row of the parameters, read. -/
theorem row_eq (r : Fin 8) (a : Fin 1) (j : Fin 128) : row x2 r (ix2 a j) = x2 (ix2 r j) := rfl

/-- The convolution. -/
theorem fXc_eq (H : Holds p n x0 x1 x2 x3 x4) (t : Fin 4096) (j : Fin 128) :
    fXc (F := Ideal) x0 x2 (ix2 t j) = p.xc t (cl n j) := by
  have ht := t.isLt
  have w0 := H.w0 j
  have w1 := H.w1 j
  have w2 := H.w2 j
  have w3 := H.w3 j
  have cb := H.cb j
  pointwise [fXc, row, k0_pay59, k0_pay54, k0_pay55, k0_pay56, k0_pay57, k0_pay58, k0_pay53]
  simp only [sel_sge t.val _ (by omega), Nat.reduceLT]
  rw [show x2 (ValueIdx.ix2 0 j) = p.cw 0 (cl n j) from w0, show x2 (ValueIdx.ix2 1 j) = p.cw 1 (cl n j) from w1,
    show x2 (ValueIdx.ix2 2 j) = p.cw 2 (cl n j) from w2, show x2 (ValueIdx.ix2 3 j) = p.cw 3 (cl n j) from w3,
    show x2 (ValueIdx.ix2 4 j) = p.cb (cl n j) from cb]
  simp only [H.x]
  have key : ∀ d (w : EReal), (if d ≤ t.val then w * p.x (bk t d) (cl n j) else 0) = p.tap t (cl n j) d * w := fun d w => by
    unfold In.tap
    by_cases h : t.val < d
    · rw [if_pos h, if_neg (by omega), zero_mul]
    · rw [if_neg h, if_pos (by omega), mul_comm]
  rw [key 1, key 2, key 3, In.xc, mul_comm (p.cw 3 _)]
  abel

/-- A sum over the tile's 128 channels against a weight that is zero off the channel's head. -/
theorem sum_head (w : Fin 8 → Fin 64 → Fin 64 → EReal) (f : Fin 512 → EReal) (u v : Fin 128 → EReal) (j : Fin 128)
    (hu : ∀ i, u i = f (cl n i))
    (hv : ∀ i, v i = if i.val / 64 = j.val / 64 then w (hd (cl n i)) (hi (cl n i)) (hi (cl n j)) else 0) :
    ∑ i, u i * v i = ∑ i : Fin 64, w (hd (cl n j)) i (hi (cl n j)) * f (ch (hd (cl n j)) i) := by
  have hn := n.isLt
  have hj := j.isLt
  let e : Fin 64 → Fin 128 := fun i => ⟨64 * (j.val / 64) + i.val, by omega⟩
  have he : Function.Injective e := fun a b h => by
    have := congrArg Fin.val h
    simp only [e] at this
    exact Fin.ext (by omega)
  symm
  rw [← Finset.sum_subset (Finset.subset_univ (Finset.univ.map ⟨e, he⟩)), Finset.sum_map]
  · refine Finset.sum_congr rfl fun i _ => ?_
    have h1 : hd (cl n (e i)) = hd (cl n j) := Fin.ext (by simp only [e]; omega)
    have h2 : hi (cl n (e i)) = i := Fin.ext (by simp only [e]; omega)
    have h3 : cl n (e i) = ch (hd (cl n j)) i := Fin.ext (by simp only [e]; omega)
    show _ = u (e i) * v (e i)
    rw [hu, hv, if_pos (by simp only [e]; omega), h1, h2, h3, mul_comm]
  · intro i _ hi'
    rw [hv, if_neg, mul_zero]
    intro h
    refine hi' (Finset.mem_map.mpr ⟨⟨i.val % 64, by omega⟩, Finset.mem_univ _, Fin.ext ?_⟩)
    show 64 * (j.val / 64) + i.val % 64 = i.val
    omega

/-- The recurrence gate. -/
theorem fR_eq (H : Holds p n x0 x1 x2 x3 x4) (t : Fin 4096) (j : Fin 128) :
    fR (F := Ideal) x0 x2 x3 (ix2 t j) = p.r t (cl n j) := by
  have ba := H.ba j
  unfold fR
  pointwise [row, k0_pay61, k0_pay60]
  rw [show x2 (ValueIdx.ix2 5 j) = p.ba (hd (cl n j)) (hi (cl n j)) from ba, zero_sub, In.r, sg, In.z]
  exact congrArg (fun s => Ideal.div 1 (1 + Ideal.exp (-(s + p.ba (hd (cl n j)) (hi (cl n j))))))
    (sum_head (n := n) p.wa (p.xc t) _ _ j (fun i => fXc_eq H t i) (fun i => H.wa i j))

/-- The input gate. -/
theorem fI_eq (H : Holds p n x0 x1 x2 x3 x4) (t : Fin 4096) (j : Fin 128) :
    fI (F := Ideal) x0 x2 x4 (ix2 t j) = p.i t (cl n j) := by
  have bx := H.bx j
  unfold fI
  pointwise [row, k0_pay62, k0_pay60]
  rw [show x2 (ValueIdx.ix2 6 j) = p.bx (hd (cl n j)) (hi (cl n j)) from bx, zero_sub, In.i, sg, In.z]
  exact congrArg (fun s => Ideal.div 1 (1 + Ideal.exp (-(s + p.bx (hd (cl n j)) (hi (cl n j))))))
    (sum_head (n := n) p.wx (p.xc t) _ _ j (fun i => fXc_eq H t i) (fun i => H.wx i j))

/-- The exponent, whatever the order of its factors. -/
theorem la_eq (H : Holds p n x0 x1 x2 x3 x4) (t : Fin 4096) (j : Fin 128) :
    Ideal.ofBits FTy.f32 1090519040#32 *
          (min (x2 (ValueIdx.ix2 7 j)) 0 - Ideal.log (1 + Ideal.exp (0 - @FloatOps.absf Ideal _ .f32 (x2 (ValueIdx.ix2 7 j))))) *
        fR x0 x2 x3 (ix2 t j) = p.la t (cl n j) := by
  rw [fR_eq H, show x2 (ValueIdx.ix2 7 j) = p.lam (cl n j) from H.lam j, c8, Ideal.absf_def, lsg_eq, In.la, mul_right_comm]

/-- The multiplier. -/
theorem fA_eq (H : Holds p n x0 x1 x2 x3 x4) (t : Fin 4096) (j : Fin 128) :
    fA (F := Ideal) x0 x2 x3 (ix2 t j) = p.a t (cl n j) := by
  have h := la_eq H t j
  unfold fA
  pointwise [row, k0_pay66, k0_pay65, k0_pay64, k0_pay63, zeroF]
  rw [h, In.a]

/-- The recurrence's input. -/
theorem fB_eq (H : Holds p n x0 x1 x2 x3 x4) (t : Fin 4096) (j : Fin 128) :
    fB (F := Ideal) x0 x2 x3 x4 (ix2 t j) = p.b t (cl n j) := by
  have h := la_eq H t j
  unfold fB
  pointwise [row, k0_pay67, k0_pay65, k0_pay64, k0_pay63, zeroF]
  rw [h, sqrt_arg, fI_eq H, fXc_eq H, In.b]

/-- A column's recurrence is the state. -/
theorem col_eq (H : Holds p n x0 x1 x2 x3 x4) (j : Fin 128) (t : ℕ) (ht : t ≤ 4096) :
    col (at4 j (fA (F := Ideal) x0 x2 x3)) (at4 j (fB (F := Ideal) x0 x2 x3 x4)) 0 t = p.h (cl n j) t := by
  induction t with
  | zero => rfl
  | succ t ih =>
    rw [In.h, ← ih (by omega)]
    show _ = p.a (In.at' t) _ * _ + p.b (In.at' t) _
    rw [← fA_eq H, ← fB_eq H]
    rfl

/-- The states. -/
theorem fH_eq (H : Holds p n x0 x1 x2 x3 x4) (t : Fin 4096) (j : Fin 128) :
    fH (F := Ideal) x0 x2 x3 x4 (ix2 t j) = p.h (cl n j) (t.val + 1) := by
  unfold fH
  rw [scanF_eq (ha := fun t => by rw [fA_eq H]; exact p.a_real t _)]
  have h0 : (k0_pay68 (F := Ideal)) (ix2 0 j) = 0 := by pointwise [k0_pay68]
  rw [h0]
  exact col_eq H j _ t.isLt

/-- The first named constant, as a number. -/
theorem named_c : (Named.named κ "gelu_c" 0x3D372713#32 : Ideal .f32) = gc := rfl
/-- The second named constant, as a number. -/
theorem named_3c : (Named.named κ "gelu_3c" 0x3E095D4F#32 : Ideal .f32) = ((26829 / 200000 : ℝ) : EReal) := rfl

/-- The gated output. -/
theorem fY_eq (H : Holds p n x0 x1 x2 x3 x4) (t : Fin 4096) (j : Fin 128) :
    fY (F := Ideal) x0 x1 x2 x3 x4 (ix2 t j) = p.y t (cl n j) := by
  have hc := named_c
  unfold fY
  pointwise [k0_pay1, k0_pay71, k0_pay72]
  rw [fH_eq H, H.g, chalf, hc, In.y, gel, gt]
  show _ * (_ * p.g t (cl n j) * (1 + Ideal.tanh (gk * _))) = _
  rw [mul_comm (((1 / 2 : ℝ) : EReal)) (p.g t _), mul_assoc (p.g t (cl n j)) _ (1 + _), mul_assoc gc, mul_assoc gc]

/-- The output gate's gradient, of real arguments. -/
theorem gDg_eq (x0 : Vec Ideal S4096x128 .f32) (x2 : Vec Ideal S1x4096x128 .f32) (x4 : Vec Ideal S4096x128 .f32) (t : Fin 4096) (j : Fin 128)
    (h d v : ℝ) (hh : x4 (ix2 t j) = (h : EReal)) (hd : x0 (ix2 t j) = (d : EReal)) (hv : x2 (ix3 0 t j) = (v : EReal)) :
    gDg (F := Ideal) x0 x2 x4 (ix3 0 t j) = ((dgR (13386282 / 16777216) h d v : ℝ) : EReal) := by
  have h1 := named_c
  have h2 := named_3c
  have hk : k1_pay70 x2 (ix2 t j) = (v : EReal) := by
    pointwise [k1_pay70]
    exact hv
  unfold gDg
  pointwise [k1_pay78, k1_pay71, k1_pay72, k1_pay73, k1_pay74, k1_pay75, k1_pay76, k1_pay77, oneF]
  rw [hk, hh, hd, chalf, h1, h2]
  have hg : Ideal.ofBits FTy.f32 1061962282#32 = ((13386282 / 16777216 : ℝ) : EReal) := gk_real
  have one : (1 : EReal) = ((1 : ℝ) : EReal) := rfl
  rw [hg, gc, one]
  simp only [← EReal.coe_mul, ← EReal.coe_add, ← EReal.coe_sub, Ideal.tanh_coe]
  rw [EReal.coe_eq_coe_iff]
  unfold dgR
  simp only [mul_assoc]
  ring

end Cert.KernelIdeal.Lru

end
-- ==== Proof.Blocks.lean ====
module

public import proofs.«01_k».proof.Proof.KRun
public import proofs.«01_k».proof.Proof.Tile
public import Idealize.ShloMosaic.Lib.Pipeline.ValueKit
public import Idealize.ShloMosaic.Lib.Pointwise
@[expose] public section

set_option maxRecDepth 16384

noncomputable section

/-! # The blocks that the two calls read, at an index -/

namespace Cert.KernelIdeal.Lru

open Cert.KernelIdeal.Gen
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b))

/-- Which block each window of call 0 is at, at each grid point. -/
theorem idx0 : ∀ t : Fin grid0.N,
    win0_0.index t = ![t.val / 2, 0, t.val % 2] ∧ win0_1.index t = ![2 + t.val / 2, 0, t.val % 2]
      ∧ win0_2.index t = ![0, t.val] ∧ win0_3.index t = ![t.val, 0, 0] ∧ win0_4.index t = ![t.val, 0, 0]
      ∧ win0_5.index t = ![0, t.val] ∧ win0_6.index t = ![0, t.val] ∧ win0_7.index t = ![0, t.val] := by
  decide +kernel

/-- Which block each window of call 1 is at, at each grid point. -/
theorem idx1 : ∀ t : Fin grid1.N,
    win1_0.index t = ![0, t.val] ∧ win1_1.index t = ![t.val / 2, 0, t.val % 2]
      ∧ win1_2.index t = ![2 + t.val / 2, 0, t.val % 2] ∧ win1_3.index t = ![0, t.val] ∧ win1_4.index t = ![0, t.val]
      ∧ win1_5.index t = ![0, t.val] ∧ win1_6.index t = ![t.val, 0, 0] ∧ win1_7.index t = ![t.val, 0, 0]
      ∧ win1_8.index t = ![t.val / 2, 0, t.val % 2] ∧ win1_9.index t = ![t.val / 2, 0, t.val % 2]
      ∧ win1_10.index t = ![0, t.val] ∧ win1_11.index t = ![t.val, 0, 0] ∧ win1_12.index t = ![t.val, 0, 0] := by
  decide +kernel

/-- The grid has one point for each tile of channels. -/
abbrev tl0 (t : Fin cfg0.N) : Fin 4 := ⟨t.val, t.isLt⟩
abbrev tl1 (t : Fin cfg1.N) : Fin 4 := ⟨t.val, t.isLt⟩

theorem blk0_0 (c : Dev nD) (t : Fin cfg0.N) (i : Fin 4096) (j : Fin 128) :
    (iblk0 V c 0 t : Vec Ideal S1x4096x128 .f32) (ix3 0 i j)
      = (V c main_arg1 : Vec Ideal S8x4096x256 .f32) (ix3 ⟨(cl (tl0 t) j).val / 256, by omega⟩ i ⟨(cl (tl0 t) j).val % 256, by omega⟩) := by
  blk_ext [iblk0, (idx0 t).1]

theorem blk0_1 (c : Dev nD) (t : Fin cfg0.N) (i : Fin 4096) (j : Fin 128) :
    (iblk0 V c 1 t : Vec Ideal S1x4096x128 .f32) (ix3 0 i j)
      = (V c main_arg1 : Vec Ideal S8x4096x256 .f32) (ix3 ⟨2 + (cl (tl0 t) j).val / 256, by omega⟩ i ⟨(cl (tl0 t) j).val % 256, by omega⟩) := by
  blk_ext [iblk0, (idx0 t).2.1]

theorem blk0_2 (c : Dev nD) (t : Fin cfg0.N) (i : Fin 8) (j : Fin 128) :
    (iblk0 V c 2 t : Vec Ideal S8x128 .f32) (ix2 i j)
      = (V c main_v4 : Vec Ideal S8x512 .f32) (ix2 i (cl (tl0 t) j)) := by
  blk_ext [iblk0, (idx0 t).2.2.1]

theorem blk0_3 (c : Dev nD) (t : Fin cfg0.N) (i : Fin 128) (j : Fin 128) :
    (iblk0 V c 3 t : Vec Ideal S1x128x128 .bf16) (ix3 0 i j)
      = (V c main_v18 : Vec Ideal S4x128x128 .bf16) (ix3 (tl0 t) i j) := by
  blk_ext [iblk0, (idx0 t).2.2.2.1]

theorem blk0_4 (c : Dev nD) (t : Fin cfg0.N) (i : Fin 128) (j : Fin 128) :
    (iblk0 V c 4 t : Vec Ideal S1x128x128 .bf16) (ix3 0 i j)
      = (V c main_v32 : Vec Ideal S4x128x128 .bf16) (ix3 (tl0 t) i j) := by
  blk_ext [iblk0, (idx0 t).2.2.2.2.1]

theorem blk1_0 (c : Dev nD) (t : Fin cfg1.N) (i : Fin 4096) (j : Fin 128) :
    (iblk1 V c 0 t : Vec Ideal S4096x128 .f32) (ix2 i j)
      = (V c main_arg0 : Vec Ideal S4096x512 .f32) (ix2 i (cl (tl1 t) j)) := by
  blk_ext [iblk1, (idx1 t).1]

theorem blk1_1 (c : Dev nD) (t : Fin cfg1.N) (i : Fin 4096) (j : Fin 128) :
    (iblk1 V c 1 t : Vec Ideal S1x4096x128 .f32) (ix3 0 i j)
      = (V c main_arg1 : Vec Ideal S8x4096x256 .f32) (ix3 ⟨(cl (tl1 t) j).val / 256, by omega⟩ i ⟨(cl (tl1 t) j).val % 256, by omega⟩) := by
  blk_ext [iblk1, (idx1 t).2.1]

theorem blk1_2 (c : Dev nD) (t : Fin cfg1.N) (i : Fin 4096) (j : Fin 128) :
    (iblk1 V c 2 t : Vec Ideal S1x4096x128 .f32) (ix3 0 i j)
      = (V c main_arg1 : Vec Ideal S8x4096x256 .f32) (ix3 ⟨2 + (cl (tl1 t) j).val / 256, by omega⟩ i ⟨(cl (tl1 t) j).val % 256, by omega⟩) := by
  blk_ext [iblk1, (idx1 t).2.2.1]

theorem blk1_3 (c : Dev nD) (t : Fin cfg1.N) (i : Fin 4096) (j : Fin 128) :
    (iblk1 V c 3 t : Vec Ideal S4096x128 .f32) (ix2 i j)
      = (V c main_v33_1 : Vec Ideal S4096x512 .f32) (ix2 i (cl (tl1 t) j)) := by
  blk_ext [iblk1, (idx1 t).2.2.2.1]

theorem blk1_4 (c : Dev nD) (t : Fin cfg1.N) (i : Fin 4096) (j : Fin 128) :
    (iblk1 V c 4 t : Vec Ideal S4096x128 .f32) (ix2 i j)
      = (V c main_v33_2 : Vec Ideal S4096x512 .f32) (ix2 i (cl (tl1 t) j)) := by
  blk_ext [iblk1, (idx1 t).2.2.2.2.1]

theorem blk1_5 (c : Dev nD) (t : Fin cfg1.N) (i : Fin 8) (j : Fin 128) :
    (iblk1 V c 5 t : Vec Ideal S8x128 .f32) (ix2 i j)
      = (V c main_v4 : Vec Ideal S8x512 .f32) (ix2 i (cl (tl1 t) j)) := by
  blk_ext [iblk1, (idx1 t).2.2.2.2.2.1]

theorem blk1_6 (c : Dev nD) (t : Fin cfg1.N) (i : Fin 128) (j : Fin 128) :
    (iblk1 V c 6 t : Vec Ideal S1x128x128 .bf16) (ix3 0 i j)
      = (V c main_v18 : Vec Ideal S4x128x128 .bf16) (ix3 (tl1 t) i j) := by
  blk_ext [iblk1, (idx1 t).2.2.2.2.2.2.1]

theorem blk1_7 (c : Dev nD) (t : Fin cfg1.N) (i : Fin 128) (j : Fin 128) :
    (iblk1 V c 7 t : Vec Ideal S1x128x128 .bf16) (ix3 0 i j)
      = (V c main_v32 : Vec Ideal S4x128x128 .bf16) (ix3 (tl1 t) i j) := by
  blk_ext [iblk1, (idx1 t).2.2.2.2.2.2.2.1]

end Cert.KernelIdeal.Lru

end
-- ==== Proof.HostVals.lean ====
module

public import proofs.«01_k».proof.Proof.KRun
public import proofs.«01_k».proof.Proof.Tile
public import Idealize.ShloMosaic.Lib.StableHlo.ReadAt
public import Idealize.ShloMosaic.Lib.Pointwise
@[expose] public section

set_option maxRecDepth 16384

noncomputable section

/-! # What the host operations hand to the calls, at an index -/

namespace Cert.KernelIdeal.Lru

open Cert.KernelIdeal.Gen
open Idealize.ShloMosaic Idealize.ShloMosaic.TcCoe Idealize.ShloMosaic.Tactic
open StableHlo

variable (U : Valuation τ sig (Elt Ideal))

theorem v4_w0 (k : Fin 512) : (after hostOps0 U (Proc.devRef .tc main_v4) : Vec Ideal S8x512 .f32) (ix2 0 k)
      = (U (Proc.devRef .tc main_arg2) : Vec Ideal S4x512 .f32) (ix2 0 k) := by
  after_reads_at

theorem v4_w1 (k : Fin 512) : (after hostOps0 U (Proc.devRef .tc main_v4) : Vec Ideal S8x512 .f32) (ix2 1 k)
      = (U (Proc.devRef .tc main_arg2) : Vec Ideal S4x512 .f32) (ix2 1 k) := by
  after_reads_at

theorem v4_w2 (k : Fin 512) : (after hostOps0 U (Proc.devRef .tc main_v4) : Vec Ideal S8x512 .f32) (ix2 2 k)
      = (U (Proc.devRef .tc main_arg2) : Vec Ideal S4x512 .f32) (ix2 2 k) := by
  after_reads_at

theorem v4_w3 (k : Fin 512) : (after hostOps0 U (Proc.devRef .tc main_v4) : Vec Ideal S8x512 .f32) (ix2 3 k)
      = (U (Proc.devRef .tc main_arg2) : Vec Ideal S4x512 .f32) (ix2 3 k) := by
  after_reads_at

theorem v4_cb (k : Fin 512) : (after hostOps0 U (Proc.devRef .tc main_v4) : Vec Ideal S8x512 .f32) (ix2 4 k)
      = (U (Proc.devRef .tc main_arg3) : Vec Ideal S512 .f32) (ix1 k) := by
  after_reads_at
  simp (disch := decide) only [unary_result', reshape_result']
  after_reads_at

theorem v4_ba (k : Fin 512) : (after hostOps0 U (Proc.devRef .tc main_v4) : Vec Ideal S8x512 .f32) (ix2 5 k)
      = (U (Proc.devRef .tc main_arg5) : Vec Ideal S8x64 .f32) (ix2 (Cert.Lru.hd k) (Cert.Lru.hi k)) := by
  after_reads_at
  simp (disch := decide) only [unary_result', reshape_result']
  after_reads_at

theorem v4_bx (k : Fin 512) : (after hostOps0 U (Proc.devRef .tc main_v4) : Vec Ideal S8x512 .f32) (ix2 6 k)
      = (U (Proc.devRef .tc main_arg7) : Vec Ideal S8x64 .f32) (ix2 (Cert.Lru.hd k) (Cert.Lru.hi k)) := by
  after_reads_at
  simp (disch := decide) only [unary_result', reshape_result']
  after_reads_at

theorem v4_lam (k : Fin 512) : (after hostOps0 U (Proc.devRef .tc main_v4) : Vec Ideal S8x512 .f32) (ix2 7 k)
      = (U (Proc.devRef .tc main_arg8) : Vec Ideal S512 .f32) (ix1 k) := by
  after_reads_at
  simp (disch := decide) only [unary_result', reshape_result']
  after_reads_at

/-- The identity of two rows and two columns, as the host computes it. -/
theorem eye_at (a b : ℕ) (ha : a < 2) (hb : b < 2) :
    (FloatOps.uitofp .f32 (IntOp.cmpi .eq (IntOp.addi (BitVec.ofNat 32 a) 0#32) (BitVec.ofNat 32 b)) : Ideal .f32)
      = (if a = b then 1 else 0 : EReal) := by
  rcases (show a = 0 ∨ a = 1 by omega) with rfl | rfl <;> rcases (show b = 0 ∨ b = 1 by omega) with rfl | rfl <;>
    simp [FloatOps.uitofp, IntOp.cmpi, IntOp.addi]

theorem v18_at (n : Fin 4) (i j : Fin 128) : (after hostOps0 U (Proc.devRef .tc main_v18) : Vec Ideal S4x128x128 .bf16) (ix3 n i j)
      = if i.val / 64 = j.val / 64 then (U (Proc.devRef .tc main_arg4) : Vec Ideal S8x64x64 .f32)
          (ix3 (Cert.Lru.hd (cl n i)) (Cert.Lru.hi (cl n i)) (Cert.Lru.hi (cl n j))) else (0 : EReal) := by
  after_reads_at
  have hE := eye_at (i.val / 64) (j.val / 64) (by omega) (by omega)
  simp only [hE]
  by_cases h : i.val / 64 = j.val / 64
  · simp only [if_pos h]
    rw [mul_one]
    have e1 : (⟨n.val * 2 + i.val / 64, by omega⟩ : Fin 8) = Cert.Lru.hd (cl n i) :=
      Fin.ext (by show n.val * 2 + i.val / 64 = (128 * n.val + i.val) / 64; omega)
    have e2 : (⟨i.val % 64, by omega⟩ : Fin 64) = Cert.Lru.hi (cl n i) :=
      Fin.ext (by show i.val % 64 = (128 * n.val + i.val) % 64; omega)
    have e3 : (⟨j.val % 64, by omega⟩ : Fin 64) = Cert.Lru.hi (cl n j) :=
      Fin.ext (by show j.val % 64 = (128 * n.val + j.val) % 64; omega)
    rw [e1, e2, e3]
  · simp only [if_neg h]
    rw [mul_zero]

theorem v32_at (n : Fin 4) (i j : Fin 128) : (after hostOps0 U (Proc.devRef .tc main_v32) : Vec Ideal S4x128x128 .bf16) (ix3 n i j)
      = if i.val / 64 = j.val / 64 then (U (Proc.devRef .tc main_arg6) : Vec Ideal S8x64x64 .f32)
          (ix3 (Cert.Lru.hd (cl n i)) (Cert.Lru.hi (cl n i)) (Cert.Lru.hi (cl n j))) else (0 : EReal) := by
  after_reads_at
  have hE := eye_at (i.val / 64) (j.val / 64) (by omega) (by omega)
  simp only [hE]
  by_cases h : i.val / 64 = j.val / 64
  · simp only [if_pos h]
    rw [mul_one]
    have e1 : (⟨n.val * 2 + i.val / 64, by omega⟩ : Fin 8) = Cert.Lru.hd (cl n i) :=
      Fin.ext (by show n.val * 2 + i.val / 64 = (128 * n.val + i.val) / 64; omega)
    have e2 : (⟨i.val % 64, by omega⟩ : Fin 64) = Cert.Lru.hi (cl n i) :=
      Fin.ext (by show i.val % 64 = (128 * n.val + i.val) % 64; omega)
    have e3 : (⟨j.val % 64, by omega⟩ : Fin 64) = Cert.Lru.hi (cl n j) :=
      Fin.ext (by show j.val % 64 = (128 * n.val + j.val) % 64; omega)
    rw [e1, e2, e3]
  · simp only [if_neg h]
    rw [mul_zero]

end Cert.KernelIdeal.Lru

end
-- ==== Proof.Args.lean ====
module

public import proofs.«01_k».proof.Proof.Spec

@[expose] public section

set_option maxRecDepth 16384

noncomputable section

/-! # The arguments of both programs, read as the arguments of the mathematics -/

namespace Cert.Lru

open Idealize.ShloMosaic

/-- The nine arrays, indexed by time, channel, head and place. -/
def inOf (a0 : Vec Ideal ⟨2, ![4096, 512]⟩ .f32) (a1 : Vec Ideal ⟨3, ![8, 4096, 256]⟩ .f32) (a2 : Vec Ideal ⟨2, ![4, 512]⟩ .f32)
    (a3 : Vec Ideal ⟨1, ![512]⟩ .f32) (a4 : Vec Ideal ⟨3, ![8, 64, 64]⟩ .f32) (a5 : Vec Ideal ⟨2, ![8, 64]⟩ .f32)
    (a6 : Vec Ideal ⟨3, ![8, 64, 64]⟩ .f32) (a7 : Vec Ideal ⟨2, ![8, 64]⟩ .f32) (a8 : Vec Ideal ⟨1, ![512]⟩ .f32) : In where
  x t c := a1 (ix3 ⟨c.val / 256, by omega⟩ t ⟨c.val % 256, by omega⟩)
  g t c := a1 (ix3 ⟨2 + c.val / 256, by omega⟩ t ⟨c.val % 256, by omega⟩)
  dy t c := a0 (ix2 t c)
  cw k c := a2 (ix2 k c)
  cb c := a3 (ix1 c)
  wa k i j := a4 (ix3 k i j)
  ba k i := a5 (ix2 k i)
  wx k i j := a6 (ix3 k i j)
  bx k i := a7 (ix2 k i)
  lam c := a8 (ix1 c)

end Cert.Lru

end
-- ==== Proof.Arrays.lean ====
module

public import proofs.«01_k».proof.Proof.Blocks
public import proofs.«01_k».proof.Proof.HostVals
public import proofs.«01_k».proof.Proof.Args
@[expose] public section

set_option maxRecDepth 16384

noncomputable section

/-! # The arrays that the two calls leave -/

namespace Cert.KernelIdeal.Lru

open Cert.KernelIdeal.Gen
open Idealize.ShloMosaic Idealize.ShloMosaic.TcCoe Idealize.ShloMosaic.Tactic
open Idealize.ShloMosaic.Pipeline (Dat Cfg Window)
open Cert.Lru (In inOf dgR)

variable (m : (ℓ : Loc nD τ sig) → Buf (Elt Ideal) ℓ) (ρ : Dev nD → PrngReg) (c : Dev nD)

/-- The arguments at the launch. -/
abbrev argsOf : In :=
  inOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

/-- The host operations keep the arguments. -/
theorem X1_args (a : Ref sig .tc) (ha : a ∈ argRefs) : X1 m ρ c a = m ((c.tc : Thread nD τ).loc a) :=
  StableHlo.after_of_writes_sub hostOps0 _ hostOps0_writes (host0_args a ha)
/-- So does call 0. -/
theorem X2_args (a : Ref sig .tc) (ha : a ∈ argRefs) : X2 m ρ c a = m ((c.tc : Thread nD τ).loc a) :=
  (W2_of m ρ c a (argsIn0 a ha)).trans (X1_args m ρ c a ha)

/-- Call 0's blocks at point `t` hold the arguments of the channels of tile `t`. -/
theorem holds0 (t : Fin cfg0.N) :
    Holds (argsOf m c) (tl0 t) (iblk0 (X1 m ρ) c 0 t) (iblk0 (X1 m ρ) c 1 t) (iblk0 (X1 m ρ) c 2 t)
      (iblk0 (X1 m ρ) c 3 t) (iblk0 (X1 m ρ) c 4 t) where
  x i j := by rw [blk0_0, X1_args m ρ c main_arg1 (by decide)]; rfl
  g i j := by rw [blk0_1, X1_args m ρ c main_arg1 (by decide)]; rfl
  w0 j := (blk0_2 _ c t 0 j).trans (v4_w0 (W0 m ρ c) _)
  w1 j := (blk0_2 _ c t 1 j).trans (v4_w1 (W0 m ρ c) _)
  w2 j := (blk0_2 _ c t 2 j).trans (v4_w2 (W0 m ρ c) _)
  w3 j := (blk0_2 _ c t 3 j).trans (v4_w3 (W0 m ρ c) _)
  cb j := (blk0_2 _ c t 4 j).trans (v4_cb (W0 m ρ c) _)
  ba j := (blk0_2 _ c t 5 j).trans (v4_ba (W0 m ρ c) _)
  bx j := (blk0_2 _ c t 6 j).trans (v4_bx (W0 m ρ c) _)
  lam j := (blk0_2 _ c t 7 j).trans (v4_lam (W0 m ρ c) _)
  wa i j := (blk0_3 _ c t i j).trans (v18_at (W0 m ρ c) _ i j)
  wx i j := (blk0_4 _ c t i j).trans (v32_at (W0 m ρ c) _ i j)

/-- The states by time and channel. -/
def hOf (p : In) (t : Fin 4096) (k : Fin 512) : EReal := p.h k (t.val + 1)

/-- Channel `k` of part `q`. -/
abbrev cq (q : Fin 2) (k : Fin 256) : Fin 512 := ⟨q.val * 256 + k.val, by omega⟩

/-- The gradient of the gate's branch from finite states, upstream gradients and branch, by time and channel. -/
def dgOf (hr dr gr : Fin 4096 → Fin 512 → ℝ) (t : Fin 4096) (k : Fin 512) : EReal :=
  ((dgR (13386282 / 16777216) (hr t k) (dr t k) (gr t k) : ℝ) : EReal)

/-- Call 0's first result is the mixed branch. -/
theorem y_arr : (dat0 (X1 m ρ) c).arrAt 5 cfg0.N
    = ((fun i => (argsOf m c).y (i 0) (i 1)) : Vec Ideal S4096x512 .f32) := by
  refine (dat0 (X1 m ρ) c).arrAt_eq_of_covers 5 _ (by decide +kernel) fun t hf y => ?_
  blk_simp
  rw [after0_5]
  let a : Fin 4096 := ⟨(y 0).val, (y 0).isLt⟩
  let b : Fin 128 := ⟨(y 1).val, (y 1).isLt⟩
  have hy : y = ix2 a b := by
    funext q; fin_cases q <;> rfl
  have e0 : (win0_5.blk t).view.emb y 0 = a := Fin.ext (by blk_simp [(idx0 t).2.2.2.2.2.1]; simp [a])
  have e1 : (win0_5.blk t).view.emb y 1 = cl (tl0 t) b := Fin.ext (by blk_simp [(idx0 t).2.2.2.2.2.1]; simp [b]; omega)
  rw [e0, e1, hy]
  exact fY_eq (holds0 m ρ c t) a b

/-- Call 0's second result is the convolution. -/
theorem xc_arr : (dat0 (X1 m ρ) c).arrAt 6 cfg0.N
    = ((fun i => (argsOf m c).xc (i 0) (i 1)) : Vec Ideal S4096x512 .f32) := by
  refine (dat0 (X1 m ρ) c).arrAt_eq_of_covers 6 _ (by decide +kernel) fun t hf y => ?_
  blk_simp
  rw [after0_6]
  let a : Fin 4096 := ⟨(y 0).val, (y 0).isLt⟩
  let b : Fin 128 := ⟨(y 1).val, (y 1).isLt⟩
  have hy : y = ix2 a b := by
    funext q; fin_cases q <;> rfl
  have e0 : (win0_6.blk t).view.emb y 0 = a := Fin.ext (by blk_simp [(idx0 t).2.2.2.2.2.2.1]; simp [a])
  have e1 : (win0_6.blk t).view.emb y 1 = cl (tl0 t) b := Fin.ext (by blk_simp [(idx0 t).2.2.2.2.2.2.1]; simp [b]; omega)
  rw [e0, e1, hy]
  exact fXc_eq (holds0 m ρ c t) a b

/-- Call 0's third result is the states. -/
theorem h_arr : (dat0 (X1 m ρ) c).arrAt 7 cfg0.N
    = ((fun i => hOf (argsOf m c) (i 0) (i 1)) : Vec Ideal S4096x512 .f32) := by
  refine (dat0 (X1 m ρ) c).arrAt_eq_of_covers 7 _ (by decide +kernel) fun t hf y => ?_
  blk_simp
  rw [after0_7]
  let a : Fin 4096 := ⟨(y 0).val, (y 0).isLt⟩
  let b : Fin 128 := ⟨(y 1).val, (y 1).isLt⟩
  have hy : y = ix2 a b := by
    funext q; fin_cases q <;> rfl
  have e0 : (win0_7.blk t).view.emb y 0 = a := Fin.ext (by blk_simp [(idx0 t).2.2.2.2.2.2.2]; simp [a])
  have e1 : (win0_7.blk t).view.emb y 1 = cl (tl0 t) b := Fin.ext (by blk_simp [(idx0 t).2.2.2.2.2.2.2]; simp [b]; omega)
  rw [e0, e1, hy]
  exact fH_eq (holds0 m ρ c t) a b

/-- The program's first result is the mixed branch. -/
theorem y_end (t : Fin 4096) (k : Fin 512) :
    (W3 m ρ c (Proc.devRef .tc main_v33_0) : Vec Ideal S4096x512 .f32) (ix2 t k) = (argsOf m c).y t k := by
  rw [W3_of m ρ c main_v33_0 (by decide +kernel), show W2 m ρ c (Proc.devRef .tc main_v33_0) = _ from W2_arr m ρ c 5, y_arr]
  rfl

/-- The states, as call 1 reads them. -/
theorem h_mid (t : Fin 4096) (k : Fin 512) :
    (X2 m ρ c main_v33_2 : Vec Ideal S4096x512 .f32) (ix2 t k) = (argsOf m c).h k (t.val + 1) := by
  rw [show X2 m ρ c main_v33_2 = _ from W2_arr m ρ c 7, h_arr]
  rfl

/-- The convolution, as call 1 reads it. -/
theorem xc_mid (t : Fin 4096) (k : Fin 512) :
    (X2 m ρ c main_v33_1 : Vec Ideal S4096x512 .f32) (ix2 t k) = (argsOf m c).xc t k := by
  rw [show X2 m ρ c main_v33_1 = _ from W2_arr m ρ c 6, xc_arr]
  rfl

/-- Where the states, the upstream gradient and the gate's branch are finite, the program's second result is the
    gradient of the gate's branch. -/
theorem dg_arr (hr dr gr : Fin 4096 → Fin 512 → ℝ) (hh : ∀ t k, (argsOf m c).h k (t.val + 1) = (hr t k : EReal))
    (hd : ∀ t k, (argsOf m c).dy t k = (dr t k : EReal)) (hg : ∀ t k, (argsOf m c).g t k = (gr t k : EReal)) :
    (dat1 (X2 m ρ) c).arrAt 9 cfg1.N
    = ((fun i => dgOf hr dr gr (i 1) (cq (i 0) (i 2))) :
        Vec Ideal S2x4096x256 .bf16) := by
  refine (dat1 (X2 m ρ) c).arrAt_eq_of_covers 9 _ (by decide +kernel) fun t hf y => ?_
  blk_simp
  rw [after1_9]
  let a : Fin 4096 := ⟨(y 1).val, (y 1).isLt⟩
  let b : Fin 128 := ⟨(y 2).val, (y 2).isLt⟩
  have y0 : (y 0).val = 0 := Nat.lt_one_iff.mp (y 0).isLt
  have hy : y = ix3 0 a b := by
    funext q; fin_cases q
    · exact Fin.ext y0
    · rfl
    · rfl
  have e0 : ((win1_9.blk t).view.emb y 0).val = t.val / 2 := by
    blk_simp [(idx1 t).2.2.2.2.2.2.2.2.2.1]
  have e1 : (win1_9.blk t).view.emb y 1 = a := Fin.ext (by
    blk_simp [(idx1 t).2.2.2.2.2.2.2.2.2.1]
    rfl)
  have e2 : ((win1_9.blk t).view.emb y 2).val = 128 * (t.val % 2) + b.val := by
    blk_simp [(idx1 t).2.2.2.2.2.2.2.2.2.1]
    show t.val % 2 * 128 + (y 2).val = 128 * (t.val % 2) + (y 2).val
    omega
  have ec : cq ((win1_9.blk t).view.emb y 0) ((win1_9.blk t).view.emb y 2) = cl (tl1 t) b :=
    Fin.ext (by show _ * 256 + _ = 128 * t.val + b.val; rw [e0, e2]; omega)
  rw [e1, ec, hy]
  refine gDg_eq _ _ _ a b _ _ _ ?_ ?_ ?_
  · exact (blk1_4 _ c t a b).trans ((h_mid m ρ c a _).trans (hh a _))
  · refine (blk1_0 _ c t a b).trans ?_
    rw [X2_args m ρ c main_arg0 (by decide)]
    exact hd a _
  · refine (blk1_2 _ c t a b).trans ?_
    rw [X2_args m ρ c main_arg1 (by decide)]
    exact hg a _

end Cert.KernelIdeal.Lru

end
-- ==== Proof.Finite.lean ====
module

public import proofs.«01_k».proof.Defs
public import proofs.«01_k».proof.Proof.Arrays
public import Idealize.ShloMosaic.Lib.Pointwise
@[expose] public section

set_option maxRecDepth 16384

noncomputable section

/-! # The precondition, read: the four arrays hold real numbers -/

namespace Cert.KernelIdeal.Lru

open Idealize.ShloMosaic Idealize.ShloMosaic.TcCoe
open Cert.Lru (In inOf)

/-- The shape facts of the precondition. -/
theorem preFacts : Cert.Pre_finite.Facts where
  bcast_S_S4096x512 := by decide +kernel
  bcast_S_S8x4096x256 := by decide +kernel
  bcast_S_S4x512 := by decide +kernel
  bcast_S_S512 := by decide +kernel

/-- An extended real whose absolute value is below infinity is a real number. -/
theorem real_of_lt (x : EReal)
    (h : BitVec.ofBool (decide ((FloatOps.absf (F := Ideal) (φ := .f32) x : EReal) < Ideal.ofBits .f32 0x7F800000#32)) = 1#1) :
    ∃ r : ℝ, x = r := by
  have htop : Ideal.ofBits .f32 0x7F800000#32 = ⊤ := by simp [Ideal.ofBits, Ideal.ieee]
  have hlt : (FloatOps.absf (F := Ideal) (φ := .f32) x : EReal) < Ideal.ofBits .f32 0x7F800000#32 := by
    by_contra hn
    rw [decide_eq_false hn] at h
    exact absurd h (by decide)
  rw [htop] at hlt
  induction x with
  | bot => exact absurd hlt (by simp [FloatOps.absf])
  | coe r => exact ⟨r, rfl⟩
  | top => exact absurd hlt (by simp [FloatOps.absf])

variable (m : (ℓ : Loc nD τ sig) → Buf (Elt Ideal) ℓ) (c : Dev nD)

/-- Under the precondition the upstream gradient is real. -/
theorem real_arg0 [Cert.Pre_finite.Facts] (H : Cert.Pre_KernelIdeal_finite m) (i : Fin 4096) (j : Fin 512) :
    ∃ r : ℝ, (m ((c.tc : Thread nD τ).loc main_arg0) : Vec Ideal S4096x512 .f32) (ix2 i j) = (r : EReal) := by
  have h := congrFun (H c).1 (ix2 i j)
  refine real_of_lt _ ?_
  simp only [Cert.Pre_finite.fn] at h
  pointwise at h
  exact h

/-- Under the precondition the projections are real. -/
theorem real_arg1 [Cert.Pre_finite.Facts] (H : Cert.Pre_KernelIdeal_finite m) (k : Fin 8) (i : Fin 4096) (j : Fin 256) :
    ∃ r : ℝ, (m ((c.tc : Thread nD τ).loc main_arg1) : Vec Ideal S8x4096x256 .f32) (ix3 k i j) = (r : EReal) := by
  have h := congrFun (H c).2.1 (ix3 k i j)
  refine real_of_lt _ ?_
  simp only [Cert.Pre_finite.fn] at h
  pointwise at h
  exact h

/-- Under the precondition the convolution's taps are real. -/
theorem real_arg2 [Cert.Pre_finite.Facts] (H : Cert.Pre_KernelIdeal_finite m) (i : Fin 4) (j : Fin 512) :
    ∃ r : ℝ, (m ((c.tc : Thread nD τ).loc main_arg2) : Vec Ideal S4x512 .f32) (ix2 i j) = (r : EReal) := by
  have h := congrFun (H c).2.2.1 (ix2 i j)
  refine real_of_lt _ ?_
  simp only [Cert.Pre_finite.fn] at h
  pointwise at h
  exact h

/-- Under the precondition the convolution's bias is real. -/
theorem real_arg3 [Cert.Pre_finite.Facts] (H : Cert.Pre_KernelIdeal_finite m) (j : Fin 512) :
    ∃ r : ℝ, (m ((c.tc : Thread nD τ).loc main_arg3) : Vec Ideal S512 .f32) (ix1 j) = (r : EReal) := by
  have h := congrFun (H c).2.2.2 (ix1 j)
  refine real_of_lt _ ?_
  simp only [Cert.Pre_finite.fn] at h
  pointwise at h
  exact h

end Cert.KernelIdeal.Lru

end
-- ==== Proof.RVals.lean ====
module

public import proofs.«01_k».proof.Proof.RRun
public import proofs.«01_k».proof.Proof.Args
public import proofs.«01_k».proof.Proof.Consts
public import Idealize.ShloMosaic.Lib.Pointwise

@[expose] public section

set_option maxRecDepth 16384

noncomputable section

/-! # The reference's arrays, entry by entry -/

namespace Cert.ReferenceIdeal.Lru

open Idealize.ShloMosaic Idealize.ShloMosaic.TcCoe
open Cert.ReferenceIdeal Cert.ReferenceIdeal.Gen Cert.ReferenceIdeal.Step Cert.Lru

variable (a0 : Vec Ideal S4096x512 .f32) (a1 : Vec Ideal S8x4096x256 .f32) (a2 : Vec Ideal S4x512 .f32) (a3 : Vec Ideal S512 .f32)
  (a4 : Vec Ideal S8x64x64 .f32) (a5 : Vec Ideal S8x64 .f32) (a6 : Vec Ideal S8x64x64 .f32) (a7 : Vec Ideal S8x64 .f32) (a8 : Vec Ideal S512 .f32)

/-- The projections' first 512 columns are the recurrence's input. -/
theorem v2_at (t : Fin 4096) (c : Fin 512) :
    A_main_v2 (F := Ideal) a1 a2 a3 a4 a5 a6 a7 a8 (ix2 t c) = (inOf a0 a1 a2 a3 a4 a5 a6 a7 a8).x t c := by
  pointwise [A_main_v2, A_main_v1, A_main_v0]
  rfl

/-- The input 3 steps back. -/
theorem v5_at (t : Fin 4096) (c : Fin 512) :
    A_main_v5 (F := Ideal) a1 a2 a3 a4 a5 a6 a7 a8 (ix2 t c) = (inOf a0 a1 a2 a3 a4 a5 a6 a7 a8).tap t c 3 := by
  have h2 := fun t c => v2_at a0 a1 a2 a3 a4 a5 a6 a7 a8 t c
  have ht := t.isLt
  pointwise [A_main_v5, A_main_v4, K_main_v3, K_main_cst]
  unfold In.tap
  by_cases h : t.val < 3
  · rw [dif_pos (by omega), if_pos h]
  · rw [dif_neg (by omega), if_neg h, h2]
    exact congrArg (fun u => (inOf a0 a1 a2 a3 a4 a5 a6 a7 a8).x u c) (Fin.ext (by simp only [bk]; omega))

/-- The input 2 steps back. -/
theorem v14_at (t : Fin 4096) (c : Fin 512) :
    A_main_v14 (F := Ideal) a1 a2 a3 a4 a5 a6 a7 a8 (ix2 t c) = (inOf a0 a1 a2 a3 a4 a5 a6 a7 a8).tap t c 2 := by
  have h2 := fun t c => v2_at a0 a1 a2 a3 a4 a5 a6 a7 a8 t c
  have ht := t.isLt
  pointwise [A_main_v14, A_main_v4, K_main_v3, K_main_cst]
  unfold In.tap
  by_cases h : t.val < 2
  · rw [dif_pos (by omega), if_pos h]
  · rw [dif_neg (by omega), if_neg h, h2]
    exact congrArg (fun u => (inOf a0 a1 a2 a3 a4 a5 a6 a7 a8).x u c) (Fin.ext (by simp only [bk]; omega))

/-- The input 1 steps back. -/
theorem v21_at (t : Fin 4096) (c : Fin 512) :
    A_main_v21 (F := Ideal) a1 a2 a3 a4 a5 a6 a7 a8 (ix2 t c) = (inOf a0 a1 a2 a3 a4 a5 a6 a7 a8).tap t c 1 := by
  have h2 := fun t c => v2_at a0 a1 a2 a3 a4 a5 a6 a7 a8 t c
  have ht := t.isLt
  pointwise [A_main_v21, A_main_v4, K_main_v3, K_main_cst]
  unfold In.tap
  by_cases h : t.val < 1
  · rw [dif_pos (by omega), if_pos h]
  · rw [dif_neg (by omega), if_neg h, h2]
    exact congrArg (fun u => (inOf a0 a1 a2 a3 a4 a5 a6 a7 a8).x u c) (Fin.ext (by simp only [bk]; omega))

/-- The input itself. -/
theorem v28_at (t : Fin 4096) (c : Fin 512) :
    A_main_v28 (F := Ideal) a1 a2 a3 a4 a5 a6 a7 a8 (ix2 t c) = (inOf a0 a1 a2 a3 a4 a5 a6 a7 a8).x t c := by
  have h2 := fun t c => v2_at a0 a1 a2 a3 a4 a5 a6 a7 a8 t c
  have ht := t.isLt
  pointwise [A_main_v28, A_main_v4, K_main_v3, K_main_cst]
  try rw [dif_neg (by omega)]
  rw [h2]

/-- The convolution. -/
theorem v34_at (t : Fin 4096) (c : Fin 512) :
    A_main_v34 (F := Ideal) a1 a2 a3 a4 a5 a6 a7 a8 (ix2 t c) = (inOf a0 a1 a2 a3 a4 a5 a6 a7 a8).xc t c := by
  have h5 := v5_at a0 a1 a2 a3 a4 a5 a6 a7 a8 t c
  have h14 := v14_at a0 a1 a2 a3 a4 a5 a6 a7 a8 t c
  have h21 := v21_at a0 a1 a2 a3 a4 a5 a6 a7 a8 t c
  have h28 := v28_at a0 a1 a2 a3 a4 a5 a6 a7 a8 t c
  pointwise [A_main_v34, A_main_v33, A_main_v32, A_main_v31, A_main_v30, A_main_v29, A_main_v27, A_main_v26, A_main_v25, A_main_v24,
    A_main_v23, A_main_v22, A_main_v20, A_main_v19, A_main_v18, A_main_v17, A_main_v16, A_main_v15, A_main_v13, A_main_v12, A_main_v11,
    A_main_v10, A_main_v9, A_main_v8, A_main_v7, A_main_v6]
  rw [h5, h14, h21, h28]
  rfl

/-- A gate's product, head by head. -/
theorem v36_at (t : Fin 4096) (c : Fin 512) :
    A_main_v36 (F := Ideal) a1 a2 a3 a4 a5 a6 a7 a8 (ix3 (hd c) (hi c) t)
      = ∑ i : Fin 64, (inOf a0 a1 a2 a3 a4 a5 a6 a7 a8).wa (hd c) i (hi c) * (inOf a0 a1 a2 a3 a4 a5 a6 a7 a8).xc t (ch (hd c) i) := by
  have h := fun c => v34_at a0 a1 a2 a3 a4 a5 a6 a7 a8 t c
  pointwise [A_main_v36, A_main_v35]
  refine Finset.sum_congr rfl fun i _ => ?_
  rw [h]
  exact congrArg (fun u => a4 (ix3 (hd c) i (hi c)) * (inOf a0 a1 a2 a3 a4 a5 a6 a7 a8).xc t u) (Fin.ext (by simp only []; omega))

/-- A gate. -/
theorem v47_at (t : Fin 4096) (c : Fin 512) :
    A_main_v47 (F := Ideal) a1 a2 a3 a4 a5 a6 a7 a8 (ix2 t c) = (inOf a0 a1 a2 a3 a4 a5 a6 a7 a8).r t c := by
  have h := v36_at a0 a1 a2 a3 a4 a5 a6 a7 a8 t c
  pointwise [A_main_v47, A_main_v46, A_main_v44, A_main_v42, A_main_v41, A_main_v40, A_main_v39, A_main_v38, A_main_v37, K_main_v43, K_main_v45, K_main_cst_0, K_main_cst_1]
  exact congrArg (fun s => Ideal.div 1 (1 + Ideal.exp (-(s + a5 (ix2 (hd c) (hi c)))))) h

/-- A gate's product, head by head. -/
theorem v48_at (t : Fin 4096) (c : Fin 512) :
    A_main_v48 (F := Ideal) a1 a2 a3 a4 a5 a6 a7 a8 (ix3 (hd c) (hi c) t)
      = ∑ i : Fin 64, (inOf a0 a1 a2 a3 a4 a5 a6 a7 a8).wx (hd c) i (hi c) * (inOf a0 a1 a2 a3 a4 a5 a6 a7 a8).xc t (ch (hd c) i) := by
  have h := fun c => v34_at a0 a1 a2 a3 a4 a5 a6 a7 a8 t c
  pointwise [A_main_v48, A_main_v35]
  refine Finset.sum_congr rfl fun i _ => ?_
  rw [h]
  exact congrArg (fun u => a6 (ix3 (hd c) i (hi c)) * (inOf a0 a1 a2 a3 a4 a5 a6 a7 a8).xc t u) (Fin.ext (by simp only []; omega))

/-- A gate. -/
theorem v59_at (t : Fin 4096) (c : Fin 512) :
    A_main_v59 (F := Ideal) a1 a2 a3 a4 a5 a6 a7 a8 (ix2 t c) = (inOf a0 a1 a2 a3 a4 a5 a6 a7 a8).i t c := by
  have h := v48_at a0 a1 a2 a3 a4 a5 a6 a7 a8 t c
  pointwise [A_main_v59, A_main_v58, A_main_v56, A_main_v54, A_main_v53, A_main_v52, A_main_v51, A_main_v50, A_main_v49, K_main_v55, K_main_v57, K_main_cst_2, K_main_cst_3]
  exact congrArg (fun s => Ideal.div 1 (1 + Ideal.exp (-(s + a7 (ix2 (hd c) (hi c)))))) h

/-- The logarithm of the multiplier. -/
theorem v68_at (t : Fin 4096) (c : Fin 512) :
    A_main_v68 (F := Ideal) a1 a2 a3 a4 a5 a6 a7 a8 (ix2 t c) = (inOf a0 a1 a2 a3 a4 a5 a6 a7 a8).la t c := by
  have h := v47_at a0 a1 a2 a3 a4 a5 a6 a7 a8 t c
  pointwise [A_main_v68, A_main_v67, A_main_v66, A_main_v65, A_main_v64, A_main_v63, A_main_v62, A_main_v61, K_main_v60, K_main_cst_4]
  rw [h, c8]
  rfl

/-- The multiplier. -/
theorem v69_at (t : Fin 4096) (c : Fin 512) :
    A_main_v69 (F := Ideal) a1 a2 a3 a4 a5 a6 a7 a8 (ix2 t c) = (inOf a0 a1 a2 a3 a4 a5 a6 a7 a8).a t c := by
  have h := v68_at a0 a1 a2 a3 a4 a5 a6 a7 a8 t c
  pointwise [A_main_v69]
  rw [h]
  rfl

/-- The recurrence's input. -/
theorem v76_at (t : Fin 4096) (c : Fin 512) :
    A_main_v76 (F := Ideal) a1 a2 a3 a4 a5 a6 a7 a8 (ix2 t c) = (inOf a0 a1 a2 a3 a4 a5 a6 a7 a8).b t c := by
  have h := v68_at a0 a1 a2 a3 a4 a5 a6 a7 a8 t c
  have h1 := v59_at a0 a1 a2 a3 a4 a5 a6 a7 a8 t c
  have h2 := v34_at a0 a1 a2 a3 a4 a5 a6 a7 a8 t c
  pointwise [A_main_v76, A_main_v75, A_main_v74, A_main_v73, A_main_v72, A_main_v71, K_main_v70, K_main_cst_5]
  rw [h, h1, h2, c2]
  rfl

/-- A trip's number, as an index. -/
theorem toInt_trip (j : ℕ) (hj : j < 4096) : (BitVec.ofNat 32 j).toInt = (j : ℤ) := by
  have h : (BitVec.ofNat 32 j).toNat = j := by rw [BitVec.toNat_ofNat]; omega
  rw [BitVec.toInt_eq_toNat_of_lt (by rw [h]; omega), h]

/-- A trip reads row `j`. -/
theorem start0 (j : ℕ) (hj : j < 4096) (h) :
    Host.clampedStart S4096x512 S1x512 h (fun k => BitVec.toInt
      (((![constantI S_ 32 (BitVec.ofNat 32 j), constantI S_ 32 0#32] : Fin 2 → (⟨S_, .i32⟩ : BufTy).Contents (Elt Ideal))) k (Shape.Idx.first h_S_))) 0 = j :=
  Host.clampedStart_of_le _ _ _ j (toInt_trip j hj) (by show j + 1 ≤ 4096; omega)

/-- from its first column. -/
theorem start1 (j : ℕ) (h) :
    Host.clampedStart S4096x512 S1x512 h (fun k => BitVec.toInt
      (((![constantI S_ 32 (BitVec.ofNat 32 j), constantI S_ 32 0#32] : Fin 2 → (⟨S_, .i32⟩ : BufTy).Contents (Elt Ideal))) k (Shape.Idx.first h_S_))) 1 = 0 :=
  Host.clampedStart_of_le _ _ _ 0 rfl (by show 0 + 512 ≤ 512; omega)

/-- One trip's row. -/
theorem b7_at (j : ℕ) (hj : j < 4096) (s : State Ideal) (c : Fin 512) :
    b7 j s (ix1 c) = s.main_v79_0 (ix2 ⟨j, hj⟩ c) * s.main_v79_3 (ix1 c) + s.main_v79_1 (ix2 ⟨j, hj⟩ c) := by
  pointwise [b7, b6, b5, b4, b3, b2, b1, b0]
  simp only [start0 j hj, start1 j, Nat.zero_add]

/-- One trip's rows. -/
theorem b10_at (j : ℕ) (hj : j < 4096) (s : State Ideal) (t : Fin 4096) (c : Fin 512) :
    b10 j s (ix2 t c) = if t.val = j then b7 j s (ix1 c) else s.main_v79_4 (ix2 t c) := by
  pointwise [b10, b9, b8]
  simp only [start0 j hj, start1 j, Nat.sub_zero]
  by_cases h : t.val = j
  · rw [dif_pos ⟨⟨by omega, by omega⟩, by omega⟩, if_pos h]
  · rw [dif_neg (by omega), if_neg h]

/-- The arguments core `c` is given. -/
def argsOf (m : (ℓ : Loc nD τ sig) → Buf (Elt Ideal) ℓ) (c : Dev nD) : In :=
  inOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-- Before trip `j`: the row is the state after `j` steps, and the rows written so far are the states after theirs. -/
theorem states_at (m : (ℓ : Loc nD τ sig) → Buf (Elt Ideal) ℓ) (c : Dev nD) (j : ℕ) (hj : j ≤ 4096) :
    (∀ t k, (states m c j).main_v79_0 (ix2 t k) = (argsOf m c).a t k)
    ∧ (∀ t k, (states m c j).main_v79_1 (ix2 t k) = (argsOf m c).b t k)
    ∧ (∀ k, (states m c j).main_v79_3 (ix1 k) = (argsOf m c).h k j)
    ∧ ∀ (t : Fin 4096) k, t.val < j → (states m c j).main_v79_4 (ix2 t k) = (argsOf m c).h k (t.val + 1) := by
  induction j with
  | zero =>
    refine ⟨fun t k => v69_at _ _ _ _ _ _ _ _ _ t k, fun t k => v76_at _ _ _ _ _ _ _ _ _ t k, fun k => ?_, fun t k h => absurd h (by omega)⟩
    show (K_main_v77 (F := Ideal)) (ix1 k) = 0
    pointwise [K_main_v77, K_main_cst_6]
  | succ j ih =>
    obtain ⟨ia, ib, ih3, ih4⟩ := ih (by omega)
    have e : In.at' j = ⟨j, by omega⟩ := Fin.ext (Nat.mod_eq_of_lt (by omega))
    have row : ∀ k, b7 j (states m c j) (ix1 k) = (argsOf m c).h k (j + 1) := fun k => by
      rw [b7_at j (by omega), ia, ib, ih3, In.h, e]
    refine ⟨ia, ib, row, fun t k h => ?_⟩
    show b10 j (states m c j) (ix2 t k) = _
    rw [b10_at j (by omega)]
    by_cases ht : t.val = j
    · rw [if_pos ht, row, ht]
    · rw [if_neg ht, ih4 t k (by omega)]

/-- The reference's gated output. -/
theorem y_at (m : (ℓ : Loc nD τ sig) → Buf (Elt Ideal) ℓ) (c : Dev nD) (t : Fin 4096) (k : Fin 512) :
    R_main_v105 (states m c 4096) (m ((c.tc : Thread nD τ).loc main_arg1)) (ix2 t k) = (argsOf m c).y t k := by
  have h := (states_at m c 4096 le_rfl).2.2.2 t k t.isLt
  pointwise [R_main_v105]
  rw [h, cquot, chalf]
  have e : (ix3 (⟨(512 + k.val) / 256, by omega⟩ : Fin 8) t (⟨(512 + k.val) % 256, by omega⟩ : Fin 256))
      = ix3 (⟨2 + k.val / 256, by omega⟩ : Fin 8) t (⟨k.val % 256, by omega⟩ : Fin 256) := by
    congr 1
    · exact Fin.ext (by simp only []; omega)
    · exact Fin.ext (by simp only []; omega)
  rw [e]
  show _ = (argsOf m c).h k (t.val + 1) * ((argsOf m c).g t k * (_ * (1 + Ideal.tanh (gk * (_ + gc * ((argsOf m c).g t k * (argsOf m c).g t k * (argsOf m c).g t k))))))
  rfl

/-- The reference's gradient of the output gate, of numbers. -/
theorem dg_at (s : State Ideal) (q : Fin 2) (t : Fin 4096) (k : Fin 256) (h d v : ℝ)
    (hh : s.main_v79_4 (ix2 t ⟨q.val * 256 + k.val, by omega⟩) = (h : EReal))
    (hd : a0 (ix2 t ⟨q.val * 256 + k.val, by omega⟩) = (d : EReal))
    (hv : a1 (ix3 ⟨2 + q.val, by omega⟩ t k) = (v : EReal)) :
    R_main_v121 s a0 a1 (ix3 q t k) = ((dgR (13386282 / 16777216) h d v : ℝ) : EReal) := by
  have e : (⟨(512 + (q.val * 256 + k.val)) / 256, by omega⟩ : Fin 8) = ⟨2 + q.val, by omega⟩ := Fin.ext (by simp only []; omega)
  have hg : Ideal.ofBits FTy.f32 1061962282#32 = ((13386282 / 16777216 : ℝ) : EReal) := gk_real
  have one : (1 : EReal) = ((1 : ℝ) : EReal) := rfl
  pointwise [R_main_v121]
  rw [e, hh, hd, hv, chalf, cquot, c3, hg, gc, one]
  simp only [← EReal.coe_mul, ← EReal.coe_add, ← EReal.coe_sub, Ideal.tanh_coe]
  rw [EReal.coe_eq_coe_iff]
  unfold dgR
  ring

end Cert.ReferenceIdeal.Lru

end
-- ==== Proof.Tie.lean ====
module

public import proofs.«01_k».proof.Proof.Finite
public import proofs.«01_k».proof.Proof.RVals
@[expose] public section

set_option maxRecDepth 16384

noncomputable section

/-! # The kernel's two results are the reference's -/

namespace Cert.Lru

open Idealize.ShloMosaic Idealize.ShloMosaic.TcCoe Idealize.SL.Sem

attribute [local instance] Cert.KernelIdeal.Lru.preFacts

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- Both programs' arguments on core `c` are the same arrays. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

variable {m m'} {c : Dev Cert.KernelIdeal.nD}

/-- So they are the same arguments of the mathematics. -/
theorem Agree.args (h : Agree m m' c) : Cert.ReferenceIdeal.Lru.argsOf m' c = Cert.KernelIdeal.Lru.argsOf m c := by
  obtain ⟨h0, h1, h2, h3, h4, h5, h6, h7, h8⟩ := h
  unfold Cert.ReferenceIdeal.Lru.argsOf Cert.KernelIdeal.Lru.argsOf
  rw [h0, h1, h2, h3, h4, h5, h6, h7, h8]

/-- The mixed branch. -/
theorem y_tie (h : Agree m m' c) :
    (Cert.ReferenceIdeal.Step.R_main_v105 (Cert.ReferenceIdeal.Lru.states m' c 4096) (m' ((c.tc : Thread Cert.ReferenceIdeal.nD Cert.ReferenceIdeal.τ).loc Cert.ReferenceIdeal.main_arg1)) : Vec Ideal ⟨2, ![4096, 512]⟩ .f32)
      = Cert.KernelIdeal.Lru.W3 m ρ c (Proc.devRef .tc Cert.KernelIdeal.main_v33_0) := by
  funext i
  rw [eq_ix2 i]
  exact (Cert.ReferenceIdeal.Lru.y_at m' c (i 0) (i 1)).trans
    ((congrArg (fun p : In => p.y (i 0) (i 1)) h.args).trans (Cert.KernelIdeal.Lru.y_end m ρ c (i 0) (i 1)).symm)

/-- The gradient of the gate's branch. -/
theorem dg_tie (h : Agree m m' c) (H : Cert.Pre_KernelIdeal_finite m) :
    (Cert.ReferenceIdeal.Step.R_main_v121 (Cert.ReferenceIdeal.Lru.states m' c 4096) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) : Vec Ideal ⟨3, ![2, 4096, 256]⟩ .bf16)
      = Cert.KernelIdeal.Lru.W3 m ρ c (Proc.devRef .tc Cert.KernelIdeal.main_v34_1) := by
  have hx : ∀ t k, ∃ s : ℝ, (Cert.KernelIdeal.Lru.argsOf m c).x t k = s := fun t k => Cert.KernelIdeal.Lru.real_arg1 m c H _ _ _
  have hg : ∀ t k, ∃ s : ℝ, (Cert.KernelIdeal.Lru.argsOf m c).g t k = s := fun t k => Cert.KernelIdeal.Lru.real_arg1 m c H _ _ _
  have hd : ∀ t k, ∃ s : ℝ, (Cert.KernelIdeal.Lru.argsOf m c).dy t k = s := fun t k => Cert.KernelIdeal.Lru.real_arg0 m c H _ _
  have hw : ∀ t k, ∃ s : ℝ, (Cert.KernelIdeal.Lru.argsOf m c).cw t k = s := fun t k => Cert.KernelIdeal.Lru.real_arg2 m c H _ _
  have hb : ∀ k, ∃ s : ℝ, (Cert.KernelIdeal.Lru.argsOf m c).cb k = s := fun k => Cert.KernelIdeal.Lru.real_arg3 m c H _
  have hh : ∀ (t : Fin 4096) k, ∃ s : ℝ, (Cert.KernelIdeal.Lru.argsOf m c).h k (t.val + 1) = s := fun t k => In.h_real _ hx hw hb _ _
  choose gr hg using hg
  choose dr hd using hd
  choose hr hh using hh
  rw [show Cert.KernelIdeal.Lru.W3 m ρ c (Proc.devRef .tc Cert.KernelIdeal.main_v34_1) = _ from Cert.KernelIdeal.Lru.W3_arr m ρ c 9,
    Cert.KernelIdeal.Lru.dg_arr m ρ c hr dr gr hh hd hg]
  funext i
  rw [eq_ix3 i]
  have e := h.args
  refine Cert.ReferenceIdeal.Lru.dg_at _ _ _ (i 0) (i 1) (i 2) _ _ _ ?_ ?_ ?_
  · exact ((Cert.ReferenceIdeal.Lru.states_at m' c 4096 le_rfl).2.2.2 (i 1) _ (i 1).isLt).trans
      ((congrArg (fun p : In => p.h _ _) e).trans (hh _ _))
  · exact (congrArg (fun p : In => p.dy (i 1) (Cert.KernelIdeal.Lru.cq (i 0) (i 2))) e).trans (hd _ _)
  · have eg := (congrArg (fun p : In => p.g (i 1) (Cert.KernelIdeal.Lru.cq (i 0) (i 2))) e).trans (hg _ _)
    refine Eq.trans (congrArg _ ?_) eg
    have h0 : (i 0).val < 2 := (i 0).isLt
    have h2 : (i 2).val < 256 := (i 2).isLt
    congr 1
    · exact Fin.ext (by show 2 + (i 0).val = 2 + ((i 0).val * 256 + (i 2).val) / 256; omega)
    · exact Fin.ext (by show (i 2).val = ((i 0).val * 256 + (i 2).val) % 256; omega)

end Cert.Lru

end
-- ==== Proof.MixIn.Body.lean ====
module

public import proofs.«01_k».proof.Proof.Gen.MixInIdeal.Value
public import Idealize.ShloMosaic.Lib.Pointwise
public import Idealize.ShloMosaic.Lib.StableHlo.ReadAt
public import Idealize.ShloMosaic.Lib.Pipeline.ValueKit
@[expose] public section

set_option maxRecDepth 16384

noncomputable section

/-! # The input projection's body, at an index -/

namespace Cert.MixInIdeal.Point

open Cert.MixInIdeal Cert.MixInIdeal.Gen
open Idealize.ShloMosaic Idealize.ShloMosaic.TcCoe Idealize.ShloMosaic.Tactic
open StableHlo

/-- One entry of a normalised and modulated row `x`. -/
def hAt (x gain scale shift : Fin 1024 → EReal) (d : Fin 1024) : EReal :=
  x d * Ideal.rsqrt (Ideal.div (∑ k, x k * x k) (Ideal.ofBits .f32 0x44800000#32) + Ideal.ofBits .f32 0x358637BD#32)
    * gain d * (1 + scale d) + shift d

theorem hAt_congr {x x' g g' s s' t t' : Fin 1024 → EReal} (hx : ∀ k, x k = x' k) (hg : ∀ k, g k = g' k) (hs : ∀ k, s k = s' k)
    (ht : ∀ k, t k = t' k) (d : Fin 1024) : hAt x g s t d = hAt x' g' s' t' d := by
  obtain rfl := funext hx
  obtain rfl := funext hg
  obtain rfl := funext hs
  obtain rfl := funext ht
  rfl

/-- The modulated block, from the four loads. -/
theorem pay4_at (v0 : Vec Ideal S512x1024 .f32) (v1 v3 v5 : Vec Ideal S1x1024 .f32) (a : Fin 512) (b : Fin 1024) :
    (k0_pay4 (F := Ideal) v0 v1 v3 v5 : Vec Ideal S512x1024 .bf16) (ix2 a b)
      = hAt (fun k => v0 (ix2 a k)) (fun k => v1 (ix2 0 k)) (fun k => v3 (ix2 0 k)) (fun k => v5 (ix2 0 k)) b := by
  unfold hAt
  pointwise [k0_pay4]

/-- One entry of a column block of the product. -/
theorem dot_at (v25 : Vec Ideal S512x1024 .bf16) (v : Vec Ideal S1x1024x256 .bf16) (a : Fin 512) (b : Fin 256) :
    (k0_pay2 (F := Ideal) v25 v : Vec Ideal S1x512x256 .f32) (ix3 0 a b) = ∑ k : Fin 1024, v25 (ix2 a k) * v (ix3 0 k b) := by
  pointwise [k0_pay2]

/-- Rows of the whole block, of the packed vectors and of the weights, as the body loads them. -/
theorem ld_x (x0 : Vec Ideal S512x1024 .f32) (a : Fin 512) (k : Fin 1024) : (View.ld x0 r0_0 : Vec Ideal S512x1024 .f32) (ix2 a k) = x0 (ix2 a k) := by
  exact View.ld_unit_apply_of _ _ _ _ _ _ (by intro q; fin_cases q <;> simp)
theorem ld_gain (x1 : Vec Ideal S8x1024 .f32) (k : Fin 1024) : (View.ld x1 r0_1 : Vec Ideal S1x1024 .f32) (ix2 0 k) = x1 (ix2 3 k) := by
  exact View.ld_unit_apply_of _ _ _ _ _ _ (by intro q; fin_cases q <;> simp)
theorem ld_scale (x1 : Vec Ideal S8x1024 .f32) (k : Fin 1024) : (View.ld x1 r0_2 : Vec Ideal S1x1024 .f32) (ix2 0 k) = x1 (ix2 1 k) := by
  exact View.ld_unit_apply_of _ _ _ _ _ _ (by intro q; fin_cases q <;> simp)
theorem ld_shift (x1 : Vec Ideal S8x1024 .f32) (k : Fin 1024) : (View.ld x1 r0_3 : Vec Ideal S1x1024 .f32) (ix2 0 k) = x1 (ix2 0 k) := by
  exact View.ld_unit_apply_of _ _ _ _ _ _ (by intro q; fin_cases q <;> simp)

/-- The modulated block that the body computes once. -/
theorem h_at (x0 : Vec Ideal S512x1024 .f32) (x1 : Vec Ideal S8x1024 .f32) (a : Fin 512) (b : Fin 1024) :
    (k0_pay4 (F := Ideal) (View.ld x0 r0_0) (View.ld x1 r0_1) (View.ld x1 r0_2) (View.ld x1 r0_3) : Vec Ideal S512x1024 .bf16) (ix2 a b)
      = hAt (fun k => x0 (ix2 a k)) (fun k => x1 (ix2 3 k)) (fun k => x1 (ix2 1 k)) (fun k => x1 (ix2 0 k)) b := by
  exact (pay4_at _ _ _ _ a b).trans (hAt_congr (ld_x x0 a) (ld_gain x1) (ld_scale x1) (ld_shift x1) b)

/-- What the body leaves in the first result's block. -/
theorem out3_at (x0 : Vec Ideal S512x1024 .f32) (x1 : Vec Ideal S8x1024 .f32) (x2 : Vec Ideal S8x1024x256 .bf16) (a : Fin 512) (b : Fin 1024) :
    (out0_3 x0 x1 x2 : Vec Ideal S512x1024 .bf16) (ix2 a b)
      = hAt (fun k => x0 (ix2 a k)) (fun k => x1 (ix2 3 k)) (fun k => x1 (ix2 1 k)) (fun k => x1 (ix2 0 k)) b := by
  unfold out0_3
  refine (View.canon_apply_of_pieces (k0_pay4 (F := Ideal) (View.ld x0 r0_0) (View.ld x1 r0_1) (View.ld x1 r0_2) (View.ld x1 r0_3)) _ ?_ _ (cover0_3 _ _)).trans (h_at x0 x1 a b)
  intro p hp x
  obtain rfl := List.mem_singleton.1 hp
  have e : r0_0.emb x = x := by
    blk_ext
  exact congrArg _ e.symm

/-- The second result's block as a function of its index. -/
def projBlk (x0 : Vec Ideal S512x1024 .f32) (x1 : Vec Ideal S8x1024 .f32) (x2 : Vec Ideal S8x1024x256 .bf16) (j : Fin 8) (a : Fin 512) (b : Fin 256) : EReal :=
  ∑ k : Fin 1024, hAt (fun k => x0 (ix2 a k)) (fun k => x1 (ix2 3 k)) (fun k => x1 (ix2 1 k)) (fun k => x1 (ix2 0 k)) k * x2 (ix3 j k b)

/-- One of the eight stores: a column block of the product. -/
theorem piece_at (x0 : Vec Ideal S512x1024 .f32) (x1 : Vec Ideal S8x1024 .f32) (x2 : Vec Ideal S8x1024x256 .bf16) (w : Vec Ideal S1x1024x256 .bf16) (j : Fin 8)
    (hw : ∀ k b, w (ix3 0 k b) = x2 (ix3 j k b)) (x : S1x512x256.Idx) (y : S8x512x256.Idx) (h0 : (y 0).val = j.val) (h1 : (y 1).val = (x 1).val) (h2 : (y 2).val = (x 2).val) :
    (k0_pay2 (F := Ideal) (k0_pay4 (View.ld x0 r0_0) (View.ld x1 r0_1) (View.ld x1 r0_2) (View.ld x1 r0_3)) w : Vec Ideal S1x512x256 .f32) x
      = projBlk x0 x1 x2 (y 0) (y 1) (y 2) := by
  let a : Fin 512 := ⟨(x 1).val, (x 1).isLt⟩
  let b : Fin 256 := ⟨(x 2).val, (x 2).isLt⟩
  have hx : x = ix3 0 a b := by
    funext q
    match q with
    | ⟨0, _⟩ => exact Subsingleton.elim (α := Fin 1) _ _
    | ⟨1, _⟩ => rfl
    | ⟨2, _⟩ => rfl
  have g0 : y 0 = j := Fin.ext h0
  have g1 : y 1 = a := Fin.ext h1
  have g2 : y 2 = b := Fin.ext h2
  rw [g0, g1, g2, hx, dot_at]
  exact Finset.sum_congr rfl fun k _ => by rw [h_at, hw]

/-- Where a store at row `n` puts its index. -/
theorem row_emb {n : Nat} (inb : ∀ a, (![n, 0, 0] : Fin 3 → Nat) a + S1x512x256.size a ≤ S8x512x256.size a) (x : S1x512x256.Idx) :
    ((Rect.unit (s := S8x512x256) ![n, 0, 0] S1x512x256.size inb).emb x 0).val = n
      ∧ ((Rect.unit (s := S8x512x256) ![n, 0, 0] S1x512x256.size inb).emb x 1).val = (x 1).val
      ∧ ((Rect.unit (s := S8x512x256) ![n, 0, 0] S1x512x256.size inb).emb x 2).val = (x 2).val := by
  have h0 : (x 0).val < 1 := (x 0).isLt
  refine ⟨?_, ?_, ?_⟩
  · refine (Rect.idx_unit_val (s := S8x512x256) _ S1x512x256.size inb x 0).trans ?_
    show n + (x 0).val = n
    omega
  · refine (Rect.idx_unit_val (s := S8x512x256) _ S1x512x256.size inb x 1).trans ?_
    show 0 + (x 1).val = _
    omega
  · refine (Rect.idx_unit_val (s := S8x512x256) _ S1x512x256.size inb x 2).trans ?_
    show 0 + (x 2).val = _
    omega

/-- What the body leaves in the second result's block. -/
theorem out4_at (x0 : Vec Ideal S512x1024 .f32) (x1 : Vec Ideal S8x1024 .f32) (x2 : Vec Ideal S8x1024x256 .bf16) (y : S8x512x256.Idx) :
    (out0_4 x0 x1 x2 : Vec Ideal S8x512x256 .f32) y = projBlk x0 x1 x2 (y 0) (y 1) (y 2) := by
  unfold out0_4
  refine View.canon_apply_of_pieces (Val := Elt Ideal) (e := .f32) ((fun y => projBlk x0 x1 x2 (y 0) (y 1) (y 2)) : Vec Ideal S8x512x256 .f32) _ ?_ _ (cover0_4 _ _ _ _ _ _ _ _ _)
  simp only [List.forall_mem_cons, List.not_mem_nil, false_imp_iff, implies_true, and_true]
  refine ⟨?_, ?_, ?_, ?_, ?_, ?_, ?_, ?_⟩ <;> intro x
  · exact piece_at x0 x1 x2 (View.ld x2 r0_18) 7 (fun k b => View.ld_unit_apply_of _ _ _ _ _ _ (by intro q; fin_cases q <;> simp)) x _
      (row_emb (n := 7) _ x).1 (row_emb _ x).2.1 (row_emb _ x).2.2
  · exact piece_at x0 x1 x2 (View.ld x2 r0_16) 6 (fun k b => View.ld_unit_apply_of _ _ _ _ _ _ (by intro q; fin_cases q <;> simp)) x _
      (row_emb (n := 6) _ x).1 (row_emb _ x).2.1 (row_emb _ x).2.2
  · exact piece_at x0 x1 x2 (View.ld x2 r0_14) 5 (fun k b => View.ld_unit_apply_of _ _ _ _ _ _ (by intro q; fin_cases q <;> simp)) x _
      (row_emb (n := 5) _ x).1 (row_emb _ x).2.1 (row_emb _ x).2.2
  · exact piece_at x0 x1 x2 (View.ld x2 r0_12) 4 (fun k b => View.ld_unit_apply_of _ _ _ _ _ _ (by intro q; fin_cases q <;> simp)) x _
      (row_emb (n := 4) _ x).1 (row_emb _ x).2.1 (row_emb _ x).2.2
  · exact piece_at x0 x1 x2 (View.ld x2 r0_10) 3 (fun k b => View.ld_unit_apply_of _ _ _ _ _ _ (by intro q; fin_cases q <;> simp)) x _
      (row_emb (n := 3) _ x).1 (row_emb _ x).2.1 (row_emb _ x).2.2
  · exact piece_at x0 x1 x2 (View.ld x2 r0_8) 2 (fun k b => View.ld_unit_apply_of _ _ _ _ _ _ (by intro q; fin_cases q <;> simp)) x _
      (row_emb (n := 2) _ x).1 (row_emb _ x).2.1 (row_emb _ x).2.2
  · exact piece_at x0 x1 x2 (View.ld x2 r0_6) 1 (fun k b => View.ld_unit_apply_of _ _ _ _ _ _ (by intro q; fin_cases q <;> simp)) x _
      (row_emb (n := 1) _ x).1 (row_emb _ x).2.1 (row_emb _ x).2.2
  · exact piece_at x0 x1 x2 (View.ld x2 r0_4) 0 (fun k b => View.ld_unit_apply_of _ _ _ _ _ _ (by intro q; fin_cases q <;> simp)) x _
      (row_emb (n := 0) _ x).1 (row_emb _ x).2.1 (row_emb _ x).2.2

variable (U : Valuation τ sig (Elt Ideal))

theorem vec_shift (k : Fin 1024) : (after hostOps0 U (Proc.devRef .tc main_v3) : Vec Ideal S8x1024 .f32) (ix2 0 k)
      = (U (Proc.devRef .tc main_arg1) : Vec Ideal S9x1024 .f32) (ix2 3 k) := by
  after_reads_at
  simp (disch := decide) only [unary_result', reshape_result']
  after_reads_at

theorem vec_scale (k : Fin 1024) : (after hostOps0 U (Proc.devRef .tc main_v3) : Vec Ideal S8x1024 .f32) (ix2 1 k)
      = (U (Proc.devRef .tc main_arg1) : Vec Ideal S9x1024 .f32) (ix2 4 k) := by
  after_reads_at
  simp (disch := decide) only [unary_result', reshape_result']
  after_reads_at

theorem vec_gain (k : Fin 1024) : (after hostOps0 U (Proc.devRef .tc main_v3) : Vec Ideal S8x1024 .f32) (ix2 3 k)
      = (U (Proc.devRef .tc main_arg2) : Vec Ideal S1024 .f32) (ix1 k) := by
  after_reads_at
  simp (disch := decide) only [unary_result', reshape_result']
  after_reads_at

theorem w_at (j : Fin 8) (k : Fin 1024) (b : Fin 256) : (after hostOps0 U (Proc.devRef .tc main_v4) : Vec Ideal S8x1024x256 .bf16) (ix3 j k b)
      = (U (Proc.devRef .tc main_arg3) : Vec Ideal S8x1024x256 .f32) (ix3 j k b) := by
  after_reads_at

end Cert.MixInIdeal.Point
-- ==== Proof.MixIn.Ref.lean ====
module

public import proofs.«01_k».proof.Proof.Gen.MixInReferenceIdeal.Read
public import proofs.«01_k».proof.Proof.MixIn.Body
@[expose] public section

set_option maxRecDepth 16384

noncomputable section

/-! # The input projection's reference, at an index -/

namespace Cert.MixInReferenceIdeal.Point

open Cert.MixInReferenceIdeal Cert.MixInReferenceIdeal.Read
open Idealize.ShloMosaic Idealize.ShloMosaic.TcCoe Idealize.ShloMosaic.Tactic
open Cert.MixInIdeal.Point (hAt)

variable (x0 : Vec Ideal S4096x1024 .f32) (x1 : Vec Ideal S9x1024 .f32) (x2 : Vec Ideal S1024 .f32) (x3 : Vec Ideal S8x1024x256 .f32)

/-- The normalised and modulated row. -/
theorem h_at (i : Fin 4096) (j : Fin 1024) :
    (val_main_v24 (F := Ideal) x0 x1 x2 : Vec Ideal S4096x1024 .f32) (ix2 i j)
      = hAt (fun k => x0 (ix2 i k)) (fun k => x2 (ix1 k)) (fun k => x1 (ix2 4 k)) (fun k => x1 (ix2 3 k)) j := by
  rw [val_main_v24_apply, val_main_v21_apply, val_main_v12_apply, val_main_v9_apply, val_main_v8_apply, val_main_v7_apply, val_main_v6_apply,
    val_main_v4_apply, val_main_v2_apply, val_main_v1_apply, val_main_v11_apply, val_main_v10_apply, val_main_v20_apply, val_main_v19_apply, val_main_v18_apply,
    val_main_v16_apply, val_main_v15_apply, val_main_v23_apply, val_main_v22_apply, val_main_v14_apply, val_main_v13_apply, val_main_v17_apply]
  have e1 : idx_main_v10 (idx_main_v11 (ix2 i j)) = ix1 j := by blk_ext
  have e2 : idx_main_v15 (idx_main_v16 (idx_main_v19 (idx_main_v20 (ix2 i j)))) = ix2 4 j := by blk_ext
  have e3 : idx_main_v13 (idx_main_v14 (idx_main_v22 (idx_main_v23 (ix2 i j)))) = ix2 3 j := by blk_ext
  have e4 : ∀ k, idx_main_v1 (idx_main_v2 (idx_main_v8 (ix2 i j))) k = ix2 i k := fun k => by blk_ext
  have e5 : val_main_v3 (F := Ideal) (idx_main_v8 (ix2 i j)) = Ideal.ofBits .f32 0x44800000#32 := by rw [val_main_v3_apply]; rfl
  have e6 : val_main_v5 (F := Ideal) (idx_main_v8 (ix2 i j)) = Ideal.ofBits .f32 0x358637BD#32 := by rw [val_main_v5_apply]; rfl
  have e7 : (val_main_cst (F := Ideal)) (Shape.Idx.first Gen.h_S_) = (0 : EReal) := by pointwise [val_main_cst]
  have e8 : (val_main_cst_2 (F := Ideal)) (idx_main_v17 (idx_main_v19 (idx_main_v20 (ix2 i j)))) = (1 : EReal) := by pointwise [val_main_cst_2]
  rw [e1, e2, e3, e5, e6, e7, e8, zero_add]
  simp only [e4, val_main_v0_apply]
  rfl

/-- The projection. -/
theorem proj_at (q : Fin 8) (i : Fin 4096) (b : Fin 256) :
    (val_main_v30 (F := Ideal) x0 x1 x2 x3 : Vec Ideal S8x4096x256 .f32) (ix3 q i b)
      = ∑ k : Fin 1024, (val_main_v24 (F := Ideal) x0 x1 x2 : Vec Ideal S4096x1024 .f32) (ix2 i k) * x3 (ix3 q k b) := by
  rw [val_main_v30_apply, val_main_v29_apply, val_main_v27_apply]
  refine Finset.sum_congr rfl fun k _ => ?_
  rw [val_main_v26_apply, val_main_v25_apply]
  congr 1 <;> blk_ext

end Cert.MixInReferenceIdeal.Point
-- ==== Proof.MixIn.Arrays.lean ====
module

public import proofs.«01_k».proof.Proof.MixIn.Body
@[expose] public section

set_option maxRecDepth 16384

noncomputable section

/-! # The arrays that the input projection leaves -/

namespace Cert.MixInIdeal.Point

open Cert.MixInIdeal Cert.MixInIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

/-- Which block each window is at, at each grid point. -/
theorem idx : ∀ t : Fin grid0.N,
    win0_0.index t = ![t.val, 0] ∧ win0_1.index t = ![0, 0] ∧ win0_2.index t = ![0, 0, 0] ∧ win0_3.index t = ![t.val, 0] ∧ win0_4.index t = ![0, t.val, 0] := by
  decide +kernel

/-- Row `a` of the tile at grid point `t`. -/
abbrev row (t : Fin cfg0.N) (a : Fin 512) : Fin 4096 := ⟨512 * t.val + a.val, by have : t.val < 8 := t.isLt; omega⟩

theorem blk_x (t : Fin cfg0.N) (a : Fin 512) (k : Fin 1024) :
    (iblk m c 0 t : Vec Ideal S512x1024 .f32) (ix2 a k) = (V m c main_arg0 : Vec Ideal S4096x1024 .f32) (ix2 (row t a) k) := by
  blk_ext [iblk, (idx t).1]

theorem blk_vec (t : Fin cfg0.N) (a : Fin 8) (k : Fin 1024) :
    (iblk m c 1 t : Vec Ideal S8x1024 .f32) (ix2 a k) = (V m c main_v3 : Vec Ideal S8x1024 .f32) (ix2 a k) := by
  blk_ext [iblk, (idx t).2.1]

theorem blk_w (t : Fin cfg0.N) (a : Fin 8) (k : Fin 1024) (b : Fin 256) :
    (iblk m c 2 t : Vec Ideal S8x1024x256 .bf16) (ix3 a k b) = (V m c main_v4 : Vec Ideal S8x1024x256 .bf16) (ix3 a k b) := by
  blk_ext [iblk, (idx t).2.2.1]

/-- The arguments. -/
abbrev aX : Vec Ideal S4096x1024 .f32 := m ((c : Thread nD τ).loc main_arg0)
abbrev aMod : Vec Ideal S9x1024 .f32 := m ((c : Thread nD τ).loc main_arg1)
abbrev aGain : Vec Ideal S1024 .f32 := m ((c : Thread nD τ).loc main_arg2)
abbrev aW : Vec Ideal S8x1024x256 .f32 := m ((c : Thread nD τ).loc main_arg3)

/-- The modulated row `i` at channel `d`, and the projection, of the arguments. -/
def hOf (i : Fin 4096) (d : Fin 1024) : EReal :=
  hAt (fun k => aX m c (ix2 i k)) (fun k => aGain m c (ix1 k)) (fun k => aMod m c (ix2 4 k)) (fun k => aMod m c (ix2 3 k)) d
def projOf (q : Fin 8) (i : Fin 4096) (b : Fin 256) : EReal := ∑ k : Fin 1024, hOf m c i k * aW m c (ix3 q k b)

theorem hAt_blk (t : Fin cfg0.N) (a : Fin 512) (b : Fin 1024) :
    hAt (fun k => (iblk m c 0 t : Vec Ideal S512x1024 .f32) (ix2 a k)) (fun k => (iblk m c 1 t : Vec Ideal S8x1024 .f32) (ix2 3 k))
      (fun k => (iblk m c 1 t : Vec Ideal S8x1024 .f32) (ix2 1 k)) (fun k => (iblk m c 1 t : Vec Ideal S8x1024 .f32) (ix2 0 k)) b
      = hOf m c (row t a) b :=
  hAt_congr (fun k => (blk_x m c t a k).trans (congrFun (V_main_arg0 m c) _))
    (fun k => (blk_vec m c t 3 k).trans (vec_gain _ k)) (fun k => (blk_vec m c t 1 k).trans (vec_scale _ k))
    (fun k => (blk_vec m c t 0 k).trans (vec_shift _ k)) b

/-- The first result is the modulated rows. -/
theorem h_arr : (dats m 0 c).arrAt 3 cfg0.N = ((fun i => hOf m c (i 0) (i 1)) : Vec Ideal S4096x1024 .bf16) := by
  refine (dats m 0 c).arrAt_eq_of_covers 3 _ (by decide +kernel) fun t hf y => ?_
  blk_simp
  rw [after0_3]
  let a : Fin 512 := ⟨(y 0).val, (y 0).isLt⟩
  let b : Fin 1024 := ⟨(y 1).val, (y 1).isLt⟩
  have hy : y = ix2 a b := by
    funext q; fin_cases q <;> rfl
  have e0 : (win0_3.blk t).view.emb y 0 = row t a := Fin.ext (by blk_simp [(idx t).2.2.2.1]; simp [a]; omega)
  have e1 : (win0_3.blk t).view.emb y 1 = b := Fin.ext (by blk_simp [(idx t).2.2.2.1]; simp [b])
  rw [e0, e1, hy]
  exact (out3_at _ _ _ a b).trans (hAt_blk m c t a b)

/-- The second result is the projection. -/
theorem proj_arr : (dats m 0 c).arrAt 4 cfg0.N = ((fun i => projOf m c (i 0) (i 1) (i 2)) : Vec Ideal S8x4096x256 .f32) := by
  refine (dats m 0 c).arrAt_eq_of_covers 4 _ (by decide +kernel) fun t hf y => ?_
  blk_simp
  rw [after0_4]
  let a : Fin 512 := ⟨(y 1).val, (y 1).isLt⟩
  let q : Fin 8 := ⟨(y 0).val, (y 0).isLt⟩
  let b : Fin 256 := ⟨(y 2).val, (y 2).isLt⟩
  have e0 : (win0_4.blk t).view.emb y 0 = q := Fin.ext (by blk_simp [(idx t).2.2.2.2]; show _ = (y 0).val; omega)
  have e1 : (win0_4.blk t).view.emb y 1 = row t a := Fin.ext (by blk_simp [(idx t).2.2.2.2]; show _ = 512 * t.val + (y 1).val; omega)
  have e2 : (win0_4.blk t).view.emb y 2 = b := Fin.ext (by blk_simp [(idx t).2.2.2.2]; show _ = (y 2).val; omega)
  rw [e0, e1, e2]
  refine (out4_at _ _ _ y).trans ?_
  show projBlk _ _ _ q a b = _
  exact Finset.sum_congr rfl fun k _ => congrArg₂ _ (hAt_blk m c t a k) ((blk_w m c t q k b).trans (w_at _ q k b))

end Cert.MixInIdeal.Point
-- ==== Proof.MixIn.Tie.lean ====
module

public import proofs.«01_k».proof.Defs
public import proofs.«01_k».proof.Proof.Gen.MixIn.Frame
public import proofs.«01_k».proof.Proof.Gen.MixInReferenceIdeal.Run
public import proofs.«01_k».proof.Proof.MixIn.Ref
public import proofs.«01_k».proof.Proof.MixIn.Arrays
@[expose] public section

set_option maxRecDepth 16384

noncomputable section

/-! # The input projection and its reference give the same arrays -/

namespace Cert.MixInIdeal.Point

open Idealize.ShloMosaic Idealize.ShloMosaic.TcCoe Idealize.SL.Sem
open Cert.MixInReferenceIdeal.Read

/-- An index of rank two, by its coordinates. -/
theorem eta2 {a b : Nat} (i : (⟨2, ![a, b]⟩ : Shape).Idx) : i = ix2 ⟨(i 0).val, (i 0).isLt⟩ ⟨(i 1).val, (i 1).isLt⟩ := by
  funext q; fin_cases q <;> rfl
/-- An index of rank three, by its coordinates. -/
theorem eta3 {a b d : Nat} (i : (⟨3, ![a, b, d]⟩ : Shape).Idx) :
    i = ix3 ⟨(i 0).val, (i 0).isLt⟩ ⟨(i 1).val, (i 1).isLt⟩ ⟨(i 2).val, (i 2).isLt⟩ := by
  funext q; fin_cases q <;> rfl

variable (m : (ℓ : Loc nD τ sig) → Buf (Elt Ideal) ℓ) (c : Dev nD)

/-- The reference's rows are the kernel's. -/
theorem h_ref : (val_main_v28 (F := Ideal) (aX m c) (aMod m c) (aGain m c) : Vec Ideal Cert.MixInReferenceIdeal.S4096x1024 .bf16)
    = fun i => hOf m c (i 0) (i 1) := by
  funext i
  rw [eta2 i]
  exact Cert.MixInReferenceIdeal.Point.h_at _ _ _ _ _

/-- The reference's projection is the kernel's. -/
theorem proj_ref : (val_main_v30 (F := Ideal) (aX m c) (aMod m c) (aGain m c) (aW m c) : Vec Ideal Cert.MixInReferenceIdeal.S8x4096x256 .f32)
    = fun i => projOf m c (i 0) (i 1) (i 2) := by
  funext i
  rw [eta3 i]
  refine (Cert.MixInReferenceIdeal.Point.proj_at _ _ _ _ _ _ _).trans ?_
  exact Finset.sum_congr rfl fun k _ => congrArg (· * _) (Cert.MixInReferenceIdeal.Point.h_at _ _ _ _ _)

/-- The input projection's two results are the reference's. -/
theorem algebraic : Cert.algebraic_MixInIdeal_MixInReferenceIdeal := fun m g m' g' _ hagree =>
  ⟨fun c => (fun i => hOf m c (i 0) (i 1) : Vec Ideal S4096x1024 .bf16),
   fun c => (fun i => projOf m c (i 0) (i 1) (i 2) : Vec Ideal S8x4096x256 .f32),
   (θ_run Cert.MixInIdeal.defs _ _).mono (fun r h c => ⟨(h c).1.trans (h_arr m c), (h c).2.1.trans (proj_arr m c), (h c).2.2⟩)
     (Cert.MixInIdeal.Value.run_blocks m g),
   (θ_run Cert.MixInReferenceIdeal.defs _ _).mono (fun r h c =>
     ⟨(h c).1.trans ((val_main_v28_eq (F := Ideal) _ _ _).trans (by
        obtain ⟨e0, e1, e2, _⟩ := hagree c
        rw [e0, e1, e2]
        exact h_ref m c)),
      (h c).2.1.trans ((val_main_v30_eq (F := Ideal) _ _ _ _).trans (by
        obtain ⟨e0, e1, e2, e3⟩ := hagree c
        rw [e0, e1, e2, e3]
        exact proj_ref m c)), (h c).2.2⟩)
     (Cert.MixInReferenceIdeal.Value.run m' g')⟩

end Cert.MixInIdeal.Point

namespace Cert.MixInReferenceIdeal.Point

open Cert.MixInReferenceIdeal
open Idealize.ShloMosaic Idealize.ShloMosaic.TcCoe Idealize.SL.Sem

/-- The reference has no semaphore, so that nothing is left in one. -/
instance noSem : IsEmpty (SemLoc sig) := by
  constructor
  rintro ⟨⟩
  all_goals exact Fin.elim0 (by assumption)

/-- The reference's runs end with the arguments as they were and, there being no semaphore, with every counter at zero. -/
theorem frame {F : FTy → Type} [FloatOps F] [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun _ h => ⟨fun c => (h c).2.2, funext fun x => isEmptyElim x.2⟩) (Value.run m ρ)

end Cert.MixInReferenceIdeal.Point
-- ==== Proof.Ffn.Run.lean ====
module

public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

/-- Whether the body copies the weights at grid point `i`: the comparison it makes of the coordinate with zero. -/
abbrev first (i : grid0.Coords) : Prop :=
  (Scalar.cmpi .ne (Scalar.extui (Scalar.cmpi .eq (BitVec.ofNat 32 (i 0).val) 0#32)) 0#32) = 1#1

set_option maxHeartbeats 1000000 in
/-- The body at a point that copies nothing, on whole staging memrefs, with the two weight buffers holding `w0` and `w1`: what
    its stores leave in the four outputs, as pieces, with the triple that says it. The inputs and the weights are kept. -/
def run (c : Dev nD) (i : grid0.Coords) (hi : ¬first i)
    (arg1 : Memref sig .tc .vmem S512x1024 .f32) (harg1 : arg1.IsWhole) (arg2 : Memref sig .tc .vmem S8x1024 .f32) (harg2 : arg2.IsWhole)
    (arg5 : Memref sig .tc .vmem S512x1024 .f32) (harg5 : arg5.IsWhole) (arg6 : Memref sig .tc .vmem S512x1024 .bf16) (harg6 : arg6.IsWhole)
    (arg7 : Memref sig .tc .vmem S8x512x704 .bf16) (harg7 : arg7.IsWhole) (arg8 : Memref sig .tc .vmem S512x1024 .bf16) (harg8 : arg8.IsWhole)
    (arg9 : Memref sig .tc .vmem S8x1024x704 .bf16) (harg9 : arg9.IsWhole) (arg10 : Memref sig .tc .vmem S2816x1024 .bf16) (harg10 : arg10.IsWhole)
    (x0 : Vec F S512x1024 .f32) (x1 : Vec F S8x1024 .f32) (w0 : Vec F S8x1024x704 .bf16) (w1 : Vec F S2816x1024 .bf16) :
    Σ' (L2 : List (View.Piece (Elt F) S512x1024 .f32)), Σ' (L3 : List (View.Piece (Elt F) S512x1024 .bf16)),
      Σ' (L4 : List (View.Piece (Elt F) S8x512x704 .bf16)), { L5 : List (View.Piece (Elt F) S512x1024 .bf16) //
      ∀ (K : PUnit → sProp 𝕄),
        iprop(owns (c : Thread nD τ) arg1 fullShare x0 ∗ owns (c : Thread nD τ) arg2 fullShare x1
            ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ owns (c : Thread nD τ) arg9 fullShare w0 ∗ owns (c : Thread nD τ) arg10 fullShare w1
            ∗ (iprop(owns (c : Thread nD τ) arg1 fullShare x0 ∗ owns (c : Thread nD τ) arg2 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f L5)
                ∗ owns (c : Thread nD τ) arg9 fullShare w0 ∗ owns (c : Thread nD τ) arg10 fullShare w1) -∗ K ⟨⟩))
          ⊢ wp frame (wpE (defs₀ (F := F)) Variants.none c none) Set.univ (cc0_ffn_fwd_a0 i arg1 harg1 arg2 harg2
              (Memref.whole main_v4) (Memref.isWhole_whole _) (Memref.whole main_v5) (Memref.isWhole_whole _)
              arg5 harg5 arg6 harg6 arg7 harg7 arg8 harg8 arg9 harg9 arg10 harg10 cc0_scratch2) K } := by
  refine ⟨?_, ?_, ?_, ?_, fun K => ?run⟩
  case run =>
    simp only [cc0_ffn_fwd_a0_eq_skeleton]; unfold cc0_ffn_fwd_a0_skel
    simp only [k0_part10_eq_skeleton, k0_part11_eq_skeleton, k0_part12_eq_skeleton, k0_part13_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1
    obtain rfl := harg9.eq_unread hfs0; obtain rfl := harg10.eq_unread hfs1
    sl_exec (disch := first | sl_exact hi)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    isplitl [HS0]
    · iexists _; isplitr; · ipureintro; exact harg9.read_unread _
      iexact HS0
    iexists _; isplitr; · ipureintro; exact harg10.read_unread _
    iexact HS1

end Cert.FfnIdeal.Hand

end
-- ==== Proof.Ffn.Outs.lean ====
module

public import proofs.«01_k».proof.Proof.Ffn.Run
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueLayout

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

/-! # What the body computes, as functions of its blocks and of the two weight buffers -/

abbrev rBlk : Rect S512x1024 := Rect.unit (s := S512x1024) ![0, 0] S512x1024.size inb_S512x1024_S512x1024_0_0
abbrev rShift : Rect S8x1024 := Rect.unit (s := S8x1024) ![0, 0] S1x1024.size inb_S8x1024_S1x1024_0_0
abbrev rScale : Rect S8x1024 := Rect.unit (s := S8x1024) ![1, 0] S1x1024.size inb_S8x1024_S1x1024_1_0
abbrev rGate : Rect S8x1024 := Rect.unit (s := S8x1024) ![2, 0] S1x1024.size inb_S8x1024_S1x1024_2_0
abbrev rGain : Rect S8x1024 := Rect.unit (s := S8x1024) ![3, 0] S1x1024.size inb_S8x1024_S1x1024_3_0
abbrev rCol0 : Rect S8x1024x704 := Rect.unit (s := S8x1024x704) ![0, 0, 0] S1x1024x704.size inb_S8x1024x704_S1x1024x704_0_0_0
abbrev rCol1 : Rect S8x1024x704 := Rect.unit (s := S8x1024x704) ![1, 0, 0] S1x1024x704.size inb_S8x1024x704_S1x1024x704_1_0_0
abbrev rCol2 : Rect S8x1024x704 := Rect.unit (s := S8x1024x704) ![2, 0, 0] S1x1024x704.size inb_S8x1024x704_S1x1024x704_2_0_0
abbrev rCol3 : Rect S8x1024x704 := Rect.unit (s := S8x1024x704) ![3, 0, 0] S1x1024x704.size inb_S8x1024x704_S1x1024x704_3_0_0
abbrev rCol4 : Rect S8x1024x704 := Rect.unit (s := S8x1024x704) ![4, 0, 0] S1x1024x704.size inb_S8x1024x704_S1x1024x704_4_0_0
abbrev rCol5 : Rect S8x1024x704 := Rect.unit (s := S8x1024x704) ![5, 0, 0] S1x1024x704.size inb_S8x1024x704_S1x1024x704_5_0_0
abbrev rCol6 : Rect S8x1024x704 := Rect.unit (s := S8x1024x704) ![6, 0, 0] S1x1024x704.size inb_S8x1024x704_S1x1024x704_6_0_0
abbrev rCol7 : Rect S8x1024x704 := Rect.unit (s := S8x1024x704) ![7, 0, 0] S1x1024x704.size inb_S8x1024x704_S1x1024x704_7_0_0
abbrev rRow0 : Rect S2816x1024 := Rect.unit (s := S2816x1024) ![0, 0] S704x1024.size inb_S2816x1024_S704x1024_0_0
abbrev rRow1 : Rect S2816x1024 := Rect.unit (s := S2816x1024) ![704, 0] S704x1024.size inb_S2816x1024_S704x1024_704_0
abbrev rRow2 : Rect S2816x1024 := Rect.unit (s := S2816x1024) ![1408, 0] S704x1024.size inb_S2816x1024_S704x1024_1408_0
abbrev rRow3 : Rect S2816x1024 := Rect.unit (s := S2816x1024) ![2112, 0] S704x1024.size inb_S2816x1024_S704x1024_2112_0
abbrev rOut0 : Rect S8x512x704 := Rect.unit (s := S8x512x704) ![0, 0, 0] S1x512x704.size inb_S8x512x704_S1x512x704_0_0_0
abbrev rOut1 : Rect S8x512x704 := Rect.unit (s := S8x512x704) ![1, 0, 0] S1x512x704.size inb_S8x512x704_S1x512x704_1_0_0
abbrev rOut2 : Rect S8x512x704 := Rect.unit (s := S8x512x704) ![2, 0, 0] S1x512x704.size inb_S8x512x704_S1x512x704_2_0_0
abbrev rOut3 : Rect S8x512x704 := Rect.unit (s := S8x512x704) ![3, 0, 0] S1x512x704.size inb_S8x512x704_S1x512x704_3_0_0
abbrev rOut4 : Rect S8x512x704 := Rect.unit (s := S8x512x704) ![4, 0, 0] S1x512x704.size inb_S8x512x704_S1x512x704_4_0_0
abbrev rOut5 : Rect S8x512x704 := Rect.unit (s := S8x512x704) ![5, 0, 0] S1x512x704.size inb_S8x512x704_S1x512x704_5_0_0
abbrev rOut6 : Rect S8x512x704 := Rect.unit (s := S8x512x704) ![6, 0, 0] S1x512x704.size inb_S8x512x704_S1x512x704_6_0_0
abbrev rOut7 : Rect S8x512x704 := Rect.unit (s := S8x512x704) ![7, 0, 0] S1x512x704.size inb_S8x512x704_S1x512x704_7_0_0

/-- The normalised and modulated block. -/
def hB (x0 : Vec F S512x1024 .f32) (x1 : Vec F S8x1024 .f32) : FVec F S512x1024 .bf16 :=
  k0_pay4 (View.ld x0 rBlk) (View.ld x1 rGain) (View.ld x1 rScale) (View.ld x1 rShift)

/-- The first column block of the gate product. -/
def gB (x0 : Vec F S512x1024 .f32) (x1 : Vec F S8x1024 .f32) (w0 : Vec F S8x1024x704 .bf16) : FVec F S512x704 .f32 :=
  k0_pay6 (View.ld x0 rBlk) (View.ld x1 rGain) (View.ld x1 rScale) (View.ld x1 rShift) (View.ld w0 rCol0)

/-- The running sum over the first three blocks of inner columns. -/
def accB (x0 : Vec F S512x1024 .f32) (x1 : Vec F S8x1024 .f32) (w0 : Vec F S8x1024x704 .bf16) (w1 : Vec F S2816x1024 .bf16) : FVec F S512x1024 .f32 :=
  k0_pay21
    (k0_pay16 (k0_pay10 (hB x0 x1) k0_pay5 (gB x0 x1 w0) (View.ld w0 rCol4) (View.ld w1 rRow0))
      (k0_pay11 (hB x0 x1) (View.ld w0 rCol1)) (k0_pay12 (hB x0 x1) (View.ld w0 rCol5)) (View.ld w1 rRow1))
    (k0_pay17 (hB x0 x1) (View.ld w0 rCol2)) (k0_pay18 (hB x0 x1) (View.ld w0 rCol6)) (FloatOps.ofBits .f32 0x00000000#32) (View.ld w1 rRow2)

/-- The gated inner columns of the last block. -/
def lastB (x0 : Vec F S512x1024 .f32) (x1 : Vec F S8x1024 .f32) (w0 : Vec F S8x1024x704 .bf16) : FVec F S512x704 .f32 :=
  k0_pay26 (hB x0 x1) (View.ld w0 rCol3) (View.ld w0 rCol7)

/-- The stores into the four outputs, last first. -/
def xoL (x0 : Vec F S512x1024 .f32) (x1 : Vec F S8x1024 .f32) (w0 : Vec F S8x1024x704 .bf16) (w1 : Vec F S2816x1024 .bf16) : List (View.Piece (Elt F) S512x1024 .f32) :=
  [⟨rBlk, k0_pay3 (View.ld x0 rBlk) (accB x0 x1 w0 w1) (lastB x0 x1 w0) (View.ld w1 rRow3) (View.ld x1 rGate)⟩]
def hL (x0 : Vec F S512x1024 .f32) (x1 : Vec F S8x1024 .f32) : List (View.Piece (Elt F) S512x1024 .bf16) := [⟨rBlk, hB x0 x1⟩]
def guL (x0 : Vec F S512x1024 .f32) (x1 : Vec F S8x1024 .f32) (w0 : Vec F S8x1024x704 .bf16) : List (View.Piece (Elt F) S8x512x704 .bf16) :=
  [⟨rOut7, k0_pay25 (hB x0 x1) (View.ld w0 rCol7)⟩, ⟨rOut3, k0_pay24 (hB x0 x1) (View.ld w0 rCol3)⟩,
   ⟨rOut6, k0_pay20 (hB x0 x1) (View.ld w0 rCol6)⟩, ⟨rOut2, k0_pay19 (hB x0 x1) (View.ld w0 rCol2)⟩,
   ⟨rOut5, k0_pay15 (k0_pay12 (hB x0 x1) (View.ld w0 rCol5))⟩, ⟨rOut1, k0_pay14 (k0_pay13 (hB x0 x1) (View.ld w0 rCol1))⟩,
   ⟨rOut4, k0_pay9 (hB x0 x1) (View.ld w0 rCol4)⟩, ⟨rOut0, k0_pay8 (gB x0 x1 w0)⟩]
def fL (x0 : Vec F S512x1024 .f32) (x1 : Vec F S8x1024 .f32) (w0 : Vec F S8x1024x704 .bf16) (w1 : Vec F S2816x1024 .bf16) : List (View.Piece (Elt F) S512x1024 .bf16) :=
  [⟨rBlk, k0_pay2 (accB x0 x1 w0 w1) (lastB x0 x1 w0) (View.ld w1 rRow3)⟩]

/-- The stores of each output cover it. -/
theorem xo_cover (x0 : Vec F S512x1024 .f32) (x1 : Vec F S8x1024 .f32) (w0 : Vec F S8x1024x704 .bf16) (w1 : Vec F S2816x1024 .bf16) (y : S512x1024.Idx) : ∃ pc ∈ xoL x0 x1 w0 w1, y ∈ pc.1.set :=
  View.cover_of_tiledL (xoL x0 x1 w0 w1) S512x1024.size (by sl_kernel_rfl) y
theorem h_cover (x0 : Vec F S512x1024 .f32) (x1 : Vec F S8x1024 .f32) (y : S512x1024.Idx) : ∃ pc ∈ hL x0 x1, y ∈ pc.1.set :=
  View.cover_of_tiledL (hL x0 x1) S512x1024.size (by sl_kernel_rfl) y
theorem gu_cover (x0 : Vec F S512x1024 .f32) (x1 : Vec F S8x1024 .f32) (w0 : Vec F S8x1024x704 .bf16) (y : S8x512x704.Idx) : ∃ pc ∈ guL x0 x1 w0, y ∈ pc.1.set :=
  View.cover_of_tiledL (guL x0 x1 w0) S1x512x704.size (by sl_kernel_rfl) y
theorem f_cover (x0 : Vec F S512x1024 .f32) (x1 : Vec F S8x1024 .f32) (w0 : Vec F S8x1024x704 .bf16) (w1 : Vec F S2816x1024 .bf16) (y : S512x1024.Idx) : ∃ pc ∈ fL x0 x1 w0 w1, y ∈ pc.1.set :=
  View.cover_of_tiledL (fL x0 x1 w0 w1) S512x1024.size (by sl_kernel_rfl) y

theorem run_xo (c : Dev nD) (i : grid0.Coords) (hi : ¬first i) (arg1 : Memref sig .tc .vmem S512x1024 .f32) (harg1 : arg1.IsWhole) (arg2 : Memref sig .tc .vmem S8x1024 .f32) (harg2 : arg2.IsWhole) (arg5 : Memref sig .tc .vmem S512x1024 .f32) (harg5 : arg5.IsWhole) (arg6 : Memref sig .tc .vmem S512x1024 .bf16) (harg6 : arg6.IsWhole) (arg7 : Memref sig .tc .vmem S8x512x704 .bf16) (harg7 : arg7.IsWhole) (arg8 : Memref sig .tc .vmem S512x1024 .bf16) (harg8 : arg8.IsWhole) (arg9 : Memref sig .tc .vmem S8x1024x704 .bf16) (harg9 : arg9.IsWhole) (arg10 : Memref sig .tc .vmem S2816x1024 .bf16) (harg10 : arg10.IsWhole) (x0 : Vec F S512x1024 .f32) (x1 : Vec F S8x1024 .f32) (w0 : Vec F S8x1024x704 .bf16) (w1 : Vec F S2816x1024 .bf16) :
    (run c i hi arg1 harg1 arg2 harg2 arg5 harg5 arg6 harg6 arg7 harg7 arg8 harg8 arg9 harg9 arg10 harg10 x0 x1 w0 w1).1 = xoL x0 x1 w0 w1 := by
  unfold run
  simp only [run.sl.r, run.sl.r_1, run.sl.r_2, run.sl.r_3, run.sl.r_4, run.sl.r_5, run.sl.r_6, run.sl.r_7, run.sl.r_8, run.sl.r_9, run.sl.r_10, run.sl.r_11, View.readAt_eq_ld, Memref.IsWhole.read_unread]
  rfl

theorem run_h (c : Dev nD) (i : grid0.Coords) (hi : ¬first i) (arg1 : Memref sig .tc .vmem S512x1024 .f32) (harg1 : arg1.IsWhole) (arg2 : Memref sig .tc .vmem S8x1024 .f32) (harg2 : arg2.IsWhole) (arg5 : Memref sig .tc .vmem S512x1024 .f32) (harg5 : arg5.IsWhole) (arg6 : Memref sig .tc .vmem S512x1024 .bf16) (harg6 : arg6.IsWhole) (arg7 : Memref sig .tc .vmem S8x512x704 .bf16) (harg7 : arg7.IsWhole) (arg8 : Memref sig .tc .vmem S512x1024 .bf16) (harg8 : arg8.IsWhole) (arg9 : Memref sig .tc .vmem S8x1024x704 .bf16) (harg9 : arg9.IsWhole) (arg10 : Memref sig .tc .vmem S2816x1024 .bf16) (harg10 : arg10.IsWhole) (x0 : Vec F S512x1024 .f32) (x1 : Vec F S8x1024 .f32) (w0 : Vec F S8x1024x704 .bf16) (w1 : Vec F S2816x1024 .bf16) :
    (run c i hi arg1 harg1 arg2 harg2 arg5 harg5 arg6 harg6 arg7 harg7 arg8 harg8 arg9 harg9 arg10 harg10 x0 x1 w0 w1).2.1 = hL x0 x1 := by
  unfold run
  simp only [run.sl.r, run.sl.r_1, run.sl.r_2, run.sl.r_3, run.sl.r_4, run.sl.r_5, run.sl.r_6, run.sl.r_7, run.sl.r_8, run.sl.r_9, run.sl.r_10, run.sl.r_11, View.readAt_eq_ld, Memref.IsWhole.read_unread]
  rfl

theorem run_gu (c : Dev nD) (i : grid0.Coords) (hi : ¬first i) (arg1 : Memref sig .tc .vmem S512x1024 .f32) (harg1 : arg1.IsWhole) (arg2 : Memref sig .tc .vmem S8x1024 .f32) (harg2 : arg2.IsWhole) (arg5 : Memref sig .tc .vmem S512x1024 .f32) (harg5 : arg5.IsWhole) (arg6 : Memref sig .tc .vmem S512x1024 .bf16) (harg6 : arg6.IsWhole) (arg7 : Memref sig .tc .vmem S8x512x704 .bf16) (harg7 : arg7.IsWhole) (arg8 : Memref sig .tc .vmem S512x1024 .bf16) (harg8 : arg8.IsWhole) (arg9 : Memref sig .tc .vmem S8x1024x704 .bf16) (harg9 : arg9.IsWhole) (arg10 : Memref sig .tc .vmem S2816x1024 .bf16) (harg10 : arg10.IsWhole) (x0 : Vec F S512x1024 .f32) (x1 : Vec F S8x1024 .f32) (w0 : Vec F S8x1024x704 .bf16) (w1 : Vec F S2816x1024 .bf16) :
    (run c i hi arg1 harg1 arg2 harg2 arg5 harg5 arg6 harg6 arg7 harg7 arg8 harg8 arg9 harg9 arg10 harg10 x0 x1 w0 w1).2.2.1 = guL x0 x1 w0 := by
  unfold run
  simp only [run.sl.r, run.sl.r_1, run.sl.r_2, run.sl.r_3, run.sl.r_4, run.sl.r_5, run.sl.r_6, run.sl.r_7, run.sl.r_8, run.sl.r_9, run.sl.r_10, run.sl.r_11, View.readAt_eq_ld, Memref.IsWhole.read_unread]
  rfl

theorem run_f (c : Dev nD) (i : grid0.Coords) (hi : ¬first i) (arg1 : Memref sig .tc .vmem S512x1024 .f32) (harg1 : arg1.IsWhole) (arg2 : Memref sig .tc .vmem S8x1024 .f32) (harg2 : arg2.IsWhole) (arg5 : Memref sig .tc .vmem S512x1024 .f32) (harg5 : arg5.IsWhole) (arg6 : Memref sig .tc .vmem S512x1024 .bf16) (harg6 : arg6.IsWhole) (arg7 : Memref sig .tc .vmem S8x512x704 .bf16) (harg7 : arg7.IsWhole) (arg8 : Memref sig .tc .vmem S512x1024 .bf16) (harg8 : arg8.IsWhole) (arg9 : Memref sig .tc .vmem S8x1024x704 .bf16) (harg9 : arg9.IsWhole) (arg10 : Memref sig .tc .vmem S2816x1024 .bf16) (harg10 : arg10.IsWhole) (x0 : Vec F S512x1024 .f32) (x1 : Vec F S8x1024 .f32) (w0 : Vec F S8x1024x704 .bf16) (w1 : Vec F S2816x1024 .bf16) :
    (run c i hi arg1 harg1 arg2 harg2 arg5 harg5 arg6 harg6 arg7 harg7 arg8 harg8 arg9 harg9 arg10 harg10 x0 x1 w0 w1).2.2.2.1 = fL x0 x1 w0 w1 := by
  unfold run
  simp only [run.sl.r, run.sl.r_1, run.sl.r_2, run.sl.r_3, run.sl.r_4, run.sl.r_5, run.sl.r_6, run.sl.r_7, run.sl.r_8, run.sl.r_9, run.sl.r_10, run.sl.r_11, View.readAt_eq_ld, Memref.IsWhole.read_unread]
  rfl

/-- A grid point that copies nothing. -/
def second : Fin cfg0.N := ⟨1, by rw [show cfg0.N = 8 from N_0]; decide⟩

/-- The copies run at the first grid point and at no other. -/
theorem first_iff (t : Fin cfg0.N) : first (grid0.coords t) ↔ t.val = 0 := by
  have ht : t.val < 8 := Nat.lt_of_lt_of_eq t.isLt N_0
  have e0 : (grid0.coords t 0).val = t.val / 1 % 8 := Pipeline.Grid.coords_val t 0 (by decide) rfl
  have e1 : t.val / 1 % 8 = t.val := by omega
  simp only [first, e0, e1]
  word_cmp

theorem second_not : ¬first (grid0.coords second) := fun h => absurd ((first_iff second).mp h) (by decide)

/-- The body's triple where nothing is copied: the inputs and the weights are kept and each output holds what its stores leave. -/
theorem step (c : Dev nD) (arg1 : Memref sig .tc .vmem S512x1024 .f32) (harg1 : arg1.IsWhole) (arg2 : Memref sig .tc .vmem S8x1024 .f32) (harg2 : arg2.IsWhole) (arg5 : Memref sig .tc .vmem S512x1024 .f32) (harg5 : arg5.IsWhole) (arg6 : Memref sig .tc .vmem S512x1024 .bf16) (harg6 : arg6.IsWhole) (arg7 : Memref sig .tc .vmem S8x512x704 .bf16) (harg7 : arg7.IsWhole) (arg8 : Memref sig .tc .vmem S512x1024 .bf16) (harg8 : arg8.IsWhole) (arg9 : Memref sig .tc .vmem S8x1024x704 .bf16) (harg9 : arg9.IsWhole) (arg10 : Memref sig .tc .vmem S2816x1024 .bf16) (harg10 : arg10.IsWhole) (x0 : Vec F S512x1024 .f32) (x1 : Vec F S8x1024 .f32) (w0 : Vec F S8x1024x704 .bf16) (w1 : Vec F S2816x1024 .bf16) (K : PUnit → sProp 𝕄) :
    iprop(owns (c : Thread nD τ) arg1 fullShare x0 ∗ owns (c : Thread nD τ) arg2 fullShare x1
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ owns (c : Thread nD τ) arg9 fullShare w0 ∗ owns (c : Thread nD τ) arg10 fullShare w1
        ∗ (iprop(owns (c : Thread nD τ) arg1 fullShare x0 ∗ owns (c : Thread nD τ) arg2 fullShare x1
            ∗ owns (c : Thread nD τ) arg5 fullShare (View.canon (xoL x0 x1 w0 w1))
            ∗ owns (c : Thread nD τ) arg6 fullShare (View.canon (hL x0 x1))
            ∗ owns (c : Thread nD τ) arg7 fullShare (View.canon (guL x0 x1 w0))
            ∗ owns (c : Thread nD τ) arg8 fullShare (View.canon (fL x0 x1 w0 w1))
            ∗ owns (c : Thread nD τ) arg9 fullShare w0 ∗ owns (c : Thread nD τ) arg10 fullShare w1) -∗ K ⟨⟩))
      ⊢ wp frame (wpE (defs₀ (F := F)) Variants.none c none) Set.univ (cc0_ffn_fwd_a0 (grid0.coords second) arg1 harg1 arg2 harg2
          (Memref.whole main_v4) (Memref.isWhole_whole _) (Memref.whole main_v5) (Memref.isWhole_whole _)
          arg5 harg5 arg6 harg6 arg7 harg7 arg8 harg8 arg9 harg9 arg10 harg10 cc0_scratch2) K := by
  iintro ⟨H1, H2, H5, H6, H7, H8, H9, H10, Hk⟩
  iapply ((run c (grid0.coords second) second_not arg1 harg1 arg2 harg2 arg5 harg5 arg6 harg6 arg7 harg7 arg8 harg8 arg9 harg9 arg10 harg10 x0 x1 w0 w1).2.2.2.2 K)
  isplitl [H1]; · iexact H1
  isplitl [H2]; · iexact H2
  isplitl [H5]; · iexact H5
  isplitl [H6]; · iexact H6
  isplitl [H7]; · iexact H7
  isplitl [H8]; · iexact H8
  isplitl [H9]; · iexact H9
  isplitl [H10]; · iexact H10
  iintro ⟨H1, H2, ⟨%f5, H5⟩, ⟨%f6, H6⟩, ⟨%f7, H7⟩, ⟨%f8, H8⟩, H9, H10⟩
  iapply Hk
  isplitl [H1]; · iexact H1
  isplitl [H2]; · iexact H2
  isplitl [H5]
  · unfold owns; iexists _; isplitr
    swap; · iexact H5
    ipureintro; rw [run_xo]; exact View.read_writes_eq_canon _ _ _ (xo_cover x0 x1 w0 w1)
  isplitl [H6]
  · unfold owns; iexists _; isplitr
    swap; · iexact H6
    ipureintro; rw [run_h]; exact View.read_writes_eq_canon _ _ _ (h_cover x0 x1)
  isplitl [H7]
  · unfold owns; iexists _; isplitr
    swap; · iexact H7
    ipureintro; rw [run_gu]; exact View.read_writes_eq_canon _ _ _ (gu_cover x0 x1 w0)
  isplitl [H8]
  · unfold owns; iexists _; isplitr
    swap; · iexact H8
    ipureintro; rw [run_f]; exact View.read_writes_eq_canon _ _ _ (f_cover x0 x1 w0 w1)
  isplitl [H9]; · iexact H9
  iexact H10

end Cert.FfnIdeal.Hand

end
-- ==== Proof.Ffn.Body.lean ====
module

public import proofs.«01_k».proof.Proof.Ffn.Outs
public import proofs.«01_k».proof.Proof.MixIn.Body
public import Idealize.ShloMosaic.Lib.Pointwise
public import Idealize.ShloMosaic.Lib.StableHlo.ReadAt
public import Idealize.ShloMosaic.Lib.Pipeline.ValueKit
@[expose] public section

set_option maxRecDepth 16384

noncomputable section

/-! # The feed-forward body, at an index -/

namespace Cert.FfnIdeal.Point

open Cert.FfnIdeal Cert.FfnIdeal.Gen Cert.FfnIdeal.Hand
open Idealize.ShloMosaic Idealize.ShloMosaic.TcCoe Idealize.ShloMosaic.Tactic
open StableHlo
open Cert.MixInIdeal.Point (hAt hAt_congr)

/-- The gated unit: `g` times its own logistic value, times `u`. -/
def swi (g u : EReal) : EReal := g * Ideal.div 1 (1 + Ideal.exp (0 - g)) * u

/-- The modulated block, from the four loads. -/
theorem pay4_at (v0 : Vec Ideal S512x1024 .f32) (v1 v3 v5 : Vec Ideal S1x1024 .f32) (a : Fin 512) (b : Fin 1024) :
    (k0_pay4 (F := Ideal) v0 v1 v3 v5 : Vec Ideal S512x1024 .bf16) (ix2 a b)
      = hAt (fun k => v0 (ix2 a k)) (fun k => v1 (ix2 0 k)) (fun k => v3 (ix2 0 k)) (fun k => v5 (ix2 0 k)) b := by
  unfold hAt
  pointwise [k0_pay4]

/-- One entry of a column block of the first product, in each place where the body computes one. -/
theorem pay7_at (h : Vec Ideal S512x1024 .bf16) (v : Vec Ideal S1x1024x704 .bf16) (a : Fin 512) (b : Fin 704) :
    (k0_pay7 (F := Ideal) h v : Vec Ideal S512x704 .f32) (ix2 a b) = ∑ k : Fin 1024, h (ix2 a k) * v (ix3 0 k b) := by
  pointwise [k0_pay7]
theorem pay11_at (h : Vec Ideal S512x1024 .bf16) (v : Vec Ideal S1x1024x704 .bf16) (a : Fin 512) (b : Fin 704) :
    (k0_pay11 (F := Ideal) h v : Vec Ideal S512x704 .f32) (ix2 a b) = ∑ k : Fin 1024, h (ix2 a k) * v (ix3 0 k b) := by
  pointwise [k0_pay11]
theorem pay12_at (h : Vec Ideal S512x1024 .bf16) (v : Vec Ideal S1x1024x704 .bf16) (a : Fin 512) (b : Fin 704) :
    (k0_pay12 (F := Ideal) h v : Vec Ideal S512x704 .f32) (ix2 a b) = ∑ k : Fin 1024, h (ix2 a k) * v (ix3 0 k b) := by
  pointwise [k0_pay12]
theorem pay17_at (h : Vec Ideal S512x1024 .bf16) (v : Vec Ideal S1x1024x704 .bf16) (a : Fin 512) (b : Fin 704) :
    (k0_pay17 (F := Ideal) h v : Vec Ideal S512x704 .f32) (ix2 a b) = ∑ k : Fin 1024, h (ix2 a k) * v (ix3 0 k b) := by
  pointwise [k0_pay17]
theorem pay18_at (h : Vec Ideal S512x1024 .bf16) (v : Vec Ideal S1x1024x704 .bf16) (a : Fin 512) (b : Fin 704) :
    (k0_pay18 (F := Ideal) h v : Vec Ideal S512x704 .f32) (ix2 a b) = ∑ k : Fin 1024, h (ix2 a k) * v (ix3 0 k b) := by
  pointwise [k0_pay18]
theorem pay22_at (h : Vec Ideal S512x1024 .bf16) (v : Vec Ideal S1x1024x704 .bf16) (a : Fin 512) (b : Fin 704) :
    (k0_pay22 (F := Ideal) h v : Vec Ideal S512x704 .f32) (ix2 a b) = ∑ k : Fin 1024, h (ix2 a k) * v (ix3 0 k b) := by
  pointwise [k0_pay22]
theorem pay23_at (h : Vec Ideal S512x1024 .bf16) (v : Vec Ideal S1x1024x704 .bf16) (a : Fin 512) (b : Fin 704) :
    (k0_pay23 (F := Ideal) h v : Vec Ideal S512x704 .f32) (ix2 a b) = ∑ k : Fin 1024, h (ix2 a k) * v (ix3 0 k b) := by
  pointwise [k0_pay23]

/-- A block of the first product, as it is stored. -/
theorem pay8_at (g : Vec Ideal S512x704 .f32) (a : Fin 512) (b : Fin 704) :
    (k0_pay8 (F := Ideal) g : Vec Ideal S1x512x704 .bf16) (ix3 0 a b) = g (ix2 a b) := by
  pointwise [k0_pay8]
theorem pay9_at (h : Vec Ideal S512x1024 .bf16) (v : Vec Ideal S1x1024x704 .bf16) (a : Fin 512) (b : Fin 704) :
    (k0_pay9 (F := Ideal) h v : Vec Ideal S1x512x704 .bf16) (ix3 0 a b) = ∑ k : Fin 1024, h (ix2 a k) * v (ix3 0 k b) := by
  rw [← pay7_at]
  pointwise [k0_pay9]
theorem pay14_at (h : Vec Ideal S512x1024 .bf16) (v : Vec Ideal S1x1024x704 .bf16) (a : Fin 512) (b : Fin 704) :
    (k0_pay14 (F := Ideal) (k0_pay13 h v) : Vec Ideal S1x512x704 .bf16) (ix3 0 a b) = ∑ k : Fin 1024, h (ix2 a k) * v (ix3 0 k b) := by
  rw [← pay11_at]
  pointwise [k0_pay14, k0_pay13]
theorem pay15_at (g : Vec Ideal S512x704 .f32) (a : Fin 512) (b : Fin 704) :
    (k0_pay15 (F := Ideal) g : Vec Ideal S1x512x704 .bf16) (ix3 0 a b) = g (ix2 a b) := by
  pointwise [k0_pay15]
theorem pay19_at (h : Vec Ideal S512x1024 .bf16) (v : Vec Ideal S1x1024x704 .bf16) (a : Fin 512) (b : Fin 704) :
    (k0_pay19 (F := Ideal) h v : Vec Ideal S1x512x704 .bf16) (ix3 0 a b) = ∑ k : Fin 1024, h (ix2 a k) * v (ix3 0 k b) := by
  rw [← pay17_at]
  pointwise [k0_pay19]
theorem pay20_at (h : Vec Ideal S512x1024 .bf16) (v : Vec Ideal S1x1024x704 .bf16) (a : Fin 512) (b : Fin 704) :
    (k0_pay20 (F := Ideal) h v : Vec Ideal S1x512x704 .bf16) (ix3 0 a b) = ∑ k : Fin 1024, h (ix2 a k) * v (ix3 0 k b) := by
  rw [← pay18_at]
  pointwise [k0_pay20]
theorem pay24_at (h : Vec Ideal S512x1024 .bf16) (v : Vec Ideal S1x1024x704 .bf16) (a : Fin 512) (b : Fin 704) :
    (k0_pay24 (F := Ideal) h v : Vec Ideal S1x512x704 .bf16) (ix3 0 a b) = ∑ k : Fin 1024, h (ix2 a k) * v (ix3 0 k b) := by
  rw [← pay22_at]
  pointwise [k0_pay24]
theorem pay25_at (h : Vec Ideal S512x1024 .bf16) (v : Vec Ideal S1x1024x704 .bf16) (a : Fin 512) (b : Fin 704) :
    (k0_pay25 (F := Ideal) h v : Vec Ideal S1x512x704 .bf16) (ix3 0 a b) = ∑ k : Fin 1024, h (ix2 a k) * v (ix3 0 k b) := by
  rw [← pay23_at]
  pointwise [k0_pay25]

/-- The first block of inner columns, added to what the sum started from. -/
theorem pay10_at (h : Vec Ideal S512x1024 .bf16) (s : Vec Ideal S512x1024 .f32) (g : Vec Ideal S512x704 .f32) (v : Vec Ideal S1x1024x704 .bf16)
    (w : Vec Ideal S704x1024 .bf16) (a : Fin 512) (d : Fin 1024) :
    (k0_pay10 (F := Ideal) h s g v w : Vec Ideal S512x1024 .f32) (ix2 a d)
      = s (ix2 a d) + ∑ b : Fin 704, swi (g (ix2 a b)) ((k0_pay7 (F := Ideal) h v : Vec Ideal S512x704 .f32) (ix2 a b)) * w (ix2 b d) := by
  unfold swi
  pointwise [k0_pay10]
/-- The second. -/
theorem pay16_at (s : Vec Ideal S512x1024 .f32) (g u : Vec Ideal S512x704 .f32) (w : Vec Ideal S704x1024 .bf16) (a : Fin 512) (d : Fin 1024) :
    (k0_pay16 (F := Ideal) s g u w : Vec Ideal S512x1024 .f32) (ix2 a d)
      = s (ix2 a d) + ∑ b : Fin 704, swi (g (ix2 a b)) (u (ix2 a b)) * w (ix2 b d) := by
  unfold swi
  pointwise [k0_pay16]
/-- The third. -/
theorem pay21_at (s : Vec Ideal S512x1024 .f32) (g u : Vec Ideal S512x704 .f32) (w : Vec Ideal S704x1024 .bf16) (a : Fin 512) (d : Fin 1024) :
    (k0_pay21 (F := Ideal) s g u (FloatOps.ofBits .f32 0x00000000#32) w : Vec Ideal S512x1024 .f32) (ix2 a d)
      = s (ix2 a d) + ∑ b : Fin 704, swi (g (ix2 a b)) (u (ix2 a b)) * w (ix2 b d) := by
  unfold swi
  pointwise [k0_pay21]
/-- The inner columns of the last block. -/
theorem pay26_at (h : Vec Ideal S512x1024 .bf16) (v v' : Vec Ideal S1x1024x704 .bf16) (a : Fin 512) (b : Fin 704) :
    (k0_pay26 (F := Ideal) h v v' : Vec Ideal S512x704 .f32) (ix2 a b)
      = swi ((k0_pay22 (F := Ideal) h v : Vec Ideal S512x704 .f32) (ix2 a b)) ((k0_pay23 (F := Ideal) h v' : Vec Ideal S512x704 .f32) (ix2 a b)) := by
  unfold swi
  pointwise [k0_pay26]
/-- The whole second product. -/
theorem pay1_at (s : Vec Ideal S512x1024 .f32) (g : Vec Ideal S512x704 .f32) (w : Vec Ideal S704x1024 .bf16) (a : Fin 512) (d : Fin 1024) :
    (k0_pay1 (F := Ideal) s g w : Vec Ideal S512x1024 .f32) (ix2 a d) = s (ix2 a d) + ∑ b : Fin 704, g (ix2 a b) * w (ix2 b d) := by
  pointwise [k0_pay1]
theorem pay2_at (s : Vec Ideal S512x1024 .f32) (g : Vec Ideal S512x704 .f32) (w : Vec Ideal S704x1024 .bf16) (a : Fin 512) (d : Fin 1024) :
    (k0_pay2 (F := Ideal) s g w : Vec Ideal S512x1024 .bf16) (ix2 a d) = (k0_pay1 (F := Ideal) s g w : Vec Ideal S512x1024 .f32) (ix2 a d) := by
  pointwise [k0_pay2]
/-- The residual, with the gate. -/
theorem pay3_at (x s : Vec Ideal S512x1024 .f32) (g : Vec Ideal S512x704 .f32) (w : Vec Ideal S704x1024 .bf16) (t : Vec Ideal S1x1024 .f32) (a : Fin 512) (d : Fin 1024) :
    (k0_pay3 (F := Ideal) x s g w t : Vec Ideal S512x1024 .f32) (ix2 a d)
      = x (ix2 a d) + Ideal.ofBits .f32 0x3F000000#32 * t (ix2 0 d) * (k0_pay1 (F := Ideal) s g w : Vec Ideal S512x1024 .f32) (ix2 a d) := by
  pointwise [k0_pay3]
theorem pay5_at (a : Fin 512) (d : Fin 1024) : (k0_pay5 (F := Ideal) : Vec Ideal S512x1024 .f32) (ix2 a d) = (0 : EReal) := by
  pointwise [k0_pay5]
theorem pay6_eq (x : Vec Ideal S512x1024 .f32) (v1 v3 v5 : Vec Ideal S1x1024 .f32) (v : Vec Ideal S1x1024x704 .bf16) :
    k0_pay6 (F := Ideal) x v1 v3 v5 v = k0_pay7 (k0_pay4 x v1 v3 v5) v := rfl

end Cert.FfnIdeal.Point
-- ==== Proof.Ffn.Blocks.lean ====
module

public import proofs.«01_k».proof.Proof.Ffn.Body
@[expose] public section

set_option maxRecDepth 16384

noncomputable section

/-! # What the feed-forward body leaves in its four output blocks -/

namespace Cert.FfnIdeal.Point

open Cert.FfnIdeal Cert.FfnIdeal.Gen Cert.FfnIdeal.Hand
open Idealize.ShloMosaic Idealize.ShloMosaic.TcCoe Idealize.ShloMosaic.Tactic
open StableHlo
open Cert.MixInIdeal.Point (hAt hAt_congr)

variable (x0 : Vec Ideal S512x1024 .f32) (x1 : Vec Ideal S8x1024 .f32) (w0 : Vec Ideal S8x1024x704 .bf16) (w1 : Vec Ideal S2816x1024 .bf16)

/-- The block's rows and the packed vectors, as the body loads them. -/
theorem ld_x (a : Fin 512) (k : Fin 1024) : (View.ld x0 rBlk : Vec Ideal S512x1024 .f32) (ix2 a k) = x0 (ix2 a k) := by
  exact View.ld_unit_apply_of _ _ _ _ _ _ (by intro q; fin_cases q <;> simp)
theorem ld_shift (k : Fin 1024) : (View.ld x1 rShift : Vec Ideal S1x1024 .f32) (ix2 0 k) = x1 (ix2 0 k) := by
  exact View.ld_unit_apply_of _ _ _ _ _ _ (by intro q; fin_cases q <;> simp)
theorem ld_scale (k : Fin 1024) : (View.ld x1 rScale : Vec Ideal S1x1024 .f32) (ix2 0 k) = x1 (ix2 1 k) := by
  exact View.ld_unit_apply_of _ _ _ _ _ _ (by intro q; fin_cases q <;> simp)
theorem ld_gate (k : Fin 1024) : (View.ld x1 rGate : Vec Ideal S1x1024 .f32) (ix2 0 k) = x1 (ix2 2 k) := by
  exact View.ld_unit_apply_of _ _ _ _ _ _ (by intro q; fin_cases q <;> simp)
theorem ld_gain (k : Fin 1024) : (View.ld x1 rGain : Vec Ideal S1x1024 .f32) (ix2 0 k) = x1 (ix2 3 k) := by
  exact View.ld_unit_apply_of _ _ _ _ _ _ (by intro q; fin_cases q <;> simp)
/-- The planes of the first weight. -/
theorem ld_col0 (k : Fin 1024) (b : Fin 704) : (View.ld w0 rCol0 : Vec Ideal S1x1024x704 .bf16) (ix3 0 k b) = w0 (ix3 0 k b) := by
  exact View.ld_unit_apply_of _ _ _ _ _ _ (by intro q; fin_cases q <;> simp)
theorem ld_col1 (k : Fin 1024) (b : Fin 704) : (View.ld w0 rCol1 : Vec Ideal S1x1024x704 .bf16) (ix3 0 k b) = w0 (ix3 1 k b) := by
  exact View.ld_unit_apply_of _ _ _ _ _ _ (by intro q; fin_cases q <;> simp)
theorem ld_col2 (k : Fin 1024) (b : Fin 704) : (View.ld w0 rCol2 : Vec Ideal S1x1024x704 .bf16) (ix3 0 k b) = w0 (ix3 2 k b) := by
  exact View.ld_unit_apply_of _ _ _ _ _ _ (by intro q; fin_cases q <;> simp)
theorem ld_col3 (k : Fin 1024) (b : Fin 704) : (View.ld w0 rCol3 : Vec Ideal S1x1024x704 .bf16) (ix3 0 k b) = w0 (ix3 3 k b) := by
  exact View.ld_unit_apply_of _ _ _ _ _ _ (by intro q; fin_cases q <;> simp)
theorem ld_col4 (k : Fin 1024) (b : Fin 704) : (View.ld w0 rCol4 : Vec Ideal S1x1024x704 .bf16) (ix3 0 k b) = w0 (ix3 4 k b) := by
  exact View.ld_unit_apply_of _ _ _ _ _ _ (by intro q; fin_cases q <;> simp)
theorem ld_col5 (k : Fin 1024) (b : Fin 704) : (View.ld w0 rCol5 : Vec Ideal S1x1024x704 .bf16) (ix3 0 k b) = w0 (ix3 5 k b) := by
  exact View.ld_unit_apply_of _ _ _ _ _ _ (by intro q; fin_cases q <;> simp)
theorem ld_col6 (k : Fin 1024) (b : Fin 704) : (View.ld w0 rCol6 : Vec Ideal S1x1024x704 .bf16) (ix3 0 k b) = w0 (ix3 6 k b) := by
  exact View.ld_unit_apply_of _ _ _ _ _ _ (by intro q; fin_cases q <;> simp)
theorem ld_col7 (k : Fin 1024) (b : Fin 704) : (View.ld w0 rCol7 : Vec Ideal S1x1024x704 .bf16) (ix3 0 k b) = w0 (ix3 7 k b) := by
  exact View.ld_unit_apply_of _ _ _ _ _ _ (by intro q; fin_cases q <;> simp)
/-- Row `b` of band `q` of the second weight. -/
abbrev rowOf (q : Fin 4) (b : Fin 704) : Fin 2816 := ⟨704 * q.val + b.val, by omega⟩
/-- The bands of the second weight. -/
theorem ld_row0 (b : Fin 704) (d : Fin 1024) : (View.ld w1 rRow0 : Vec Ideal S704x1024 .bf16) (ix2 b d) = w1 (ix2 (rowOf 0 b) d) := by
  exact View.ld_unit_apply_of _ _ _ _ _ _ (by intro q; fin_cases q <;> simp [rowOf])
theorem ld_row1 (b : Fin 704) (d : Fin 1024) : (View.ld w1 rRow1 : Vec Ideal S704x1024 .bf16) (ix2 b d) = w1 (ix2 (rowOf 1 b) d) := by
  exact View.ld_unit_apply_of _ _ _ _ _ _ (by intro q; fin_cases q <;> simp [rowOf])
theorem ld_row2 (b : Fin 704) (d : Fin 1024) : (View.ld w1 rRow2 : Vec Ideal S704x1024 .bf16) (ix2 b d) = w1 (ix2 (rowOf 2 b) d) := by
  exact View.ld_unit_apply_of _ _ _ _ _ _ (by intro q; fin_cases q <;> simp [rowOf])
theorem ld_row3 (b : Fin 704) (d : Fin 1024) : (View.ld w1 rRow3 : Vec Ideal S704x1024 .bf16) (ix2 b d) = w1 (ix2 (rowOf 3 b) d) := by
  exact View.ld_unit_apply_of _ _ _ _ _ _ (by intro q; fin_cases q <;> simp [rowOf])

/-- The modulated block. -/
def hBlk (a : Fin 512) (k : Fin 1024) : EReal := hAt (fun k => x0 (ix2 a k)) (fun k => x1 (ix2 3 k)) (fun k => x1 (ix2 1 k)) (fun k => x1 (ix2 0 k)) k
/-- Plane `q` of the first product. -/
def guBlk (q : Fin 8) (a : Fin 512) (b : Fin 704) : EReal := ∑ k : Fin 1024, hBlk x0 x1 a k * w0 (ix3 q k b)
/-- The plane of the gates and the plane of the factors of band `q`. -/
abbrev gatePlane (q : Fin 4) : Fin 8 := ⟨q.val, by omega⟩
abbrev upPlane (q : Fin 4) : Fin 8 := ⟨4 + q.val, by omega⟩
/-- The second product, band by band. -/
def fBlk (a : Fin 512) (d : Fin 1024) : EReal :=
  ∑ q : Fin 4, ∑ b : Fin 704, swi (guBlk x0 x1 w0 (gatePlane q) a b) (guBlk x0 x1 w0 (upPlane q) a b) * w1 (ix2 (rowOf q b) d)
/-- The residual: the block plus half the gate times the second product. -/
def xoBlk (a : Fin 512) (d : Fin 1024) : EReal := x0 (ix2 a d) + Ideal.ofBits .f32 0x3F000000#32 * x1 (ix2 2 d) * fBlk x0 x1 w0 w1 a d

theorem hB_at (a : Fin 512) (b : Fin 1024) : (hB x0 x1 : Vec Ideal S512x1024 .bf16) (ix2 a b) = hBlk x0 x1 a b :=
  (pay4_at _ _ _ _ a b).trans (hAt_congr (ld_x x0 a) (ld_gain x1) (ld_scale x1) (ld_shift x1) b)

/-- One entry of a plane, from a loaded plane. -/
theorem sum_at (q : Fin 8) (v : Vec Ideal S1x1024x704 .bf16) (hv : ∀ k b, v (ix3 0 k b) = w0 (ix3 q k b)) (a : Fin 512) (b : Fin 704) :
    (∑ k : Fin 1024, (hB x0 x1 : Vec Ideal S512x1024 .bf16) (ix2 a k) * v (ix3 0 k b)) = guBlk x0 x1 w0 q a b :=
  Finset.sum_congr rfl fun k _ => congrArg₂ _ (hB_at x0 x1 a k) (hv k b)

theorem gB_at (a : Fin 512) (b : Fin 704) : (gB x0 x1 w0 : Vec Ideal S512x704 .f32) (ix2 a b) = guBlk x0 x1 w0 0 a b :=
  (congrFun (pay6_eq _ _ _ _ _) _).trans ((pay7_at _ _ a b).trans (sum_at x0 x1 w0 0 _ (ld_col0 w0) a b))

/-- One band's part of the second product. -/
theorem band_sum (q : Fin 4) (g u : Fin 704 → EReal) (w : Vec Ideal S704x1024 .bf16) (a : Fin 512) (d : Fin 1024)
    (hg : ∀ b, g b = guBlk x0 x1 w0 (gatePlane q) a b) (hu : ∀ b, u b = guBlk x0 x1 w0 (upPlane q) a b) (hw : ∀ b d, w (ix2 b d) = w1 (ix2 (rowOf q b) d)) :
    (∑ b : Fin 704, swi (g b) (u b) * w (ix2 b d))
      = ∑ b : Fin 704, swi (guBlk x0 x1 w0 (gatePlane q) a b) (guBlk x0 x1 w0 (upPlane q) a b) * w1 (ix2 (rowOf q b) d) :=
  Finset.sum_congr rfl fun b _ => by rw [hg, hu, hw]

/-- The second product, as the body adds it up. -/
theorem fsum_at (a : Fin 512) (d : Fin 1024) :
    (k0_pay1 (F := Ideal) (accB x0 x1 w0 w1) (lastB x0 x1 w0) (View.ld w1 rRow3) : Vec Ideal S512x1024 .f32) (ix2 a d) = fBlk x0 x1 w0 w1 a d := by
  rw [pay1_at]
  unfold accB lastB fBlk
  rw [pay21_at, pay16_at, pay10_at, pay5_at, zero_add, Fin.sum_univ_four]
  simp only [pay26_at]
  refine congrArg₂ _ (congrArg₂ _ (congrArg₂ _ ?_ ?_) ?_) ?_
  · exact band_sum x0 x1 w0 w1 0 _ _ _ a d (gB_at x0 x1 w0 a) (fun b => (pay7_at _ _ a b).trans (sum_at x0 x1 w0 4 _ (ld_col4 w0) a b)) (ld_row0 w1)
  · exact band_sum x0 x1 w0 w1 1 _ _ _ a d (fun b => (pay11_at _ _ a b).trans (sum_at x0 x1 w0 1 _ (ld_col1 w0) a b))
      (fun b => (pay12_at _ _ a b).trans (sum_at x0 x1 w0 5 _ (ld_col5 w0) a b)) (ld_row1 w1)
  · exact band_sum x0 x1 w0 w1 2 _ _ _ a d (fun b => (pay17_at _ _ a b).trans (sum_at x0 x1 w0 2 _ (ld_col2 w0) a b))
      (fun b => (pay18_at _ _ a b).trans (sum_at x0 x1 w0 6 _ (ld_col6 w0) a b)) (ld_row2 w1)
  · exact band_sum x0 x1 w0 w1 3 _ _ _ a d (fun b => (pay22_at _ _ a b).trans (sum_at x0 x1 w0 3 _ (ld_col3 w0) a b))
      (fun b => (pay23_at _ _ a b).trans (sum_at x0 x1 w0 7 _ (ld_col7 w0) a b)) (ld_row3 w1)

/-- A store of the whole block. -/
theorem canon_blk {e : EltTy} (v : Vec Ideal S512x1024 e) (h : ∀ y : S512x1024.Idx, ∃ pc ∈ [(⟨rBlk, v⟩ : View.Piece (Elt Ideal) S512x1024 e)], y ∈ pc.1.set) (y : S512x1024.Idx) :
    (View.canon [(⟨rBlk, v⟩ : View.Piece (Elt Ideal) S512x1024 e)] : Vec Ideal S512x1024 e) y = v y := by
  refine View.canon_apply_of_pieces (Val := Elt Ideal) (e := e) v _ ?_ _ (h y)
  intro p hp x
  obtain rfl := List.mem_singleton.1 hp
  have e : rBlk.emb x = x := by
    blk_ext
  exact congrArg _ e.symm

/-- What the body leaves in the first, the second and the fourth result's block. -/
theorem xo_at (a : Fin 512) (d : Fin 1024) : (View.canon (xoL x0 x1 w0 w1) : Vec Ideal S512x1024 .f32) (ix2 a d) = xoBlk x0 x1 w0 w1 a d := by
  unfold xoBlk
  refine (canon_blk _ (xo_cover x0 x1 w0 w1) _).trans ?_
  rw [pay3_at, fsum_at, ld_x, ld_gate]
theorem h_at (a : Fin 512) (d : Fin 1024) : (View.canon (hL x0 x1) : Vec Ideal S512x1024 .bf16) (ix2 a d) = hBlk x0 x1 a d :=
  (canon_blk _ (h_cover x0 x1) _).trans (hB_at x0 x1 a d)
theorem f_at (a : Fin 512) (d : Fin 1024) : (View.canon (fL x0 x1 w0 w1) : Vec Ideal S512x1024 .bf16) (ix2 a d) = fBlk x0 x1 w0 w1 a d :=
  (canon_blk _ (f_cover x0 x1 w0 w1) _).trans ((pay2_at _ _ _ a d).trans (fsum_at x0 x1 w0 w1 a d))

/-- One of the eight stores of the third result, at an index. -/
theorem piece_at (p : Vec Ideal S1x512x704 .bf16) (q : Fin 8) (hp : ∀ a b, p (ix3 0 a b) = guBlk x0 x1 w0 q a b) (x : S1x512x704.Idx) (y : S8x512x704.Idx)
    (h : (y 0).val = q.val ∧ (y 1).val = (x 1).val ∧ (y 2).val = (x 2).val) : p x = guBlk x0 x1 w0 (y 0) (y 1) (y 2) := by
  let a : Fin 512 := ⟨(x 1).val, (x 1).isLt⟩
  let b : Fin 704 := ⟨(x 2).val, (x 2).isLt⟩
  have hx : x = ix3 0 a b := by
    funext q
    match q with
    | ⟨0, _⟩ => exact Subsingleton.elim (α := Fin 1) _ _
    | ⟨1, _⟩ => rfl
    | ⟨2, _⟩ => rfl
  have g0 : y 0 = q := Fin.ext h.1
  have g1 : y 1 = a := Fin.ext h.2.1
  have g2 : y 2 = b := Fin.ext h.2.2
  rw [g0, g1, g2, hx, hp]

/-- Where a store at plane `n` puts its index. -/
theorem plane_emb {n : Nat} (inb : ∀ a, (![n, 0, 0] : Fin 3 → Nat) a + S1x512x704.size a ≤ S8x512x704.size a) (x : S1x512x704.Idx) :
    ((Rect.unit (s := S8x512x704) ![n, 0, 0] S1x512x704.size inb).emb x 0).val = n
      ∧ ((Rect.unit (s := S8x512x704) ![n, 0, 0] S1x512x704.size inb).emb x 1).val = (x 1).val
      ∧ ((Rect.unit (s := S8x512x704) ![n, 0, 0] S1x512x704.size inb).emb x 2).val = (x 2).val := by
  have h0 : (x 0).val < 1 := (x 0).isLt
  refine ⟨?_, ?_, ?_⟩
  · refine (Rect.idx_unit_val (s := S8x512x704) _ S1x512x704.size inb x 0).trans ?_
    show n + (x 0).val = n
    omega
  · refine (Rect.idx_unit_val (s := S8x512x704) _ S1x512x704.size inb x 1).trans ?_
    show 0 + (x 1).val = _
    omega
  · refine (Rect.idx_unit_val (s := S8x512x704) _ S1x512x704.size inb x 2).trans ?_
    show 0 + (x 2).val = _
    omega

/-- What the body leaves in the third result's block. -/
theorem gu_at (y : S8x512x704.Idx) : (View.canon (guL x0 x1 w0) : Vec Ideal S8x512x704 .bf16) y = guBlk x0 x1 w0 (y 0) (y 1) (y 2) := by
  refine View.canon_apply_of_pieces (Val := Elt Ideal) (e := .bf16) ((fun y => guBlk x0 x1 w0 (y 0) (y 1) (y 2)) : Vec Ideal S8x512x704 .bf16) _ ?_ _ (gu_cover x0 x1 w0 y)
  unfold guL
  simp only [List.forall_mem_cons, List.not_mem_nil, false_imp_iff, implies_true, and_true]
  refine ⟨?_, ?_, ?_, ?_, ?_, ?_, ?_, ?_⟩ <;> intro x
  · exact piece_at x0 x1 w0 _ 7 (fun a b => (pay25_at _ _ a b).trans (sum_at x0 x1 w0 7 _ (ld_col7 w0) a b)) x _ (plane_emb (n := 7) _ x)
  · exact piece_at x0 x1 w0 _ 3 (fun a b => (pay24_at _ _ a b).trans (sum_at x0 x1 w0 3 _ (ld_col3 w0) a b)) x _ (plane_emb (n := 3) _ x)
  · exact piece_at x0 x1 w0 _ 6 (fun a b => (pay20_at _ _ a b).trans (sum_at x0 x1 w0 6 _ (ld_col6 w0) a b)) x _ (plane_emb (n := 6) _ x)
  · exact piece_at x0 x1 w0 _ 2 (fun a b => (pay19_at _ _ a b).trans (sum_at x0 x1 w0 2 _ (ld_col2 w0) a b)) x _ (plane_emb (n := 2) _ x)
  · exact piece_at x0 x1 w0 _ 5 (fun a b => (pay15_at _ a b).trans <| (pay12_at _ _ a b).trans (sum_at x0 x1 w0 5 _ (ld_col5 w0) a b)) x _ (plane_emb (n := 5) _ x)
  · exact piece_at x0 x1 w0 _ 1 (fun a b => (pay14_at _ _ a b).trans (sum_at x0 x1 w0 1 _ (ld_col1 w0) a b)) x _ (plane_emb (n := 1) _ x)
  · exact piece_at x0 x1 w0 _ 4 (fun a b => (pay9_at _ _ a b).trans (sum_at x0 x1 w0 4 _ (ld_col4 w0) a b)) x _ (plane_emb (n := 4) _ x)
  · exact piece_at x0 x1 w0 _ 0 (fun a b => (pay8_at _ a b).trans (gB_at x0 x1 w0 a b)) x _ (plane_emb (n := 0) _ x)

variable (U : Valuation τ sig (Elt Ideal))

/-- The packed vectors and the weights, from the arguments. -/
theorem vec_shift (k : Fin 1024) : (after hostOps0 U (Proc.devRef .tc main_v3) : Vec Ideal S8x1024 .f32) (ix2 0 k)
      = (U (Proc.devRef .tc main_arg1) : Vec Ideal S9x1024 .f32) (ix2 0 k) := by
  after_reads_at
  simp (disch := decide) only [unary_result', reshape_result']
  after_reads_at
theorem vec_scale (k : Fin 1024) : (after hostOps0 U (Proc.devRef .tc main_v3) : Vec Ideal S8x1024 .f32) (ix2 1 k)
      = (U (Proc.devRef .tc main_arg1) : Vec Ideal S9x1024 .f32) (ix2 1 k) := by
  after_reads_at
  simp (disch := decide) only [unary_result', reshape_result']
  after_reads_at
theorem vec_gate (k : Fin 1024) : (after hostOps0 U (Proc.devRef .tc main_v3) : Vec Ideal S8x1024 .f32) (ix2 2 k)
      = (U (Proc.devRef .tc main_arg1) : Vec Ideal S9x1024 .f32) (ix2 2 k) := by
  after_reads_at
  simp (disch := decide) only [unary_result', reshape_result']
  after_reads_at
theorem vec_gain (k : Fin 1024) : (after hostOps0 U (Proc.devRef .tc main_v3) : Vec Ideal S8x1024 .f32) (ix2 3 k)
      = (U (Proc.devRef .tc main_arg2) : Vec Ideal S1024 .f32) (ix1 k) := by
  after_reads_at
  simp (disch := decide) only [unary_result', reshape_result']
  after_reads_at
theorem wgu_at (q : Fin 8) (k : Fin 1024) (b : Fin 704) : (after hostOps0 U (Proc.devRef .tc main_v4) : Vec Ideal S8x1024x704 .bf16) (ix3 q k b)
      = (U (Proc.devRef .tc main_arg3) : Vec Ideal S8x1024x704 .f32) (ix3 q k b) := by
  after_reads_at
theorem wdown_at (q : Fin 8) (k : Fin 352) (b : Fin 1024) : (after hostOps0 U (Proc.devRef .tc main_v5) : Vec Ideal S8x352x1024 .bf16) (ix3 q k b)
      = (U (Proc.devRef .tc main_arg4) : Vec Ideal S8x352x1024 .f32) (ix3 q k b) := by
  after_reads_at

end Cert.FfnIdeal.Point
-- ==== Proof.Ffn.Ref.lean ====
module

public import proofs.«01_k».proof.Proof.Gen.FfnReferenceIdeal.Read
public import proofs.«01_k».proof.Proof.Ffn.Blocks
@[expose] public section

set_option maxRecDepth 16384

noncomputable section

/-! # The feed-forward reference, at an index -/

namespace Cert.FfnReferenceIdeal.Point

open Cert.FfnReferenceIdeal Cert.FfnReferenceIdeal.Read
open Idealize.ShloMosaic Idealize.ShloMosaic.TcCoe Idealize.ShloMosaic.Tactic
open Cert.MixInIdeal.Point (hAt)
open Cert.FfnIdeal.Point (swi rowOf gatePlane upPlane)

variable (x0 : Vec Ideal S4096x1024 .f32) (x1 : Vec Ideal S9x1024 .f32) (x2 : Vec Ideal S1024 .f32) (x3 : Vec Ideal S8x1024x704 .f32) (x4 : Vec Ideal S8x352x1024 .f32)

/-- The normalised and modulated row. -/
theorem h_at (i : Fin 4096) (j : Fin 1024) :
    (val_main_v24 (F := Ideal) x0 x1 x2 : Vec Ideal S4096x1024 .f32) (ix2 i j)
      = hAt (fun k => x0 (ix2 i k)) (fun k => x2 (ix1 k)) (fun k => x1 (ix2 1 k)) (fun k => x1 (ix2 0 k)) j := by
  rw [val_main_v24_apply, val_main_v21_apply, val_main_v12_apply, val_main_v9_apply, val_main_v8_apply, val_main_v7_apply, val_main_v6_apply,
    val_main_v4_apply, val_main_v2_apply, val_main_v1_apply, val_main_v11_apply, val_main_v10_apply, val_main_v20_apply, val_main_v19_apply, val_main_v18_apply,
    val_main_v16_apply, val_main_v15_apply, val_main_v23_apply, val_main_v22_apply, val_main_v14_apply, val_main_v13_apply, val_main_v17_apply]
  have e1 : idx_main_v10 (idx_main_v11 (ix2 i j)) = ix1 j := by blk_ext
  have e2 : idx_main_v15 (idx_main_v16 (idx_main_v19 (idx_main_v20 (ix2 i j)))) = ix2 1 j := by blk_ext
  have e3 : idx_main_v13 (idx_main_v14 (idx_main_v22 (idx_main_v23 (ix2 i j)))) = ix2 0 j := by blk_ext
  have e4 : ∀ k, idx_main_v1 (idx_main_v2 (idx_main_v8 (ix2 i j))) k = ix2 i k := fun k => by blk_ext
  have e5 : val_main_v3 (F := Ideal) (idx_main_v8 (ix2 i j)) = Ideal.ofBits .f32 0x44800000#32 := by rw [val_main_v3_apply]; rfl
  have e6 : val_main_v5 (F := Ideal) (idx_main_v8 (ix2 i j)) = Ideal.ofBits .f32 0x358637BD#32 := by rw [val_main_v5_apply]; rfl
  have e7 : (val_main_cst (F := Ideal)) (Shape.Idx.first Gen.h_S_) = (0 : EReal) := by pointwise [val_main_cst]
  have e8 : (val_main_cst_2 (F := Ideal)) (idx_main_v17 (idx_main_v19 (idx_main_v20 (ix2 i j)))) = (1 : EReal) := by pointwise [val_main_cst_2]
  rw [e1, e2, e3, e5, e6, e7, e8, zero_add]
  simp only [e4, val_main_v0_apply]
  rfl

/-- The first product, at a column of a plane of its weight. -/
theorem gu_at (q : Fin 8) (i : Fin 4096) (b : Fin 704) :
    (val_main_v27 (F := Ideal) x0 x1 x2 x3 : Vec Ideal S4096x5632 .f32) (ix2 i ⟨704 * q.val + b.val, by omega⟩)
      = ∑ k : Fin 1024, (val_main_v24 (F := Ideal) x0 x1 x2 : Vec Ideal S4096x1024 .f32) (ix2 i k) * x3 (ix3 q k b) := by
  rw [val_main_v27_apply]
  refine Finset.sum_congr rfl fun k _ => ?_
  rw [val_main_v26_apply, val_main_v25_apply]
  congr 1 <;> blk_ext

/-- The third result is the first product, plane by plane. -/
theorem planes_at (q : Fin 8) (i : Fin 4096) (b : Fin 704) :
    (val_main_v45 (F := Ideal) x0 x1 x2 x3 : Vec Ideal S8x4096x704 .bf16) (ix3 q i b)
      = (val_main_v27 (F := Ideal) x0 x1 x2 x3 : Vec Ideal S4096x5632 .f32) (ix2 i ⟨704 * q.val + b.val, by omega⟩) := by
  rw [val_main_v45_apply, val_main_v44_apply, val_main_v43_apply]
  have e : idx_main_v43 (idx_main_v44 (ix3 q i b)) = ix2 i ⟨704 * q.val + b.val, by omega⟩ := by blk_ext
  rw [e]
  rfl

/-- The gated inner columns. -/
theorem inner_at (q : Fin 4) (i : Fin 4096) (b : Fin 704) :
    (val_main_v31 (F := Ideal) x0 x1 x2 x3 : Vec Ideal S4096x2816 .f32) (ix2 i (rowOf q b))
      = swi ((val_main_v27 (F := Ideal) x0 x1 x2 x3 : Vec Ideal S4096x5632 .f32) (ix2 i ⟨704 * (gatePlane q).val + b.val, by omega⟩))
          ((val_main_v27 (F := Ideal) x0 x1 x2 x3 : Vec Ideal S4096x5632 .f32) (ix2 i ⟨704 * (upPlane q).val + b.val, by omega⟩)) := by
  rw [val_main_v31_apply, val_main_v30_apply, val_main_call0_v5_apply, val_main_call0_v3_apply, val_main_call0_v1_apply, val_main_call0_v0_apply,
    val_main_v28_apply, val_main_v29_apply, val_main_call0_v2_apply, val_main_call0_v4_apply]
  have e1 : idx_main_v28 (ix2 i (rowOf q b)) = ix2 i ⟨704 * (gatePlane q).val + b.val, by omega⟩ := by blk_ext
  have e2 : idx_main_v29 (ix2 i (rowOf q b)) = ix2 i ⟨704 * (upPlane q).val + b.val, by omega⟩ := by blk_ext
  have e3 : (val_main_call0_cst (F := Ideal)) (idx_main_call0_v2 (ix2 i (rowOf q b))) = (1 : EReal) := by pointwise [val_main_call0_cst]
  have e4 : (val_main_call0_cst_0 (F := Ideal)) (idx_main_call0_v4 (ix2 i (rowOf q b))) = (1 : EReal) := by pointwise [val_main_call0_cst_0]
  rw [e1, e2, e3, e4]
  unfold swi
  rw [zero_sub]
  rfl

/-- A sum over all the inner columns, band by band. -/
theorem sum_bands (f : Fin 2816 → EReal) : ∑ j, f j = ∑ q : Fin 4, ∑ b : Fin 704, f (rowOf q b) := by
  rw [← Equiv.sum_comp (finProdFinEquiv : Fin 4 × Fin 704 ≃ Fin 2816), Fintype.sum_prod_type]
  refine Finset.sum_congr rfl fun q _ => Finset.sum_congr rfl fun b _ => congrArg f (Fin.ext ?_)
  show b.val + 704 * q.val = 704 * q.val + b.val
  omega

/-- The second product. -/
theorem f_at (i : Fin 4096) (d : Fin 1024) :
    (val_main_v33 (F := Ideal) x0 x1 x2 x3 x4 : Vec Ideal S4096x1024 .f32) (ix2 i d)
      = ∑ q : Fin 4, ∑ b : Fin 704, (val_main_v31 (F := Ideal) x0 x1 x2 x3 : Vec Ideal S4096x2816 .f32) (ix2 i (rowOf q b))
          * x4 (ix3 ⟨(rowOf q b).val / 352, by omega⟩ ⟨(rowOf q b).val % 352, by omega⟩ d) := by
  rw [val_main_v33_apply, sum_bands]
  refine Finset.sum_congr rfl fun q _ => Finset.sum_congr rfl fun b _ => ?_
  rw [val_main_v32_apply]
  congr 1 <;> blk_ext

/-- The residual. -/
theorem xo_at (i : Fin 4096) (d : Fin 1024) :
    (val_main_v41 (F := Ideal) x0 x1 x2 x3 x4 : Vec Ideal S4096x1024 .f32) (ix2 i d)
      = x0 (ix2 i d) + Ideal.ofBits .f32 0x3F000000#32 * x1 (ix2 2 d) * (val_main_v33 (F := Ideal) x0 x1 x2 x3 x4 : Vec Ideal S4096x1024 .f32) (ix2 i d) := by
  rw [val_main_v41_apply, val_main_v40_apply, val_main_v39_apply, val_main_v38_apply, val_main_v37_apply, val_main_v36_apply, val_main_v35_apply, val_main_v34_apply]
  have e1 : idx_main_v34 (idx_main_v35 (idx_main_v38 (idx_main_v39 (ix2 i d)))) = ix2 2 d := by blk_ext
  rw [e1]
  rfl

end Cert.FfnReferenceIdeal.Point
-- ==== Proof.Ffn.Windows.lean ====
module

public import proofs.«01_k».proof.Proof.Ffn.Run
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueLayout

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

/-- The part of the body that runs at the first grid point only: the sixteen copies of the weights started, then awaited. -/
def fetch (i : grid0.Coords) (arg1 : Memref sig .tc .vmem S512x1024 .f32) (harg1 : arg1.IsWhole) (arg2 : Memref sig .tc .vmem S8x1024 .f32) (harg2 : arg2.IsWhole) (arg3 : Memref sig .tc .hbm S8x1024x704 .bf16) (harg3 : arg3.IsWhole) (arg4 : Memref sig .tc .hbm S8x352x1024 .bf16) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S8x512x704 .bf16) (harg7 : arg7.IsWhole) (arg8 : Memref sig .tc .vmem S512x1024 .bf16) (harg8 : arg8.IsWhole) (arg9 : Memref sig .tc .vmem S8x1024x704 .bf16) (harg9 : arg9.IsWhole) (arg10 : Memref sig .tc .vmem S2816x1024 .bf16) (harg10 : arg10.IsWhole) (arg11 : DmaSems sig S2x8) :
    Prog (TpuEff nD τ sig (Elt F) Λ₀ .tc) PUnit := do
  k0_part1 i arg1 harg1 arg2 harg2 arg3 harg3 arg4 harg4 arg5 harg5 arg6 harg6 arg7 harg7 arg8 harg8 arg9 harg9 arg10 harg10 arg11
  k0_part2 i arg1 harg1 arg2 harg2 arg3 harg3 arg4 harg4 arg5 harg5 arg6 harg6 arg7 harg7 arg8 harg8 arg9 harg9 arg10 harg10 arg11
  k0_part3 i arg1 harg1 arg2 harg2 arg3 harg3 arg4 harg4 arg5 harg5 arg6 harg6 arg7 harg7 arg8 harg8 arg9 harg9 arg10 harg10 arg11
  k0_part4 i arg1 harg1 arg2 harg2 arg3 harg3 arg4 harg4 arg5 harg5 arg6 harg6 arg7 harg7 arg8 harg8 arg9 harg9 arg10 harg10 arg11
  k0_part5 i arg1 harg1 arg2 harg2 arg3 harg3 arg4 harg4 arg5 harg5 arg6 harg6 arg7 harg7 arg8 harg8 arg9 harg9 arg10 harg10 arg11
  k0_part6 i arg1 harg1 arg2 harg2 arg3 harg3 arg4 harg4 arg5 harg5 arg6 harg6 arg7 harg7 arg8 harg8 arg9 harg9 arg10 harg10 arg11
  k0_part7 i arg1 harg1 arg2 harg2 arg3 harg3 arg4 harg4 arg5 harg5 arg6 harg6 arg7 harg7 arg8 harg8 arg9 harg9 arg10 harg10 arg11
  k0_part8 i arg1 harg1 arg2 harg2 arg3 harg3 arg4 harg4 arg5 harg5 arg6 harg6 arg7 harg7 arg8 harg8 arg9 harg9 arg10 harg10 arg11
  k0_part9 i arg1 harg1 arg2 harg2 arg3 harg3 arg4 harg4 arg5 harg5 arg6 harg6 arg7 harg7 arg8 harg8 arg9 harg9 arg10 harg10 arg11
  let v387 : Memref sig .tc .hbm S1x352x1024 .bf16 := arg4.slice (Rect.unit (s := S8x352x1024) ![7, 0, 0] S1x352x1024.size inb_S8x352x1024_S1x352x1024_7_0_0) (fun _ => rfl)
  let v388 : Memref sig .tc .hbm S352x1024 .bf16 := v387.squeeze S352x1024 squeezes_S1x352x1024_S352x1024
  let v382 : DmaSems sig S1x8 := arg11.slice (Rect.unit (s := S2x8) ![1, 0] S1x8.size inb_S2x8_S1x8_1_0)
  let v383 : DmaSems sig S8 := v382.squeeze S8 squeezes_S1x8_S8
  let v384 : DmaSems sig S1 := v383.slice (Rect.unit (s := S8) ![7] S1.size inb_S8_S1_7)
  let v385 : DmaSems sig S_ := v384.squeeze S_ squeezes_S1_S_
  let v386 : Memref sig .tc .vmem S352x1024 .bf16 := arg10.slice (Rect.unit (s := S2816x1024) ![2464, 0] S352x1024.size inb_S2816x1024_S352x1024_2464_0) (fun _ => rfl)
  Prog.lift (.waitDma2 v385.sem v388 v386 ((harg4.wordExact_slice rfl _ wordsbf16_S8x352x1024_S1x352x1024_7_0_0).reshape _ _) (harg10.wordExact_slice rfl _ wordsbf16_S2816x1024_S352x1024_2464_0))
  pure ⟨⟩

/-- The sixteen semaphores the copies use, each at zero. -/
abbrev cells (c : Dev nD) : sProp 𝕄 :=
  iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0)

/-- The contents of a memref's buffer on core `c`. -/
abbrev Cont (c : Dev nD) {sp : Space} {S : Shape} {e : EltTy} (M : Memref sig .tc sp S e) : Type := Buf (Elt F) (M.view.loc (c : Thread nD τ))

/-- A memref's buffer on core `c`, held whole at `f`. -/
abbrev held (c : Dev nD) {sp : Space} {S : Shape} {e : EltTy} (M : Memref sig .tc sp S e) (f : Cont (F := F) c M) : sProp 𝕄 :=
  M.view.loc (c : Thread nD τ) ↦{fullShare} f

/-- The two weight operands, left in HBM. -/
abbrev wg : Memref sig .tc .hbm S8x1024x704 .bf16 := Memref.whole main_v4
abbrev wd : Memref sig .tc .hbm S8x352x1024 .bf16 := Memref.whole main_v5

/-- The two buffers the weights are copied into. -/
abbrev sc0 : Memref sig .tc .vmem S8x1024x704 .bf16 := Memref.whole cc0_scratch0
abbrev sc1 : Memref sig .tc .vmem S2816x1024 .bf16 := Memref.whole cc0_scratch1

/-! The first buffer's eight planes, as the copies name them. -/
abbrev win0 : Memref sig .tc .vmem S1024x704 .bf16 :=
  (sc0.slice (Rect.unit (s := S8x1024x704) ![0, 0, 0] S1x1024x704.size inb_S8x1024x704_S1x1024x704_0_0_0) (fun _ => rfl)).squeeze S1024x704 squeezes_S1x1024x704_S1024x704
abbrev win1 : Memref sig .tc .vmem S1024x704 .bf16 :=
  (sc0.slice (Rect.unit (s := S8x1024x704) ![1, 0, 0] S1x1024x704.size inb_S8x1024x704_S1x1024x704_1_0_0) (fun _ => rfl)).squeeze S1024x704 squeezes_S1x1024x704_S1024x704
abbrev win2 : Memref sig .tc .vmem S1024x704 .bf16 :=
  (sc0.slice (Rect.unit (s := S8x1024x704) ![2, 0, 0] S1x1024x704.size inb_S8x1024x704_S1x1024x704_2_0_0) (fun _ => rfl)).squeeze S1024x704 squeezes_S1x1024x704_S1024x704
abbrev win3 : Memref sig .tc .vmem S1024x704 .bf16 :=
  (sc0.slice (Rect.unit (s := S8x1024x704) ![3, 0, 0] S1x1024x704.size inb_S8x1024x704_S1x1024x704_3_0_0) (fun _ => rfl)).squeeze S1024x704 squeezes_S1x1024x704_S1024x704
abbrev win4 : Memref sig .tc .vmem S1024x704 .bf16 :=
  (sc0.slice (Rect.unit (s := S8x1024x704) ![4, 0, 0] S1x1024x704.size inb_S8x1024x704_S1x1024x704_4_0_0) (fun _ => rfl)).squeeze S1024x704 squeezes_S1x1024x704_S1024x704
abbrev win5 : Memref sig .tc .vmem S1024x704 .bf16 :=
  (sc0.slice (Rect.unit (s := S8x1024x704) ![5, 0, 0] S1x1024x704.size inb_S8x1024x704_S1x1024x704_5_0_0) (fun _ => rfl)).squeeze S1024x704 squeezes_S1x1024x704_S1024x704
abbrev win6 : Memref sig .tc .vmem S1024x704 .bf16 :=
  (sc0.slice (Rect.unit (s := S8x1024x704) ![6, 0, 0] S1x1024x704.size inb_S8x1024x704_S1x1024x704_6_0_0) (fun _ => rfl)).squeeze S1024x704 squeezes_S1x1024x704_S1024x704
abbrev win7 : Memref sig .tc .vmem S1024x704 .bf16 :=
  (sc0.slice (Rect.unit (s := S8x1024x704) ![7, 0, 0] S1x1024x704.size inb_S8x1024x704_S1x1024x704_7_0_0) (fun _ => rfl)).squeeze S1024x704 squeezes_S1x1024x704_S1024x704

/-! The second buffer's eight bands of rows, as the copies name them. -/
abbrev band0 : Memref sig .tc .vmem S352x1024 .bf16 :=
  sc1.slice (Rect.unit (s := S2816x1024) ![0, 0] S352x1024.size inb_S2816x1024_S352x1024_0_0) (fun _ => rfl)
abbrev band1 : Memref sig .tc .vmem S352x1024 .bf16 :=
  sc1.slice (Rect.unit (s := S2816x1024) ![352, 0] S352x1024.size inb_S2816x1024_S352x1024_352_0) (fun _ => rfl)
abbrev band2 : Memref sig .tc .vmem S352x1024 .bf16 :=
  sc1.slice (Rect.unit (s := S2816x1024) ![704, 0] S352x1024.size inb_S2816x1024_S352x1024_704_0) (fun _ => rfl)
abbrev band3 : Memref sig .tc .vmem S352x1024 .bf16 :=
  sc1.slice (Rect.unit (s := S2816x1024) ![1056, 0] S352x1024.size inb_S2816x1024_S352x1024_1056_0) (fun _ => rfl)
abbrev band4 : Memref sig .tc .vmem S352x1024 .bf16 :=
  sc1.slice (Rect.unit (s := S2816x1024) ![1408, 0] S352x1024.size inb_S2816x1024_S352x1024_1408_0) (fun _ => rfl)
abbrev band5 : Memref sig .tc .vmem S352x1024 .bf16 :=
  sc1.slice (Rect.unit (s := S2816x1024) ![1760, 0] S352x1024.size inb_S2816x1024_S352x1024_1760_0) (fun _ => rfl)
abbrev band6 : Memref sig .tc .vmem S352x1024 .bf16 :=
  sc1.slice (Rect.unit (s := S2816x1024) ![2112, 0] S352x1024.size inb_S2816x1024_S352x1024_2112_0) (fun _ => rfl)
abbrev band7 : Memref sig .tc .vmem S352x1024 .bf16 :=
  sc1.slice (Rect.unit (s := S2816x1024) ![2464, 0] S352x1024.size inb_S2816x1024_S352x1024_2464_0) (fun _ => rfl)

/-- A memref held on core `c` by its own elements only, its buffer's contents there being `f`'s. -/
abbrev heldOwn (c : Dev nD) {sp : Space} {S : Shape} {e : EltTy} (M : Memref sig .tc sp S e) (f : Cont (F := F) c M) : sProp 𝕄 :=
  M.view.loc (c : Thread nD τ) ↦[M.view.set]{fullShare} f

/-- A copy that has landed: the memref's own elements hold what was copied, whatever contents of the buffer read there as it. -/
theorem landed (c : Dev nD) {sp : Space} {S : Shape} {e : EltTy} (M : Memref sig .tc sp S e) (f G : Cont (F := F) c M)
    (w : S.Idx → Elt F e) (h : w = M.view.read (Elt F) G) :
    (M.view.loc (c : Thread nD τ) ↦[M.view.set]{fullShare} M.view.writes (Elt F) f [⟨Rect.whole S, w⟩] : sProp 𝕄) ⊢ heldOwn c M G := by
  have e : (M.view.loc (c : Thread nD τ) ↦[M.view.set]{fullShare} M.view.writes (Elt F) f [⟨Rect.whole S, w⟩] : sProp 𝕄) = heldOwn c M G := by
    refine pointsTo_congr fun i hi => ?_
    obtain ⟨x, -, rfl⟩ := Finset.mem_map.mp hi
    rw [← View.write_univ_eq_writes_whole M.view f [] w]
    refine (View.write_emb_of_mem _ _ (Finset.mem_univ x)).trans ?_
    rw [h, View.read_apply]
    simp
  rw [e]

/-- The first buffer once the copies have landed: the gate and up weights, plane by plane as they lie in HBM. -/
def gu (c : Dev nD) (g0 : Cont (F := F) c wg) : Cont (F := F) c sc0 := g0

/-- Row `r` of the second buffer once the copies have landed: row `r % 352` of plane `r / 352` of the down weights. -/
def dn (c : Dev nD) (g1 : Cont (F := F) c wd) : Cont (F := F) c sc1 := fun (y : S2816x1024.Idx) =>
  (g1 : S8x352x1024.Idx → Elt F .bf16) (ValueIdx.ix3 (⟨(y 0).val / 352, by have := (y 0).isLt; have h : S2816x1024.size 0 = 2816 := rfl; omega⟩ : Fin 8)
    (⟨(y 0).val % 352, Nat.mod_lt _ (by decide)⟩ : Fin 352) (y 1 : Fin 1024))

theorem dn_band (c : Dev nD) (g1 : Cont (F := F) c wd) (k o : ℕ) (ho : o = 352 * k) (hk : k < 8)
    (i3 : ∀ a, (![k, 0, 0] : Fin 3 → Nat) a + S1x352x1024.size a ≤ S8x352x1024.size a)
    (i2 : ∀ a, (![o, 0] : Fin 2 → Nat) a + S352x1024.size a ≤ S2816x1024.size a) :
    (((wd.slice (Rect.unit (s := S8x352x1024) ![k, 0, 0] S1x352x1024.size i3) (fun _ => rfl)).squeeze S352x1024 squeezes_S1x352x1024_S352x1024).view.read (Elt F) g1)
      = (sc1.slice (Rect.unit (s := S2816x1024) ![o, 0] S352x1024.size i2) (fun _ => rfl)).view.read (Elt F) (dn c g1) := by
  subst ho
  funext x
  have hx : x = ValueIdx.ix2 (x 0 : Fin 352) (x 1 : Fin 1024) := by funext a; fin_cases a <;> rfl
  show g1 ((Rect.unit (s := S8x352x1024) ![k, 0, 0] S1x352x1024.size i3).idx (Shape.reshapeEquiv _ x)) = g1 _
  refine congrArg g1 ?_
  have e := ValueIdx.reshapeEquiv_ix2_1ab (squeezes_S1x352x1024_S352x1024).numel_eq (x 0 : Fin 352) (x 1 : Fin 1024)
  have hx0 : (x 0).val < 352 := (x 0).isLt
  rw [hx]
  refine (congrArg _ e).trans ?_
  funext a
  fin_cases a <;> refine Fin.ext ?_
  · show k + 1 * 0 = (352 * k + 1 * (x 0).val) / 352
    omega
  · show 0 + 1 * (x 0).val = (352 * k + 1 * (x 0).val) % 352
    omega
  · show 0 + 1 * (x 1).val = 0 + 1 * (x 1).val
    rfl

/-- Plane `k` of the first buffer, as a rectangle. -/
def plane (k : Fin 8) : Rect S8x1024x704 := Rect.unit (s := S8x1024x704) ![k.val, 0, 0] S1x1024x704.size (by intro a; have := k.isLt; fin_cases a <;> simp [S8x1024x704, S1x1024x704] <;> omega)

/-- Rows `352 k` to `352 k + 351` of the second buffer, as a rectangle. -/
def rows (k : Fin 8) : Rect S2816x1024 := Rect.unit (s := S2816x1024) ![352 * k.val, 0] S352x1024.size (by intro a; have := k.isLt; fin_cases a <;> simp [S2816x1024, S352x1024] <;> omega)

theorem mem_plane (k : Fin 8) (i : S8x1024x704.Idx) : i ∈ (plane k).set ↔ (i 0).val = k.val := by
  rw [plane, Rect.mem_set_unit]
  have h1 : (i 1).val < 1024 := (i 1).isLt
  have h2 : (i 2).val < 704 := (i 2).isLt
  refine ⟨fun h => ?_, fun h a => ?_⟩
  · have h0 : k.val ≤ (i 0).val ∧ (i 0).val < k.val + 1 := h 0
    omega
  · fin_cases a
    · show k.val ≤ (i 0).val ∧ (i 0).val < k.val + 1
      omega
    · show 0 ≤ (i 1).val ∧ (i 1).val < 0 + 1024
      omega
    · show 0 ≤ (i 2).val ∧ (i 2).val < 0 + 704
      omega

theorem mem_rows (k : Fin 8) (i : S2816x1024.Idx) : i ∈ (rows k).set ↔ (i 0).val / 352 = k.val := by
  rw [rows, Rect.mem_set_unit]
  have h1 : (i 1).val < 1024 := (i 1).isLt
  refine ⟨fun h => ?_, fun h a => ?_⟩
  · have h0 : 352 * k.val ≤ (i 0).val ∧ (i 0).val < 352 * k.val + 352 := h 0
    omega
  · fin_cases a
    · show 352 * k.val ≤ (i 0).val ∧ (i 0).val < 352 * k.val + 352
      omega
    · show 0 ≤ (i 1).val ∧ (i 1).val < 0 + 1024
      omega

/-- The first buffer held whole is its eight planes held one by one. -/
theorem planes_held (c : Dev nD) (f : Cont (F := F) c sc0) : held c sc0 f
    = (iprop(heldOwn c win0 f ∗ heldOwn c win1 f ∗ heldOwn c win2 f ∗ heldOwn c win3 f ∗ heldOwn c win4 f ∗ heldOwn c win5 f ∗ heldOwn c win6 f ∗ heldOwn c win7 f) : sProp 𝕄) := by
  refine (Ring.pointsTo_blocks (fun k : Fin 8 => (plane k).set) (fun k k' h => ?_) ?_ f).trans ?_
  · refine Finset.disjoint_left.mpr fun i hi hi' => h (Fin.ext ?_)
    rw [← (mem_plane k i).mp hi, (mem_plane k' i).mp hi']
  · refine Finset.eq_univ_iff_forall.mpr fun i => Finset.mem_biUnion.mpr ⟨(i 0 : Fin 8), Finset.mem_univ _, (mem_plane _ i).mpr rfl⟩
  rw [Idealize.SL.BI.bigSep_eq_bigSepL_of_eq [0, 1, 2, 3, 4, 5, 6, 7] (by decide) (by decide)]
  have h : ∀ (k : ℕ) (hk : k < 8) (i) , ((sc0.slice (Rect.unit (s := S8x1024x704) ![k, 0, 0] S1x1024x704.size i) (fun _ => rfl)).squeeze S1024x704 squeezes_S1x1024x704_S1024x704).view.set = (plane ⟨k, hk⟩).set :=
    fun k hk i => (View.set_reshape _ _).trans (View.set_slice_whole _ _)
  simp only [heldOwn, h _ (by decide : 0 < 8), h _ (by decide : 1 < 8), h _ (by decide : 2 < 8), h _ (by decide : 3 < 8), h _ (by decide : 4 < 8), h _ (by decide : 5 < 8), h _ (by decide : 6 < 8), h _ (by decide : 7 < 8)]
  rfl

/-- The second buffer held whole is its eight bands of rows held one by one. -/
theorem bands_held (c : Dev nD) (f : Cont (F := F) c sc1) : held c sc1 f
    = (iprop(heldOwn c band0 f ∗ heldOwn c band1 f ∗ heldOwn c band2 f ∗ heldOwn c band3 f ∗ heldOwn c band4 f ∗ heldOwn c band5 f ∗ heldOwn c band6 f ∗ heldOwn c band7 f) : sProp 𝕄) := by
  refine (Ring.pointsTo_blocks (fun k : Fin 8 => (rows k).set) (fun k k' h => ?_) ?_ f).trans ?_
  · refine Finset.disjoint_left.mpr fun i hi hi' => h (Fin.ext ?_)
    rw [← (mem_rows k i).mp hi, (mem_rows k' i).mp hi']
  · refine Finset.eq_univ_iff_forall.mpr fun i => Finset.mem_biUnion.mpr ⟨⟨(i 0).val / 352, by have h : (i 0).val < 2816 := (i 0).isLt; omega⟩, Finset.mem_univ _, (mem_rows _ i).mpr rfl⟩
  rw [Idealize.SL.BI.bigSep_eq_bigSepL_of_eq [0, 1, 2, 3, 4, 5, 6, 7] (by decide) (by decide)]
  have h : ∀ (k : Fin 8) (o : ℕ) (ho : o = 352 * k.val) (i) , (sc1.slice (Rect.unit (s := S2816x1024) ![o, 0] S352x1024.size i) (fun _ => rfl)).view.set = (rows k).set :=
    fun k o ho i => by subst ho; exact View.set_slice_whole _ _
  simp only [heldOwn, h 0 0 rfl, h 1 352 rfl, h 2 704 rfl, h 3 1056 rfl, h 4 1408 rfl, h 5 1760 rfl, h 6 2112 rfl, h 7 2464 rfl]
  rfl

end Cert.FfnIdeal.Hand

end
-- ==== Proof.Ffn.Split.lean ====
module

public import proofs.«01_k».proof.Proof.Ffn.Windows
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueLayout

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

/-- At the point that copies the weights the body is the copies, then the body as it runs at any point that copies nothing. -/
theorem body_first (i i1 : grid0.Coords) (hi : first i) (hi1 : ¬first i1) (arg1 : Memref sig .tc .vmem S512x1024 .f32) (harg1 : arg1.IsWhole) (arg2 : Memref sig .tc .vmem S8x1024 .f32) (harg2 : arg2.IsWhole) (arg3 : Memref sig .tc .hbm S8x1024x704 .bf16) (harg3 : arg3.IsWhole) (arg4 : Memref sig .tc .hbm S8x352x1024 .bf16) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S8x512x704 .bf16) (harg7 : arg7.IsWhole) (arg8 : Memref sig .tc .vmem S512x1024 .bf16) (harg8 : arg8.IsWhole) (arg9 : Memref sig .tc .vmem S8x1024x704 .bf16) (harg9 : arg9.IsWhole) (arg10 : Memref sig .tc .vmem S2816x1024 .bf16) (harg10 : arg10.IsWhole) (arg11 : DmaSems sig S2x8) :
    cc0_ffn_fwd_a0 (F := F) i arg1 harg1 arg2 harg2 arg3 harg3 arg4 harg4 arg5 harg5 arg6 harg6 arg7 harg7 arg8 harg8 arg9 harg9 arg10 harg10 arg11
      = (fetch i arg1 harg1 arg2 harg2 arg3 harg3 arg4 harg4 arg5 harg5 arg6 harg6 arg7 harg7 arg8 harg8 arg9 harg9 arg10 harg10 arg11 >>= fun _ => cc0_ffn_fwd_a0 (F := F) i1 arg1 harg1 arg2 harg2 arg3 harg3 arg4 harg4 arg5 harg5 arg6 harg6 arg7 harg7 arg8 harg8 arg9 harg9 arg10 harg10 arg11) := by
  simp only [cc0_ffn_fwd_a0_eq_skeleton]; unfold cc0_ffn_fwd_a0_skel
  rw [show k0_part11 (F := F) i1 = k0_part11 i from rfl, show k0_part12 (F := F) i1 = k0_part12 i from rfl,
    show k0_part13 (F := F) i1 = k0_part13 i from rfl]
  simp only [k0_part10_eq_skeleton]; unfold k0_part10_skel
  simp only [dif_pos hi, dif_neg hi1, bind_assoc, pure_bind]
  unfold fetch
  simp only [bind_assoc, pure_bind]

/-- Away from that point the body is the same at every point. -/
theorem body_later (i i1 : grid0.Coords) (hi : ¬first i) (hi1 : ¬first i1) (arg1 : Memref sig .tc .vmem S512x1024 .f32) (harg1 : arg1.IsWhole) (arg2 : Memref sig .tc .vmem S8x1024 .f32) (harg2 : arg2.IsWhole) (arg3 : Memref sig .tc .hbm S8x1024x704 .bf16) (harg3 : arg3.IsWhole) (arg4 : Memref sig .tc .hbm S8x352x1024 .bf16) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S8x512x704 .bf16) (harg7 : arg7.IsWhole) (arg8 : Memref sig .tc .vmem S512x1024 .bf16) (harg8 : arg8.IsWhole) (arg9 : Memref sig .tc .vmem S8x1024x704 .bf16) (harg9 : arg9.IsWhole) (arg10 : Memref sig .tc .vmem S2816x1024 .bf16) (harg10 : arg10.IsWhole) (arg11 : DmaSems sig S2x8) :
    cc0_ffn_fwd_a0 (F := F) i arg1 harg1 arg2 harg2 arg3 harg3 arg4 harg4 arg5 harg5 arg6 harg6 arg7 harg7 arg8 harg8 arg9 harg9 arg10 harg10 arg11 = cc0_ffn_fwd_a0 (F := F) i1 arg1 harg1 arg2 harg2 arg3 harg3 arg4 harg4 arg5 harg5 arg6 harg6 arg7 harg7 arg8 harg8 arg9 harg9 arg10 harg10 arg11 := by
  simp only [cc0_ffn_fwd_a0_eq_skeleton]; unfold cc0_ffn_fwd_a0_skel
  rw [show k0_part11 (F := F) i1 = k0_part11 i from rfl, show k0_part12 (F := F) i1 = k0_part12 i from rfl,
    show k0_part13 (F := F) i1 = k0_part13 i from rfl]
  simp only [k0_part10_eq_skeleton]; unfold k0_part10_skel
  simp only [dif_neg hi, dif_neg hi1]

end Cert.FfnIdeal.Hand

end
-- ==== Proof.Ffn.Fetch.lean ====
module

public import proofs.«01_k».proof.Proof.Ffn.Windows
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueLayout

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

set_option maxHeartbeats 2000000 in
/-- The copies, from the sixteen windows they fill: each window ends holding its part of the weights, the weights in HBM and the
    semaphores are as they were. -/
theorem fetch_run (c : Dev nD) (i : grid0.Coords)
    (arg1 : Memref sig .tc .vmem S512x1024 .f32) (harg1 : arg1.IsWhole) (arg2 : Memref sig .tc .vmem S8x1024 .f32) (harg2 : arg2.IsWhole)
    (arg5 : Memref sig .tc .vmem S512x1024 .f32) (harg5 : arg5.IsWhole) (arg6 : Memref sig .tc .vmem S512x1024 .bf16) (harg6 : arg6.IsWhole)
    (arg7 : Memref sig .tc .vmem S8x512x704 .bf16) (harg7 : arg7.IsWhole) (arg8 : Memref sig .tc .vmem S512x1024 .bf16) (harg8 : arg8.IsWhole)
    (f : Cont (F := F) c sc0) (f' : Cont (F := F) c sc1)
    (g0 : Cont (F := F) c wg) (g1 : Cont (F := F) c wd) (W : Waits sig Unit) (K : PUnit → sProp 𝕄) :
    iprop(heldOwn c win0 f ∗ heldOwn c win1 f ∗ heldOwn c win2 f ∗ heldOwn c win3 f ∗ heldOwn c win4 f ∗ heldOwn c win5 f ∗ heldOwn c win6 f ∗ heldOwn c win7 f ∗ heldOwn c band0 f' ∗ heldOwn c band1 f' ∗ heldOwn c band2 f' ∗ heldOwn c band3 f' ∗ heldOwn c band4 f' ∗ heldOwn c band5 f' ∗ heldOwn c band6 f' ∗ heldOwn c band7 f'
        ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0
        ∗ held c wg g0 ∗ held c wd g1
        ∗ owes (c : Thread nD τ) 0 W
        ∗ (iprop(heldOwn c win0 (gu c g0) ∗ heldOwn c win1 (gu c g0) ∗ heldOwn c win2 (gu c g0) ∗ heldOwn c win3 (gu c g0) ∗ heldOwn c win4 (gu c g0) ∗ heldOwn c win5 (gu c g0) ∗ heldOwn c win6 (gu c g0) ∗ heldOwn c win7 (gu c g0) ∗ heldOwn c band0 (dn c g1) ∗ heldOwn c band1 (dn c g1) ∗ heldOwn c band2 (dn c g1) ∗ heldOwn c band3 (dn c g1) ∗ heldOwn c band4 (dn c g1) ∗ heldOwn c band5 (dn c g1) ∗ heldOwn c band6 (dn c g1) ∗ heldOwn c band7 (dn c g1)
            ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0
            ∗ held c wg g0 ∗ held c wd g1 ∗ (∃ W', owes (c : Thread nD τ) 0 W')) -∗ K ⟨⟩))
      ⊢ wp frame (wpE (defs₀ (F := F)) Variants.none c none) Set.univ (fetch i arg1 harg1 arg2 harg2
              (Memref.whole main_v4) (Memref.isWhole_whole _) (Memref.whole main_v5) (Memref.isWhole_whole _)
              arg5 harg5 arg6 harg6 arg7 harg7 arg8 harg8 sc0 (Memref.isWhole_whole _) sc1 (Memref.isWhole_whole _) cc0_scratch2) K := by
  unfold fetch
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  iintro ⟨Hd0, Hd1, Hd2, Hd3, Hd4, Hd5, Hd6, Hd7, He0, He1, He2, He3, He4, He5, He6, He7, Hq0, Hq1, Hq2, Hq3, Hq4, Hq5, Hq6, Hq7, Hq8, Hq9, Hq10, Hq11, Hq12, Hq13, Hq14, Hq15, Hh0, Hh1, HW, Hk⟩
  sl_exec
  sl_step
  iapply Hk
  isplitl [Hd0]; · iapply (landed c win0 f (gu c g0) _ rfl); iexact Hd0
  isplitl [Hd1]; · iapply (landed c win1 f (gu c g0) _ rfl); iexact Hd1
  isplitl [Hd2]; · iapply (landed c win2 f (gu c g0) _ rfl); iexact Hd2
  isplitl [Hd3]; · iapply (landed c win3 f (gu c g0) _ rfl); iexact Hd3
  isplitl [Hd4]; · iapply (landed c win4 f (gu c g0) _ rfl); iexact Hd4
  isplitl [Hd5]; · iapply (landed c win5 f (gu c g0) _ rfl); iexact Hd5
  isplitl [Hd6]; · iapply (landed c win6 f (gu c g0) _ rfl); iexact Hd6
  isplitl [Hd7]; · iapply (landed c win7 f (gu c g0) _ rfl); iexact Hd7
  isplitl [He0]; · iapply (landed c band0 f' (dn c g1) _ (dn_band c g1 0 0 rfl (by decide) _ _)); iexact He0
  isplitl [He1]; · iapply (landed c band1 f' (dn c g1) _ (dn_band c g1 1 352 rfl (by decide) _ _)); iexact He1
  isplitl [He2]; · iapply (landed c band2 f' (dn c g1) _ (dn_band c g1 2 704 rfl (by decide) _ _)); iexact He2
  isplitl [He3]; · iapply (landed c band3 f' (dn c g1) _ (dn_band c g1 3 1056 rfl (by decide) _ _)); iexact He3
  isplitl [He4]; · iapply (landed c band4 f' (dn c g1) _ (dn_band c g1 4 1408 rfl (by decide) _ _)); iexact He4
  isplitl [He5]; · iapply (landed c band5 f' (dn c g1) _ (dn_band c g1 5 1760 rfl (by decide) _ _)); iexact He5
  isplitl [He6]; · iapply (landed c band6 f' (dn c g1) _ (dn_band c g1 6 2112 rfl (by decide) _ _)); iexact He6
  isplitl [He7]; · iapply (landed c band7 f' (dn c g1) _ (dn_band c g1 7 2464 rfl (by decide) _ _)); iexact He7
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hh0]; · iexact Hh0
  isplitl [Hh1]; · iexact Hh1
  iexists _; iexact HW

end Cert.FfnIdeal.Hand

end
-- ==== Proof.Ffn.Frame.lean ====
module

public import proofs.«01_k».proof.Proof.Gen.FfnIdeal.Frame
public import proofs.«01_k».proof.Proof.Ffn.Split
public import proofs.«01_k».proof.Proof.Ffn.Fetch
public import proofs.«01_k».proof.Proof.Ffn.Outs
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueLayout

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

theorem own_sc0 (c : Dev nD) (d : Vec F S8x1024x704 .bf16) : (owns (c : Thread nD τ) sc0 fullShare d : sProp 𝕄) = held c sc0 d := by
  simp only [sc0, owns_whole]
theorem own_sc1 (c : Dev nD) (d : Vec F S2816x1024 .bf16) : (owns (c : Thread nD τ) sc1 fullShare d : sProp 𝕄) = held c sc1 d := by
  simp only [sc1, owns_whole]

/-- The copies, on the two weight buffers held whole: they end holding the weights. -/
theorem fetch_all (c : Dev nD) (i : grid0.Coords) (arg1 : Memref sig .tc .vmem S512x1024 .f32) (harg1 : arg1.IsWhole) (arg2 : Memref sig .tc .vmem S8x1024 .f32) (harg2 : arg2.IsWhole) (arg5 : Memref sig .tc .vmem S512x1024 .f32) (harg5 : arg5.IsWhole) (arg6 : Memref sig .tc .vmem S512x1024 .bf16) (harg6 : arg6.IsWhole) (arg7 : Memref sig .tc .vmem S8x512x704 .bf16) (harg7 : arg7.IsWhole) (arg8 : Memref sig .tc .vmem S512x1024 .bf16) (harg8 : arg8.IsWhole)
    (g0 : Cont (F := F) c wg) (g1 : Cont (F := F) c wd) (W : Waits sig Unit) (K : PUnit → sProp 𝕄) :
    iprop((∃ d, owns (c : Thread nD τ) sc0 fullShare d) ∗ (∃ d, owns (c : Thread nD τ) sc1 fullShare d) ∗ cells c
        ∗ held c wg g0 ∗ held c wd g1 ∗ owes (c : Thread nD τ) 0 W
        ∗ (iprop(owns (c : Thread nD τ) sc0 fullShare (gu c g0) ∗ owns (c : Thread nD τ) sc1 fullShare (dn c g1) ∗ cells c
            ∗ held c wg g0 ∗ held c wd g1 ∗ (∃ W', owes (c : Thread nD τ) 0 W')) -∗ K ⟨⟩))
      ⊢ wp frame (wpE (defs₀ (F := F)) Variants.none c none) Set.univ (fetch i arg1 harg1 arg2 harg2 wg (Memref.isWhole_whole _) wd (Memref.isWhole_whole _) arg5 harg5 arg6 harg6 arg7 harg7 arg8 harg8 sc0 (Memref.isWhole_whole _) sc1 (Memref.isWhole_whole _) cc0_scratch2) K := by
  simp only [own_sc0, own_sc1, planes_held, bands_held]
  iintro ⟨⟨%f, Hd0, Hd1, Hd2, Hd3, Hd4, Hd5, Hd6, Hd7⟩, ⟨%f1, He0, He1, He2, He3, He4, He5, He6, He7⟩, ⟨Hq0, Hq1, Hq2, Hq3, Hq4, Hq5, Hq6, Hq7, Hq8, Hq9, Hq10, Hq11, Hq12, Hq13, Hq14, Hq15⟩, Hh0, Hh1, HW, Hk⟩
  iapply (fetch_run c i arg1 harg1 arg2 harg2 arg5 harg5 arg6 harg6 arg7 harg7 arg8 harg8 f f1 g0 g1 W K)
  isplitl [Hd0]; · iexact Hd0
  isplitl [Hd1]; · iexact Hd1
  isplitl [Hd2]; · iexact Hd2
  isplitl [Hd3]; · iexact Hd3
  isplitl [Hd4]; · iexact Hd4
  isplitl [Hd5]; · iexact Hd5
  isplitl [Hd6]; · iexact Hd6
  isplitl [Hd7]; · iexact Hd7
  isplitl [He0]; · iexact He0
  isplitl [He1]; · iexact He1
  isplitl [He2]; · iexact He2
  isplitl [He3]; · iexact He3
  isplitl [He4]; · iexact He4
  isplitl [He5]; · iexact He5
  isplitl [He6]; · iexact He6
  isplitl [He7]; · iexact He7
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hh0]; · iexact Hh0
  isplitl [Hh1]; · iexact Hh1
  isplitl [HW]; · iexact HW
  iintro ⟨Hd0, Hd1, Hd2, Hd3, Hd4, Hd5, Hd6, Hd7, He0, He1, He2, He3, He4, He5, He6, He7, Hq0, Hq1, Hq2, Hq3, Hq4, Hq5, Hq6, Hq7, Hq8, Hq9, Hq10, Hq11, Hq12, Hq13, Hq14, Hq15, Hh0, Hh1, HW⟩
  iapply Hk
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  isplitl [He0 He1 He2 He3 He4 He5 He6 He7]
  · isplitl [He0]; · iexact He0
    isplitl [He1]; · iexact He1
    isplitl [He2]; · iexact He2
    isplitl [He3]; · iexact He3
    isplitl [He4]; · iexact He4
    isplitl [He5]; · iexact He5
    isplitl [He6]; · iexact He6
    iexact He7
  isplitl [Hq0 Hq1 Hq2 Hq3 Hq4 Hq5 Hq6 Hq7 Hq8 Hq9 Hq10 Hq11 Hq12 Hq13 Hq14 Hq15]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    iexact Hq15
  isplitl [Hh0]; · iexact Hh0
  isplitl [Hh1]; · iexact Hh1
  iexact HW

variable (m : (ℓ : Loc nD τ sig) → Buf (Elt F) ℓ) (ρ : Dev nD → PrngReg)

/-- The semaphores the copies use. -/
abbrev osem : Fin 16 → SemLoc sig := fun j => (![SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26] : Fin 16 → SemLoc sig) j

theorem osem_facts : Pipeline.OwnSemFacts spec0 osem := by decide

/-- The arrays the copies read: both stay in HBM and no window stages them. -/
def hbm : Finset (Ref sig .tc) := {main_v4, main_v5}

theorem hbm_sub : hbm ⊆ Pipeline.restRefs sig spec0 := by decide

/-- What the launch hands the region, conjunct by conjunct: the two weight buffers at anything, the generator register, the
    semaphores at zero and the two weight arrays as the region finds them. -/
theorem launch_eq (c : Dev nD) : (Pipeline.ΦD osem spec0 hbm (V m) c : sProp 𝕄)
    = iprop(iprop((∃ d, owns (c : Thread nD τ) sc0 fullShare d) ∗ (∃ d, owns (c : Thread nD τ) sc1 fullShare d)) ∗ (∃ r, prngReg c r) ∗ cells c
        ∗ iprop(held c wg (V m c main_v4) ∗ held c wd (V m c main_v5))) := by
  have hs : (Pipeline.ownSems0 (Ix := Unit) (Name := ℕ) (U := Pipeline.UD sig nD τ) (Lvl := ℕ) (Val := Elt F) (τ := τ) osem c : sProp 𝕄) = cells c := by
    rw [Pipeline.ownSems0_eq_of_list c osem [0, 1, 2, 3, 4, 5, 6, 7, 8, 9, 10, 11, 12, 13, 14, 15] (by decide) (by decide)]; rfl
  have hh : (bigSep hbm (fun b => ((c : Thread nD τ).loc b) ↦{fullShare} V m c b) : sProp 𝕄) = iprop(held c wg (V m c main_v4) ∗ held c wd (V m c main_v5)) := by
    rw [BI.bigSep_eq_bigSepL_of_eq [main_v4, main_v5] (by decide) (by decide)]; rfl
  rw [Pipeline.ΦD_eq, scopedRest0_eq, hs, hh]
  simp only [sc0, sc1, owns_whole]
  try rfl

/-- The contents of the two weight buffers once the copies have run. -/
abbrev w0 (c : Dev nD) : Vec F S8x1024x704 .bf16 := gu c (V m c main_v4)
abbrev w1 (c : Dev nD) : Vec F S2816x1024 .bf16 := dn c (V m c main_v5)

/-- What holds between grid points: before the first, what the launch hands the region; afterwards the same with the weight
    buffers holding the weights. -/
def Phi (c : Dev nD) (n : ℕ) : sProp 𝕄 :=
  if n = 0 then Pipeline.ΦD osem spec0 hbm (V m) c
  else iprop(iprop(owns (c : Thread nD τ) sc0 fullShare (w0 m c) ∗ owns (c : Thread nD τ) sc1 fullShare (w1 m c)) ∗ (∃ r, prngReg c r) ∗ cells c
        ∗ iprop(held c wg (V m c main_v4) ∗ held c wd (V m c main_v5)))

/-- What each window's staging buffer holds after the body at a point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => View.canon (xoL (iblk m c 0 t) (iblk m c 1 t) (w0 m c) (w1 m c))
    | ⟨3, _⟩ => View.canon (hL (iblk m c 0 t) (iblk m c 1 t))
    | ⟨4, _⟩ => View.canon (guL (iblk m c 0 t) (iblk m c 1 t) (w0 m c))
    | ⟨5, _⟩ => View.canon (fL (iblk m c 0 t) (iblk m c 1 t) (w0 m c) (w1 m c))
  Φ t := Phi m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = View.canon (xoL (iblk m c 0 t) (iblk m c 1 t) (w0 m c) (w1 m c)) := by dsimp only [dats]
theorem after_3 (c : Dev nD) (t : Fin cfg0.N) : (dats m 0 c).after 3 t = View.canon (hL (iblk m c 0 t) (iblk m c 1 t)) := by dsimp only [dats]
theorem after_4 (c : Dev nD) (t : Fin cfg0.N) : (dats m 0 c).after 4 t = View.canon (guL (iblk m c 0 t) (iblk m c 1 t) (w0 m c)) := by dsimp only [dats]
theorem after_5 (c : Dev nD) (t : Fin cfg0.N) : (dats m 0 c).after 5 t = View.canon (fL (iblk m c 0 t) (iblk m c 1 t) (w0 m c) (w1 m c)) := by dsimp only [dats]

/-- Each input's staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)

abbrev stg0 (t : Fin cfg0.N) := win0_0.stage (cfg0.slots t 0)
abbrev stg1 (t : Fin cfg0.N) := win0_1.stage (cfg0.slots t 1)
abbrev stg2 (t : Fin cfg0.N) := win0_2.stage (cfg0.slots t 2)
abbrev stg3 (t : Fin cfg0.N) := win0_3.stage (cfg0.slots t 3)
abbrev stg4 (t : Fin cfg0.N) := win0_4.stage (cfg0.slots t 4)
abbrev stg5 (t : Fin cfg0.N) := win0_5.stage (cfg0.slots t 5)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d)))

/-- and what it gives back. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t))

set_option maxHeartbeats 3200000 in
/-- The body at any point: at the first the copies fill the weight buffers and the rest of the body runs on them; at the others
    the buffers already hold the weights. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = Phi m c (t.val + 1) from rfl, show (dats m 0 c).Φ t.castSucc = Phi m c t.val from rfl,
    after_0, after_1, after_2, after_3, after_4, after_5]
  unfold Dat.owesAt Pipeline.owesWithin
  rw [show (dats m 0 c).owed t.castSucc = 0 from rfl, show (dats m 0 c).owed t.succ = 0 from rfl]
  rw [show Phi m c (t.val + 1) = _ from if_neg (Nat.succ_ne_zero _)]
  by_cases h0 : t.val = 0
  · rw [show Phi m c t.val = _ from if_pos h0, launch_eq]
    rw [body_first _ (grid0.coords second) ((first_iff t).mpr h0) second_not, wp_bind]
    iintro ⟨⟨⟨HS0, HS1⟩, Hg, Hq, ⟨Hh0, Hh1⟩⟩, ⟨%W, -, HW⟩, ⟨%d0, H0⟩, ⟨%d1, H1⟩, ⟨%d2, H2⟩, ⟨%d3, H3⟩, ⟨%d4, H4⟩, ⟨%d5, H5⟩⟩
    iapply (fetch_all c (grid0.coords t) _ _ _ _ _ _ _ _ _ _ _ _ (V m c main_v4) (V m c main_v5) W)
    isplitl [HS0]; · iexact HS0
    isplitl [HS1]; · iexact HS1
    isplitl [Hq]; · iexact Hq
    isplitl [Hh0]; · iexact Hh0
    isplitl [Hh1]; · iexact Hh1
    isplitl [HW]; · iexact HW
    iintro ⟨HS0, HS1, Hq, Hh0, Hh1, ⟨%W, HW⟩⟩
    iapply (step c _ _ _ _ _ _ _ _ _ _ _ _ _ _ _ _ (iblk m c 0 t) (iblk m c 1 t) (w0 m c) (w1 m c))
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg Hq Hh0 Hh1]
    · isplitl [HS0 HS1]
      · isplitl [HS0]; · iexact HS0
        iexact HS1
      isplitl [Hg]; · iexact Hg
      isplitl [Hq]; · iexact Hq
      isplitl [Hh0]; · iexact Hh0
      iexact Hh1
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5
  · rw [show Phi m c t.val = _ from if_neg h0]
    rw [body_later _ (grid0.coords second) (fun h => h0 ((first_iff t).mp h)) second_not]
    iintro ⟨⟨⟨HS0, HS1⟩, Hg, Hq, ⟨Hh0, Hh1⟩⟩, ⟨%W, -, HW⟩, ⟨%d0, H0⟩, ⟨%d1, H1⟩, ⟨%d2, H2⟩, ⟨%d3, H3⟩, ⟨%d4, H4⟩, ⟨%d5, H5⟩⟩
    iapply (step c _ _ _ _ _ _ _ _ _ _ _ _ _ _ _ _ (iblk m c 0 t) (iblk m c 1 t) (w0 m c) (w1 m c))
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg Hq Hh0 Hh1]
    · isplitl [HS0 HS1]
      · isplitl [HS0]; · iexact HS0
        iexact HS1
      isplitl [Hg]; · iexact Hg
      isplitl [Hq]; · iexact Hq
      isplitl [Hh0]; · iexact Hh0
      iexact Hh1
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5

/-- The body obligation of the pipeline, at every point. -/
theorem body_ok (c : Dev nD) : BodyObligation (dats (F := F) m 0 c) (defs₀ (F := F)) Variants.none () Set.univ := fun t => by
  have e : defs₀ (F := F) .tc cfg0.body (cfg0.bodyArgs t (cfg0.slots t)) = bodyAt0 t := by
    unfold defs₀; rw [Defs.onTc_tc]
  rw [bigSep_W0, bigSep_W0, e]
  exact triple_restated (sound_body m c t) rfl .rfl fun _ => .rfl

theorem enter (c : Dev nD) : Pipeline.ΦD osem spec0 hbm (V m) c ⊢ (dats m 0 c).Φ 0 := by
  rw [show (dats m 0 c).Φ 0 = Phi m c 0 from rfl, show Phi m c 0 = _ from if_pos rfl]

theorem leave (c : Dev nD) : (dats m 0 c).Φ (Fin.last cfg0.N) ⊢ Pipeline.ΦD osem spec0 hbm (V m) c := by
  rw [show (dats m 0 c).Φ (Fin.last cfg0.N) = Phi m c cfg0.N from rfl, show Phi m c cfg0.N = _ from if_neg (by rw [show cfg0.N = 8 from N_0]; decide), launch_eq]
  iintro ⟨⟨HS0, HS1⟩, Hg, Hq, Hh⟩
  isplitl [HS0 HS1]
  · isplitl [HS0]
    · iexists _; iexact HS0
    iexists _; iexact HS1
  isplitl [Hg]; · iexact Hg
  isplitl [Hq]; · iexact Hq
  iexact Hh

/-- The host operations run before the region leave every buffer at the contents named by `V`. -/
theorem main_ok (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The launch: every run ends, each window's array as the pipeline leaves it, every other buffer as the region found it, and
    every semaphore at zero. -/
theorem run_all : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem defs₀ Variants.none osem_facts hbm hbm_sub m ρ main
    (hbody := fun c => (body_ok m c).loose) (hshare := fun c => (dats m 0 c).share_full fun _ => rfl)
    (howed := fun _ _ => rfl) (V := V m) (hmain := main_ok m Variants.none) (hA := A_eq m) (hin := enter m) (hout := leave m)

/-- Every run ends with the four results as the pipeline leaves them and the arguments and semaphores as they were. -/
theorem run_results : θ_run defs (onTc (τ := τ) (main (F := F))) ⟨m, fun _ => 0, ρ⟩ (fun r => (∀ c : Dev nD,
      (r.2.mem ((c : Thread nD τ).loc main_v6_0) = (dats m 0 c).arrAt 2 cfg0.N ∧ r.2.mem ((c : Thread nD τ).loc main_v6_1) = (dats m 0 c).arrAt 3 cfg0.N ∧ r.2.mem ((c : Thread nD τ).loc main_v6_2) = (dats m 0 c).arrAt 4 cfg0.N ∧ r.2.mem ((c : Thread nD τ).loc main_v6_3) = (dats m 0 c).arrAt 5 cfg0.N)
      ∧ (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))) ∧ r.2.sem = fun _ => 0) :=
  (θ_run defs _ _).mono (fun _ h => ⟨fun c => ⟨⟨(h.1 c).1 2, (h.1 c).1 3, (h.1 c).1 4, (h.1 c).1 5⟩,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_all m ρ)

/-- The frame: every run ends with the arguments and the semaphores as they were. -/
theorem frame_ok : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => (h.1 c).2, h.2⟩) (run_results m ρ)

end Cert.FfnIdeal.Hand

end
-- ==== Proof.Ffn.Arrays.lean ====
module

public import proofs.«01_k».proof.Proof.Ffn.Blocks
public import proofs.«01_k».proof.Proof.Ffn.Frame
@[expose] public section

set_option maxRecDepth 16384

noncomputable section

/-! # The arrays that the feed-forward call leaves -/

namespace Cert.FfnIdeal.Point

open Cert.FfnIdeal Cert.FfnIdeal.Gen
open Idealize.ShloMosaic Idealize.ShloMosaic.TcCoe Idealize.ShloMosaic.Tactic
open Idealize.ShloMosaic.Pipeline (Dat Cfg Window)
open Cert.MixInIdeal.Point (hAt hAt_congr)

variable (m : (ℓ : Loc nD τ sig) → Buf (Elt Ideal) ℓ) (c : Dev nD)

/-- Which block each window is at, at each grid point. -/
theorem idx : ∀ t : Fin grid0.N,
    win0_0.index t = ![t.val, 0] ∧ win0_1.index t = ![0, 0] ∧ win0_2.index t = ![t.val, 0] ∧ win0_3.index t = ![t.val, 0]
      ∧ win0_4.index t = ![0, t.val, 0] ∧ win0_5.index t = ![t.val, 0] := by
  decide +kernel

/-- Row `a` of the tile at grid point `t`. -/
abbrev row (t : Fin cfg0.N) (a : Fin 512) : Fin 4096 := ⟨512 * t.val + a.val, by have : t.val < 8 := t.isLt; omega⟩

theorem blk_x (t : Fin cfg0.N) (a : Fin 512) (k : Fin 1024) :
    (iblk m c 0 t : Vec Ideal S512x1024 .f32) (ix2 a k) = (V m c main_arg0 : Vec Ideal S4096x1024 .f32) (ix2 (row t a) k) := by
  blk_ext [iblk, (idx t).1]

theorem blk_vec (t : Fin cfg0.N) (a : Fin 8) (k : Fin 1024) :
    (iblk m c 1 t : Vec Ideal S8x1024 .f32) (ix2 a k) = (V m c main_v3 : Vec Ideal S8x1024 .f32) (ix2 a k) := by
  blk_ext [iblk, (idx t).2.1]

/-- The arguments. -/
abbrev aX : Vec Ideal S4096x1024 .f32 := m ((c : Thread nD τ).loc main_arg0)
abbrev aMod : Vec Ideal S9x1024 .f32 := m ((c : Thread nD τ).loc main_arg1)
abbrev aGain : Vec Ideal S1024 .f32 := m ((c : Thread nD τ).loc main_arg2)
abbrev aUp : Vec Ideal S8x1024x704 .f32 := m ((c : Thread nD τ).loc main_arg3)
abbrev aDown : Vec Ideal S8x352x1024 .f32 := m ((c : Thread nD τ).loc main_arg4)

/-- Row `r` of the second weight, as the argument holds it in planes. -/
def downAt (r : Fin 2816) (d : Fin 1024) : EReal := aDown m c (ix3 ⟨r.val / 352, by omega⟩ ⟨r.val % 352, by omega⟩ d)

/-- The modulated row `i`, the first product plane by plane, the second product and the residual, of the arguments. -/
def hOf (i : Fin 4096) (d : Fin 1024) : EReal :=
  hAt (fun k => aX m c (ix2 i k)) (fun k => aGain m c (ix1 k)) (fun k => aMod m c (ix2 1 k)) (fun k => aMod m c (ix2 0 k)) d
def guOf (q : Fin 8) (i : Fin 4096) (b : Fin 704) : EReal := ∑ k : Fin 1024, hOf m c i k * aUp m c (ix3 q k b)
def fOf (i : Fin 4096) (d : Fin 1024) : EReal :=
  ∑ q : Fin 4, ∑ b : Fin 704, swi (guOf m c (gatePlane q) i b) (guOf m c (upPlane q) i b) * downAt m c (rowOf q b) d
def xoOf (i : Fin 4096) (d : Fin 1024) : EReal := aX m c (ix2 i d) + Ideal.ofBits .f32 0x3F000000#32 * aMod m c (ix2 2 d) * fOf m c i d

theorem h_blk (t : Fin cfg0.N) (a : Fin 512) (b : Fin 1024) : hBlk (iblk m c 0 t) (iblk m c 1 t) a b = hOf m c (row t a) b :=
  hAt_congr (fun k => (blk_x m c t a k).trans (congrFun (V_main_arg0 m c) _))
    (fun k => (blk_vec m c t 3 k).trans (vec_gain _ k)) (fun k => (blk_vec m c t 1 k).trans (vec_scale _ k))
    (fun k => (blk_vec m c t 0 k).trans (vec_shift _ k)) b

theorem gu_blk (t : Fin cfg0.N) (q : Fin 8) (a : Fin 512) (b : Fin 704) :
    guBlk (iblk m c 0 t) (iblk m c 1 t) (Hand.w0 m c) q a b = guOf m c q (row t a) b :=
  Finset.sum_congr rfl fun k _ => congrArg₂ _ (h_blk m c t a k) (wgu_at _ q k b)

/-- The second weight, as the body's copy holds it. -/
theorem down_row (r : Fin 2816) (d : Fin 1024) : (Hand.w1 m c : Vec Ideal S2816x1024 .bf16) (ix2 r d) = downAt m c r d :=
  wdown_at _ _ _ d

theorem f_blk (t : Fin cfg0.N) (a : Fin 512) (d : Fin 1024) :
    fBlk (iblk m c 0 t) (iblk m c 1 t) (Hand.w0 m c) (Hand.w1 m c) a d = fOf m c (row t a) d :=
  Finset.sum_congr rfl fun q _ => Finset.sum_congr rfl fun b _ => by
    rw [gu_blk, gu_blk]
    exact congrArg _ (down_row m c _ d)

theorem xo_blk (t : Fin cfg0.N) (a : Fin 512) (d : Fin 1024) :
    xoBlk (iblk m c 0 t) (iblk m c 1 t) (Hand.w0 m c) (Hand.w1 m c) a d = xoOf m c (row t a) d :=
  congrArg₂ _ ((blk_x m c t a d).trans (congrFun (V_main_arg0 m c) _))
    (congrArg₂ _ (congrArg _ ((blk_vec m c t 2 d).trans (vec_gate _ d))) (f_blk m c t a d))

/-- The first result is the residual. -/
theorem xo_arr : (Hand.dats m 0 c).arrAt 2 cfg0.N = ((fun i => xoOf m c (i 0) (i 1)) : Vec Ideal S4096x1024 .f32) := by
  refine (Hand.dats m 0 c).arrAt_eq_of_covers 2 _ (by decide +kernel) fun t hf y => ?_
  blk_simp
  rw [Hand.after_2]
  let a : Fin 512 := ⟨(y 0).val, (y 0).isLt⟩
  let b : Fin 1024 := ⟨(y 1).val, (y 1).isLt⟩
  have hy : y = ix2 a b := by
    funext q; fin_cases q <;> rfl
  have e0 : (win0_2.blk t).view.emb y 0 = row t a := Fin.ext (by blk_simp [(idx t).2.2.1]; simp [a]; omega)
  have e1 : (win0_2.blk t).view.emb y 1 = b := Fin.ext (by blk_simp [(idx t).2.2.1]; simp [b])
  rw [e0, e1, hy]
  exact (xo_at _ _ _ _ a b).trans (xo_blk m c t a b)

/-- The second result is the modulated rows. -/
theorem h_arr : (Hand.dats m 0 c).arrAt 3 cfg0.N = ((fun i => hOf m c (i 0) (i 1)) : Vec Ideal S4096x1024 .bf16) := by
  refine (Hand.dats m 0 c).arrAt_eq_of_covers 3 _ (by decide +kernel) fun t hf y => ?_
  blk_simp
  rw [Hand.after_3]
  let a : Fin 512 := ⟨(y 0).val, (y 0).isLt⟩
  let b : Fin 1024 := ⟨(y 1).val, (y 1).isLt⟩
  have hy : y = ix2 a b := by
    funext q; fin_cases q <;> rfl
  have e0 : (win0_3.blk t).view.emb y 0 = row t a := Fin.ext (by blk_simp [(idx t).2.2.2.1]; simp [a]; omega)
  have e1 : (win0_3.blk t).view.emb y 1 = b := Fin.ext (by blk_simp [(idx t).2.2.2.1]; simp [b])
  rw [e0, e1, hy]
  exact (h_at _ _ a b).trans (h_blk m c t a b)

/-- The third result is the first product. -/
theorem gu_arr : (Hand.dats m 0 c).arrAt 4 cfg0.N = ((fun i => guOf m c (i 0) (i 1) (i 2)) : Vec Ideal S8x4096x704 .bf16) := by
  refine (Hand.dats m 0 c).arrAt_eq_of_covers 4 _ (by decide +kernel) fun t hf y => ?_
  blk_simp
  rw [Hand.after_4]
  let a : Fin 512 := ⟨(y 1).val, (y 1).isLt⟩
  let q : Fin 8 := ⟨(y 0).val, (y 0).isLt⟩
  let b : Fin 704 := ⟨(y 2).val, (y 2).isLt⟩
  have e0 : (win0_4.blk t).view.emb y 0 = q := Fin.ext (by blk_simp [(idx t).2.2.2.2.1]; show _ = (y 0).val; omega)
  have e1 : (win0_4.blk t).view.emb y 1 = row t a := Fin.ext (by blk_simp [(idx t).2.2.2.2.1]; show _ = 512 * t.val + (y 1).val; omega)
  have e2 : (win0_4.blk t).view.emb y 2 = b := Fin.ext (by blk_simp [(idx t).2.2.2.2.1]; show _ = (y 2).val; omega)
  rw [e0, e1, e2]
  exact (gu_at _ _ _ y).trans (gu_blk m c t q a b)

/-- The fourth result is the second product. -/
theorem f_arr : (Hand.dats m 0 c).arrAt 5 cfg0.N = ((fun i => fOf m c (i 0) (i 1)) : Vec Ideal S4096x1024 .bf16) := by
  refine (Hand.dats m 0 c).arrAt_eq_of_covers 5 _ (by decide +kernel) fun t hf y => ?_
  blk_simp
  rw [Hand.after_5]
  let a : Fin 512 := ⟨(y 0).val, (y 0).isLt⟩
  let b : Fin 1024 := ⟨(y 1).val, (y 1).isLt⟩
  have hy : y = ix2 a b := by
    funext q; fin_cases q <;> rfl
  have e0 : (win0_5.blk t).view.emb y 0 = row t a := Fin.ext (by blk_simp [(idx t).2.2.2.2.2]; simp [a]; omega)
  have e1 : (win0_5.blk t).view.emb y 1 = b := Fin.ext (by blk_simp [(idx t).2.2.2.2.2]; simp [b])
  rw [e0, e1, hy]
  exact (f_at _ _ _ _ a b).trans (f_blk m c t a b)

end Cert.FfnIdeal.Point
-- ==== Proof.Ffn.Tie.lean ====
module

public import proofs.«01_k».proof.Defs
public import proofs.«01_k».proof.Proof.Gen.FfnReferenceIdeal.Run
public import proofs.«01_k».proof.Proof.MixIn.Tie
public import proofs.«01_k».proof.Proof.Ffn.Ref
public import proofs.«01_k».proof.Proof.Ffn.Arrays
@[expose] public section

set_option maxRecDepth 16384

noncomputable section

/-! # The feed-forward call and its reference give the same arrays -/

namespace Cert.FfnIdeal.Point

open Idealize.ShloMosaic Idealize.ShloMosaic.TcCoe Idealize.SL.Sem
open Cert.FfnReferenceIdeal.Read
open Cert.MixInIdeal.Point (eta2 eta3)

variable (m : (ℓ : Loc nD τ sig) → Buf (Elt Ideal) ℓ) (c : Dev nD)

/-- The reference's rows are the kernel's. -/
theorem h_ref : (val_main_v42 (F := Ideal) (aX m c) (aMod m c) (aGain m c) : Vec Ideal Cert.FfnReferenceIdeal.S4096x1024 .bf16)
    = fun i => hOf m c (i 0) (i 1) := by
  funext i
  rw [eta2 i]
  exact Cert.FfnReferenceIdeal.Point.h_at _ _ _ _ _

/-- The reference's first product is the kernel's. -/
theorem gu_at_ref (q : Fin 8) (i : Fin 4096) (b : Fin 704) :
    (val_main_v27 (F := Ideal) (aX m c) (aMod m c) (aGain m c) (aUp m c) : Vec Ideal Cert.FfnReferenceIdeal.S4096x5632 .f32) (ix2 i ⟨704 * q.val + b.val, by omega⟩)
      = guOf m c q i b :=
  (Cert.FfnReferenceIdeal.Point.gu_at _ _ _ _ _ _ _).trans
    (Finset.sum_congr rfl fun k _ => congrArg (· * _) (Cert.FfnReferenceIdeal.Point.h_at _ _ _ _ _))
theorem gu_ref : (val_main_v45 (F := Ideal) (aX m c) (aMod m c) (aGain m c) (aUp m c) : Vec Ideal Cert.FfnReferenceIdeal.S8x4096x704 .bf16)
    = fun i => guOf m c (i 0) (i 1) (i 2) := by
  funext i
  rw [eta3 i]
  exact (Cert.FfnReferenceIdeal.Point.planes_at _ _ _ _ _ _ _).trans (gu_at_ref m c _ _ _)

/-- The reference's second product is the kernel's. -/
theorem f_at_ref (i : Fin 4096) (d : Fin 1024) :
    (val_main_v33 (F := Ideal) (aX m c) (aMod m c) (aGain m c) (aUp m c) (aDown m c) : Vec Ideal Cert.FfnReferenceIdeal.S4096x1024 .f32) (ix2 i d) = fOf m c i d := by
  refine (Cert.FfnReferenceIdeal.Point.f_at _ _ _ _ _ _ _).trans ?_
  refine Finset.sum_congr rfl fun q _ => Finset.sum_congr rfl fun b _ => congrArg (· * _) ?_
  exact (Cert.FfnReferenceIdeal.Point.inner_at _ _ _ _ _ _ _).trans (congrArg₂ swi (gu_at_ref m c _ _ _) (gu_at_ref m c _ _ _))
theorem f_ref : (val_main_v46 (F := Ideal) (aX m c) (aMod m c) (aGain m c) (aUp m c) (aDown m c) : Vec Ideal Cert.FfnReferenceIdeal.S4096x1024 .bf16)
    = fun i => fOf m c (i 0) (i 1) := by
  funext i
  rw [eta2 i]
  exact f_at_ref m c _ _

/-- The reference's residual is the kernel's. -/
theorem xo_ref : (val_main_v41 (F := Ideal) (aX m c) (aMod m c) (aGain m c) (aUp m c) (aDown m c) : Vec Ideal Cert.FfnReferenceIdeal.S4096x1024 .f32)
    = fun i => xoOf m c (i 0) (i 1) := by
  funext i
  rw [eta2 i]
  exact (Cert.FfnReferenceIdeal.Point.xo_at _ _ _ _ _ _ _).trans (congrArg _ (congrArg _ (f_at_ref m c _ _)))

/-- The feed-forward call's four results are the reference's. -/
theorem algebraic : Cert.algebraic_FfnIdeal_FfnReferenceIdeal := fun m g m' g' _ hagree =>
  ⟨fun c => (fun i => xoOf m c (i 0) (i 1) : Vec Ideal S4096x1024 .f32),
   fun c => (fun i => hOf m c (i 0) (i 1) : Vec Ideal S4096x1024 .bf16),
   fun c => (fun i => guOf m c (i 0) (i 1) (i 2) : Vec Ideal S8x4096x704 .bf16),
   fun c => (fun i => fOf m c (i 0) (i 1) : Vec Ideal S4096x1024 .bf16),
   (θ_run Cert.FfnIdeal.defs _ _).mono (fun r h c => ⟨((h.1 c).1.1).trans (xo_arr m c), ((h.1 c).1.2.1).trans (h_arr m c),
      ((h.1 c).1.2.2.1).trans (gu_arr m c), ((h.1 c).1.2.2.2).trans (f_arr m c), (h.1 c).2⟩)
     (Cert.FfnIdeal.Hand.run_results m g),
   (θ_run Cert.FfnReferenceIdeal.defs _ _).mono (fun r h c =>
     ⟨(h c).1.trans ((val_main_v41_eq (F := Ideal) m' c).trans (by
        obtain ⟨e0, e1, e2, e3, e4⟩ := hagree c
        rw [e0, e1, e2, e3, e4]
        exact xo_ref m c)),
      (h c).2.1.trans ((val_main_v42_eq (F := Ideal) _ _ _).trans (by
        obtain ⟨e0, e1, e2, _⟩ := hagree c
        rw [e0, e1, e2]
        exact h_ref m c)),
      (h c).2.2.1.trans ((val_main_v45_eq (F := Ideal) _ _ _ _).trans (by
        obtain ⟨e0, e1, e2, e3, _⟩ := hagree c
        rw [e0, e1, e2, e3]
        exact gu_ref m c)),
      (h c).2.2.2.1.trans ((val_main_v46_eq (F := Ideal) m' c).trans (by
        obtain ⟨e0, e1, e2, e3, e4⟩ := hagree c
        rw [e0, e1, e2, e3, e4]
        exact f_ref m c)), (h c).2.2.2.2⟩)
     (Cert.FfnReferenceIdeal.Value.run m' g')⟩

end Cert.FfnIdeal.Point

namespace Cert.FfnReferenceIdeal.Point

open Cert.FfnReferenceIdeal
open Idealize.ShloMosaic Idealize.ShloMosaic.TcCoe Idealize.SL.Sem

/-- The reference has no semaphore, so that nothing is left in one. -/
instance noSem : IsEmpty (SemLoc sig) := by
  constructor
  rintro ⟨⟩
  all_goals exact Fin.elim0 (by assumption)

/-- The reference's runs end with the arguments as they were and, there being no semaphore, with every counter at zero. -/
theorem frame {F : FTy → Type} [FloatOps F] [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun _ h => ⟨fun c => (h c).2.2.2.2, funext fun x => isEmptyElim x.2⟩) (Value.run m ρ)

end Cert.FfnReferenceIdeal.Point
-- ==== Proof.FfnGrad.Run.lean ====
module

public import proofs.«01_k».proof.Proof.Gen.FfnGradIdeal.Launch
public import proofs.«01_k».proof.Proof.Gen.FfnGradIdeal.Skeleton
public import proofs.«01_k».proof.Proof.Gen.FfnGradIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FfnGradIdeal.Hand

open Cert.FfnGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

/-- Whether the body copies the weights at grid point `i`: the comparison it makes of the coordinate with zero. -/
abbrev first (i : grid0.Coords) : Prop :=
  (Scalar.cmpi .ne (Scalar.extui (Scalar.cmpi .eq (BitVec.ofNat 32 (i 0).val) 0#32)) 0#32) = 1#1

set_option maxHeartbeats 2000000 in
/-- The body at a point that copies nothing, on whole staging memrefs, with the two weight buffers holding `w0` and `w1` and the
    running sums holding `x9`: what its stores leave in the five outputs, as pieces, with the triple that says it. The inputs and
    the weights are kept. -/
def run (c : Dev nD) (i : grid0.Coords) (hi : ¬first i) (arg1 : Memref sig .tc .vmem S256x1024 .f32) (harg1 : arg1.IsWhole) (arg2 : Memref sig .tc .vmem S256x1024 .f32) (harg2 : arg2.IsWhole) (arg3 : Memref sig .tc .vmem S8x256x704 .bf16) (harg3 : arg3.IsWhole) (arg4 : Memref sig .tc .vmem S256x1024 .bf16) (harg4 : arg4.IsWhole) (arg5 : Memref sig .tc .vmem S8x1024 .f32) (harg5 : arg5.IsWhole) (arg8 : Memref sig .tc .vmem S256x1024 .f32) (harg8 : arg8.IsWhole) (arg9 : Memref sig .tc .vmem S8x256x704 .bf16) (harg9 : arg9.IsWhole) (arg10 : Memref sig .tc .vmem S4x256x704 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024x704 .bf16) (harg13 : arg13.IsWhole) (arg14 : Memref sig .tc .vmem S2816x1024 .bf16) (harg14 : arg14.IsWhole)
    (x0 : Vec F S256x1024 .f32) (x1 : Vec F S256x1024 .f32) (x2 : Vec F S8x256x704 .bf16) (x3 : Vec F S256x1024 .bf16) (x4 : Vec F S8x1024 .f32) (x9 : Vec F S8x1024 .f32) (w0 : Vec F S8x1024x704 .bf16) (w1 : Vec F S2816x1024 .bf16) :
    Σ' (L5 : List (View.Piece (Elt F) S256x1024 .f32)), Σ' (L6 : List (View.Piece (Elt F) S8x256x704 .bf16)),
      Σ' (L7 : List (View.Piece (Elt F) S4x256x704 .bf16)), Σ' (L8 : List (View.Piece (Elt F) S256x1024 .bf16)), { L9 : List (View.Piece (Elt F) S8x1024 .f32) //
      ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x9
            ∗ owns (c : Thread nD τ) arg13 fullShare w0 ∗ owns (c : Thread nD τ) arg14 fullShare w1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8)
                ∗ (arg12.view.loc (c : Thread nD τ) ↦[arg12.view.set]{fullShare} arg12.view.writes (Elt F) (harg12.unread x9) L9)
                ∗ owns (c : Thread nD τ) arg13 fullShare w0 ∗ owns (c : Thread nD τ) arg14 fullShare w1) -∗ K ⟨⟩))
          ⊢ wp frame (wpE (defs₀ (F := F)) Variants.none c none) Set.univ (cc0_ffn_bwd_a0 i arg1 harg1 arg2 harg2 arg3 harg3 arg4 harg4 arg5 harg5 (Memref.whole main_v42) (Memref.isWhole_whole _) (Memref.whole main_v43) (Memref.isWhole_whole _) arg8 harg8 arg9 harg9 arg10 harg10 arg11 harg11 arg12 harg12 arg13 harg13 arg14 harg14 cc0_scratch2) K } := by
  refine ⟨?_, ?_, ?_, ?_, ?_, fun K => ?run⟩
  case run =>
    simp only [cc0_ffn_bwd_a0_eq_skeleton]; unfold cc0_ffn_bwd_a0_skel
    simp only [k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%f9, %hf9, H9⟩, ⟨%fs0, %hfs0, HS0⟩, ⟨%fs1, %hfs1, HS1⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg12.eq_unread hf9
    obtain rfl := harg13.eq_unread hfs0; obtain rfl := harg14.eq_unread hfs1
    sl_exec (disch := first | sl_exact hi)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexact H9
    isplitl [HS0]
    · iexists _; isplitr; · ipureintro; exact harg13.read_unread _
      iexact HS0
    iexists _; isplitr; · ipureintro; exact harg14.read_unread _
    iexact HS1

end Cert.FfnGradIdeal.Hand

end
-- ==== Proof.FfnGrad.Outs.lean ====
module

public import proofs.«01_k».proof.Proof.FfnGrad.Run
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueLayout

@[expose] public section

set_option maxRecDepth 16384

noncomputable section

namespace Cert.FfnGradIdeal.Hand

open Cert.FfnGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

/-! # What the body computes, as functions of its blocks and of the two weight buffers -/

abbrev rBlk : Rect S256x1024 := Rect.unit (s := S256x1024) ![0, 0] S256x1024.size inb_S256x1024_S256x1024_0_0
abbrev rShift : Rect S8x1024 := Rect.unit (s := S8x1024) ![0, 0] S1x1024.size inb_S8x1024_S1x1024_0_0
abbrev rScale : Rect S8x1024 := Rect.unit (s := S8x1024) ![1, 0] S1x1024.size inb_S8x1024_S1x1024_1_0
abbrev rGate : Rect S8x1024 := Rect.unit (s := S8x1024) ![2, 0] S1x1024.size inb_S8x1024_S1x1024_2_0
abbrev rGain : Rect S8x1024 := Rect.unit (s := S8x1024) ![3, 0] S1x1024.size inb_S8x1024_S1x1024_3_0
abbrev rCol0 : Rect S8x1024x704 := Rect.unit (s := S8x1024x704) ![0, 0, 0] S1x1024x704.size inb_S8x1024x704_S1x1024x704_0_0_0
abbrev rCol1 : Rect S8x1024x704 := Rect.unit (s := S8x1024x704) ![1, 0, 0] S1x1024x704.size inb_S8x1024x704_S1x1024x704_1_0_0
abbrev rCol2 : Rect S8x1024x704 := Rect.unit (s := S8x1024x704) ![2, 0, 0] S1x1024x704.size inb_S8x1024x704_S1x1024x704_2_0_0
abbrev rCol3 : Rect S8x1024x704 := Rect.unit (s := S8x1024x704) ![3, 0, 0] S1x1024x704.size inb_S8x1024x704_S1x1024x704_3_0_0
abbrev rCol4 : Rect S8x1024x704 := Rect.unit (s := S8x1024x704) ![4, 0, 0] S1x1024x704.size inb_S8x1024x704_S1x1024x704_4_0_0
abbrev rCol5 : Rect S8x1024x704 := Rect.unit (s := S8x1024x704) ![5, 0, 0] S1x1024x704.size inb_S8x1024x704_S1x1024x704_5_0_0
abbrev rCol6 : Rect S8x1024x704 := Rect.unit (s := S8x1024x704) ![6, 0, 0] S1x1024x704.size inb_S8x1024x704_S1x1024x704_6_0_0
abbrev rCol7 : Rect S8x1024x704 := Rect.unit (s := S8x1024x704) ![7, 0, 0] S1x1024x704.size inb_S8x1024x704_S1x1024x704_7_0_0
abbrev rRow0 : Rect S2816x1024 := Rect.unit (s := S2816x1024) ![0, 0] S704x1024.size inb_S2816x1024_S704x1024_0_0
abbrev rRow1 : Rect S2816x1024 := Rect.unit (s := S2816x1024) ![704, 0] S704x1024.size inb_S2816x1024_S704x1024_704_0
abbrev rRow2 : Rect S2816x1024 := Rect.unit (s := S2816x1024) ![1408, 0] S704x1024.size inb_S2816x1024_S704x1024_1408_0
abbrev rRow3 : Rect S2816x1024 := Rect.unit (s := S2816x1024) ![2112, 0] S704x1024.size inb_S2816x1024_S704x1024_2112_0
abbrev rPl0 : Rect S8x256x704 := Rect.unit (s := S8x256x704) ![0, 0, 0] S1x256x704.size inb_S8x256x704_S1x256x704_0_0_0
abbrev rPl1 : Rect S8x256x704 := Rect.unit (s := S8x256x704) ![1, 0, 0] S1x256x704.size inb_S8x256x704_S1x256x704_1_0_0
abbrev rPl2 : Rect S8x256x704 := Rect.unit (s := S8x256x704) ![2, 0, 0] S1x256x704.size inb_S8x256x704_S1x256x704_2_0_0
abbrev rPl3 : Rect S8x256x704 := Rect.unit (s := S8x256x704) ![3, 0, 0] S1x256x704.size inb_S8x256x704_S1x256x704_3_0_0
abbrev rPl4 : Rect S8x256x704 := Rect.unit (s := S8x256x704) ![4, 0, 0] S1x256x704.size inb_S8x256x704_S1x256x704_4_0_0
abbrev rPl5 : Rect S8x256x704 := Rect.unit (s := S8x256x704) ![5, 0, 0] S1x256x704.size inb_S8x256x704_S1x256x704_5_0_0
abbrev rPl6 : Rect S8x256x704 := Rect.unit (s := S8x256x704) ![6, 0, 0] S1x256x704.size inb_S8x256x704_S1x256x704_6_0_0
abbrev rPl7 : Rect S8x256x704 := Rect.unit (s := S8x256x704) ![7, 0, 0] S1x256x704.size inb_S8x256x704_S1x256x704_7_0_0
abbrev rA0 : Rect S4x256x704 := Rect.unit (s := S4x256x704) ![0, 0, 0] S1x256x704.size inb_S4x256x704_S1x256x704_0_0_0
abbrev rA1 : Rect S4x256x704 := Rect.unit (s := S4x256x704) ![1, 0, 0] S1x256x704.size inb_S4x256x704_S1x256x704_1_0_0
abbrev rA2 : Rect S4x256x704 := Rect.unit (s := S4x256x704) ![2, 0, 0] S1x256x704.size inb_S4x256x704_S1x256x704_2_0_0
abbrev rA3 : Rect S4x256x704 := Rect.unit (s := S4x256x704) ![3, 0, 0] S1x256x704.size inb_S4x256x704_S1x256x704_3_0_0

/-- The cotangent of the sub-layer's product. -/
def dfB (x0 : Vec F S256x1024 .f32) (x4 : Vec F S8x1024 .f32) : FVec F S256x1024 .bf16 := k0_pay8 (View.ld x0 rBlk) (View.ld x4 rGate)

/-- The gate inputs of the first and last blocks of inner columns and the up inputs. -/
def g0B (x2 : Vec F S8x256x704 .bf16) : FVec F S256x704 .f32 := k0_pay11 (View.ld x2 rPl0)
def u0B (x2 : Vec F S8x256x704 .bf16) : FVec F S256x704 .bf16 := k0_pay12 (View.ld x2 rPl4)
def g3B (x2 : Vec F S8x256x704 .bf16) : FVec F S256x704 .f32 := k0_pay46 (View.ld x2 rPl3)
def u3B (x2 : Vec F S8x256x704 .bf16) : FVec F S256x704 .bf16 := k0_pay47 (View.ld x2 rPl7)

/-- The cotangent of the gated inner columns, in three of the four blocks. -/
def da0B (x0 : Vec F S256x1024 .f32) (x4 : Vec F S8x1024 .f32) (w1 : Vec F S2816x1024 .bf16) : FVec F S256x704 .f32 := k0_pay10 (View.ld x0 rBlk) (View.ld x4 rGate) (View.ld w1 rRow0)
def da2B (x0 : Vec F S256x1024 .f32) (x4 : Vec F S8x1024 .f32) (w1 : Vec F S2816x1024 .bf16) : FVec F S256x704 .f32 := k0_pay34 (dfB x0 x4) (View.ld w1 rRow2)
def da3B (x0 : Vec F S256x1024 .f32) (x4 : Vec F S8x1024 .f32) (w1 : Vec F S2816x1024 .bf16) : FVec F S256x704 .f32 := k0_pay45 (dfB x0 x4) (View.ld w1 rRow3)

/-- The cotangents of the second block's gate and up inputs. -/
def dg1B (x0 : Vec F S256x1024 .f32) (x2 : Vec F S8x256x704 .bf16) (x4 : Vec F S8x1024 .f32) (w1 : Vec F S2816x1024 .bf16) : FVec F S256x704 .bf16 := k0_pay29 (dfB x0 x4) (View.ld w1 rRow1) (View.ld x2 rPl1) (View.ld x2 rPl5)
def du1B (x0 : Vec F S256x1024 .f32) (x2 : Vec F S8x256x704 .bf16) (x4 : Vec F S8x1024 .f32) (w1 : Vec F S2816x1024 .bf16) : FVec F S256x704 .bf16 := k0_pay30 (dfB x0 x4) (View.ld w1 rRow1) (View.ld x2 rPl1)

/-- The running sum of the cotangent of the modulated input, over the first three blocks and the last gate block. -/
def dhB (x0 : Vec F S256x1024 .f32) (x2 : Vec F S8x256x704 .bf16) (x4 : Vec F S8x1024 .f32) (w0 : Vec F S8x1024x704 .bf16) (w1 : Vec F S2816x1024 .bf16) : FVec F S256x1024 .f32 :=
  k0_pay56
    (k0_pay44
      (k0_pay33
        (k0_pay22 (k0_pay18 (da0B x0 x4 w1) (g0B x2)) (k0_pay21 k0_pay9 (da0B x0 x4 w1) (g0B x2) (u0B x2) (View.ld w0 rCol0)) (View.ld w0 rCol4))
        (dg1B x0 x2 x4 w1) (du1B x0 x2 x4 w1) (View.ld w0 rCol1) (View.ld w0 rCol5))
      (da2B x0 x4 w1) (k0_pay35 (View.ld x2 rPl2)) (k0_pay36 (View.ld x2 rPl6)) (k0_pay37 (View.ld x2 rPl2)) (k0_pay38 (View.ld x2 rPl2))
      (View.ld w0 rCol2) (View.ld w0 rCol6))
    (da3B x0 x4 w1) (g3B x2) (u3B x2) (View.ld w0 rCol3)

/-- The cotangent of the last block's up input. -/
def du3B (x0 : Vec F S256x1024 .f32) (x2 : Vec F S8x256x704 .bf16) (x4 : Vec F S8x1024 .f32) (w1 : Vec F S2816x1024 .bf16) : FVec F S256x704 .bf16 := k0_pay53 (da3B x0 x4 w1) (g3B x2)

/-- The stores into the five outputs, last first. -/
def dxL (x0 : Vec F S256x1024 .f32) (x1 : Vec F S256x1024 .f32) (x2 : Vec F S8x256x704 .bf16) (x4 : Vec F S8x1024 .f32) (w0 : Vec F S8x1024x704 .bf16) (w1 : Vec F S2816x1024 .bf16) : List (View.Piece (Elt F) S256x1024 .f32) :=
  [⟨rBlk, k0_pay1 (View.ld x0 rBlk) (k0_pay65 (du3B x0 x2 x4 w1) (dhB x0 x2 x4 w0 w1) (View.ld w0 rCol7) (View.ld x1 rBlk) (View.ld x4 rGain) (View.ld x4 rScale))⟩]
def dguL (x0 : Vec F S256x1024 .f32) (x2 : Vec F S8x256x704 .bf16) (x4 : Vec F S8x1024 .f32) (w1 : Vec F S2816x1024 .bf16) : List (View.Piece (Elt F) S8x256x704 .bf16) :=
  [⟨rPl7, k0_pay55 (da3B x0 x4 w1) (g3B x2)⟩, ⟨rPl3, k0_pay54 (da3B x0 x4 w1) (g3B x2) (u3B x2)⟩,
   ⟨rPl6, k0_pay43 (da2B x0 x4 w1) (k0_pay38 (View.ld x2 rPl2))⟩,
   ⟨rPl2, k0_pay42 (da2B x0 x4 w1) (k0_pay35 (View.ld x2 rPl2)) (k0_pay36 (View.ld x2 rPl6)) (k0_pay37 (View.ld x2 rPl2))⟩,
   ⟨rPl5, k0_pay32 (du1B x0 x2 x4 w1)⟩, ⟨rPl1, k0_pay31 (dfB x0 x4) (View.ld w1 rRow1) (View.ld x2 rPl1) (View.ld x2 rPl5)⟩,
   ⟨rPl4, k0_pay20 (da0B x0 x4 w1) (g0B x2)⟩, ⟨rPl0, k0_pay19 (da0B x0 x4 w1) (g0B x2) (u0B x2)⟩]
def aL (x2 : Vec F S8x256x704 .bf16) : List (View.Piece (Elt F) S4x256x704 .bf16) :=
  [⟨rA3, k0_pay51 (g3B x2) (u3B x2)⟩, ⟨rA2, k0_pay39 (View.ld x2 rPl2) (View.ld x2 rPl6)⟩,
   ⟨rA1, k0_pay28 (View.ld x2 rPl1) (View.ld x2 rPl5)⟩, ⟨rA0, k0_pay16 (g0B x2) (u0B x2)⟩]
def dfL (x0 : Vec F S256x1024 .f32) (x4 : Vec F S8x1024 .f32) : List (View.Piece (Elt F) S256x1024 .bf16) := [⟨rBlk, dfB x0 x4⟩]
def accL (x0 : Vec F S256x1024 .f32) (x1 : Vec F S256x1024 .f32) (x2 : Vec F S8x256x704 .bf16) (x3 : Vec F S256x1024 .bf16) (x4 : Vec F S8x1024 .f32) (x9 : Vec F S8x1024 .f32) (w0 : Vec F S8x1024x704 .bf16) (w1 : Vec F S2816x1024 .bf16) : List (View.Piece (Elt F) S8x1024 .f32) :=
  [⟨rGain, k0_pay5 (k0_pay64 (du3B x0 x2 x4 w1) (dhB x0 x2 x4 w0 w1) (View.ld w0 rCol7) (View.ld x1 rBlk) (View.ld x4 rScale)) (View.ld x9 rGain)⟩,
   ⟨rGate, k0_pay4 (k0_pay7 (View.ld x0 rBlk) (View.ld x3 rBlk)) (View.ld x9 rGate)⟩,
   ⟨rScale, k0_pay3 (k0_pay62 (du3B x0 x2 x4 w1) (dhB x0 x2 x4 w0 w1) (View.ld w0 rCol7) (View.ld x1 rBlk) (View.ld x4 rGain)) (View.ld x9 rScale)⟩,
   ⟨rShift, k0_pay2 (k0_pay61 (du3B x0 x2 x4 w1) (dhB x0 x2 x4 w0 w1) (View.ld w0 rCol7)) (View.ld x9 rShift)⟩]

/-- The running sums after the body, from those before it. -/
def accV (x0 : Vec F S256x1024 .f32) (x1 : Vec F S256x1024 .f32) (x2 : Vec F S8x256x704 .bf16) (x3 : Vec F S256x1024 .bf16) (x4 : Vec F S8x1024 .f32) (x9 : Vec F S8x1024 .f32) (w0 : Vec F S8x1024x704 .bf16) (w1 : Vec F S2816x1024 .bf16) : Vec F S8x1024 .f32 := View.canon (accL x0 x1 x2 x3 x4 x9 w0 w1 ++ [⟨Rect.whole S8x1024, x9⟩])

/-- The stores of each output cover it. -/
theorem dx_cover (x0 : Vec F S256x1024 .f32) (x1 : Vec F S256x1024 .f32) (x2 : Vec F S8x256x704 .bf16) (x4 : Vec F S8x1024 .f32) (w0 : Vec F S8x1024x704 .bf16) (w1 : Vec F S2816x1024 .bf16) (y : S256x1024.Idx) : ∃ pc ∈ dxL x0 x1 x2 x4 w0 w1, y ∈ pc.1.set :=
  View.cover_of_tiledL (dxL x0 x1 x2 x4 w0 w1) S256x1024.size (by sl_kernel_rfl) y
theorem dgu_cover (x0 : Vec F S256x1024 .f32) (x2 : Vec F S8x256x704 .bf16) (x4 : Vec F S8x1024 .f32) (w1 : Vec F S2816x1024 .bf16) (y : S8x256x704.Idx) : ∃ pc ∈ dguL x0 x2 x4 w1, y ∈ pc.1.set :=
  View.cover_of_tiledL (dguL x0 x2 x4 w1) S1x256x704.size (by sl_kernel_rfl) y
theorem a_cover (x2 : Vec F S8x256x704 .bf16) (y : S4x256x704.Idx) : ∃ pc ∈ aL x2, y ∈ pc.1.set :=
  View.cover_of_tiledL (aL x2) S1x256x704.size (by sl_kernel_rfl) y
theorem df_cover (x0 : Vec F S256x1024 .f32) (x4 : Vec F S8x1024 .f32) (y : S256x1024.Idx) : ∃ pc ∈ dfL x0 x4, y ∈ pc.1.set :=
  View.cover_of_tiledL (dfL x0 x4) S256x1024.size (by sl_kernel_rfl) y

theorem run_dx (c : Dev nD) (i : grid0.Coords) (hi : ¬first i) (arg1 : Memref sig .tc .vmem S256x1024 .f32) (harg1 : arg1.IsWhole) (arg2 : Memref sig .tc .vmem S256x1024 .f32) (harg2 : arg2.IsWhole) (arg3 : Memref sig .tc .vmem S8x256x704 .bf16) (harg3 : arg3.IsWhole) (arg4 : Memref sig .tc .vmem S256x1024 .bf16) (harg4 : arg4.IsWhole) (arg5 : Memref sig .tc .vmem S8x1024 .f32) (harg5 : arg5.IsWhole) (arg8 : Memref sig .tc .vmem S256x1024 .f32) (harg8 : arg8.IsWhole) (arg9 : Memref sig .tc .vmem S8x256x704 .bf16) (harg9 : arg9.IsWhole) (arg10 : Memref sig .tc .vmem S4x256x704 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024x704 .bf16) (harg13 : arg13.IsWhole) (arg14 : Memref sig .tc .vmem S2816x1024 .bf16) (harg14 : arg14.IsWhole) (x0 : Vec F S256x1024 .f32) (x1 : Vec F S256x1024 .f32) (x2 : Vec F S8x256x704 .bf16) (x3 : Vec F S256x1024 .bf16) (x4 : Vec F S8x1024 .f32) (x9 : Vec F S8x1024 .f32) (w0 : Vec F S8x1024x704 .bf16) (w1 : Vec F S2816x1024 .bf16) :
    (run c i hi arg1 harg1 arg2 harg2 arg3 harg3 arg4 harg4 arg5 harg5 arg8 harg8 arg9 harg9 arg10 harg10 arg11 harg11 arg12 harg12 arg13 harg13 arg14 harg14 x0 x1 x2 x3 x4 x9 w0 w1).1 = dxL x0 x1 x2 x4 w0 w1 := by
  unfold run
  simp only [run.sl.r, run.sl.r_1, run.sl.r_2, run.sl.r_3, run.sl.r_4, run.sl.r_5, run.sl.r_6, run.sl.r_7, run.sl.r_8, run.sl.r_9, run.sl.r_10, run.sl.r_11, run.sl.r_12, run.sl.r_13, run.sl.r_14, run.sl.r_15, run.sl.r_16, run.sl.r_17, run.sl.r_18, run.sl.r_19, run.sl.r_20, run.sl.r_21, run.sl.r_22, run.sl.r_23, run.sl.r_24, run.sl.r_25, run.sl.r_26, run.sl.r_27, run.sl.r_28, run.sl.r_29, run.sl.r_30, run.sl.v255, run.sl.v259, run.sl.v263, View.readAt_eq_ld, Memref.IsWhole.read_unread]
  rfl

theorem run_dgu (c : Dev nD) (i : grid0.Coords) (hi : ¬first i) (arg1 : Memref sig .tc .vmem S256x1024 .f32) (harg1 : arg1.IsWhole) (arg2 : Memref sig .tc .vmem S256x1024 .f32) (harg2 : arg2.IsWhole) (arg3 : Memref sig .tc .vmem S8x256x704 .bf16) (harg3 : arg3.IsWhole) (arg4 : Memref sig .tc .vmem S256x1024 .bf16) (harg4 : arg4.IsWhole) (arg5 : Memref sig .tc .vmem S8x1024 .f32) (harg5 : arg5.IsWhole) (arg8 : Memref sig .tc .vmem S256x1024 .f32) (harg8 : arg8.IsWhole) (arg9 : Memref sig .tc .vmem S8x256x704 .bf16) (harg9 : arg9.IsWhole) (arg10 : Memref sig .tc .vmem S4x256x704 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024x704 .bf16) (harg13 : arg13.IsWhole) (arg14 : Memref sig .tc .vmem S2816x1024 .bf16) (harg14 : arg14.IsWhole) (x0 : Vec F S256x1024 .f32) (x1 : Vec F S256x1024 .f32) (x2 : Vec F S8x256x704 .bf16) (x3 : Vec F S256x1024 .bf16) (x4 : Vec F S8x1024 .f32) (x9 : Vec F S8x1024 .f32) (w0 : Vec F S8x1024x704 .bf16) (w1 : Vec F S2816x1024 .bf16) :
    (run c i hi arg1 harg1 arg2 harg2 arg3 harg3 arg4 harg4 arg5 harg5 arg8 harg8 arg9 harg9 arg10 harg10 arg11 harg11 arg12 harg12 arg13 harg13 arg14 harg14 x0 x1 x2 x3 x4 x9 w0 w1).2.1 = dguL x0 x2 x4 w1 := by
  unfold run
  simp only [run.sl.r, run.sl.r_1, run.sl.r_2, run.sl.r_3, run.sl.r_4, run.sl.r_5, run.sl.r_6, run.sl.r_7, run.sl.r_8, run.sl.r_9, run.sl.r_10, run.sl.r_11, run.sl.r_12, run.sl.r_13, run.sl.r_14, run.sl.r_15, run.sl.r_16, run.sl.r_17, run.sl.r_18, run.sl.r_19, run.sl.r_20, run.sl.r_21, run.sl.r_22, run.sl.r_23, run.sl.r_24, run.sl.r_25, run.sl.r_26, run.sl.r_27, run.sl.r_28, run.sl.r_29, run.sl.r_30, run.sl.v255, run.sl.v259, run.sl.v263, View.readAt_eq_ld, Memref.IsWhole.read_unread]
  rfl

theorem run_a (c : Dev nD) (i : grid0.Coords) (hi : ¬first i) (arg1 : Memref sig .tc .vmem S256x1024 .f32) (harg1 : arg1.IsWhole) (arg2 : Memref sig .tc .vmem S256x1024 .f32) (harg2 : arg2.IsWhole) (arg3 : Memref sig .tc .vmem S8x256x704 .bf16) (harg3 : arg3.IsWhole) (arg4 : Memref sig .tc .vmem S256x1024 .bf16) (harg4 : arg4.IsWhole) (arg5 : Memref sig .tc .vmem S8x1024 .f32) (harg5 : arg5.IsWhole) (arg8 : Memref sig .tc .vmem S256x1024 .f32) (harg8 : arg8.IsWhole) (arg9 : Memref sig .tc .vmem S8x256x704 .bf16) (harg9 : arg9.IsWhole) (arg10 : Memref sig .tc .vmem S4x256x704 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024x704 .bf16) (harg13 : arg13.IsWhole) (arg14 : Memref sig .tc .vmem S2816x1024 .bf16) (harg14 : arg14.IsWhole) (x0 : Vec F S256x1024 .f32) (x1 : Vec F S256x1024 .f32) (x2 : Vec F S8x256x704 .bf16) (x3 : Vec F S256x1024 .bf16) (x4 : Vec F S8x1024 .f32) (x9 : Vec F S8x1024 .f32) (w0 : Vec F S8x1024x704 .bf16) (w1 : Vec F S2816x1024 .bf16) :
    (run c i hi arg1 harg1 arg2 harg2 arg3 harg3 arg4 harg4 arg5 harg5 arg8 harg8 arg9 harg9 arg10 harg10 arg11 harg11 arg12 harg12 arg13 harg13 arg14 harg14 x0 x1 x2 x3 x4 x9 w0 w1).2.2.1 = aL x2 := by
  unfold run
  simp only [run.sl.r, run.sl.r_1, run.sl.r_2, run.sl.r_3, run.sl.r_4, run.sl.r_5, run.sl.r_6, run.sl.r_7, run.sl.r_8, run.sl.r_9, run.sl.r_10, run.sl.r_11, run.sl.r_12, run.sl.r_13, run.sl.r_14, run.sl.r_15, run.sl.r_16, run.sl.r_17, run.sl.r_18, run.sl.r_19, run.sl.r_20, run.sl.r_21, run.sl.r_22, run.sl.r_23, run.sl.r_24, run.sl.r_25, run.sl.r_26, run.sl.r_27, run.sl.r_28, run.sl.r_29, run.sl.r_30, run.sl.v255, run.sl.v259, run.sl.v263, View.readAt_eq_ld, Memref.IsWhole.read_unread]
  rfl

theorem run_df (c : Dev nD) (i : grid0.Coords) (hi : ¬first i) (arg1 : Memref sig .tc .vmem S256x1024 .f32) (harg1 : arg1.IsWhole) (arg2 : Memref sig .tc .vmem S256x1024 .f32) (harg2 : arg2.IsWhole) (arg3 : Memref sig .tc .vmem S8x256x704 .bf16) (harg3 : arg3.IsWhole) (arg4 : Memref sig .tc .vmem S256x1024 .bf16) (harg4 : arg4.IsWhole) (arg5 : Memref sig .tc .vmem S8x1024 .f32) (harg5 : arg5.IsWhole) (arg8 : Memref sig .tc .vmem S256x1024 .f32) (harg8 : arg8.IsWhole) (arg9 : Memref sig .tc .vmem S8x256x704 .bf16) (harg9 : arg9.IsWhole) (arg10 : Memref sig .tc .vmem S4x256x704 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024x704 .bf16) (harg13 : arg13.IsWhole) (arg14 : Memref sig .tc .vmem S2816x1024 .bf16) (harg14 : arg14.IsWhole) (x0 : Vec F S256x1024 .f32) (x1 : Vec F S256x1024 .f32) (x2 : Vec F S8x256x704 .bf16) (x3 : Vec F S256x1024 .bf16) (x4 : Vec F S8x1024 .f32) (x9 : Vec F S8x1024 .f32) (w0 : Vec F S8x1024x704 .bf16) (w1 : Vec F S2816x1024 .bf16) :
    (run c i hi arg1 harg1 arg2 harg2 arg3 harg3 arg4 harg4 arg5 harg5 arg8 harg8 arg9 harg9 arg10 harg10 arg11 harg11 arg12 harg12 arg13 harg13 arg14 harg14 x0 x1 x2 x3 x4 x9 w0 w1).2.2.2.1 = dfL x0 x4 := by
  unfold run
  simp only [run.sl.r, run.sl.r_1, run.sl.r_2, run.sl.r_3, run.sl.r_4, run.sl.r_5, run.sl.r_6, run.sl.r_7, run.sl.r_8, run.sl.r_9, run.sl.r_10, run.sl.r_11, run.sl.r_12, run.sl.r_13, run.sl.r_14, run.sl.r_15, run.sl.r_16, run.sl.r_17, run.sl.r_18, run.sl.r_19, run.sl.r_20, run.sl.r_21, run.sl.r_22, run.sl.r_23, run.sl.r_24, run.sl.r_25, run.sl.r_26, run.sl.r_27, run.sl.r_28, run.sl.r_29, run.sl.r_30, run.sl.v255, run.sl.v259, run.sl.v263, View.readAt_eq_ld, Memref.IsWhole.read_unread]
  rfl

theorem run_acc (c : Dev nD) (i : grid0.Coords) (hi : ¬first i) (arg1 : Memref sig .tc .vmem S256x1024 .f32) (harg1 : arg1.IsWhole) (arg2 : Memref sig .tc .vmem S256x1024 .f32) (harg2 : arg2.IsWhole) (arg3 : Memref sig .tc .vmem S8x256x704 .bf16) (harg3 : arg3.IsWhole) (arg4 : Memref sig .tc .vmem S256x1024 .bf16) (harg4 : arg4.IsWhole) (arg5 : Memref sig .tc .vmem S8x1024 .f32) (harg5 : arg5.IsWhole) (arg8 : Memref sig .tc .vmem S256x1024 .f32) (harg8 : arg8.IsWhole) (arg9 : Memref sig .tc .vmem S8x256x704 .bf16) (harg9 : arg9.IsWhole) (arg10 : Memref sig .tc .vmem S4x256x704 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024x704 .bf16) (harg13 : arg13.IsWhole) (arg14 : Memref sig .tc .vmem S2816x1024 .bf16) (harg14 : arg14.IsWhole) (x0 : Vec F S256x1024 .f32) (x1 : Vec F S256x1024 .f32) (x2 : Vec F S8x256x704 .bf16) (x3 : Vec F S256x1024 .bf16) (x4 : Vec F S8x1024 .f32) (x9 : Vec F S8x1024 .f32) (w0 : Vec F S8x1024x704 .bf16) (w1 : Vec F S2816x1024 .bf16) :
    (run c i hi arg1 harg1 arg2 harg2 arg3 harg3 arg4 harg4 arg5 harg5 arg8 harg8 arg9 harg9 arg10 harg10 arg11 harg11 arg12 harg12 arg13 harg13 arg14 harg14 x0 x1 x2 x3 x4 x9 w0 w1).2.2.2.2.1 = accL x0 x1 x2 x3 x4 x9 w0 w1 := by
  unfold run
  simp only [run.sl.r, run.sl.r_1, run.sl.r_2, run.sl.r_3, run.sl.r_4, run.sl.r_5, run.sl.r_6, run.sl.r_7, run.sl.r_8, run.sl.r_9, run.sl.r_10, run.sl.r_11, run.sl.r_12, run.sl.r_13, run.sl.r_14, run.sl.r_15, run.sl.r_16, run.sl.r_17, run.sl.r_18, run.sl.r_19, run.sl.r_20, run.sl.r_21, run.sl.r_22, run.sl.r_23, run.sl.r_24, run.sl.r_25, run.sl.r_26, run.sl.r_27, run.sl.r_28, run.sl.r_29, run.sl.r_30, run.sl.v255, run.sl.v259, run.sl.v263, View.readAt_eq_ld, Memref.IsWhole.read_unread]
  rfl

/-- Stores over a buffer that held `x` leave what the same stores leave over one that holds `x` as its first store. -/
theorem over {sp : Space} {S : Shape} {e : EltTy} (M : Memref sig .tc sp S e) (hM : M.IsWhole) (x : Vec F S e) (L : List (View.Piece (Elt F) S e)) :
    M.view.read (Elt F) (M.view.writes (Elt F) (hM.unread x) L) = View.canon (L ++ [⟨Rect.whole S, x⟩]) := by
  have h : ∀ f : M.view.ty.Contents (Elt F), M.view.read (Elt F) f = x →
      ∀ L : List (View.Piece (Elt F) S e), M.view.read (Elt F) (M.view.writes (Elt F) f L) = View.canon (L ++ [⟨Rect.whole S, x⟩]) := by
    intro f hf L
    induction L with
    | nil => funext y; exact (congrFun hf y).trans (((congrArg (View.canon (Val := Elt F) (e := e) [⟨Rect.whole S, x⟩]) (Rect.emb_whole_apply S y).symm).trans (View.canon_cons_emb (Rect.whole S) x [] y)).symm)
    | cons p L ih =>
      funext y
      by_cases hy : y ∈ p.1.set
      · obtain ⟨r, w⟩ := p
        obtain ⟨z, rfl⟩ : ∃ z, r.emb z = y := r.exists_idx_of_mem hy
        rw [View.read_writes_cons_emb, List.cons_append, View.canon_cons_emb]
      · rw [View.read_writes_cons_miss _ _ _ _ _ hy, List.cons_append, View.canon_cons_of_not_mem _ _ hy, ih]
  exact h _ (hM.read_unread x) L

/-- A grid point that copies nothing. -/
def second : Fin cfg0.N := ⟨1, by rw [show cfg0.N = 16 from N_0]; decide⟩

/-- The copies run at the first grid point and at no other. -/
theorem first_iff (t : Fin cfg0.N) : first (grid0.coords t) ↔ t.val = 0 := by
  have ht : t.val < 16 := Nat.lt_of_lt_of_eq t.isLt N_0
  have e0 : (grid0.coords t 0).val = t.val / 1 % 16 := Pipeline.Grid.coords_val t 0 (by decide) rfl
  have e1 : t.val / 1 % 16 = t.val := by omega
  simp only [first, e0, e1]
  word_cmp

theorem second_not : ¬first (grid0.coords second) := fun h => absurd ((first_iff second).mp h) (by decide)

/-- The body's triple where nothing is copied: the inputs and the weights are kept and each output holds what its stores leave. -/
theorem step (c : Dev nD) (arg1 : Memref sig .tc .vmem S256x1024 .f32) (harg1 : arg1.IsWhole) (arg2 : Memref sig .tc .vmem S256x1024 .f32) (harg2 : arg2.IsWhole) (arg3 : Memref sig .tc .vmem S8x256x704 .bf16) (harg3 : arg3.IsWhole) (arg4 : Memref sig .tc .vmem S256x1024 .bf16) (harg4 : arg4.IsWhole) (arg5 : Memref sig .tc .vmem S8x1024 .f32) (harg5 : arg5.IsWhole) (arg8 : Memref sig .tc .vmem S256x1024 .f32) (harg8 : arg8.IsWhole) (arg9 : Memref sig .tc .vmem S8x256x704 .bf16) (harg9 : arg9.IsWhole) (arg10 : Memref sig .tc .vmem S4x256x704 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024x704 .bf16) (harg13 : arg13.IsWhole) (arg14 : Memref sig .tc .vmem S2816x1024 .bf16) (harg14 : arg14.IsWhole) (x0 : Vec F S256x1024 .f32) (x1 : Vec F S256x1024 .f32) (x2 : Vec F S8x256x704 .bf16) (x3 : Vec F S256x1024 .bf16) (x4 : Vec F S8x1024 .f32) (x9 : Vec F S8x1024 .f32) (w0 : Vec F S8x1024x704 .bf16) (w1 : Vec F S2816x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x9
        ∗ owns (c : Thread nD τ) arg13 fullShare w0 ∗ owns (c : Thread nD τ) arg14 fullShare w1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (View.canon (dxL x0 x1 x2 x4 w0 w1)) ∗ owns (c : Thread nD τ) arg9 fullShare (View.canon (dguL x0 x2 x4 w1)) ∗ owns (c : Thread nD τ) arg10 fullShare (View.canon (aL x2)) ∗ owns (c : Thread nD τ) arg11 fullShare (View.canon (dfL x0 x4)) ∗ owns (c : Thread nD τ) arg12 fullShare (accV x0 x1 x2 x3 x4 x9 w0 w1)
            ∗ owns (c : Thread nD τ) arg13 fullShare w0 ∗ owns (c : Thread nD τ) arg14 fullShare w1) -∗ K ⟨⟩))
      ⊢ wp frame (wpE (defs₀ (F := F)) Variants.none c none) Set.univ (cc0_ffn_bwd_a0 (grid0.coords second) arg1 harg1 arg2 harg2 arg3 harg3 arg4 harg4 arg5 harg5 (Memref.whole main_v42) (Memref.isWhole_whole _) (Memref.whole main_v43) (Memref.isWhole_whole _) arg8 harg8 arg9 harg9 arg10 harg10 arg11 harg11 arg12 harg12 arg13 harg13 arg14 harg14 cc0_scratch2) K := by
  iintro ⟨H1, H2, H3, H4, H5, H8, H9, H10, H11, H12, H13, H14, Hk⟩
  iapply ((run c (grid0.coords second) second_not arg1 harg1 arg2 harg2 arg3 harg3 arg4 harg4 arg5 harg5 arg8 harg8 arg9 harg9 arg10 harg10 arg11 harg11 arg12 harg12 arg13 harg13 arg14 harg14 x0 x1 x2 x3 x4 x9 w0 w1).2.2.2.2.2 K)
  isplitl [H1]; · iexact H1
  isplitl [H2]; · iexact H2
  isplitl [H3]; · iexact H3
  isplitl [H4]; · iexact H4
  isplitl [H5]; · iexact H5
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H1, H2, H3, H4, H5, ⟨%f8, H8⟩, ⟨%f9, H9⟩, ⟨%f10, H10⟩, ⟨%f11, H11⟩, H12, H13, H14⟩
  iapply Hk
  isplitl [H1]; · iexact H1
  isplitl [H2]; · iexact H2
  isplitl [H3]; · iexact H3
  isplitl [H4]; · iexact H4
  isplitl [H5]; · iexact H5
  isplitl [H8]
  · unfold owns; iexists _; isplitr
    swap; · iexact H8
    ipureintro; rw [run_dx]; exact View.read_writes_eq_canon _ _ _ (dx_cover x0 x1 x2 x4 w0 w1)
  isplitl [H9]
  · unfold owns; iexists _; isplitr
    swap; · iexact H9
    ipureintro; rw [run_dgu]; exact View.read_writes_eq_canon _ _ _ (dgu_cover x0 x2 x4 w1)
  isplitl [H10]
  · unfold owns; iexists _; isplitr
    swap; · iexact H10
    ipureintro; rw [run_a]; exact View.read_writes_eq_canon _ _ _ (a_cover x2)
  isplitl [H11]
  · unfold owns; iexists _; isplitr
    swap; · iexact H11
    ipureintro; rw [run_df]; exact View.read_writes_eq_canon _ _ _ (df_cover x0 x4)
  isplitl [H12]
  · unfold owns; iexists _; isplitr
    swap; · iexact H12
    ipureintro; rw [run_acc]; exact over arg12 harg12 x9 _
  isplitl [H13]; · iexact H13
  iexact H14

end Cert.FfnGradIdeal.Hand

end
-- ==== Proof.FfnGrad.Real.lean ====
module

public import proofs.«01_k».proof.Proof.Consts
public import proofs.«01_k».proof.Proof.Ffn.Body
@[expose] public section

set_option maxRecDepth 16384

noncomputable section

/-! # The gradient's scalar formulas, over the reals -/

namespace Cert.FfnGradIdeal.Point

open Idealize.ShloMosaic
open Cert.MixInIdeal.Point (hAt)
open Cert.FfnIdeal.Point (swi)

/-- An extended real that is a real number. -/
def IsR (x : EReal) : Prop := ∃ r : ℝ, x = (r : EReal)

theorem IsR.add {x y : EReal} (hx : IsR x) (hy : IsR y) : IsR (x + y) := by
  obtain ⟨a, rfl⟩ := hx; obtain ⟨b, rfl⟩ := hy; exact ⟨a + b, by norm_cast⟩
theorem IsR.mul {x y : EReal} (hx : IsR x) (hy : IsR y) : IsR (x * y) := by
  obtain ⟨a, rfl⟩ := hx; obtain ⟨b, rfl⟩ := hy; exact ⟨a * b, by norm_cast⟩
theorem IsR.sub {x y : EReal} (hx : IsR x) (hy : IsR y) : IsR (x - y) := by
  obtain ⟨a, rfl⟩ := hx; obtain ⟨b, rfl⟩ := hy; exact ⟨a - b, by norm_cast⟩
theorem isR_one : IsR 1 := ⟨1, by norm_cast⟩

/-- A sum of real numbers, in the extended reals. -/
theorem sum_coe {ι : Type} [Fintype ι] (f : ι → ℝ) : ∑ k, (f k : EReal) = ((∑ k, f k : ℝ) : EReal) :=
  (map_sum (⟨⟨(fun r : ℝ => (r : EReal)), EReal.coe_zero⟩, EReal.coe_add⟩ : ℝ →+ EReal) f Finset.univ).symm

theorem IsR.sum {ι : Type} [Fintype ι] {f : ι → EReal} (h : ∀ k, IsR (f k)) : IsR (∑ k, f k) := by
  choose g hg using h
  exact ⟨∑ k, g k, by rw [← sum_coe]; exact Finset.sum_congr rfl fun k _ => hg k⟩

theorem cK : Ideal.ofBits FTy.f32 0x44800000#32 = ((1024 : ℝ) : EReal) := by
  simp [Ideal.ofBits, Ideal.ieee, -EReal.coe_mul]; norm_num
theorem cEps : Ideal.ofBits FTy.f32 0x358637BD#32 = ((8796093 / 8796093022208 : ℝ) : EReal) := by
  simp [Ideal.ofBits, Ideal.ieee, -EReal.coe_mul]; norm_num
theorem cHalf : Ideal.ofBits FTy.f32 0x3F000000#32 = ((1 / 2 : ℝ) : EReal) := by
  simp [Ideal.ofBits, Ideal.ieee, -EReal.coe_mul]; norm_num
theorem cMinus : Ideal.ofBits FTy.f32 0xBF000000#32 = ((-(1 / 2) : ℝ) : EReal) := by
  simp [Ideal.ofBits, Ideal.ieee, -EReal.coe_mul]; norm_num

/-- The logistic function. -/
def sgm (g : EReal) : EReal := Ideal.div 1 (1 + Ideal.exp (0 - g))
theorem sgm_isR (g : EReal) : IsR (sgm g) := by
  obtain ⟨s, _, _, h⟩ := Cert.Lru.sg_real g
  exact ⟨s, by unfold sgm; rw [zero_sub]; exact h⟩

/-- The cotangents of a gate input `g` and an up input `u`, from the cotangent `da` of the gated value. -/
def dgs (da g u : EReal) : EReal := da * u * (sgm g * (1 + g * (1 - sgm g)))
def dus (da g : EReal) : EReal := da * (g * sgm g)

/-- The reference differentiates `g` times its logistic value as a product. -/
theorem dgs_eq {da g u : EReal} (hd : IsR da) (hg : IsR g) (hu : IsR u) :
    da * u * sgm g + g * (da * u) * (sgm g * (1 - sgm g)) = dgs da g u := by
  unfold dgs
  obtain ⟨s, hs⟩ := sgm_isR g
  rw [hs]
  obtain ⟨a, rfl⟩ := hd; obtain ⟨b, rfl⟩ := hg; obtain ⟨c, rfl⟩ := hu
  norm_cast
  ring

theorem dgs_isR {da g u : EReal} (hd : IsR da) (hg : IsR g) (hu : IsR u) : IsR (dgs da g u) :=
  (hd.mul hu).mul ((sgm_isR g).mul (isR_one.add (hg.mul (isR_one.sub (sgm_isR g)))))
theorem dus_isR {da g : EReal} (hd : IsR da) (hg : IsR g) : IsR (dus da g) := hd.mul (hg.mul (sgm_isR g))

/-- The mean square of a row, and one over its root. -/
def msq (x : Fin 1024 → EReal) : EReal := Ideal.div (∑ k, x k * x k) (Ideal.ofBits .f32 0x44800000#32) + Ideal.ofBits .f32 0x358637BD#32
def rsq (x : Fin 1024 → EReal) : EReal := Ideal.rsqrt (msq x)

theorem rsq_real (x : Fin 1024 → ℝ) : ∃ s r : ℝ, msq (fun k => (x k : EReal)) = (s : EReal) ∧ rsq (fun k => (x k : EReal)) = (r : EReal) ∧ s ≠ 0 ∧ r * r * s = 1 := by
  have e : msq (fun k => (x k : EReal)) = (((∑ k, x k * x k) * (1 / 1024) + 8796093 / 8796093022208 : ℝ) : EReal) := by
    unfold msq
    rw [cK, cEps, Ideal.div_coe (by norm_num)]
    simp only [← EReal.coe_mul]
    rw [sum_coe]
    norm_cast
  have hp : (0 : ℝ) < (∑ k, x k * x k) * (1 / 1024) + 8796093 / 8796093022208 := by
    have h0 : 0 ≤ ∑ k, x k * x k := Finset.sum_nonneg fun k _ => mul_self_nonneg (x k)
    positivity
  refine ⟨_, (Real.sqrt ((∑ k, x k * x k) * (1 / 1024) + 8796093 / 8796093022208))⁻¹, e, ?_, hp.ne', ?_⟩
  · unfold rsq
    rw [e, Ideal.rsqrt_coe, if_neg (not_lt.mpr hp.le), if_neg hp.ne']
  · rw [← mul_inv, Real.mul_self_sqrt hp.le]
    exact inv_mul_cancel₀ hp.ne'

theorem rsq_isR {x : Fin 1024 → EReal} (hx : ∀ k, IsR (x k)) : IsR (rsq x) := by
  choose y hy using hx
  obtain rfl : x = fun k => (y k : EReal) := funext hy
  obtain ⟨s, r, _, h, _⟩ := rsq_real y
  exact ⟨r, h⟩

theorem hAt_isR {x g s t : Fin 1024 → EReal} (hx : ∀ k, IsR (x k)) (hg : ∀ k, IsR (g k)) (hs : ∀ k, IsR (s k)) (ht : ∀ k, IsR (t k)) (d : Fin 1024) :
    IsR (hAt x g s t d) :=
  ((((hx d).mul (rsq_isR hx)).mul (hg d)).mul (isR_one.add (hs d))).add (ht d)

/-- The cotangent of a normalised row, from the cotangent `dh` of the modulated row. -/
def dyAt (dh scale gain : Fin 1024 → EReal) (k : Fin 1024) : EReal := dh k * (1 + scale k) * gain k

/-- The cotangent of a row `x`, from the cotangent `dy` of the normalised row and the cotangent `e` of the residual. -/
def dxAt (x dy e : Fin 1024 → EReal) (d : Fin 1024) : EReal :=
  rsq x * (dy d - x d * rsq x * Ideal.div (∑ k, dy k * (x k * rsq x)) (Ideal.ofBits .f32 0x44800000#32)) + e d

/-- The factor that the reference gets for the row's square in the mean. -/
def cAt (x dy : Fin 1024 → EReal) : EReal :=
  Ideal.div ((∑ k, x k * dy k) * (Ideal.ofBits .f32 0xBF000000#32 * Ideal.div (rsq x) (msq x))) (Ideal.ofBits .f32 0x44800000#32)

/-- The reference differentiates the root of the mean square by itself, which for real rows comes to the same. -/
theorem dxAt_eq {x dy e : Fin 1024 → EReal} (hx : ∀ k, IsR (x k)) (hd : ∀ k, IsR (dy k)) (d : Fin 1024) :
    e d + (dy d * rsq x + x d * cAt x dy + cAt x dy * x d) = dxAt x dy e d := by
  choose y hy using hx
  choose z hz using hd
  obtain rfl : x = fun k => (y k : EReal) := funext hy
  obtain rfl : dy = fun k => (z k : EReal) := funext hz
  obtain ⟨s, r, h1, h2, h3, h4⟩ := rsq_real y
  unfold dxAt cAt
  rw [h1, h2, cK, cMinus, Ideal.div_coe h3, Ideal.div_coe (by norm_num), Ideal.div_coe (by norm_num)]
  simp only [← EReal.coe_mul]
  rw [sum_coe, sum_coe]
  rw [add_comm (e d)]
  refine congrArg (· + e d) ?_
  norm_cast
  have e1 : ∑ k, z k * (y k * r) = r * ∑ k, y k * z k := by
    rw [Finset.mul_sum]; exact Finset.sum_congr rfl fun k _ => by ring
  have e2 : r * (1 / s) = r * r * r := by
    field_simp
    linear_combination -r * h4
  rw [e1, e2]
  ring

end Cert.FfnGradIdeal.Point
-- ==== Proof.FfnGrad.Body.lean ====
module

public import proofs.«01_k».proof.Proof.FfnGrad.Outs
public import proofs.«01_k».proof.Proof.FfnGrad.Real
public import Idealize.ShloMosaic.Lib.Pointwise
public import Idealize.ShloMosaic.Lib.StableHlo.ReadAt
public import Idealize.ShloMosaic.Lib.Pipeline.ValueKit
@[expose] public section

set_option maxRecDepth 16384

noncomputable section

/-! # The body of the feed-forward gradient, at an index -/

namespace Cert.FfnGradIdeal.Point

open Cert.FfnGradIdeal Cert.FfnGradIdeal.Gen Cert.FfnGradIdeal.Hand
open Idealize.ShloMosaic Idealize.ShloMosaic.TcCoe Idealize.ShloMosaic.Tactic
open StableHlo

abbrev P704 : Type := Vec Ideal S256x704 .f32
abbrev Q704 : Type := Vec Ideal S256x704 .bf16
abbrev L704 : Type := Vec Ideal S1x256x704 .bf16

/-- The cotangent of the second product. -/
theorem pay8_at (x : Vec Ideal S256x1024 .f32) (t : Vec Ideal S1x1024 .f32) (a : Fin 256) (d : Fin 1024) :
    (k0_pay8 (F := Ideal) x t : Vec Ideal S256x1024 .bf16) (ix2 a d) = Ideal.ofBits .f32 0x3F000000#32 * t (ix2 0 d) * x (ix2 a d) := by
  pointwise [k0_pay8]

/-- The cotangent of the gated values, in each block of inner columns. -/
theorem pay23_at (df : Vec Ideal S256x1024 .bf16) (w : Vec Ideal S704x1024 .bf16) (a : Fin 256) (b : Fin 704) :
    (k0_pay23 (F := Ideal) df w : P704) (ix2 a b) = ∑ d : Fin 1024, df (ix2 a d) * w (ix2 b d) := by
  pointwise [k0_pay23]
theorem pay34_at (df : Vec Ideal S256x1024 .bf16) (w : Vec Ideal S704x1024 .bf16) (a : Fin 256) (b : Fin 704) :
    (k0_pay34 (F := Ideal) df w : P704) (ix2 a b) = ∑ d : Fin 1024, df (ix2 a d) * w (ix2 b d) := by
  pointwise [k0_pay34]
theorem pay45_at (df : Vec Ideal S256x1024 .bf16) (w : Vec Ideal S704x1024 .bf16) (a : Fin 256) (b : Fin 704) :
    (k0_pay45 (F := Ideal) df w : P704) (ix2 a b) = ∑ d : Fin 1024, df (ix2 a d) * w (ix2 b d) := by
  pointwise [k0_pay45]
theorem pay10_eq (x : Vec Ideal S256x1024 .f32) (t : Vec Ideal S1x1024 .f32) (w : Vec Ideal S704x1024 .bf16) :
    k0_pay10 (F := Ideal) x t w = k0_pay23 (k0_pay8 x t) w := rfl

/-- The loaded planes. -/
theorem pay11_at (v : L704) (a : Fin 256) (b : Fin 704) : (k0_pay11 (F := Ideal) v : P704) (ix2 a b) = v (ix3 0 a b) := by
  pointwise [k0_pay11]
theorem pay12_at (v : L704) (a : Fin 256) (b : Fin 704) : (k0_pay12 (F := Ideal) v : Q704) (ix2 a b) = v (ix3 0 a b) := by
  pointwise [k0_pay12]
theorem pay24_at (v : L704) (a : Fin 256) (b : Fin 704) : (k0_pay24 (F := Ideal) v : P704) (ix2 a b) = v (ix3 0 a b) := by
  pointwise [k0_pay24]
theorem pay25_at (v : L704) (a : Fin 256) (b : Fin 704) : (k0_pay25 (F := Ideal) v : P704) (ix2 a b) = v (ix3 0 a b) := by
  pointwise [k0_pay25]
theorem pay35_at (v : L704) (a : Fin 256) (b : Fin 704) : (k0_pay35 (F := Ideal) v : P704) (ix2 a b) = v (ix3 0 a b) := by
  pointwise [k0_pay35]
theorem pay36_at (v : L704) (a : Fin 256) (b : Fin 704) : (k0_pay36 (F := Ideal) v : P704) (ix2 a b) = v (ix3 0 a b) := by
  pointwise [k0_pay36]
theorem pay46_at (v : L704) (a : Fin 256) (b : Fin 704) : (k0_pay46 (F := Ideal) v : P704) (ix2 a b) = v (ix3 0 a b) := by
  pointwise [k0_pay46]
theorem pay47_at (v : L704) (a : Fin 256) (b : Fin 704) : (k0_pay47 (F := Ideal) v : Q704) (ix2 a b) = v (ix3 0 a b) := by
  pointwise [k0_pay47]

/-- The logistic values and their products with the gate inputs. -/
theorem pay14_at (g : P704) (a : Fin 256) (b : Fin 704) : (k0_pay14 (F := Ideal) g : P704) (ix2 a b) = sgm (g (ix2 a b)) := by
  unfold sgm
  pointwise [k0_pay14]
theorem pay49_eq (g : P704) : k0_pay49 (F := Ideal) g = k0_pay14 g := rfl
theorem pay26_eq (v : L704) : k0_pay26 (F := Ideal) v = k0_pay14 (k0_pay24 v) := rfl
theorem pay37_eq (v : L704) : k0_pay37 (F := Ideal) v = k0_pay14 (k0_pay35 v) := rfl

/-- The gated values, as each block stores them. -/
theorem pay16_at (g : P704) (u : Q704) (a : Fin 256) (b : Fin 704) :
    (k0_pay16 (F := Ideal) g u : L704) (ix3 0 a b) = g (ix2 a b) * sgm (g (ix2 a b)) * u (ix2 a b) := by
  rw [← pay14_at]
  pointwise [k0_pay16, k0_pay15, k0_pay13]
theorem pay51_eq (g : P704) (u : Q704) : k0_pay51 (F := Ideal) g u = k0_pay16 g u := rfl
theorem pay28_eq (v v' : L704) : k0_pay28 (F := Ideal) v v' = k0_pay16 (k0_pay24 v) (k0_pay12 v') := rfl
theorem pay39_eq (v v' : L704) : k0_pay39 (F := Ideal) v v' = k0_pay16 (k0_pay35 v) (k0_pay12 v') := rfl

/-- The cotangents of the gate inputs. -/
theorem pay17_at (da g : P704) (u : Q704) (a : Fin 256) (b : Fin 704) :
    (k0_pay17 (F := Ideal) da g u : Q704) (ix2 a b) = dgs (da (ix2 a b)) (g (ix2 a b)) (u (ix2 a b)) := by
  unfold dgs
  rw [← pay14_at]
  pointwise [k0_pay17, k0_pay13]
theorem pay52_eq (da g : P704) (u : Q704) : k0_pay52 (F := Ideal) da g u = k0_pay17 da g u := rfl
theorem pay29_eq (df : Vec Ideal S256x1024 .bf16) (w : Vec Ideal S704x1024 .bf16) (v v' : L704) :
    k0_pay29 (F := Ideal) df w v v' = k0_pay17 (k0_pay23 df w) (k0_pay24 v) (k0_pay12 v') := rfl
theorem pay40_eq (da : P704) (v v' : L704) :
    k0_pay40 (F := Ideal) da (k0_pay35 v) (k0_pay36 v') (k0_pay37 v) = k0_pay17 da (k0_pay35 v) (k0_pay12 v') := rfl

/-- The cotangents of the up inputs. -/
theorem pay18_at (da g : P704) (a : Fin 256) (b : Fin 704) :
    (k0_pay18 (F := Ideal) da g : Q704) (ix2 a b) = dus (da (ix2 a b)) (g (ix2 a b)) := by
  unfold dus
  rw [← pay14_at]
  pointwise [k0_pay18, k0_pay15]
theorem pay53_eq (da g : P704) : k0_pay53 (F := Ideal) da g = k0_pay18 da g := rfl
theorem pay30_eq (df : Vec Ideal S256x1024 .bf16) (w : Vec Ideal S704x1024 .bf16) (v : L704) :
    k0_pay30 (F := Ideal) df w v = k0_pay18 (k0_pay23 df w) (k0_pay24 v) := rfl
theorem pay41_eq (da : P704) (v : L704) : k0_pay41 (F := Ideal) da (k0_pay38 v) = k0_pay18 da (k0_pay35 v) := rfl

/-- A block of cotangents, as it is stored. -/
theorem pay32_at (g : Q704) (a : Fin 256) (b : Fin 704) : (k0_pay32 (F := Ideal) g : L704) (ix3 0 a b) = g (ix2 a b) := by
  pointwise [k0_pay32]
theorem pay19_eq (da g : P704) (u : Q704) : k0_pay19 (F := Ideal) da g u = k0_pay32 (k0_pay17 da g u) := rfl
theorem pay20_eq (da g : P704) : k0_pay20 (F := Ideal) da g = k0_pay32 (k0_pay18 da g) := rfl
theorem pay31_eq (df : Vec Ideal S256x1024 .bf16) (w : Vec Ideal S704x1024 .bf16) (v v' : L704) :
    k0_pay31 (F := Ideal) df w v v' = k0_pay32 (k0_pay29 df w v v') := rfl
theorem pay42_eq (da g u s : P704) : k0_pay42 (F := Ideal) da g u s = k0_pay32 (k0_pay40 da g u s) := rfl
theorem pay43_eq (da s : P704) : k0_pay43 (F := Ideal) da s = k0_pay32 (k0_pay41 da s) := rfl
theorem pay54_eq (da g : P704) (u : Q704) : k0_pay54 (F := Ideal) da g u = k0_pay32 (k0_pay52 da g u) := rfl
theorem pay55_eq (da g : P704) : k0_pay55 (F := Ideal) da g = k0_pay32 (k0_pay53 da g) := rfl

/-- One block's part of the cotangent of the modulated input, added to what the sum started from. -/
theorem pay22_at (v : Q704) (s : Vec Ideal S256x1024 .f32) (w : Vec Ideal S1x1024x704 .bf16) (a : Fin 256) (k : Fin 1024) :
    (k0_pay22 (F := Ideal) v s w : Vec Ideal S256x1024 .f32) (ix2 a k) = s (ix2 a k) + ∑ b : Fin 704, v (ix2 a b) * w (ix3 0 k b) := by
  pointwise [k0_pay22]
theorem pay21_eq (s : Vec Ideal S256x1024 .f32) (da g : P704) (u : Q704) (w : Vec Ideal S1x1024x704 .bf16) :
    k0_pay21 (F := Ideal) s da g u w = k0_pay22 (k0_pay17 da g u) s w := rfl
theorem pay33_eq (s : Vec Ideal S256x1024 .f32) (dg du : Q704) (w w' : Vec Ideal S1x1024x704 .bf16) :
    k0_pay33 (F := Ideal) s dg du w w' = k0_pay22 du (k0_pay22 dg s w) w' := rfl
theorem pay44_eq (s : Vec Ideal S256x1024 .f32) (da g u sg si : P704) (w w' : Vec Ideal S1x1024x704 .bf16) :
    k0_pay44 (F := Ideal) s da g u sg si w w' = k0_pay22 (k0_pay41 da si) (k0_pay22 (k0_pay40 da g u sg) s w) w' := rfl
theorem pay56_eq (s : Vec Ideal S256x1024 .f32) (da g : P704) (u : Q704) (w : Vec Ideal S1x1024x704 .bf16) :
    k0_pay56 (F := Ideal) s da g u w = k0_pay22 (k0_pay52 da g u) s w := rfl
theorem pay57_eq (v : Q704) (s : Vec Ideal S256x1024 .f32) (w : Vec Ideal S1x1024x704 .bf16) :
    k0_pay57 (F := Ideal) v s w = k0_pay22 v s w := rfl
theorem pay9_at (a : Fin 256) (k : Fin 1024) : (k0_pay9 (F := Ideal) : Vec Ideal S256x1024 .f32) (ix2 a k) = (0 : EReal) := by
  pointwise [k0_pay9]

/-- The norm's factor, the normalised row, and the cotangent of the normalised row. -/
theorem pay59_at (x : Vec Ideal S256x1024 .f32) (a : Fin 256) (z : Fin 1) :
    (k0_pay59 (F := Ideal) x : Vec Ideal S256x1 .f32) (ix2 a z) = rsq fun k => x (ix2 a k) := by
  unfold rsq msq
  pointwise [k0_pay59]
theorem pay60_at (x : Vec Ideal S256x1024 .f32) (a : Fin 256) (k : Fin 1024) :
    (k0_pay60 (F := Ideal) x : Vec Ideal S256x1024 .f32) (ix2 a k) = x (ix2 a k) * rsq fun k => x (ix2 a k) := by
  rw [← pay59_at x a 0]
  pointwise [k0_pay60]
theorem pay63_at (v : Q704) (s : Vec Ideal S256x1024 .f32) (w : Vec Ideal S1x1024x704 .bf16) (t : Vec Ideal S1x1024 .f32) (a : Fin 256) (k : Fin 1024) :
    (k0_pay63 (F := Ideal) v s w t : Vec Ideal S256x1024 .f32) (ix2 a k)
      = (k0_pay57 (F := Ideal) v s w : Vec Ideal S256x1024 .f32) (ix2 a k) * (1 + t (ix2 0 k)) := by
  pointwise [k0_pay63]

/-- The cotangent of the row, with the residual's. -/
theorem pay1_at (e : Vec Ideal S256x1024 .f32) (v : Q704) (s : Vec Ideal S256x1024 .f32) (w : Vec Ideal S1x1024x704 .bf16) (x : Vec Ideal S256x1024 .f32)
    (g t : Vec Ideal S1x1024 .f32) (a : Fin 256) (d : Fin 1024) :
    (k0_pay1 (F := Ideal) e (k0_pay65 v s w x g t) : Vec Ideal S256x1024 .f32) (ix2 a d)
      = dxAt (fun k => x (ix2 a k)) (dyAt (fun k => (k0_pay57 (F := Ideal) v s w : Vec Ideal S256x1024 .f32) (ix2 a k)) (fun k => t (ix2 0 k)) (fun k => g (ix2 0 k)))
          (fun k => e (ix2 a k)) d := by
  unfold dxAt dyAt
  rw [← pay59_at x a 0]
  simp only [← pay63_at]
  pointwise [k0_pay1, k0_pay65, k0_pay58, k0_pay60]
  simp only [pay63_at]

end Cert.FfnGradIdeal.Point
-- ==== Proof.FfnGrad.Blocks.lean ====
module

public import proofs.«01_k».proof.Proof.FfnGrad.Body
public import proofs.«01_k».proof.Proof.Ffn.Blocks
@[expose] public section

set_option maxRecDepth 16384

noncomputable section

/-! # What the body of the feed-forward gradient leaves in its output blocks -/

namespace Cert.FfnGradIdeal.Point

open Cert.FfnGradIdeal Cert.FfnGradIdeal.Gen Cert.FfnGradIdeal.Hand
open Idealize.ShloMosaic Idealize.ShloMosaic.TcCoe Idealize.ShloMosaic.Tactic
open StableHlo
open Cert.FfnIdeal.Point (rowOf gatePlane upPlane swi)

variable (x0 x1 : Vec Ideal S256x1024 .f32) (x2 : Vec Ideal S8x256x704 .bf16) (x4 : Vec Ideal S8x1024 .f32) (w0 : Vec Ideal S8x1024x704 .bf16)
  (w1 : Vec Ideal S2816x1024 .bf16)

/-- What the body loads: a block of rows, a packed vector, a plane of the first product, a plane of the first weight and a band of the second. -/
theorem ld_x (a : Fin 256) (k : Fin 1024) : (View.ld x0 rBlk : Vec Ideal S256x1024 .f32) (ix2 a k) = x0 (ix2 a k) := by
  exact View.ld_unit_apply_of _ _ _ _ _ _ (by intro q; fin_cases q <;> simp)
theorem ld_scale (k : Fin 1024) : (View.ld x4 rScale : Vec Ideal S1x1024 .f32) (ix2 0 k) = x4 (ix2 1 k) := by
  exact View.ld_unit_apply_of _ _ _ _ _ _ (by intro q; fin_cases q <;> simp)
theorem ld_gate (k : Fin 1024) : (View.ld x4 rGate : Vec Ideal S1x1024 .f32) (ix2 0 k) = x4 (ix2 2 k) := by
  exact View.ld_unit_apply_of _ _ _ _ _ _ (by intro q; fin_cases q <;> simp)
theorem ld_gain (k : Fin 1024) : (View.ld x4 rGain : Vec Ideal S1x1024 .f32) (ix2 0 k) = x4 (ix2 3 k) := by
  exact View.ld_unit_apply_of _ _ _ _ _ _ (by intro q; fin_cases q <;> simp)
theorem ld_pl0 (a : Fin 256) (b : Fin 704) : (View.ld x2 rPl0 : L704) (ix3 0 a b) = x2 (ix3 0 a b) := by
  exact View.ld_unit_apply_of _ _ _ _ _ _ (by intro q; fin_cases q <;> simp)
theorem ld_pl1 (a : Fin 256) (b : Fin 704) : (View.ld x2 rPl1 : L704) (ix3 0 a b) = x2 (ix3 1 a b) := by
  exact View.ld_unit_apply_of _ _ _ _ _ _ (by intro q; fin_cases q <;> simp)
theorem ld_pl2 (a : Fin 256) (b : Fin 704) : (View.ld x2 rPl2 : L704) (ix3 0 a b) = x2 (ix3 2 a b) := by
  exact View.ld_unit_apply_of _ _ _ _ _ _ (by intro q; fin_cases q <;> simp)
theorem ld_pl3 (a : Fin 256) (b : Fin 704) : (View.ld x2 rPl3 : L704) (ix3 0 a b) = x2 (ix3 3 a b) := by
  exact View.ld_unit_apply_of _ _ _ _ _ _ (by intro q; fin_cases q <;> simp)
theorem ld_pl4 (a : Fin 256) (b : Fin 704) : (View.ld x2 rPl4 : L704) (ix3 0 a b) = x2 (ix3 4 a b) := by
  exact View.ld_unit_apply_of _ _ _ _ _ _ (by intro q; fin_cases q <;> simp)
theorem ld_pl5 (a : Fin 256) (b : Fin 704) : (View.ld x2 rPl5 : L704) (ix3 0 a b) = x2 (ix3 5 a b) := by
  exact View.ld_unit_apply_of _ _ _ _ _ _ (by intro q; fin_cases q <;> simp)
theorem ld_pl6 (a : Fin 256) (b : Fin 704) : (View.ld x2 rPl6 : L704) (ix3 0 a b) = x2 (ix3 6 a b) := by
  exact View.ld_unit_apply_of _ _ _ _ _ _ (by intro q; fin_cases q <;> simp)
theorem ld_pl7 (a : Fin 256) (b : Fin 704) : (View.ld x2 rPl7 : L704) (ix3 0 a b) = x2 (ix3 7 a b) := by
  exact View.ld_unit_apply_of _ _ _ _ _ _ (by intro q; fin_cases q <;> simp)
theorem ld_col0 (k : Fin 1024) (b : Fin 704) : (View.ld w0 rCol0 : Vec Ideal S1x1024x704 .bf16) (ix3 0 k b) = w0 (ix3 0 k b) := by
  exact View.ld_unit_apply_of _ _ _ _ _ _ (by intro q; fin_cases q <;> simp)
theorem ld_col1 (k : Fin 1024) (b : Fin 704) : (View.ld w0 rCol1 : Vec Ideal S1x1024x704 .bf16) (ix3 0 k b) = w0 (ix3 1 k b) := by
  exact View.ld_unit_apply_of _ _ _ _ _ _ (by intro q; fin_cases q <;> simp)
theorem ld_col2 (k : Fin 1024) (b : Fin 704) : (View.ld w0 rCol2 : Vec Ideal S1x1024x704 .bf16) (ix3 0 k b) = w0 (ix3 2 k b) := by
  exact View.ld_unit_apply_of _ _ _ _ _ _ (by intro q; fin_cases q <;> simp)
theorem ld_col3 (k : Fin 1024) (b : Fin 704) : (View.ld w0 rCol3 : Vec Ideal S1x1024x704 .bf16) (ix3 0 k b) = w0 (ix3 3 k b) := by
  exact View.ld_unit_apply_of _ _ _ _ _ _ (by intro q; fin_cases q <;> simp)
theorem ld_col4 (k : Fin 1024) (b : Fin 704) : (View.ld w0 rCol4 : Vec Ideal S1x1024x704 .bf16) (ix3 0 k b) = w0 (ix3 4 k b) := by
  exact View.ld_unit_apply_of _ _ _ _ _ _ (by intro q; fin_cases q <;> simp)
theorem ld_col5 (k : Fin 1024) (b : Fin 704) : (View.ld w0 rCol5 : Vec Ideal S1x1024x704 .bf16) (ix3 0 k b) = w0 (ix3 5 k b) := by
  exact View.ld_unit_apply_of _ _ _ _ _ _ (by intro q; fin_cases q <;> simp)
theorem ld_col6 (k : Fin 1024) (b : Fin 704) : (View.ld w0 rCol6 : Vec Ideal S1x1024x704 .bf16) (ix3 0 k b) = w0 (ix3 6 k b) := by
  exact View.ld_unit_apply_of _ _ _ _ _ _ (by intro q; fin_cases q <;> simp)
theorem ld_col7 (k : Fin 1024) (b : Fin 704) : (View.ld w0 rCol7 : Vec Ideal S1x1024x704 .bf16) (ix3 0 k b) = w0 (ix3 7 k b) := by
  exact View.ld_unit_apply_of _ _ _ _ _ _ (by intro q; fin_cases q <;> simp)
theorem ld_row0 (b : Fin 704) (d : Fin 1024) : (View.ld w1 rRow0 : Vec Ideal S704x1024 .bf16) (ix2 b d) = w1 (ix2 (rowOf 0 b) d) := by
  exact View.ld_unit_apply_of _ _ _ _ _ _ (by intro q; fin_cases q <;> simp [rowOf])
theorem ld_row1 (b : Fin 704) (d : Fin 1024) : (View.ld w1 rRow1 : Vec Ideal S704x1024 .bf16) (ix2 b d) = w1 (ix2 (rowOf 1 b) d) := by
  exact View.ld_unit_apply_of _ _ _ _ _ _ (by intro q; fin_cases q <;> simp [rowOf])
theorem ld_row2 (b : Fin 704) (d : Fin 1024) : (View.ld w1 rRow2 : Vec Ideal S704x1024 .bf16) (ix2 b d) = w1 (ix2 (rowOf 2 b) d) := by
  exact View.ld_unit_apply_of _ _ _ _ _ _ (by intro q; fin_cases q <;> simp [rowOf])
theorem ld_row3 (b : Fin 704) (d : Fin 1024) : (View.ld w1 rRow3 : Vec Ideal S704x1024 .bf16) (ix2 b d) = w1 (ix2 (rowOf 3 b) d) := by
  exact View.ld_unit_apply_of _ _ _ _ _ _ (by intro q; fin_cases q <;> simp [rowOf])

/-- The cotangents of the second product and of the gated values of band `q`. -/
def dfBlk (a : Fin 256) (d : Fin 1024) : EReal := Ideal.ofBits .f32 0x3F000000#32 * x4 (ix2 2 d) * x0 (ix2 a d)
def daBlk (q : Fin 4) (a : Fin 256) (b : Fin 704) : EReal := ∑ d : Fin 1024, dfBlk x0 x4 a d * w1 (ix2 (rowOf q b) d)
/-- The cotangents of the gate inputs and of the up inputs of band `q`. -/
def dgBlk (q : Fin 4) (a : Fin 256) (b : Fin 704) : EReal := dgs (daBlk x0 x4 w1 q a b) (x2 (ix3 (gatePlane q) a b)) (x2 (ix3 (upPlane q) a b))
def duBlk (q : Fin 4) (a : Fin 256) (b : Fin 704) : EReal := dus (daBlk x0 x4 w1 q a b) (x2 (ix3 (gatePlane q) a b))
/-- The gated values of band `q`. -/
def aBlk (q : Fin 4) (a : Fin 256) (b : Fin 704) : EReal := swi (x2 (ix3 (gatePlane q) a b)) (x2 (ix3 (upPlane q) a b))
/-- Plane `p` of the cotangent of the first product: the gate inputs' planes, then the up inputs'. -/
def planesOf (dg du : Fin 4 → EReal) (p : Fin 8) : EReal := if h : p.val < 4 then dg ⟨p.val, h⟩ else du ⟨p.val - 4, by omega⟩
def dguBlk (p : Fin 8) (a : Fin 256) (b : Fin 704) : EReal := planesOf (fun q => dgBlk x0 x2 x4 w1 q a b) (fun q => duBlk x0 x2 x4 w1 q a b) p
/-- The cotangent of the modulated rows. -/
def dhBlk (a : Fin 256) (k : Fin 1024) : EReal :=
  ∑ q : Fin 4, ((∑ b : Fin 704, dgBlk x0 x2 x4 w1 q a b * w0 (ix3 (gatePlane q) k b)) + ∑ b : Fin 704, duBlk x0 x2 x4 w1 q a b * w0 (ix3 (upPlane q) k b))
/-- The cotangent of the rows. -/
def dxBlk (a : Fin 256) (d : Fin 1024) : EReal :=
  dxAt (fun k => x1 (ix2 a k)) (dyAt (dhBlk x0 x2 x4 w0 w1 a) (fun k => x4 (ix2 1 k)) (fun k => x4 (ix2 3 k))) (fun k => x0 (ix2 a k)) d

theorem df_val (a : Fin 256) (d : Fin 1024) : (dfB x0 x4 : Vec Ideal S256x1024 .bf16) (ix2 a d) = dfBlk x0 x4 a d := by
  unfold dfB dfBlk
  rw [pay8_at, ld_gate, ld_x]

/-- A band of the gated values' cotangent. -/
theorem da_sum (q : Fin 4) (w : Vec Ideal S704x1024 .bf16) (hw : ∀ b d, w (ix2 b d) = w1 (ix2 (rowOf q b) d)) (a : Fin 256) (b : Fin 704) :
    (k0_pay23 (F := Ideal) (dfB x0 x4) w : P704) (ix2 a b) = daBlk x0 x4 w1 q a b :=
  (pay23_at _ _ a b).trans (Finset.sum_congr rfl fun d _ => congrArg₂ _ (df_val x0 x4 a d) (hw b d))
theorem da0_at (a : Fin 256) (b : Fin 704) : (da0B x0 x4 w1 : P704) (ix2 a b) = daBlk x0 x4 w1 0 a b := da_sum x0 x4 w1 0 _ (ld_row0 w1) a b
theorem da1_at (a : Fin 256) (b : Fin 704) : (k0_pay23 (F := Ideal) (dfB x0 x4) (View.ld w1 rRow1) : P704) (ix2 a b) = daBlk x0 x4 w1 1 a b :=
  da_sum x0 x4 w1 1 _ (ld_row1 w1) a b
theorem da2_at (a : Fin 256) (b : Fin 704) : (da2B x0 x4 w1 : P704) (ix2 a b) = daBlk x0 x4 w1 2 a b := da_sum x0 x4 w1 2 _ (ld_row2 w1) a b
theorem da3_at (a : Fin 256) (b : Fin 704) : (da3B x0 x4 w1 : P704) (ix2 a b) = daBlk x0 x4 w1 3 a b := da_sum x0 x4 w1 3 _ (ld_row3 w1) a b

/-- The gate and up inputs of each band. -/
theorem g0_at (a : Fin 256) (b : Fin 704) : (g0B x2 : P704) (ix2 a b) = x2 (ix3 (gatePlane 0) a b) := (pay11_at _ a b).trans (ld_pl0 x2 a b)
theorem u0_at (a : Fin 256) (b : Fin 704) : (u0B x2 : Q704) (ix2 a b) = x2 (ix3 (upPlane 0) a b) := (pay12_at _ a b).trans (ld_pl4 x2 a b)
theorem g1_at (a : Fin 256) (b : Fin 704) : (k0_pay24 (F := Ideal) (View.ld x2 rPl1) : P704) (ix2 a b) = x2 (ix3 (gatePlane 1) a b) := (pay24_at _ a b).trans (ld_pl1 x2 a b)
theorem u1_at (a : Fin 256) (b : Fin 704) : (k0_pay12 (F := Ideal) (View.ld x2 rPl5) : Q704) (ix2 a b) = x2 (ix3 (upPlane 1) a b) := (pay12_at _ a b).trans (ld_pl5 x2 a b)
theorem g2_at (a : Fin 256) (b : Fin 704) : (k0_pay35 (F := Ideal) (View.ld x2 rPl2) : P704) (ix2 a b) = x2 (ix3 (gatePlane 2) a b) := (pay35_at _ a b).trans (ld_pl2 x2 a b)
theorem u2_at (a : Fin 256) (b : Fin 704) : (k0_pay12 (F := Ideal) (View.ld x2 rPl6) : Q704) (ix2 a b) = x2 (ix3 (upPlane 2) a b) := (pay12_at _ a b).trans (ld_pl6 x2 a b)
theorem g3_at (a : Fin 256) (b : Fin 704) : (g3B x2 : P704) (ix2 a b) = x2 (ix3 (gatePlane 3) a b) := (pay46_at _ a b).trans (ld_pl3 x2 a b)
theorem u3_at (a : Fin 256) (b : Fin 704) : (u3B x2 : Q704) (ix2 a b) = x2 (ix3 (upPlane 3) a b) := (pay47_at _ a b).trans (ld_pl7 x2 a b)

/-- A band of the cotangents of the gate inputs and of the up inputs, and of the gated values. -/
theorem dg_of (q : Fin 4) {da g : P704} {u : Q704} (hd : ∀ a b, da (ix2 a b) = daBlk x0 x4 w1 q a b) (hg : ∀ a b, g (ix2 a b) = x2 (ix3 (gatePlane q) a b))
    (hu : ∀ a b, u (ix2 a b) = x2 (ix3 (upPlane q) a b)) (a : Fin 256) (b : Fin 704) :
    (k0_pay17 (F := Ideal) da g u : Q704) (ix2 a b) = dgBlk x0 x2 x4 w1 q a b := by
  rw [pay17_at, hd, hg, hu]; rfl
theorem du_of (q : Fin 4) {da g : P704} (hd : ∀ a b, da (ix2 a b) = daBlk x0 x4 w1 q a b) (hg : ∀ a b, g (ix2 a b) = x2 (ix3 (gatePlane q) a b))
    (a : Fin 256) (b : Fin 704) : (k0_pay18 (F := Ideal) da g : Q704) (ix2 a b) = duBlk x0 x2 x4 w1 q a b := by
  rw [pay18_at, hd, hg]; rfl
theorem a_of (q : Fin 4) {g : P704} {u : Q704} (hg : ∀ a b, g (ix2 a b) = x2 (ix3 (gatePlane q) a b)) (hu : ∀ a b, u (ix2 a b) = x2 (ix3 (upPlane q) a b))
    (a : Fin 256) (b : Fin 704) : (k0_pay16 (F := Ideal) g u : L704) (ix3 0 a b) = aBlk x2 q a b := by
  rw [pay16_at, hg, hu]; rfl

theorem dg0_at (a : Fin 256) (b : Fin 704) : (k0_pay17 (F := Ideal) (da0B x0 x4 w1) (g0B x2) (u0B x2) : Q704) (ix2 a b) = dgBlk x0 x2 x4 w1 0 a b :=
  dg_of x0 x2 x4 w1 0 (da0_at x0 x4 w1) (g0_at x2) (u0_at x2) a b
theorem dg1_at (a : Fin 256) (b : Fin 704) : (k0_pay17 (F := Ideal) (k0_pay23 (F := Ideal) (dfB x0 x4) (View.ld w1 rRow1)) (k0_pay24 (F := Ideal) (View.ld x2 rPl1)) (k0_pay12 (F := Ideal) (View.ld x2 rPl5)) : Q704) (ix2 a b) = dgBlk x0 x2 x4 w1 1 a b :=
  dg_of x0 x2 x4 w1 1 (da1_at x0 x4 w1) (g1_at x2) (u1_at x2) a b
theorem dg2_at (a : Fin 256) (b : Fin 704) : (k0_pay17 (F := Ideal) (da2B x0 x4 w1) (k0_pay35 (F := Ideal) (View.ld x2 rPl2)) (k0_pay12 (F := Ideal) (View.ld x2 rPl6)) : Q704) (ix2 a b) = dgBlk x0 x2 x4 w1 2 a b :=
  dg_of x0 x2 x4 w1 2 (da2_at x0 x4 w1) (g2_at x2) (u2_at x2) a b
theorem dg3_at (a : Fin 256) (b : Fin 704) : (k0_pay17 (F := Ideal) (da3B x0 x4 w1) (g3B x2) (u3B x2) : Q704) (ix2 a b) = dgBlk x0 x2 x4 w1 3 a b :=
  dg_of x0 x2 x4 w1 3 (da3_at x0 x4 w1) (g3_at x2) (u3_at x2) a b
theorem du0_at (a : Fin 256) (b : Fin 704) : (k0_pay18 (F := Ideal) (da0B x0 x4 w1) (g0B x2) : Q704) (ix2 a b) = duBlk x0 x2 x4 w1 0 a b :=
  du_of x0 x2 x4 w1 0 (da0_at x0 x4 w1) (g0_at x2) a b
theorem du1_at (a : Fin 256) (b : Fin 704) : (k0_pay18 (F := Ideal) (k0_pay23 (F := Ideal) (dfB x0 x4) (View.ld w1 rRow1)) (k0_pay24 (F := Ideal) (View.ld x2 rPl1)) : Q704) (ix2 a b) = duBlk x0 x2 x4 w1 1 a b :=
  du_of x0 x2 x4 w1 1 (da1_at x0 x4 w1) (g1_at x2) a b
theorem du2_at (a : Fin 256) (b : Fin 704) : (k0_pay18 (F := Ideal) (da2B x0 x4 w1) (k0_pay35 (F := Ideal) (View.ld x2 rPl2)) : Q704) (ix2 a b) = duBlk x0 x2 x4 w1 2 a b :=
  du_of x0 x2 x4 w1 2 (da2_at x0 x4 w1) (g2_at x2) a b
theorem du3_at (a : Fin 256) (b : Fin 704) : (k0_pay18 (F := Ideal) (da3B x0 x4 w1) (g3B x2) : Q704) (ix2 a b) = duBlk x0 x2 x4 w1 3 a b :=
  du_of x0 x2 x4 w1 3 (da3_at x0 x4 w1) (g3_at x2) a b

/-- One product with a plane of the first weight. -/
theorem part_sum (p : Fin 8) (f : Fin 704 → EReal) {v : Q704} {w : Vec Ideal S1x1024x704 .bf16} (a : Fin 256) (k : Fin 1024)
    (hv : ∀ b, v (ix2 a b) = f b) (hw : ∀ k b, w (ix3 0 k b) = w0 (ix3 p k b)) :
    (∑ b : Fin 704, v (ix2 a b) * w (ix3 0 k b)) = ∑ b : Fin 704, f b * w0 (ix3 p k b) :=
  Finset.sum_congr rfl fun b _ => by rw [hv, hw]

/-- The cotangent of the modulated rows, as the body adds it up. -/
theorem dh_val (a : Fin 256) (k : Fin 1024) :
    (k0_pay57 (F := Ideal) (du3B x0 x2 x4 w1) (dhB x0 x2 x4 w0 w1) (View.ld w0 rCol7) : Vec Ideal S256x1024 .f32) (ix2 a k) = dhBlk x0 x2 x4 w0 w1 a k := by
  unfold dhB du3B dg1B du1B dhBlk
  rw [pay57_eq, pay56_eq, pay44_eq, pay33_eq, pay21_eq, pay52_eq, pay53_eq, pay40_eq, pay41_eq, pay29_eq, pay30_eq, pay22_at, pay22_at, pay22_at, pay22_at,
    pay22_at, pay22_at, pay22_at, pay22_at, pay9_at, zero_add, Fin.sum_univ_four]
  simp only [← add_assoc]
  refine congrArg₂ _ (congrArg₂ _ (congrArg₂ _ (congrArg₂ _ (congrArg₂ _ (congrArg₂ _ (congrArg₂ _ ?_ ?_) ?_) ?_) ?_) ?_) ?_) ?_
  · exact part_sum w0 _ _ a k (dg0_at x0 x2 x4 w1 a) (ld_col0 w0)
  · exact part_sum w0 _ _ a k (du0_at x0 x2 x4 w1 a) (ld_col4 w0)
  · exact part_sum w0 _ _ a k (dg1_at x0 x2 x4 w1 a) (ld_col1 w0)
  · exact part_sum w0 _ _ a k (du1_at x0 x2 x4 w1 a) (ld_col5 w0)
  · exact part_sum w0 _ _ a k (dg2_at x0 x2 x4 w1 a) (ld_col2 w0)
  · exact part_sum w0 _ _ a k (du2_at x0 x2 x4 w1 a) (ld_col6 w0)
  · exact part_sum w0 _ _ a k (dg3_at x0 x2 x4 w1 a) (ld_col3 w0)
  · exact part_sum w0 _ _ a k (du3_at x0 x2 x4 w1 a) (ld_col7 w0)

/-- A store of the whole block. -/
theorem canon_blk {e : EltTy} (v : Vec Ideal S256x1024 e) (h : ∀ y : S256x1024.Idx, ∃ pc ∈ [(⟨rBlk, v⟩ : View.Piece (Elt Ideal) S256x1024 e)], y ∈ pc.1.set) (y : S256x1024.Idx) :
    (View.canon [(⟨rBlk, v⟩ : View.Piece (Elt Ideal) S256x1024 e)] : Vec Ideal S256x1024 e) y = v y := by
  refine View.canon_apply_of_pieces (Val := Elt Ideal) (e := e) v _ ?_ _ (h y)
  intro p hp x
  obtain rfl := List.mem_singleton.1 hp
  have e : rBlk.emb x = x := by
    blk_ext
  exact congrArg _ e.symm

/-- The rows' cotangent of equal parts is equal. -/
theorem dx_congr {x x' dh dh' s s' g g' e e' : Fin 1024 → EReal} (hx : x = x') (hd : dh = dh') (hs : s = s') (hg : g = g') (he : e = e') (d : Fin 1024) :
    dxAt x (dyAt dh s g) e d = dxAt x' (dyAt dh' s' g') e' d := by
  subst hx hd hs hg he
  rfl

/-- What the body leaves in the rows' cotangent and in the second product's. -/
theorem dx_at (a : Fin 256) (d : Fin 1024) : (View.canon (dxL x0 x1 x2 x4 w0 w1) : Vec Ideal S256x1024 .f32) (ix2 a d) = dxBlk x0 x1 x2 x4 w0 w1 a d := by
  unfold dxBlk
  refine (canon_blk _ (dx_cover x0 x1 x2 x4 w0 w1) _).trans ?_
  rw [pay1_at]
  exact dx_congr (funext (ld_x x1 a)) (funext (dh_val x0 x2 x4 w0 w1 a)) (funext (ld_scale x4)) (funext (ld_gain x4)) (funext (ld_x x0 a)) d
theorem df_at (a : Fin 256) (d : Fin 1024) : (View.canon (dfL x0 x4) : Vec Ideal S256x1024 .bf16) (ix2 a d) = dfBlk x0 x4 a d :=
  (canon_blk _ (df_cover x0 x4) _).trans (df_val x0 x4 a d)

/-- One of the 8 stores of a result in planes, at an index, and where a store at plane `n` puts its index. -/
theorem piece8 (G : Fin 8 → Fin 256 → Fin 704 → EReal) (p : L704) (q : Fin 8) (hp : ∀ a b, p (ix3 0 a b) = G q a b) (x : S1x256x704.Idx) (y : S8x256x704.Idx)
    (h : (y 0).val = q.val ∧ (y 1).val = (x 1).val ∧ (y 2).val = (x 2).val) : p x = G (y 0) (y 1) (y 2) := by
  let a : Fin 256 := ⟨(x 1).val, (x 1).isLt⟩
  let b : Fin 704 := ⟨(x 2).val, (x 2).isLt⟩
  have hx : x = ix3 0 a b := by
    funext q
    match q with
    | ⟨0, _⟩ => exact Subsingleton.elim (α := Fin 1) _ _
    | ⟨1, _⟩ => rfl
    | ⟨2, _⟩ => rfl
  have g0 : y 0 = q := Fin.ext h.1
  have g1 : y 1 = a := Fin.ext h.2.1
  have g2 : y 2 = b := Fin.ext h.2.2
  rw [g0, g1, g2, hx, hp]
theorem emb8 {n : Nat} (inb : ∀ a, (![n, 0, 0] : Fin 3 → Nat) a + S1x256x704.size a ≤ S8x256x704.size a) (x : S1x256x704.Idx) :
    ((Rect.unit (s := S8x256x704) ![n, 0, 0] S1x256x704.size inb).emb x 0).val = n
      ∧ ((Rect.unit (s := S8x256x704) ![n, 0, 0] S1x256x704.size inb).emb x 1).val = (x 1).val
      ∧ ((Rect.unit (s := S8x256x704) ![n, 0, 0] S1x256x704.size inb).emb x 2).val = (x 2).val := by
  have h0 : (x 0).val < 1 := (x 0).isLt
  refine ⟨?_, ?_, ?_⟩
  · refine (Rect.idx_unit_val (s := S8x256x704) _ S1x256x704.size inb x 0).trans ?_
    show n + (x 0).val = n
    omega
  · refine (Rect.idx_unit_val (s := S8x256x704) _ S1x256x704.size inb x 1).trans ?_
    show 0 + (x 1).val = _
    omega
  · refine (Rect.idx_unit_val (s := S8x256x704) _ S1x256x704.size inb x 2).trans ?_
    show 0 + (x 2).val = _
    omega

/-- One of the 4 stores of a result in planes, at an index, and where a store at plane `n` puts its index. -/
theorem piece4 (G : Fin 4 → Fin 256 → Fin 704 → EReal) (p : L704) (q : Fin 4) (hp : ∀ a b, p (ix3 0 a b) = G q a b) (x : S1x256x704.Idx) (y : S4x256x704.Idx)
    (h : (y 0).val = q.val ∧ (y 1).val = (x 1).val ∧ (y 2).val = (x 2).val) : p x = G (y 0) (y 1) (y 2) := by
  let a : Fin 256 := ⟨(x 1).val, (x 1).isLt⟩
  let b : Fin 704 := ⟨(x 2).val, (x 2).isLt⟩
  have hx : x = ix3 0 a b := by
    funext q
    match q with
    | ⟨0, _⟩ => exact Subsingleton.elim (α := Fin 1) _ _
    | ⟨1, _⟩ => rfl
    | ⟨2, _⟩ => rfl
  have g0 : y 0 = q := Fin.ext h.1
  have g1 : y 1 = a := Fin.ext h.2.1
  have g2 : y 2 = b := Fin.ext h.2.2
  rw [g0, g1, g2, hx, hp]
theorem emb4 {n : Nat} (inb : ∀ a, (![n, 0, 0] : Fin 3 → Nat) a + S1x256x704.size a ≤ S4x256x704.size a) (x : S1x256x704.Idx) :
    ((Rect.unit (s := S4x256x704) ![n, 0, 0] S1x256x704.size inb).emb x 0).val = n
      ∧ ((Rect.unit (s := S4x256x704) ![n, 0, 0] S1x256x704.size inb).emb x 1).val = (x 1).val
      ∧ ((Rect.unit (s := S4x256x704) ![n, 0, 0] S1x256x704.size inb).emb x 2).val = (x 2).val := by
  have h0 : (x 0).val < 1 := (x 0).isLt
  refine ⟨?_, ?_, ?_⟩
  · refine (Rect.idx_unit_val (s := S4x256x704) _ S1x256x704.size inb x 0).trans ?_
    show n + (x 0).val = n
    omega
  · refine (Rect.idx_unit_val (s := S4x256x704) _ S1x256x704.size inb x 1).trans ?_
    show 0 + (x 1).val = _
    omega
  · refine (Rect.idx_unit_val (s := S4x256x704) _ S1x256x704.size inb x 2).trans ?_
    show 0 + (x 2).val = _
    omega

/-- What the body leaves in the first product's cotangent. -/
theorem dgu_at (y : S8x256x704.Idx) : (View.canon (dguL x0 x2 x4 w1) : Vec Ideal S8x256x704 .bf16) y = dguBlk x0 x2 x4 w1 (y 0) (y 1) (y 2) := by
  refine View.canon_apply_of_pieces (Val := Elt Ideal) (e := .bf16) ((fun y => dguBlk x0 x2 x4 w1 (y 0) (y 1) (y 2)) : Vec Ideal S8x256x704 .bf16) _ ?_ _ (dgu_cover x0 x2 x4 w1 y)
  unfold dguL du1B
  simp only [List.forall_mem_cons, List.not_mem_nil, false_imp_iff, implies_true, and_true]
  rw [pay55_eq, pay54_eq, pay43_eq, pay42_eq, pay31_eq, pay20_eq, pay19_eq, pay53_eq, pay52_eq, pay41_eq, pay40_eq, pay29_eq, pay30_eq]
  refine ⟨?_, ?_, ?_, ?_, ?_, ?_, ?_, ?_⟩ <;> intro x
  · exact piece8 (dguBlk x0 x2 x4 w1) _ 7 (fun a b => (pay32_at _ a b).trans (du3_at x0 x2 x4 w1 a b)) x _ (emb8 (n := 7) _ x)
  · exact piece8 (dguBlk x0 x2 x4 w1) _ 3 (fun a b => (pay32_at _ a b).trans (dg3_at x0 x2 x4 w1 a b)) x _ (emb8 (n := 3) _ x)
  · exact piece8 (dguBlk x0 x2 x4 w1) _ 6 (fun a b => (pay32_at _ a b).trans (du2_at x0 x2 x4 w1 a b)) x _ (emb8 (n := 6) _ x)
  · exact piece8 (dguBlk x0 x2 x4 w1) _ 2 (fun a b => (pay32_at _ a b).trans (dg2_at x0 x2 x4 w1 a b)) x _ (emb8 (n := 2) _ x)
  · exact piece8 (dguBlk x0 x2 x4 w1) _ 5 (fun a b => (pay32_at _ a b).trans (du1_at x0 x2 x4 w1 a b)) x _ (emb8 (n := 5) _ x)
  · exact piece8 (dguBlk x0 x2 x4 w1) _ 1 (fun a b => (pay32_at _ a b).trans (dg1_at x0 x2 x4 w1 a b)) x _ (emb8 (n := 1) _ x)
  · exact piece8 (dguBlk x0 x2 x4 w1) _ 4 (fun a b => (pay32_at _ a b).trans (du0_at x0 x2 x4 w1 a b)) x _ (emb8 (n := 4) _ x)
  · exact piece8 (dguBlk x0 x2 x4 w1) _ 0 (fun a b => (pay32_at _ a b).trans (dg0_at x0 x2 x4 w1 a b)) x _ (emb8 (n := 0) _ x)

/-- What the body leaves in the gated values. -/
theorem a_at (y : S4x256x704.Idx) : (View.canon (aL x2) : Vec Ideal S4x256x704 .bf16) y = aBlk x2 (y 0) (y 1) (y 2) := by
  refine View.canon_apply_of_pieces (Val := Elt Ideal) (e := .bf16) ((fun y => aBlk x2 (y 0) (y 1) (y 2)) : Vec Ideal S4x256x704 .bf16) _ ?_ _ (a_cover x2 y)
  unfold aL
  simp only [List.forall_mem_cons, List.not_mem_nil, false_imp_iff, implies_true, and_true]
  rw [pay51_eq, pay39_eq, pay28_eq]
  refine ⟨?_, ?_, ?_, ?_⟩ <;> intro x
  · exact piece4 (aBlk x2) _ 3 (a_of x2 3 (g3_at x2) (u3_at x2)) x _ (emb4 (n := 3) _ x)
  · exact piece4 (aBlk x2) _ 2 (a_of x2 2 (g2_at x2) (u2_at x2)) x _ (emb4 (n := 2) _ x)
  · exact piece4 (aBlk x2) _ 1 (a_of x2 1 (g1_at x2) (u1_at x2)) x _ (emb4 (n := 1) _ x)
  · exact piece4 (aBlk x2) _ 0 (a_of x2 0 (g0_at x2) (u0_at x2)) x _ (emb4 (n := 0) _ x)

end Cert.FfnGradIdeal.Point
-- ==== Proof.FfnGrad.Ref.lean ====
module

public import proofs.«01_k».proof.Proof.Gen.FfnGradReferenceIdeal.Read
public import proofs.«01_k».proof.Proof.Ffn.Ref
public import proofs.«01_k».proof.Proof.FfnGrad.Blocks
@[expose] public section

set_option maxRecDepth 16384

noncomputable section

/-! # The feed-forward gradient's reference, at an index -/

namespace Cert.FfnGradReferenceIdeal.Point

open Cert.FfnGradReferenceIdeal Cert.FfnGradReferenceIdeal.Read
open Idealize.ShloMosaic Idealize.ShloMosaic.TcCoe Idealize.ShloMosaic.Tactic
open Cert.MixInIdeal.Point (hAt)
open Cert.FfnIdeal.Point (swi rowOf gatePlane upPlane)
open Cert.FfnGradIdeal.Point (sgm dgs dus dgs_eq msq rsq dyAt dxAt cAt dxAt_eq planesOf)
open Cert.FfnReferenceIdeal.Point (sum_bands)

variable (x0 x1 : Vec Ideal S4096x1024 .f32) (x2 : Vec Ideal S9x1024 .f32) (x3 : Vec Ideal S1024 .f32) (x4 : Vec Ideal S8x1024x704 .f32) (x5 : Vec Ideal S8x352x1024 .f32)

/-- The mean square of a row, and one over its root. -/
theorem msq_at (i : Fin 4096) (z : Fin 1) : (val_main_v9 (F := Ideal) x1 : Vec Ideal S4096x1 .f32) (ix2 i z) = msq (fun k => x1 (ix2 i k)) := by
  rw [val_main_v9_apply, val_main_v7_apply, val_main_v6_apply, val_main_v5_apply, val_main_v4_apply, val_main_v8_apply]
  have e1 : val_main_cst_0 (F := Ideal) (idx_main_v6 (ix2 i z)) = Ideal.ofBits .f32 0x44800000#32 := rfl
  have e2 : val_main_cst_1 (F := Ideal) (idx_main_v8 (ix2 i z)) = Ideal.ofBits .f32 0x358637BD#32 := rfl
  have e7 : (val_main_cst (F := Ideal)) (Shape.Idx.first Gen.h_S_) = (0 : EReal) := by pointwise [val_main_cst]
  have e4 : ∀ k, idx_main_v4 (idx_main_v5 (ix2 i z)) k = ix2 i k := fun k => by blk_ext
  rw [e1, e2, e7, zero_add]
  simp only [e4, val_main_v3_apply]
  rfl
theorem rsq_at (i : Fin 4096) (z : Fin 1) : (val_main_v10 (F := Ideal) x1 : Vec Ideal S4096x1 .f32) (ix2 i z) = rsq (fun k => x1 (ix2 i k)) := by
  rw [val_main_v10_apply, msq_at]
  rfl
/-- What the mean's cotangent is multiplied by. -/
theorem slope_at (i : Fin 4096) (z : Fin 1) : (val_main_v13 (F := Ideal) x1 : Vec Ideal S4096x1 .f32) (ix2 i z)
    = Ideal.ofBits .f32 0xBF000000#32 * Ideal.div (rsq (fun k => x1 (ix2 i k))) (msq (fun k => x1 (ix2 i k))) := by
  rw [val_main_v13_apply, val_main_v11_apply, val_main_v12_apply, rsq_at, msq_at]
  have e1 : val_main_cst_2 (F := Ideal) (idx_main_v12 (ix2 i z)) = Ideal.ofBits .f32 0xBF000000#32 := rfl
  rw [e1]
  rfl

/-- One and the scale; the gain; spread over the rows. -/
theorem scale_at (i : Fin 4096) (j : Fin 1024) : (val_main_v54 (F := Ideal) x2 : Vec Ideal S4096x1024 .f32) (ix2 i j) = 1 + x2 (ix2 1 j) := by
  rw [val_main_v54_apply, val_main_v25_apply, val_main_v24_apply, val_main_v23_apply, val_main_v22_apply, val_main_v21_apply]
  have e2 : idx_main_v21 (idx_main_v22 (idx_main_v25 (idx_main_v54 (ix2 i j)))) = ix2 1 j := by blk_ext
  have e8 : (val_main_cst_3 (F := Ideal)) (idx_main_v23 (idx_main_v25 (idx_main_v54 (ix2 i j)))) = (1 : EReal) := by pointwise [val_main_cst_3]
  rw [e2, e8]
  rfl
theorem gain_at (i : Fin 4096) (j : Fin 1024) : (val_main_v56 (F := Ideal) x3 : Vec Ideal S4096x1024 .f32) (ix2 i j) = x3 (ix1 j) := by
  rw [val_main_v56_apply, val_main_v16_apply]
  congr 1
  blk_ext

/-- The normalised and modulated row. -/
theorem h_at (i : Fin 4096) (j : Fin 1024) :
    (val_main_v30 (F := Ideal) x1 x2 x3 : Vec Ideal S4096x1024 .f32) (ix2 i j)
      = hAt (fun k => x1 (ix2 i k)) (fun k => x3 (ix1 k)) (fun k => x2 (ix2 1 k)) (fun k => x2 (ix2 0 k)) j := by
  rw [val_main_v30_apply, val_main_v27_apply, val_main_v18_apply, val_main_v15_apply, val_main_v14_apply, val_main_v17_apply, val_main_v16_apply, val_main_v26_apply, val_main_v25_apply, val_main_v24_apply, val_main_v23_apply, val_main_v22_apply, val_main_v21_apply, val_main_v29_apply, val_main_v28_apply, val_main_v20_apply, val_main_v19_apply]
  have e1 : idx_main_v16 (idx_main_v17 (ix2 i j)) = ix1 j := by blk_ext
  have e2 : idx_main_v21 (idx_main_v22 (idx_main_v25 (idx_main_v26 (ix2 i j)))) = ix2 1 j := by blk_ext
  have e3 : idx_main_v19 (idx_main_v20 (idx_main_v28 (idx_main_v29 (ix2 i j)))) = ix2 0 j := by blk_ext
  have e4 : idx_main_v14 (ix2 i j) = ix2 i 0 := by blk_ext
  have e8 : (val_main_cst_3 (F := Ideal)) (idx_main_v23 (idx_main_v25 (idx_main_v26 (ix2 i j)))) = (1 : EReal) := by pointwise [val_main_cst_3]
  rw [e1, e2, e3, e4, e8, rsq_at]
  rfl

/-- The first product, at a column of a plane of its weight. -/
theorem gu_at (q : Fin 8) (i : Fin 4096) (b : Fin 704) :
    (val_main_v31 (F := Ideal) x1 x2 x3 x4 : Vec Ideal S4096x5632 .f32) (ix2 i ⟨704 * q.val + b.val, by omega⟩)
      = ∑ k : Fin 1024, (val_main_v30 (F := Ideal) x1 x2 x3 : Vec Ideal S4096x1024 .f32) (ix2 i k) * x4 (ix3 q k b) := by
  rw [val_main_v31_apply]
  refine Finset.sum_congr rfl fun k _ => ?_
  rw [val_main_v1_apply, val_main_v0_apply]
  congr 1 <;> blk_ext

/-- The gate inputs, the up inputs and the logistic of the gate inputs. -/
theorem g_at (q : Fin 4) (i : Fin 4096) (b : Fin 704) : (val_main_v32 (F := Ideal) x1 x2 x3 x4 : Vec Ideal S4096x2816 .f32) (ix2 i (rowOf q b)) = ((val_main_v31 (F := Ideal) x1 x2 x3 x4 : Vec Ideal S4096x5632 .f32) (ix2 i ⟨704 * (gatePlane q).val + b.val, by omega⟩)) := by
  rw [val_main_v32_apply]
  congr 1
  blk_ext
theorem u_at (q : Fin 4) (i : Fin 4096) (b : Fin 704) : (val_main_v33 (F := Ideal) x1 x2 x3 x4 : Vec Ideal S4096x2816 .f32) (ix2 i (rowOf q b)) = ((val_main_v31 (F := Ideal) x1 x2 x3 x4 : Vec Ideal S4096x5632 .f32) (ix2 i ⟨704 * (upPlane q).val + b.val, by omega⟩)) := by
  rw [val_main_v33_apply]
  congr 1
  blk_ext
theorem sg_at (q : Fin 4) (i : Fin 4096) (b : Fin 704) : (val_main_v34_2 (F := Ideal) x1 x2 x3 x4 : Vec Ideal S4096x2816 .f32) (ix2 i (rowOf q b)) = sgm ((val_main_v31 (F := Ideal) x1 x2 x3 x4 : Vec Ideal S4096x5632 .f32) (ix2 i ⟨704 * (gatePlane q).val + b.val, by omega⟩)) := by
  rw [val_main_v34_2_apply, val_main_call0_v3_apply, val_main_call0_v1_apply, val_main_call0_v0_apply, val_main_call0_v2_apply, val_main_call0_v4_apply, g_at]
  have e3 : (val_main_call0_cst (F := Ideal)) (idx_main_call0_v2 (ix2 i (rowOf q b))) = (1 : EReal) := by pointwise [val_main_call0_cst]
  have e4 : (val_main_call0_cst_0 (F := Ideal)) (idx_main_call0_v4 (ix2 i (rowOf q b))) = (1 : EReal) := by pointwise [val_main_call0_cst_0]
  rw [e3, e4]
  unfold sgm
  rw [zero_sub]
  rfl
theorem si_at (q : Fin 4) (i : Fin 4096) (b : Fin 704) : (val_main_v34_0 (F := Ideal) x1 x2 x3 x4 : Vec Ideal S4096x2816 .f32) (ix2 i (rowOf q b)) = ((val_main_v31 (F := Ideal) x1 x2 x3 x4 : Vec Ideal S4096x5632 .f32) (ix2 i ⟨704 * (gatePlane q).val + b.val, by omega⟩)) * sgm ((val_main_v31 (F := Ideal) x1 x2 x3 x4 : Vec Ideal S4096x5632 .f32) (ix2 i ⟨704 * (gatePlane q).val + b.val, by omega⟩)) := by
  rw [val_main_v34_0_apply, g_at, sg_at]
  rfl
theorem ds_at (q : Fin 4) (i : Fin 4096) (b : Fin 704) : (val_main_v34_1 (F := Ideal) x1 x2 x3 x4 : Vec Ideal S4096x2816 .f32) (ix2 i (rowOf q b)) = sgm ((val_main_v31 (F := Ideal) x1 x2 x3 x4 : Vec Ideal S4096x5632 .f32) (ix2 i ⟨704 * (gatePlane q).val + b.val, by omega⟩)) * (1 - sgm ((val_main_v31 (F := Ideal) x1 x2 x3 x4 : Vec Ideal S4096x5632 .f32) (ix2 i ⟨704 * (gatePlane q).val + b.val, by omega⟩))) := by
  rw [val_main_v34_1_apply, val_main_call0_v7_apply, val_main_call0_v6_apply, sg_at]
  have e3 : (val_main_call0_cst_1 (F := Ideal)) (idx_main_call0_v6 (ix2 i (rowOf q b))) = (1 : EReal) := by pointwise [val_main_call0_cst_1]
  rw [e3]
  rfl

/-- The gated values, and the third result, which is them plane by plane. -/
theorem a_at (q : Fin 4) (i : Fin 4096) (b : Fin 704) : (val_main_v35 (F := Ideal) x1 x2 x3 x4 : Vec Ideal S4096x2816 .f32) (ix2 i (rowOf q b)) = swi ((val_main_v31 (F := Ideal) x1 x2 x3 x4 : Vec Ideal S4096x5632 .f32) (ix2 i ⟨704 * (gatePlane q).val + b.val, by omega⟩)) ((val_main_v31 (F := Ideal) x1 x2 x3 x4 : Vec Ideal S4096x5632 .f32) (ix2 i ⟨704 * (upPlane q).val + b.val, by omega⟩)) := by
  rw [val_main_v35_apply, si_at, u_at]
  rfl
theorem a_planes_at (q : Fin 4) (i : Fin 4096) (b : Fin 704) :
    (val_main_v78 (F := Ideal) x1 x2 x3 x4 : Vec Ideal S4x4096x704 .bf16) (ix3 q i b) = (val_main_v35 (F := Ideal) x1 x2 x3 x4 : Vec Ideal S4096x2816 .f32) (ix2 i (rowOf q b)) := by
  rw [val_main_v78_apply, val_main_v77_apply, val_main_v76_apply]
  have e : idx_main_v76 (idx_main_v77 (ix3 q i b)) = ix2 i (rowOf q b) := by blk_ext
  rw [e]
  rfl

/-- The second product's cotangent, and the gated values'. -/
theorem df_at (i : Fin 4096) (d : Fin 1024) : (val_main_v47 (F := Ideal) x0 x2 : Vec Ideal S4096x1024 .f32) (ix2 i d)
    = Ideal.ofBits .f32 0x3F000000#32 * x2 (ix2 2 d) * x0 (ix2 i d) := by
  rw [val_main_v47_apply, val_main_v46_apply, val_main_v41_apply, val_main_v40_apply, val_main_v39_apply, val_main_v38_apply, val_main_v37_apply, val_main_v45_apply]
  have e1 : idx_main_v37 (idx_main_v38 (idx_main_v41 (idx_main_v46 (ix2 i d)))) = ix2 2 d := by blk_ext
  have e2 : idx_main_v45 (ix2 i d) = ix2 i d := by blk_ext
  have e3 : val_main_cst_4 (F := Ideal) (idx_main_v39 (idx_main_v41 (idx_main_v46 (ix2 i d)))) = Ideal.ofBits .f32 0x3F000000#32 := rfl
  rw [e1, e2, e3]
  rfl
theorem da_at (q : Fin 4) (i : Fin 4096) (b : Fin 704) : ((val_main_v48 (F := Ideal) x0 x2 x5 : Vec Ideal S4096x2816 .f32) (ix2 i (rowOf q b)))
    = ∑ d : Fin 1024, (val_main_v47 (F := Ideal) x0 x2 : Vec Ideal S4096x1024 .f32) (ix2 i d)
        * x5 (ix3 ⟨(rowOf q b).val / 352, by omega⟩ ⟨(rowOf q b).val % 352, by omega⟩ d) := by
  rw [val_main_v48_apply]
  refine Finset.sum_congr rfl fun k _ => ?_
  rw [val_main_v2_apply]
  congr 1 <;> blk_ext

/-- The up inputs' cotangent, and the gate inputs'. -/
theorem du_at (q : Fin 4) (i : Fin 4096) (b : Fin 704) : (val_main_v49 (F := Ideal) x0 x1 x2 x3 x4 x5 : Vec Ideal S4096x2816 .f32) (ix2 i (rowOf q b)) = dus ((val_main_v48 (F := Ideal) x0 x2 x5 : Vec Ideal S4096x2816 .f32) (ix2 i (rowOf q b))) ((val_main_v31 (F := Ideal) x1 x2 x3 x4 : Vec Ideal S4096x5632 .f32) (ix2 i ⟨704 * (gatePlane q).val + b.val, by omega⟩)) := by
  rw [val_main_v49_apply, si_at]
  exact mul_comm _ _
theorem dg_at (q : Fin 4) (i : Fin 4096) (b : Fin 704) : (val_main_v51 (F := Ideal) x0 x1 x2 x3 x4 x5 : Vec Ideal S4096x2816 .f32) (ix2 i (rowOf q b))
    = ((val_main_v48 (F := Ideal) x0 x2 x5 : Vec Ideal S4096x2816 .f32) (ix2 i (rowOf q b))) * ((val_main_v31 (F := Ideal) x1 x2 x3 x4 : Vec Ideal S4096x5632 .f32) (ix2 i ⟨704 * (upPlane q).val + b.val, by omega⟩)) * sgm ((val_main_v31 (F := Ideal) x1 x2 x3 x4 : Vec Ideal S4096x5632 .f32) (ix2 i ⟨704 * (gatePlane q).val + b.val, by omega⟩))
      + ((val_main_v31 (F := Ideal) x1 x2 x3 x4 : Vec Ideal S4096x5632 .f32) (ix2 i ⟨704 * (gatePlane q).val + b.val, by omega⟩)) * (((val_main_v48 (F := Ideal) x0 x2 x5 : Vec Ideal S4096x2816 .f32) (ix2 i (rowOf q b))) * ((val_main_v31 (F := Ideal) x1 x2 x3 x4 : Vec Ideal S4096x5632 .f32) (ix2 i ⟨704 * (upPlane q).val + b.val, by omega⟩))) * (sgm ((val_main_v31 (F := Ideal) x1 x2 x3 x4 : Vec Ideal S4096x5632 .f32) (ix2 i ⟨704 * (gatePlane q).val + b.val, by omega⟩)) * (1 - sgm ((val_main_v31 (F := Ideal) x1 x2 x3 x4 : Vec Ideal S4096x5632 .f32) (ix2 i ⟨704 * (gatePlane q).val + b.val, by omega⟩)))) := by
  rw [val_main_v51_apply, val_main_call1_v1_apply, val_main_call1_v2_apply, val_main_call1_v0_apply, val_main_v50_apply, g_at, u_at, sg_at, ds_at]
  rfl

/-- The first product's cotangent: the gate inputs' columns, then the up inputs'. -/
theorem cols_gate (q : Fin 4) (i : Fin 4096) (b : Fin 704) : (val_main_v52 (F := Ideal) x0 x1 x2 x3 x4 x5 : Vec Ideal S4096x5632 .f32) (ix2 i ⟨704 * (gatePlane q).val + b.val, by omega⟩)
    = (val_main_v51 (F := Ideal) x0 x1 x2 x3 x4 x5 : Vec Ideal S4096x2816 .f32) (ix2 i (rowOf q b)) := by
  unfold val_main_v52
  generalize val_main_v51 (F := Ideal) x0 x1 x2 x3 x4 x5 = y1
  generalize val_main_v49 (F := Ideal) x0 x1 x2 x3 x4 x5 = y2
  refine concatenate_pair_apply_left (t := S4096x5632) (s₁ := S4096x2816) (s₂ := S4096x2816) 1 y1 y2 _ _ rfl (ix2 i (rowOf q b)) fun p => ?_
  fin_cases p <;> rfl
theorem cols_up (q : Fin 4) (i : Fin 4096) (b : Fin 704) : (val_main_v52 (F := Ideal) x0 x1 x2 x3 x4 x5 : Vec Ideal S4096x5632 .f32) (ix2 i ⟨704 * (upPlane q).val + b.val, by omega⟩)
    = (val_main_v49 (F := Ideal) x0 x1 x2 x3 x4 x5 : Vec Ideal S4096x2816 .f32) (ix2 i (rowOf q b)) := by
  unfold val_main_v52
  generalize val_main_v51 (F := Ideal) x0 x1 x2 x3 x4 x5 = y1
  generalize val_main_v49 (F := Ideal) x0 x1 x2 x3 x4 x5 = y2
  refine concatenate_pair_apply_right (t := S4096x5632) (s₁ := S4096x2816) (s₂ := S4096x2816) 1 y1 y2 _ _ rfl rfl (ix2 i (rowOf q b)) (fun p hp => ?_) ?_
  · fin_cases p
    · rfl
    · exact absurd rfl hp
  · show 704 * q.val + b.val + 2816 = 704 * (4 + q.val) + b.val
    omega
theorem dgu_at (p : Fin 8) (i : Fin 4096) (b : Fin 704) :
    (val_main_v75 (F := Ideal) x0 x1 x2 x3 x4 x5 : Vec Ideal S8x4096x704 .bf16) (ix3 p i b)
      = (val_main_v52 (F := Ideal) x0 x1 x2 x3 x4 x5 : Vec Ideal S4096x5632 .f32) (ix2 i ⟨704 * p.val + b.val, by omega⟩) := by
  rw [val_main_v75_apply, val_main_v74_apply, val_main_v73_apply]
  have e : idx_main_v73 (idx_main_v74 (ix3 p i b)) = ix2 i ⟨704 * p.val + b.val, by omega⟩ := by blk_ext
  rw [e]
  rfl

/-- A sum over all the columns of the first product, the gate inputs' and the up inputs' band by band. -/
theorem sum_planes (f : Fin 5632 → EReal) : ∑ j, f j
    = ∑ q : Fin 4, ((∑ b : Fin 704, f ⟨704 * (gatePlane q).val + b.val, by omega⟩) + ∑ b : Fin 704, f ⟨704 * (upPlane q).val + b.val, by omega⟩) := by
  rw [← Equiv.sum_comp (finProdFinEquiv : Fin 8 × Fin 704 ≃ Fin 5632), Fintype.sum_prod_type, Finset.sum_add_distrib]
  have key : ∀ q : Fin 8, ∑ b : Fin 704, f (finProdFinEquiv (q, b)) = ∑ b : Fin 704, f ⟨704 * q.val + b.val, by omega⟩ := fun q =>
    Finset.sum_congr rfl fun b _ => congrArg f (Fin.ext (by show b.val + 704 * q.val = 704 * q.val + b.val; omega))
  simp only [key]
  rw [show (∑ q : Fin 8, ∑ b : Fin 704, f ⟨704 * q.val + b.val, by omega⟩) = ∑ q : Fin (4 + 4), ∑ b : Fin 704, f ⟨704 * q.val + b.val, by omega⟩ from rfl,
    Fin.sum_univ_add]
  rfl

/-- The modulated rows' cotangent. -/
theorem dh_at (i : Fin 4096) (k : Fin 1024) : (val_main_v53 (F := Ideal) x0 x1 x2 x3 x4 x5 : Vec Ideal S4096x1024 .f32) (ix2 i k)
    = ∑ q : Fin 4, ((∑ b : Fin 704, (val_main_v51 (F := Ideal) x0 x1 x2 x3 x4 x5 : Vec Ideal S4096x2816 .f32) (ix2 i (rowOf q b)) * x4 (ix3 (gatePlane q) k b))
        + ∑ b : Fin 704, (val_main_v49 (F := Ideal) x0 x1 x2 x3 x4 x5 : Vec Ideal S4096x2816 .f32) (ix2 i (rowOf q b)) * x4 (ix3 (upPlane q) k b)) := by
  rw [val_main_v53_apply, sum_planes]
  refine Finset.sum_congr rfl fun q _ => congrArg₂ (· + ·) (Finset.sum_congr rfl fun b _ => ?_) (Finset.sum_congr rfl fun b _ => ?_)
  · rw [← cols_gate, val_main_v1_apply, val_main_v0_apply]
    congr 1 <;> blk_ext
  · rw [← cols_up, val_main_v1_apply, val_main_v0_apply]
    congr 1 <;> blk_ext

/-- The normalised rows' cotangent. -/
theorem dy_at (i : Fin 4096) (k : Fin 1024) : (val_main_v57 (F := Ideal) x0 x1 x2 x3 x4 x5 : Vec Ideal S4096x1024 .f32) (ix2 i k)
    = dyAt (fun k => (val_main_v53 (F := Ideal) x0 x1 x2 x3 x4 x5 : Vec Ideal S4096x1024 .f32) (ix2 i k)) (fun k => x2 (ix2 1 k)) (fun k => x3 (ix1 k)) k := by
  rw [val_main_v57_apply, val_main_v55_apply, scale_at, gain_at]
  rfl

/-- What every entry of a row gets from the row's mean square. -/
theorem c_at (i : Fin 4096) (j : Fin 1024) : (val_main_v67 (F := Ideal) x0 x1 x2 x3 x4 x5 : Vec Ideal S4096x1024 .f32) (ix2 i j)
    = cAt (fun k => x1 (ix2 i k)) (fun k => (val_main_v57 (F := Ideal) x0 x1 x2 x3 x4 x5 : Vec Ideal S4096x1024 .f32) (ix2 i k)) := by
  rw [val_main_v67_apply, val_main_v66_apply, Fin.sum_univ_one, val_main_v65_apply, val_main_v63_apply, val_main_v60_apply, val_main_v59_apply, val_main_v64_apply]
  have e1 : idx_main_v66 (idx_main_v67 (ix2 i j)) 0 = ix2 i 0 := by blk_ext
  have e2 : ∀ k, idx_main_v59 (idx_main_v60 (ix2 i 0)) k = ix2 i k := fun k => by blk_ext
  have e3 : (val_main_cst_7 (F := Ideal)) (Shape.Idx.first Gen.h_S_) = (0 : EReal) := by pointwise [val_main_cst_7]
  have e4 : (val_main_cst_5 (F := Ideal)) (Shape.Idx.first Gen.h_S_) = (0 : EReal) := by pointwise [val_main_cst_5]
  have e5 : val_main_cst_6 (F := Ideal) (idx_main_v64 (ix2 i 0)) = Ideal.ofBits .f32 0x44800000#32 := rfl
  rw [e1, e3, e4, e5, slope_at, zero_add, zero_add]
  simp only [e2, val_main_v58_apply]
  rfl

/-- The rows' cotangent. -/
theorem dx_at (i : Fin 4096) (d : Fin 1024) : (val_main_v72 (F := Ideal) x0 x1 x2 x3 x4 x5 : Vec Ideal S4096x1024 .f32) (ix2 i d)
    = x0 (ix2 i d) + ((val_main_v57 (F := Ideal) x0 x1 x2 x3 x4 x5 : Vec Ideal S4096x1024 .f32) (ix2 i d) * rsq (fun k => x1 (ix2 i k))
        + x1 (ix2 i d) * cAt (fun k => x1 (ix2 i k)) (fun k => (val_main_v57 (F := Ideal) x0 x1 x2 x3 x4 x5 : Vec Ideal S4096x1024 .f32) (ix2 i k))
        + cAt (fun k => x1 (ix2 i k)) (fun k => (val_main_v57 (F := Ideal) x0 x1 x2 x3 x4 x5 : Vec Ideal S4096x1024 .f32) (ix2 i k)) * x1 (ix2 i d)) := by
  rw [val_main_v72_apply, val_main_v71_apply, val_main_v70_apply, val_main_v69_apply, val_main_v68_apply, val_main_v62_apply, val_main_v61_apply, c_at]
  have e1 : idx_main_v61 (ix2 i d) = ix2 i 0 := by blk_ext
  rw [e1, rsq_at]
  rfl

end Cert.FfnGradReferenceIdeal.Point
-- ==== Proof.FfnGrad.Host.lean ====
module

public import proofs.«01_k».proof.Proof.Gen.FfnGradIdeal.Frame
public import proofs.«01_k».proof.Proof.MixIn.Body
public import Idealize.ShloMosaic.Lib.Pointwise
public import Idealize.ShloMosaic.Lib.StableHlo.ReadAt
public import Idealize.ShloMosaic.Lib.Pipeline.ValueKit
@[expose] public section

set_option maxRecDepth 16384

noncomputable section

/-! # What the host operations hand to the feed-forward gradient call, at an index -/

namespace Cert.FfnGradIdeal.Point

open Cert.FfnGradIdeal Cert.FfnGradIdeal.Gen
open Idealize.ShloMosaic Idealize.ShloMosaic.TcCoe Idealize.ShloMosaic.Tactic
open StableHlo
open Cert.MixInIdeal.Point (hAt hAt_congr)

variable (U : Valuation τ sig (Elt Ideal))

/-- The three lists of host operations, one after the other. -/
theorem after_flat (b : DevRef τ sig) : after (List.flatten [hostOps0, hostOps0_1, hostOps0_2]) U b = after hostOps0_2 (after hostOps0_1 (after hostOps0 U)) b := by
  simp only [List.flatten_cons, List.flatten_nil, List.append_nil, after_append]

/-- The packed vectors and the weights, from the arguments. -/
theorem vec2_scale (k : Fin 1024) : (after hostOps0_2 U (Proc.devRef .tc main_v41) : Vec Ideal S8x1024 .f32) (ix2 1 k)
      = (U (Proc.devRef .tc main_arg2) : Vec Ideal S9x1024 .f32) (ix2 1 k) := by
  after_reads_at
  simp (disch := decide) only [unary_result', reshape_result']
  after_reads_at
theorem vec2_gate (k : Fin 1024) : (after hostOps0_2 U (Proc.devRef .tc main_v41) : Vec Ideal S8x1024 .f32) (ix2 2 k)
      = (U (Proc.devRef .tc main_arg2) : Vec Ideal S9x1024 .f32) (ix2 2 k) := by
  after_reads_at
  simp (disch := decide) only [unary_result', reshape_result']
  after_reads_at
theorem vec2_gain (k : Fin 1024) : (after hostOps0_2 U (Proc.devRef .tc main_v41) : Vec Ideal S8x1024 .f32) (ix2 3 k)
      = (U (Proc.devRef .tc main_arg3) : Vec Ideal S1024 .f32) (ix1 k) := by
  after_reads_at
  simp (disch := decide) only [unary_result', reshape_result']
  after_reads_at
theorem wgu2_at (q : Fin 8) (k : Fin 1024) (b : Fin 704) : (after hostOps0_2 U (Proc.devRef .tc main_v42) : Vec Ideal S8x1024x704 .bf16) (ix3 q k b)
      = (U (Proc.devRef .tc main_arg4) : Vec Ideal S8x1024x704 .f32) (ix3 q k b) := by
  after_reads_at
theorem wdown2_at (q : Fin 8) (k : Fin 352) (b : Fin 1024) : (after hostOps0_2 U (Proc.devRef .tc main_v43) : Vec Ideal S8x352x1024 .bf16) (ix3 q k b)
      = (U (Proc.devRef .tc main_arg5) : Vec Ideal S8x352x1024 .f32) (ix3 q k b) := by
  after_reads_at
theorem gu2_at (q : Fin 8) (i : Fin 4096) (b : Fin 704) : (after hostOps0_2 U (Proc.devRef .tc main_v36) : Vec Ideal S8x4096x704 .bf16) (ix3 q i b)
      = (U (Proc.devRef .tc main_v27) : Vec Ideal S4096x5632 .f32) (ix2 i ⟨704 * q.val + b.val, by omega⟩) := by
  after_reads_at
  refine congrArg (U (Proc.devRef .tc main_v27) : Vec Ideal S4096x5632 .f32) (congrArg (ix2 i) (Fin.ext ?_))
  show q.val * 704 + b.val = 704 * q.val + b.val
  omega

/-- The first two lists leave the arguments, and the second the first product. -/
theorem keep2 (i : S9x1024.Idx) : (after hostOps0_1 (after hostOps0 U) (Proc.devRef .tc main_arg2) : Vec Ideal S9x1024 .f32) i = (U (Proc.devRef .tc main_arg2) : Vec Ideal S9x1024 .f32) i := by
  after_reads_at
theorem keep3 (i : S1024.Idx) : (after hostOps0_1 (after hostOps0 U) (Proc.devRef .tc main_arg3) : Vec Ideal S1024 .f32) i = (U (Proc.devRef .tc main_arg3) : Vec Ideal S1024 .f32) i := by
  after_reads_at
theorem keep4 (i : S8x1024x704.Idx) : (after hostOps0_1 (after hostOps0 U) (Proc.devRef .tc main_arg4) : Vec Ideal S8x1024x704 .f32) i = (U (Proc.devRef .tc main_arg4) : Vec Ideal S8x1024x704 .f32) i := by
  after_reads_at
theorem keep5 (i : S8x352x1024.Idx) : (after hostOps0_1 (after hostOps0 U) (Proc.devRef .tc main_arg5) : Vec Ideal S8x352x1024 .f32) i = (U (Proc.devRef .tc main_arg5) : Vec Ideal S8x352x1024 .f32) i := by
  after_reads_at
theorem keep27 (i : S4096x5632.Idx) : (after hostOps0_1 U (Proc.devRef .tc main_v27) : Vec Ideal S4096x5632 .f32) i = (U (Proc.devRef .tc main_v27) : Vec Ideal S4096x5632 .f32) i := by
  after_reads_at

/-- The first product. -/
theorem prod_at (q : Fin 8) (i : Fin 4096) (b : Fin 704) : (after hostOps0 U (Proc.devRef .tc main_v27) : Vec Ideal S4096x5632 .f32) (ix2 i ⟨704 * q.val + b.val, by omega⟩)
      = ∑ k : Fin 1024, hAt (fun k => (U (Proc.devRef .tc main_arg1) : Vec Ideal S4096x1024 .f32) (ix2 i k)) (fun k => (U (Proc.devRef .tc main_arg3) : Vec Ideal S1024 .f32) (ix1 k))
          (fun k => (U (Proc.devRef .tc main_arg2) : Vec Ideal S9x1024 .f32) (ix2 1 k)) (fun k => (U (Proc.devRef .tc main_arg2) : Vec Ideal S9x1024 .f32) (ix2 0 k)) k
          * (U (Proc.devRef .tc main_arg4) : Vec Ideal S8x1024x704 .f32) (ix3 q k b) := by
  unfold hAt
  after_reads_at
  refine Finset.sum_congr rfl fun k _ => congrArg (HMul.hMul _) ?_
  refine congrArg (U (Proc.devRef .tc main_arg4) : Vec Ideal S8x1024x704 .f32) ?_
  blk_ext

/-- What the call is handed, from the arguments. -/
theorem vec_scale (k : Fin 1024) : (after (List.flatten [hostOps0, hostOps0_1, hostOps0_2]) U (Proc.devRef .tc main_v41) : Vec Ideal S8x1024 .f32) (ix2 1 k)
      = (U (Proc.devRef .tc main_arg2) : Vec Ideal S9x1024 .f32) (ix2 1 k) := by
  rw [after_flat]
  exact (vec2_scale _ k).trans (keep2 U _)
theorem vec_gate (k : Fin 1024) : (after (List.flatten [hostOps0, hostOps0_1, hostOps0_2]) U (Proc.devRef .tc main_v41) : Vec Ideal S8x1024 .f32) (ix2 2 k)
      = (U (Proc.devRef .tc main_arg2) : Vec Ideal S9x1024 .f32) (ix2 2 k) := by
  rw [after_flat]
  exact (vec2_gate _ k).trans (keep2 U _)
theorem vec_gain (k : Fin 1024) : (after (List.flatten [hostOps0, hostOps0_1, hostOps0_2]) U (Proc.devRef .tc main_v41) : Vec Ideal S8x1024 .f32) (ix2 3 k)
      = (U (Proc.devRef .tc main_arg3) : Vec Ideal S1024 .f32) (ix1 k) := by
  rw [after_flat]
  exact (vec2_gain _ k).trans (keep3 U _)
theorem wgu_at (q : Fin 8) (k : Fin 1024) (b : Fin 704) : (after (List.flatten [hostOps0, hostOps0_1, hostOps0_2]) U (Proc.devRef .tc main_v42) : Vec Ideal S8x1024x704 .bf16) (ix3 q k b)
      = (U (Proc.devRef .tc main_arg4) : Vec Ideal S8x1024x704 .f32) (ix3 q k b) := by
  rw [after_flat]
  exact (wgu2_at _ q k b).trans (keep4 U _)
theorem wdown_at (q : Fin 8) (k : Fin 352) (b : Fin 1024) : (after (List.flatten [hostOps0, hostOps0_1, hostOps0_2]) U (Proc.devRef .tc main_v43) : Vec Ideal S8x352x1024 .bf16) (ix3 q k b)
      = (U (Proc.devRef .tc main_arg5) : Vec Ideal S8x352x1024 .f32) (ix3 q k b) := by
  rw [after_flat]
  exact (wdown2_at _ q k b).trans (keep5 U _)
theorem gu_host (q : Fin 8) (i : Fin 4096) (b : Fin 704) : (after (List.flatten [hostOps0, hostOps0_1, hostOps0_2]) U (Proc.devRef .tc main_v36) : Vec Ideal S8x4096x704 .bf16) (ix3 q i b)
      = ∑ k : Fin 1024, hAt (fun k => (U (Proc.devRef .tc main_arg1) : Vec Ideal S4096x1024 .f32) (ix2 i k)) (fun k => (U (Proc.devRef .tc main_arg3) : Vec Ideal S1024 .f32) (ix1 k))
          (fun k => (U (Proc.devRef .tc main_arg2) : Vec Ideal S9x1024 .f32) (ix2 1 k)) (fun k => (U (Proc.devRef .tc main_arg2) : Vec Ideal S9x1024 .f32) (ix2 0 k)) k
          * (U (Proc.devRef .tc main_arg4) : Vec Ideal S8x1024x704 .f32) (ix3 q k b) := by
  rw [after_flat]
  exact (gu2_at _ q i b).trans ((keep27 _ _).trans (prod_at U q i b))

end Cert.FfnGradIdeal.Point
-- ==== Proof.FfnGrad.Windows.lean ====
module

public import proofs.«01_k».proof.Proof.FfnGrad.Run
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueLayout

@[expose] public section

set_option maxRecDepth 16384

noncomputable section

namespace Cert.FfnGradIdeal.Hand

open Cert.FfnGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

/-- The part of the body that runs at the first grid point only: the sixteen copies of the weights started, then awaited. -/
def fetch (i : grid0.Coords) (arg1 : Memref sig .tc .vmem S256x1024 .f32) (harg1 : arg1.IsWhole) (arg2 : Memref sig .tc .vmem S256x1024 .f32) (harg2 : arg2.IsWhole) (arg3 : Memref sig .tc .vmem S8x256x704 .bf16) (harg3 : arg3.IsWhole) (arg4 : Memref sig .tc .vmem S256x1024 .bf16) (harg4 : arg4.IsWhole) (arg5 : Memref sig .tc .vmem S8x1024 .f32) (harg5 : arg5.IsWhole) (arg6 : Memref sig .tc .hbm S8x1024x704 .bf16) (harg6 : arg6.IsWhole) (arg7 : Memref sig .tc .hbm S8x352x1024 .bf16) (harg7 : arg7.IsWhole) (arg8 : Memref sig .tc .vmem S256x1024 .f32) (harg8 : arg8.IsWhole) (arg9 : Memref sig .tc .vmem S8x256x704 .bf16) (harg9 : arg9.IsWhole) (arg10 : Memref sig .tc .vmem S4x256x704 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024x704 .bf16) (harg13 : arg13.IsWhole) (arg14 : Memref sig .tc .vmem S2816x1024 .bf16) (harg14 : arg14.IsWhole) (arg15 : DmaSems sig S2x8) :
    Prog (TpuEff nD τ sig (Elt F) Λ₀ .tc) PUnit := do
  k0_part1 i arg1 harg1 arg2 harg2 arg3 harg3 arg4 harg4 arg5 harg5 arg6 harg6 arg7 harg7 arg8 harg8 arg9 harg9 arg10 harg10 arg11 harg11 arg12 harg12 arg13 harg13 arg14 harg14 arg15
  k0_part2 i arg1 harg1 arg2 harg2 arg3 harg3 arg4 harg4 arg5 harg5 arg6 harg6 arg7 harg7 arg8 harg8 arg9 harg9 arg10 harg10 arg11 harg11 arg12 harg12 arg13 harg13 arg14 harg14 arg15
  k0_part3 i arg1 harg1 arg2 harg2 arg3 harg3 arg4 harg4 arg5 harg5 arg6 harg6 arg7 harg7 arg8 harg8 arg9 harg9 arg10 harg10 arg11 harg11 arg12 harg12 arg13 harg13 arg14 harg14 arg15
  k0_part4 i arg1 harg1 arg2 harg2 arg3 harg3 arg4 harg4 arg5 harg5 arg6 harg6 arg7 harg7 arg8 harg8 arg9 harg9 arg10 harg10 arg11 harg11 arg12 harg12 arg13 harg13 arg14 harg14 arg15
  k0_part5 i arg1 harg1 arg2 harg2 arg3 harg3 arg4 harg4 arg5 harg5 arg6 harg6 arg7 harg7 arg8 harg8 arg9 harg9 arg10 harg10 arg11 harg11 arg12 harg12 arg13 harg13 arg14 harg14 arg15
  k0_part6 i arg1 harg1 arg2 harg2 arg3 harg3 arg4 harg4 arg5 harg5 arg6 harg6 arg7 harg7 arg8 harg8 arg9 harg9 arg10 harg10 arg11 harg11 arg12 harg12 arg13 harg13 arg14 harg14 arg15
  k0_part7 i arg1 harg1 arg2 harg2 arg3 harg3 arg4 harg4 arg5 harg5 arg6 harg6 arg7 harg7 arg8 harg8 arg9 harg9 arg10 harg10 arg11 harg11 arg12 harg12 arg13 harg13 arg14 harg14 arg15
  k0_part8 i arg1 harg1 arg2 harg2 arg3 harg3 arg4 harg4 arg5 harg5 arg6 harg6 arg7 harg7 arg8 harg8 arg9 harg9 arg10 harg10 arg11 harg11 arg12 harg12 arg13 harg13 arg14 harg14 arg15
  k0_part9 i arg1 harg1 arg2 harg2 arg3 harg3 arg4 harg4 arg5 harg5 arg6 harg6 arg7 harg7 arg8 harg8 arg9 harg9 arg10 harg10 arg11 harg11 arg12 harg12 arg13 harg13 arg14 harg14 arg15
  let v387 : Memref sig .tc .hbm S1x352x1024 .bf16 := arg7.slice (Rect.unit (s := S8x352x1024) ![7, 0, 0] S1x352x1024.size inb_S8x352x1024_S1x352x1024_7_0_0) (fun _ => rfl)
  let v388 : Memref sig .tc .hbm S352x1024 .bf16 := v387.squeeze S352x1024 squeezes_S1x352x1024_S352x1024
  let v382 : DmaSems sig S1x8 := arg15.slice (Rect.unit (s := S2x8) ![1, 0] S1x8.size inb_S2x8_S1x8_1_0)
  let v383 : DmaSems sig S8 := v382.squeeze S8 squeezes_S1x8_S8
  let v384 : DmaSems sig S1 := v383.slice (Rect.unit (s := S8) ![7] S1.size inb_S8_S1_7)
  let v385 : DmaSems sig S_ := v384.squeeze S_ squeezes_S1_S_
  let v386 : Memref sig .tc .vmem S352x1024 .bf16 := arg14.slice (Rect.unit (s := S2816x1024) ![2464, 0] S352x1024.size inb_S2816x1024_S352x1024_2464_0) (fun _ => rfl)
  Prog.lift (.waitDma2 v385.sem v388 v386 ((harg7.wordExact_slice rfl _ wordsbf16_S8x352x1024_S1x352x1024_7_0_0).reshape _ _) (harg14.wordExact_slice rfl _ wordsbf16_S2816x1024_S352x1024_2464_0))
  pure ⟨⟩

/-- The sixteen semaphores the copies use, each at zero. -/
abbrev cells (c : Dev nD) : sProp 𝕄 :=
  iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0)

/-- The contents of a memref's buffer on core `c`. -/
abbrev Cont (c : Dev nD) {sp : Space} {S : Shape} {e : EltTy} (M : Memref sig .tc sp S e) : Type := Buf (Elt F) (M.view.loc (c : Thread nD τ))

/-- A memref's buffer on core `c`, held whole at `f`. -/
abbrev held (c : Dev nD) {sp : Space} {S : Shape} {e : EltTy} (M : Memref sig .tc sp S e) (f : Cont (F := F) c M) : sProp 𝕄 :=
  M.view.loc (c : Thread nD τ) ↦{fullShare} f

/-- The two weight operands, left in HBM. -/
abbrev wg : Memref sig .tc .hbm S8x1024x704 .bf16 := Memref.whole main_v42
abbrev wd : Memref sig .tc .hbm S8x352x1024 .bf16 := Memref.whole main_v43

/-- The two buffers the weights are copied into. -/
abbrev sc0 : Memref sig .tc .vmem S8x1024x704 .bf16 := Memref.whole cc0_scratch0
abbrev sc1 : Memref sig .tc .vmem S2816x1024 .bf16 := Memref.whole cc0_scratch1

/-! The first buffer's eight planes, as the copies name them. -/
abbrev win0 : Memref sig .tc .vmem S1024x704 .bf16 :=
  (sc0.slice (Rect.unit (s := S8x1024x704) ![0, 0, 0] S1x1024x704.size inb_S8x1024x704_S1x1024x704_0_0_0) (fun _ => rfl)).squeeze S1024x704 squeezes_S1x1024x704_S1024x704
abbrev win1 : Memref sig .tc .vmem S1024x704 .bf16 :=
  (sc0.slice (Rect.unit (s := S8x1024x704) ![1, 0, 0] S1x1024x704.size inb_S8x1024x704_S1x1024x704_1_0_0) (fun _ => rfl)).squeeze S1024x704 squeezes_S1x1024x704_S1024x704
abbrev win2 : Memref sig .tc .vmem S1024x704 .bf16 :=
  (sc0.slice (Rect.unit (s := S8x1024x704) ![2, 0, 0] S1x1024x704.size inb_S8x1024x704_S1x1024x704_2_0_0) (fun _ => rfl)).squeeze S1024x704 squeezes_S1x1024x704_S1024x704
abbrev win3 : Memref sig .tc .vmem S1024x704 .bf16 :=
  (sc0.slice (Rect.unit (s := S8x1024x704) ![3, 0, 0] S1x1024x704.size inb_S8x1024x704_S1x1024x704_3_0_0) (fun _ => rfl)).squeeze S1024x704 squeezes_S1x1024x704_S1024x704
abbrev win4 : Memref sig .tc .vmem S1024x704 .bf16 :=
  (sc0.slice (Rect.unit (s := S8x1024x704) ![4, 0, 0] S1x1024x704.size inb_S8x1024x704_S1x1024x704_4_0_0) (fun _ => rfl)).squeeze S1024x704 squeezes_S1x1024x704_S1024x704
abbrev win5 : Memref sig .tc .vmem S1024x704 .bf16 :=
  (sc0.slice (Rect.unit (s := S8x1024x704) ![5, 0, 0] S1x1024x704.size inb_S8x1024x704_S1x1024x704_5_0_0) (fun _ => rfl)).squeeze S1024x704 squeezes_S1x1024x704_S1024x704
abbrev win6 : Memref sig .tc .vmem S1024x704 .bf16 :=
  (sc0.slice (Rect.unit (s := S8x1024x704) ![6, 0, 0] S1x1024x704.size inb_S8x1024x704_S1x1024x704_6_0_0) (fun _ => rfl)).squeeze S1024x704 squeezes_S1x1024x704_S1024x704
abbrev win7 : Memref sig .tc .vmem S1024x704 .bf16 :=
  (sc0.slice (Rect.unit (s := S8x1024x704) ![7, 0, 0] S1x1024x704.size inb_S8x1024x704_S1x1024x704_7_0_0) (fun _ => rfl)).squeeze S1024x704 squeezes_S1x1024x704_S1024x704

/-! The second buffer's eight bands of rows, as the copies name them. -/
abbrev band0 : Memref sig .tc .vmem S352x1024 .bf16 :=
  sc1.slice (Rect.unit (s := S2816x1024) ![0, 0] S352x1024.size inb_S2816x1024_S352x1024_0_0) (fun _ => rfl)
abbrev band1 : Memref sig .tc .vmem S352x1024 .bf16 :=
  sc1.slice (Rect.unit (s := S2816x1024) ![352, 0] S352x1024.size inb_S2816x1024_S352x1024_352_0) (fun _ => rfl)
abbrev band2 : Memref sig .tc .vmem S352x1024 .bf16 :=
  sc1.slice (Rect.unit (s := S2816x1024) ![704, 0] S352x1024.size inb_S2816x1024_S352x1024_704_0) (fun _ => rfl)
abbrev band3 : Memref sig .tc .vmem S352x1024 .bf16 :=
  sc1.slice (Rect.unit (s := S2816x1024) ![1056, 0] S352x1024.size inb_S2816x1024_S352x1024_1056_0) (fun _ => rfl)
abbrev band4 : Memref sig .tc .vmem S352x1024 .bf16 :=
  sc1.slice (Rect.unit (s := S2816x1024) ![1408, 0] S352x1024.size inb_S2816x1024_S352x1024_1408_0) (fun _ => rfl)
abbrev band5 : Memref sig .tc .vmem S352x1024 .bf16 :=
  sc1.slice (Rect.unit (s := S2816x1024) ![1760, 0] S352x1024.size inb_S2816x1024_S352x1024_1760_0) (fun _ => rfl)
abbrev band6 : Memref sig .tc .vmem S352x1024 .bf16 :=
  sc1.slice (Rect.unit (s := S2816x1024) ![2112, 0] S352x1024.size inb_S2816x1024_S352x1024_2112_0) (fun _ => rfl)
abbrev band7 : Memref sig .tc .vmem S352x1024 .bf16 :=
  sc1.slice (Rect.unit (s := S2816x1024) ![2464, 0] S352x1024.size inb_S2816x1024_S352x1024_2464_0) (fun _ => rfl)

/-- A memref held on core `c` by its own elements only, its buffer's contents there being `f`'s. -/
abbrev heldOwn (c : Dev nD) {sp : Space} {S : Shape} {e : EltTy} (M : Memref sig .tc sp S e) (f : Cont (F := F) c M) : sProp 𝕄 :=
  M.view.loc (c : Thread nD τ) ↦[M.view.set]{fullShare} f

/-- A copy that has landed: the memref's own elements hold what was copied, whatever contents of the buffer read there as it. -/
theorem landed (c : Dev nD) {sp : Space} {S : Shape} {e : EltTy} (M : Memref sig .tc sp S e) (f G : Cont (F := F) c M)
    (w : S.Idx → Elt F e) (h : w = M.view.read (Elt F) G) :
    (M.view.loc (c : Thread nD τ) ↦[M.view.set]{fullShare} M.view.writes (Elt F) f [⟨Rect.whole S, w⟩] : sProp 𝕄) ⊢ heldOwn c M G := by
  have e : (M.view.loc (c : Thread nD τ) ↦[M.view.set]{fullShare} M.view.writes (Elt F) f [⟨Rect.whole S, w⟩] : sProp 𝕄) = heldOwn c M G := by
    refine pointsTo_congr fun i hi => ?_
    obtain ⟨x, -, rfl⟩ := Finset.mem_map.mp hi
    rw [← View.write_univ_eq_writes_whole M.view f [] w]
    refine (View.write_emb_of_mem _ _ (Finset.mem_univ x)).trans ?_
    rw [h, View.read_apply]
    simp
  rw [e]

/-- The first buffer once the copies have landed: the gate and up weights, plane by plane as they lie in HBM. -/
def gu (c : Dev nD) (g0 : Cont (F := F) c wg) : Cont (F := F) c sc0 := g0

/-- Row `r` of the second buffer once the copies have landed: row `r % 352` of plane `r / 352` of the down weights. -/
def dn (c : Dev nD) (g1 : Cont (F := F) c wd) : Cont (F := F) c sc1 := fun (y : S2816x1024.Idx) =>
  (g1 : S8x352x1024.Idx → Elt F .bf16) (ValueIdx.ix3 (⟨(y 0).val / 352, by have := (y 0).isLt; have h : S2816x1024.size 0 = 2816 := rfl; omega⟩ : Fin 8)
    (⟨(y 0).val % 352, Nat.mod_lt _ (by decide)⟩ : Fin 352) (y 1 : Fin 1024))

theorem dn_band (c : Dev nD) (g1 : Cont (F := F) c wd) (k o : ℕ) (ho : o = 352 * k) (hk : k < 8)
    (i3 : ∀ a, (![k, 0, 0] : Fin 3 → Nat) a + S1x352x1024.size a ≤ S8x352x1024.size a)
    (i2 : ∀ a, (![o, 0] : Fin 2 → Nat) a + S352x1024.size a ≤ S2816x1024.size a) :
    (((wd.slice (Rect.unit (s := S8x352x1024) ![k, 0, 0] S1x352x1024.size i3) (fun _ => rfl)).squeeze S352x1024 squeezes_S1x352x1024_S352x1024).view.read (Elt F) g1)
      = (sc1.slice (Rect.unit (s := S2816x1024) ![o, 0] S352x1024.size i2) (fun _ => rfl)).view.read (Elt F) (dn c g1) := by
  subst ho
  funext x
  have hx : x = ValueIdx.ix2 (x 0 : Fin 352) (x 1 : Fin 1024) := by funext a; fin_cases a <;> rfl
  show g1 ((Rect.unit (s := S8x352x1024) ![k, 0, 0] S1x352x1024.size i3).idx (Shape.reshapeEquiv _ x)) = g1 _
  refine congrArg g1 ?_
  have e := ValueIdx.reshapeEquiv_ix2_1ab (squeezes_S1x352x1024_S352x1024).numel_eq (x 0 : Fin 352) (x 1 : Fin 1024)
  have hx0 : (x 0).val < 352 := (x 0).isLt
  rw [hx]
  refine (congrArg _ e).trans ?_
  funext a
  fin_cases a <;> refine Fin.ext ?_
  · show k + 1 * 0 = (352 * k + 1 * (x 0).val) / 352
    omega
  · show 0 + 1 * (x 0).val = (352 * k + 1 * (x 0).val) % 352
    omega
  · show 0 + 1 * (x 1).val = 0 + 1 * (x 1).val
    rfl

/-- Plane `k` of the first buffer, as a rectangle. -/
def plane (k : Fin 8) : Rect S8x1024x704 := Rect.unit (s := S8x1024x704) ![k.val, 0, 0] S1x1024x704.size (by intro a; have := k.isLt; fin_cases a <;> simp [S8x1024x704, S1x1024x704] <;> omega)

/-- Rows `352 k` to `352 k + 351` of the second buffer, as a rectangle. -/
def rows (k : Fin 8) : Rect S2816x1024 := Rect.unit (s := S2816x1024) ![352 * k.val, 0] S352x1024.size (by intro a; have := k.isLt; fin_cases a <;> simp [S2816x1024, S352x1024] <;> omega)

theorem mem_plane (k : Fin 8) (i : S8x1024x704.Idx) : i ∈ (plane k).set ↔ (i 0).val = k.val := by
  rw [plane, Rect.mem_set_unit]
  have h1 : (i 1).val < 1024 := (i 1).isLt
  have h2 : (i 2).val < 704 := (i 2).isLt
  refine ⟨fun h => ?_, fun h a => ?_⟩
  · have h0 : k.val ≤ (i 0).val ∧ (i 0).val < k.val + 1 := h 0
    omega
  · fin_cases a
    · show k.val ≤ (i 0).val ∧ (i 0).val < k.val + 1
      omega
    · show 0 ≤ (i 1).val ∧ (i 1).val < 0 + 1024
      omega
    · show 0 ≤ (i 2).val ∧ (i 2).val < 0 + 704
      omega

theorem mem_rows (k : Fin 8) (i : S2816x1024.Idx) : i ∈ (rows k).set ↔ (i 0).val / 352 = k.val := by
  rw [rows, Rect.mem_set_unit]
  have h1 : (i 1).val < 1024 := (i 1).isLt
  refine ⟨fun h => ?_, fun h a => ?_⟩
  · have h0 : 352 * k.val ≤ (i 0).val ∧ (i 0).val < 352 * k.val + 352 := h 0
    omega
  · fin_cases a
    · show 352 * k.val ≤ (i 0).val ∧ (i 0).val < 352 * k.val + 352
      omega
    · show 0 ≤ (i 1).val ∧ (i 1).val < 0 + 1024
      omega

/-- The first buffer held whole is its eight planes held one by one. -/
theorem planes_held (c : Dev nD) (f : Cont (F := F) c sc0) : held c sc0 f
    = (iprop(heldOwn c win0 f ∗ heldOwn c win1 f ∗ heldOwn c win2 f ∗ heldOwn c win3 f ∗ heldOwn c win4 f ∗ heldOwn c win5 f ∗ heldOwn c win6 f ∗ heldOwn c win7 f) : sProp 𝕄) := by
  refine (Ring.pointsTo_blocks (fun k : Fin 8 => (plane k).set) (fun k k' h => ?_) ?_ f).trans ?_
  · refine Finset.disjoint_left.mpr fun i hi hi' => h (Fin.ext ?_)
    rw [← (mem_plane k i).mp hi, (mem_plane k' i).mp hi']
  · refine Finset.eq_univ_iff_forall.mpr fun i => Finset.mem_biUnion.mpr ⟨(i 0 : Fin 8), Finset.mem_univ _, (mem_plane _ i).mpr rfl⟩
  rw [Idealize.SL.BI.bigSep_eq_bigSepL_of_eq [0, 1, 2, 3, 4, 5, 6, 7] (by decide) (by decide)]
  have h : ∀ (k : ℕ) (hk : k < 8) (i) , ((sc0.slice (Rect.unit (s := S8x1024x704) ![k, 0, 0] S1x1024x704.size i) (fun _ => rfl)).squeeze S1024x704 squeezes_S1x1024x704_S1024x704).view.set = (plane ⟨k, hk⟩).set :=
    fun k hk i => (View.set_reshape _ _).trans (View.set_slice_whole _ _)
  simp only [heldOwn, h _ (by decide : 0 < 8), h _ (by decide : 1 < 8), h _ (by decide : 2 < 8), h _ (by decide : 3 < 8), h _ (by decide : 4 < 8), h _ (by decide : 5 < 8), h _ (by decide : 6 < 8), h _ (by decide : 7 < 8)]
  rfl

/-- The second buffer held whole is its eight bands of rows held one by one. -/
theorem bands_held (c : Dev nD) (f : Cont (F := F) c sc1) : held c sc1 f
    = (iprop(heldOwn c band0 f ∗ heldOwn c band1 f ∗ heldOwn c band2 f ∗ heldOwn c band3 f ∗ heldOwn c band4 f ∗ heldOwn c band5 f ∗ heldOwn c band6 f ∗ heldOwn c band7 f) : sProp 𝕄) := by
  refine (Ring.pointsTo_blocks (fun k : Fin 8 => (rows k).set) (fun k k' h => ?_) ?_ f).trans ?_
  · refine Finset.disjoint_left.mpr fun i hi hi' => h (Fin.ext ?_)
    rw [← (mem_rows k i).mp hi, (mem_rows k' i).mp hi']
  · refine Finset.eq_univ_iff_forall.mpr fun i => Finset.mem_biUnion.mpr ⟨⟨(i 0).val / 352, by have h : (i 0).val < 2816 := (i 0).isLt; omega⟩, Finset.mem_univ _, (mem_rows _ i).mpr rfl⟩
  rw [Idealize.SL.BI.bigSep_eq_bigSepL_of_eq [0, 1, 2, 3, 4, 5, 6, 7] (by decide) (by decide)]
  have h : ∀ (k : Fin 8) (o : ℕ) (ho : o = 352 * k.val) (i) , (sc1.slice (Rect.unit (s := S2816x1024) ![o, 0] S352x1024.size i) (fun _ => rfl)).view.set = (rows k).set :=
    fun k o ho i => by subst ho; exact View.set_slice_whole _ _
  simp only [heldOwn, h 0 0 rfl, h 1 352 rfl, h 2 704 rfl, h 3 1056 rfl, h 4 1408 rfl, h 5 1760 rfl, h 6 2112 rfl, h 7 2464 rfl]
  rfl

end Cert.FfnGradIdeal.Hand

end
-- ==== Proof.FfnGrad.Split.lean ====
module

public import proofs.«01_k».proof.Proof.FfnGrad.Windows
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueLayout

@[expose] public section

set_option maxRecDepth 16384

noncomputable section

namespace Cert.FfnGradIdeal.Hand

open Cert.FfnGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

/-- The other part of the body that runs at the first grid point only: the running sums set to zero. -/
def zero (arg12 : Memref sig .tc .vmem S8x1024 .f32) (harg12 : arg12.IsWhole) : Prog (TpuEff nD τ sig (Elt F) Λ₀ .tc) PUnit := do
  let v268 : Vec F S8x1024 .f32 ← Prog.lift (.load arg12 (Rect.unit (s := S8x1024) ![0, 0] S8x1024.size inb_S8x1024_S8x1024_0_0).toLoadRect (View.loadsAt_vmem h_S8x1024))
  Prog.lift (.store arg12 (Rect.unit (s := S8x1024) ![0, 0] S8x1024.size inb_S8x1024_S8x1024_0_0) (k0_pay6 (F := F)) Finset.univ (View.stores_vmem_bits_univ h_S8x1024 rfl) (.inl rfl))
  pure ⟨⟩

/-- At the point that copies the weights the body is the copies, the zeros, then the body as it runs at any point that copies
    nothing. -/
theorem body_first (i i1 : grid0.Coords) (hi : first i) (hi1 : ¬first i1) (arg1 : Memref sig .tc .vmem S256x1024 .f32) (harg1 : arg1.IsWhole) (arg2 : Memref sig .tc .vmem S256x1024 .f32) (harg2 : arg2.IsWhole) (arg3 : Memref sig .tc .vmem S8x256x704 .bf16) (harg3 : arg3.IsWhole) (arg4 : Memref sig .tc .vmem S256x1024 .bf16) (harg4 : arg4.IsWhole) (arg5 : Memref sig .tc .vmem S8x1024 .f32) (harg5 : arg5.IsWhole) (arg6 : Memref sig .tc .hbm S8x1024x704 .bf16) (harg6 : arg6.IsWhole) (arg7 : Memref sig .tc .hbm S8x352x1024 .bf16) (harg7 : arg7.IsWhole) (arg8 : Memref sig .tc .vmem S256x1024 .f32) (harg8 : arg8.IsWhole) (arg9 : Memref sig .tc .vmem S8x256x704 .bf16) (harg9 : arg9.IsWhole) (arg10 : Memref sig .tc .vmem S4x256x704 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024x704 .bf16) (harg13 : arg13.IsWhole) (arg14 : Memref sig .tc .vmem S2816x1024 .bf16) (harg14 : arg14.IsWhole) (arg15 : DmaSems sig S2x8) :
    cc0_ffn_bwd_a0 (F := F) i arg1 harg1 arg2 harg2 arg3 harg3 arg4 harg4 arg5 harg5 arg6 harg6 arg7 harg7 arg8 harg8 arg9 harg9 arg10 harg10 arg11 harg11 arg12 harg12 arg13 harg13 arg14 harg14 arg15
      = (fetch i arg1 harg1 arg2 harg2 arg3 harg3 arg4 harg4 arg5 harg5 arg6 harg6 arg7 harg7 arg8 harg8 arg9 harg9 arg10 harg10 arg11 harg11 arg12 harg12 arg13 harg13 arg14 harg14 arg15 >>= fun _ => zero arg12 harg12 >>= fun _ => cc0_ffn_bwd_a0 (F := F) i1 arg1 harg1 arg2 harg2 arg3 harg3 arg4 harg4 arg5 harg5 arg6 harg6 arg7 harg7 arg8 harg8 arg9 harg9 arg10 harg10 arg11 harg11 arg12 harg12 arg13 harg13 arg14 harg14 arg15) := by
  simp only [cc0_ffn_bwd_a0_eq_skeleton]; unfold cc0_ffn_bwd_a0_skel
  rw [show k0_part11 (F := F) i1 = k0_part11 i from rfl, show k0_part12 (F := F) i1 = k0_part12 i from rfl, show k0_part13 (F := F) i1 = k0_part13 i from rfl, show k0_part14 (F := F) i1 = k0_part14 i from rfl, show k0_part15 (F := F) i1 = k0_part15 i from rfl, show k0_part16 (F := F) i1 = k0_part16 i from rfl]
  simp only [k0_part10_eq_skeleton]; unfold k0_part10_skel
  simp only [dif_pos hi, dif_neg hi1, bind_assoc, pure_bind]
  unfold fetch zero
  simp only [bind_assoc, pure_bind]

/-- Away from that point the body is the same at every point. -/
theorem body_later (i i1 : grid0.Coords) (hi : ¬first i) (hi1 : ¬first i1) (arg1 : Memref sig .tc .vmem S256x1024 .f32) (harg1 : arg1.IsWhole) (arg2 : Memref sig .tc .vmem S256x1024 .f32) (harg2 : arg2.IsWhole) (arg3 : Memref sig .tc .vmem S8x256x704 .bf16) (harg3 : arg3.IsWhole) (arg4 : Memref sig .tc .vmem S256x1024 .bf16) (harg4 : arg4.IsWhole) (arg5 : Memref sig .tc .vmem S8x1024 .f32) (harg5 : arg5.IsWhole) (arg6 : Memref sig .tc .hbm S8x1024x704 .bf16) (harg6 : arg6.IsWhole) (arg7 : Memref sig .tc .hbm S8x352x1024 .bf16) (harg7 : arg7.IsWhole) (arg8 : Memref sig .tc .vmem S256x1024 .f32) (harg8 : arg8.IsWhole) (arg9 : Memref sig .tc .vmem S8x256x704 .bf16) (harg9 : arg9.IsWhole) (arg10 : Memref sig .tc .vmem S4x256x704 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024x704 .bf16) (harg13 : arg13.IsWhole) (arg14 : Memref sig .tc .vmem S2816x1024 .bf16) (harg14 : arg14.IsWhole) (arg15 : DmaSems sig S2x8) :
    cc0_ffn_bwd_a0 (F := F) i arg1 harg1 arg2 harg2 arg3 harg3 arg4 harg4 arg5 harg5 arg6 harg6 arg7 harg7 arg8 harg8 arg9 harg9 arg10 harg10 arg11 harg11 arg12 harg12 arg13 harg13 arg14 harg14 arg15 = cc0_ffn_bwd_a0 (F := F) i1 arg1 harg1 arg2 harg2 arg3 harg3 arg4 harg4 arg5 harg5 arg6 harg6 arg7 harg7 arg8 harg8 arg9 harg9 arg10 harg10 arg11 harg11 arg12 harg12 arg13 harg13 arg14 harg14 arg15 := by
  simp only [cc0_ffn_bwd_a0_eq_skeleton]; unfold cc0_ffn_bwd_a0_skel
  rw [show k0_part11 (F := F) i1 = k0_part11 i from rfl, show k0_part12 (F := F) i1 = k0_part12 i from rfl, show k0_part13 (F := F) i1 = k0_part13 i from rfl, show k0_part14 (F := F) i1 = k0_part14 i from rfl, show k0_part15 (F := F) i1 = k0_part15 i from rfl, show k0_part16 (F := F) i1 = k0_part16 i from rfl]
  simp only [k0_part10_eq_skeleton]; unfold k0_part10_skel
  simp only [dif_neg hi, dif_neg hi1]

end Cert.FfnGradIdeal.Hand

end
-- ==== Proof.FfnGrad.Fetch.lean ====
module

public import proofs.«01_k».proof.Proof.FfnGrad.Windows
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueLayout

@[expose] public section

set_option maxRecDepth 16384

noncomputable section

namespace Cert.FfnGradIdeal.Hand

open Cert.FfnGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

set_option maxHeartbeats 2000000 in
/-- The copies, from the sixteen windows they fill: each window ends holding its part of the weights, the weights in HBM and the
    semaphores are as they were. -/
theorem fetch_run (c : Dev nD) (i : grid0.Coords)
    (arg1 : Memref sig .tc .vmem S256x1024 .f32) (harg1 : arg1.IsWhole) (arg2 : Memref sig .tc .vmem S256x1024 .f32) (harg2 : arg2.IsWhole) (arg3 : Memref sig .tc .vmem S8x256x704 .bf16) (harg3 : arg3.IsWhole) (arg4 : Memref sig .tc .vmem S256x1024 .bf16) (harg4 : arg4.IsWhole) (arg5 : Memref sig .tc .vmem S8x1024 .f32) (harg5 : arg5.IsWhole) (arg8 : Memref sig .tc .vmem S256x1024 .f32) (harg8 : arg8.IsWhole) (arg9 : Memref sig .tc .vmem S8x256x704 .bf16) (harg9 : arg9.IsWhole) (arg10 : Memref sig .tc .vmem S4x256x704 .bf16) (harg10 : arg10.IsWhole) (arg11 : Memref sig .tc .vmem S256x1024 .bf16) (harg11 : arg11.IsWhole) (arg12 : Memref sig .tc .vmem S8x1024 .f32) (harg12 : arg12.IsWhole)
    (f : Cont (F := F) c sc0) (f' : Cont (F := F) c sc1)
    (g0 : Cont (F := F) c wg) (g1 : Cont (F := F) c wd) (W : Waits sig Unit) (K : PUnit → sProp 𝕄) :
    iprop(heldOwn c win0 f ∗ heldOwn c win1 f ∗ heldOwn c win2 f ∗ heldOwn c win3 f ∗ heldOwn c win4 f ∗ heldOwn c win5 f ∗ heldOwn c win6 f ∗ heldOwn c win7 f ∗ heldOwn c band0 f' ∗ heldOwn c band1 f' ∗ heldOwn c band2 f' ∗ heldOwn c band3 f' ∗ heldOwn c band4 f' ∗ heldOwn c band5 f' ∗ heldOwn c band6 f' ∗ heldOwn c band7 f'
        ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0
        ∗ held c wg g0 ∗ held c wd g1
        ∗ owes (c : Thread nD τ) 0 W
        ∗ (iprop(heldOwn c win0 (gu c g0) ∗ heldOwn c win1 (gu c g0) ∗ heldOwn c win2 (gu c g0) ∗ heldOwn c win3 (gu c g0) ∗ heldOwn c win4 (gu c g0) ∗ heldOwn c win5 (gu c g0) ∗ heldOwn c win6 (gu c g0) ∗ heldOwn c win7 (gu c g0) ∗ heldOwn c band0 (dn c g1) ∗ heldOwn c band1 (dn c g1) ∗ heldOwn c band2 (dn c g1) ∗ heldOwn c band3 (dn c g1) ∗ heldOwn c band4 (dn c g1) ∗ heldOwn c band5 (dn c g1) ∗ heldOwn c band6 (dn c g1) ∗ heldOwn c band7 (dn c g1)
            ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0
            ∗ held c wg g0 ∗ held c wd g1 ∗ (∃ W', owes (c : Thread nD τ) 0 W')) -∗ K ⟨⟩))
      ⊢ wp frame (wpE (defs₀ (F := F)) Variants.none c none) Set.univ (fetch i arg1 harg1 arg2 harg2 arg3 harg3 arg4 harg4 arg5 harg5 wg (Memref.isWhole_whole _) wd (Memref.isWhole_whole _) arg8 harg8 arg9 harg9 arg10 harg10 arg11 harg11 arg12 harg12 sc0 (Memref.isWhole_whole _) sc1 (Memref.isWhole_whole _) cc0_scratch2) K := by
  unfold fetch
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  iintro ⟨Hd0, Hd1, Hd2, Hd3, Hd4, Hd5, Hd6, Hd7, He0, He1, He2, He3, He4, He5, He6, He7, Hq0, Hq1, Hq2, Hq3, Hq4, Hq5, Hq6, Hq7, Hq8, Hq9, Hq10, Hq11, Hq12, Hq13, Hq14, Hq15, Hh0, Hh1, HW, Hk⟩
  sl_exec
  sl_step
  iapply Hk
  isplitl [Hd0]; · iapply (landed c win0 f (gu c g0) _ rfl); iexact Hd0
  isplitl [Hd1]; · iapply (landed c win1 f (gu c g0) _ rfl); iexact Hd1
  isplitl [Hd2]; · iapply (landed c win2 f (gu c g0) _ rfl); iexact Hd2
  isplitl [Hd3]; · iapply (landed c win3 f (gu c g0) _ rfl); iexact Hd3
  isplitl [Hd4]; · iapply (landed c win4 f (gu c g0) _ rfl); iexact Hd4
  isplitl [Hd5]; · iapply (landed c win5 f (gu c g0) _ rfl); iexact Hd5
  isplitl [Hd6]; · iapply (landed c win6 f (gu c g0) _ rfl); iexact Hd6
  isplitl [Hd7]; · iapply (landed c win7 f (gu c g0) _ rfl); iexact Hd7
  isplitl [He0]; · iapply (landed c band0 f' (dn c g1) _ (dn_band c g1 0 0 rfl (by decide) _ _)); iexact He0
  isplitl [He1]; · iapply (landed c band1 f' (dn c g1) _ (dn_band c g1 1 352 rfl (by decide) _ _)); iexact He1
  isplitl [He2]; · iapply (landed c band2 f' (dn c g1) _ (dn_band c g1 2 704 rfl (by decide) _ _)); iexact He2
  isplitl [He3]; · iapply (landed c band3 f' (dn c g1) _ (dn_band c g1 3 1056 rfl (by decide) _ _)); iexact He3
  isplitl [He4]; · iapply (landed c band4 f' (dn c g1) _ (dn_band c g1 4 1408 rfl (by decide) _ _)); iexact He4
  isplitl [He5]; · iapply (landed c band5 f' (dn c g1) _ (dn_band c g1 5 1760 rfl (by decide) _ _)); iexact He5
  isplitl [He6]; · iapply (landed c band6 f' (dn c g1) _ (dn_band c g1 6 2112 rfl (by decide) _ _)); iexact He6
  isplitl [He7]; · iapply (landed c band7 f' (dn c g1) _ (dn_band c g1 7 2464 rfl (by decide) _ _)); iexact He7
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hh0]; · iexact Hh0
  isplitl [Hh1]; · iexact Hh1
  iexists _; iexact HW

end Cert.FfnGradIdeal.Hand

end
-- ==== Proof.FfnGrad.Frame.lean ====
module

public import proofs.«01_k».proof.Proof.Gen.FfnGradIdeal.Frame
public import proofs.«01_k».proof.Proof.FfnGrad.Split
public import proofs.«01_k».proof.Proof.FfnGrad.Fetch
public import proofs.«01_k».proof.Proof.FfnGrad.Outs
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueLayout

@[expose] public section

set_option maxRecDepth 16384

noncomputable section

namespace Cert.FfnGradIdeal.Hand

open Cert.FfnGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

theorem own_sc0 (c : Dev nD) (d : Vec F S8x1024x704 .bf16) : (owns (c : Thread nD τ) sc0 fullShare d : sProp 𝕄) = held c sc0 d := by
  simp only [sc0, owns_whole]
theorem own_sc1 (c : Dev nD) (d : Vec F S2816x1024 .bf16) : (owns (c : Thread nD τ) sc1 fullShare d : sProp 𝕄) = held c sc1 d := by
  simp only [sc1, owns_whole]

/-- The copies, on the two weight buffers held whole: they end holding the weights. -/
theorem fetch_all (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S8x256x704 .bf16) (harg3 : arg3.IsWhole) (arg4 : Memref sig .tc .vmem S256x1024 .bf16) (harg4 : arg4.IsWhole) (arg5 : Memref sig .tc .vmem S8x1024 .f32) (harg5 : arg5.IsWhole) (arg8 : Memref sig .tc .vmem S256x1024 .f32) (harg8 : arg8.IsWhole) (arg9 : Memref sig .tc .vmem S8x256x704 .bf16) (harg9 : arg9.IsWhole) (arg10 : Memref sig .tc .vmem S4x256x704 .bf16) (harg10 : arg10.IsWhole) (arg11 : Memref sig .tc .vmem S256x1024 .bf16) (harg11 : arg11.IsWhole) (arg12 : Memref sig .tc .vmem S8x1024 .f32) (harg12 : arg12.IsWhole)
    (g0 : Cont (F := F) c wg) (g1 : Cont (F := F) c wd) (W : Waits sig Unit) (K : PUnit → sProp 𝕄) :
    iprop((∃ d, owns (c : Thread nD τ) sc0 fullShare d) ∗ (∃ d, owns (c : Thread nD τ) sc1 fullShare d) ∗ cells c
        ∗ held c wg g0 ∗ held c wd g1 ∗ owes (c : Thread nD τ) 0 W
        ∗ (iprop(owns (c : Thread nD τ) sc0 fullShare (gu c g0) ∗ owns (c : Thread nD τ) sc1 fullShare (dn c g1) ∗ cells c
            ∗ held c wg g0 ∗ held c wd g1 ∗ (∃ W', owes (c : Thread nD τ) 0 W')) -∗ K ⟨⟩))
      ⊢ wp frame (wpE (defs₀ (F := F)) Variants.none c none) Set.univ (fetch i arg1 harg1 arg2 harg2 arg3 harg3 arg4 harg4 arg5 harg5 wg (Memref.isWhole_whole _) wd (Memref.isWhole_whole _) arg8 harg8 arg9 harg9 arg10 harg10 arg11 harg11 arg12 harg12 sc0 (Memref.isWhole_whole _) sc1 (Memref.isWhole_whole _) cc0_scratch2) K := by
  simp only [own_sc0, own_sc1, planes_held, bands_held]
  iintro ⟨⟨%f, Hd0, Hd1, Hd2, Hd3, Hd4, Hd5, Hd6, Hd7⟩, ⟨%f1, He0, He1, He2, He3, He4, He5, He6, He7⟩, ⟨Hq0, Hq1, Hq2, Hq3, Hq4, Hq5, Hq6, Hq7, Hq8, Hq9, Hq10, Hq11, Hq12, Hq13, Hq14, Hq15⟩, Hh0, Hh1, HW, Hk⟩
  iapply (fetch_run c i arg1 harg1 arg2 harg2 arg3 harg3 arg4 harg4 arg5 harg5 arg8 harg8 arg9 harg9 arg10 harg10 arg11 harg11 arg12 harg12 f f1 g0 g1 W K)
  isplitl [Hd0]; · iexact Hd0
  isplitl [Hd1]; · iexact Hd1
  isplitl [Hd2]; · iexact Hd2
  isplitl [Hd3]; · iexact Hd3
  isplitl [Hd4]; · iexact Hd4
  isplitl [Hd5]; · iexact Hd5
  isplitl [Hd6]; · iexact Hd6
  isplitl [Hd7]; · iexact Hd7
  isplitl [He0]; · iexact He0
  isplitl [He1]; · iexact He1
  isplitl [He2]; · iexact He2
  isplitl [He3]; · iexact He3
  isplitl [He4]; · iexact He4
  isplitl [He5]; · iexact He5
  isplitl [He6]; · iexact He6
  isplitl [He7]; · iexact He7
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hh0]; · iexact Hh0
  isplitl [Hh1]; · iexact Hh1
  isplitl [HW]; · iexact HW
  iintro ⟨Hd0, Hd1, Hd2, Hd3, Hd4, Hd5, Hd6, Hd7, He0, He1, He2, He3, He4, He5, He6, He7, Hq0, Hq1, Hq2, Hq3, Hq4, Hq5, Hq6, Hq7, Hq8, Hq9, Hq10, Hq11, Hq12, Hq13, Hq14, Hq15, Hh0, Hh1, HW⟩
  iapply Hk
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  isplitl [He0 He1 He2 He3 He4 He5 He6 He7]
  · isplitl [He0]; · iexact He0
    isplitl [He1]; · iexact He1
    isplitl [He2]; · iexact He2
    isplitl [He3]; · iexact He3
    isplitl [He4]; · iexact He4
    isplitl [He5]; · iexact He5
    isplitl [He6]; · iexact He6
    iexact He7
  isplitl [Hq0 Hq1 Hq2 Hq3 Hq4 Hq5 Hq6 Hq7 Hq8 Hq9 Hq10 Hq11 Hq12 Hq13 Hq14 Hq15]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    iexact Hq15
  isplitl [Hh0]; · iexact Hh0
  isplitl [Hh1]; · iexact Hh1
  iexact HW

variable (m : (ℓ : Loc nD τ sig) → Buf (Elt F) ℓ) (ρ : Dev nD → PrngReg)

/-- The semaphores the copies use. -/
abbrev osem : Fin 16 → SemLoc sig := fun j => (![SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33] : Fin 16 → SemLoc sig) j

theorem osem_facts : Pipeline.OwnSemFacts spec0 osem := by decide

/-- The arrays the copies read: both stay in HBM and no window stages them. -/
def hbm : Finset (Ref sig .tc) := {main_v42, main_v43}

theorem hbm_sub : hbm ⊆ Pipeline.restRefs sig spec0 := by decide

/-- What the launch hands the region, conjunct by conjunct: the two weight buffers at anything, the generator register, the
    semaphores at zero and the two weight arrays as the region finds them. -/
theorem launch_eq (c : Dev nD) : (Pipeline.ΦD osem spec0 hbm (V m) c : sProp 𝕄)
    = iprop(iprop((∃ d, owns (c : Thread nD τ) sc0 fullShare d) ∗ (∃ d, owns (c : Thread nD τ) sc1 fullShare d)) ∗ (∃ r, prngReg c r) ∗ cells c
        ∗ iprop(held c wg (V m c main_v42) ∗ held c wd (V m c main_v43))) := by
  have hs : (Pipeline.ownSems0 (Ix := Unit) (Name := ℕ) (U := Pipeline.UD sig nD τ) (Lvl := ℕ) (Val := Elt F) (τ := τ) osem c : sProp 𝕄) = cells c := by
    rw [Pipeline.ownSems0_eq_of_list c osem [0, 1, 2, 3, 4, 5, 6, 7, 8, 9, 10, 11, 12, 13, 14, 15] (by decide) (by decide)]; rfl
  have hh : (bigSep hbm (fun b => ((c : Thread nD τ).loc b) ↦{fullShare} V m c b) : sProp 𝕄) = iprop(held c wg (V m c main_v42) ∗ held c wd (V m c main_v43)) := by
    rw [BI.bigSep_eq_bigSepL_of_eq [main_v42, main_v43] (by decide) (by decide)]; rfl
  rw [Pipeline.ΦD_eq, scopedRest0_eq, hs, hh]
  simp only [sc0, sc1, owns_whole]
  try rfl

/-- The contents of the two weight buffers once the copies have run. -/
abbrev w0 (c : Dev nD) : Vec F S8x1024x704 .bf16 := gu c (V m c main_v42)
abbrev w1 (c : Dev nD) : Vec F S2816x1024 .bf16 := dn c (V m c main_v43)

/-- What holds between grid points: before the first, what the launch hands the region; afterwards the same with the weight
    buffers holding the weights. -/
def Phi (c : Dev nD) (n : ℕ) : sProp 𝕄 :=
  if n = 0 then Pipeline.ΦD osem spec0 hbm (V m) c
  else iprop(iprop(owns (c : Thread nD τ) sc0 fullShare (w0 m c) ∗ owns (c : Thread nD τ) sc1 fullShare (w1 m c)) ∗ (∃ r, prngReg c r) ∗ cells c
        ∗ iprop(held c wg (V m c main_v42) ∗ held c wd (V m c main_v43)))

/-- The running sums when point `n` begins: zeros, then what each point before left. -/
def sums (c : Dev nD) : ℕ → Vec F S8x1024 .f32
  | 0 => k0_pay6
  | n + 1 => if h : n < cfg0.N then accV (iblk m c 0 ⟨n, h⟩) (iblk m c 1 ⟨n, h⟩) (iblk m c 2 ⟨n, h⟩) (iblk m c 3 ⟨n, h⟩) (iblk m c 4 ⟨n, h⟩) (sums c n) (w0 m c) (w1 m c) else sums c n

theorem sums_succ (c : Dev nD) (t : Fin cfg0.N) : sums m c (t.val + 1) = accV (iblk m c 0 t) (iblk m c 1 t) (iblk m c 2 t) (iblk m c 3 t) (iblk m c 4 t) (sums m c t.val) (w0 m c) (w1 m c) := by
  rw [sums, dif_pos t.isLt]

/-- What each window's staging buffer holds after the body at a point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => View.canon (dxL (iblk m c 0 t) (iblk m c 1 t) (iblk m c 2 t) (iblk m c 4 t) (w0 m c) (w1 m c))
    | ⟨6, _⟩ => View.canon (dguL (iblk m c 0 t) (iblk m c 2 t) (iblk m c 4 t) (w1 m c))
    | ⟨7, _⟩ => View.canon (aL (iblk m c 2 t))
    | ⟨8, _⟩ => View.canon (dfL (iblk m c 0 t) (iblk m c 4 t))
    | ⟨9, _⟩ => accV (iblk m c 0 t) (iblk m c 1 t) (iblk m c 2 t) (iblk m c 3 t) (iblk m c 4 t) (sums m c t.val) (w0 m c) (w1 m c)
  Φ t := Phi m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = View.canon (dxL (iblk m c 0 t) (iblk m c 1 t) (iblk m c 2 t) (iblk m c 4 t) (w0 m c) (w1 m c)) := by dsimp only [dats]
theorem after_6 (c : Dev nD) (t : Fin cfg0.N) : (dats m 0 c).after 6 t = View.canon (dguL (iblk m c 0 t) (iblk m c 2 t) (iblk m c 4 t) (w1 m c)) := by dsimp only [dats]
theorem after_7 (c : Dev nD) (t : Fin cfg0.N) : (dats m 0 c).after 7 t = View.canon (aL (iblk m c 2 t)) := by dsimp only [dats]
theorem after_8 (c : Dev nD) (t : Fin cfg0.N) : (dats m 0 c).after 8 t = View.canon (dfL (iblk m c 0 t) (iblk m c 4 t)) := by dsimp only [dats]
theorem after_9 (c : Dev nD) (t : Fin cfg0.N) : (dats m 0 c).after 9 t = accV (iblk m c 0 t) (iblk m c 1 t) (iblk m c 2 t) (iblk m c 3 t) (iblk m c 4 t) (sums m c t.val) (w0 m c) (w1 m c) := by dsimp only [dats]

/-- Each input's staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]) t d).trans
    (by unfold Dat.fetched Dat.blockOf iblk; rw [A_eq]; try rfl)
/-- After the first point the last output's staging buffer holds the running sums. -/
theorem before_9 (c : Dev nD) (t : Fin cfg0.N) (ht : t.val ≠ 0) (d) : (dats m 0 c).before 9 t d = sums m c t.val := by
  have hN : t.val < 16 := Nat.lt_of_lt_of_eq t.isLt N_0
  refine ((dats m 0 c).before_out_kept 9 rfl t ht ?_ (fun _ => rfl) (fun _ _ => rfl) d).trans ?_
  · refine Bool.eq_false_iff.mpr fun h => ?_
    have := (flush0_9 _).mp h
    dsimp only at this
    omega
  · rw [after_9, ← sums_succ]
    exact congrArg (sums m c) (show t.val - 1 + 1 = t.val by omega)

abbrev stg0 (t : Fin cfg0.N) := win0_0.stage (cfg0.slots t 0)
abbrev stg1 (t : Fin cfg0.N) := win0_1.stage (cfg0.slots t 1)
abbrev stg2 (t : Fin cfg0.N) := win0_2.stage (cfg0.slots t 2)
abbrev stg3 (t : Fin cfg0.N) := win0_3.stage (cfg0.slots t 3)
abbrev stg4 (t : Fin cfg0.N) := win0_4.stage (cfg0.slots t 4)
abbrev stg5 (t : Fin cfg0.N) := win0_5.stage (cfg0.slots t 5)
abbrev stg6 (t : Fin cfg0.N) := win0_6.stage (cfg0.slots t 6)
abbrev stg7 (t : Fin cfg0.N) := win0_7.stage (cfg0.slots t 7)
abbrev stg8 (t : Fin cfg0.N) := win0_8.stage (cfg0.slots t 8)
abbrev stg9 (t : Fin cfg0.N) := win0_9.stage (cfg0.slots t 9)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d)))

/-- and what it gives back. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t))

/-- The store of the zeros, as a piece, and that it covers the running sums. -/
abbrev zeroL : List (View.Piece (Elt F) S8x1024 .f32) := [⟨Rect.unit (s := S8x1024) ![0, 0] S8x1024.size inb_S8x1024_S8x1024_0_0, k0_pay6 (F := F)⟩]

theorem zero_cover (y : S8x1024.Idx) : ∃ pc ∈ zeroL (F := F), y ∈ pc.1.set :=
  View.cover_of_tiledL (zeroL (F := F)) S8x1024.size (by sl_kernel_rfl) y

/-- The zeros, on the running sums' staging buffer held at anything. -/
theorem zero_run (c : Dev nD) (arg12 : Memref sig .tc .vmem S8x1024 .f32) (harg12 : arg12.IsWhole) (K : PUnit → sProp 𝕄) :
    iprop((∃ d, owns (c : Thread nD τ) arg12 fullShare d) ∗ (owns (c : Thread nD τ) arg12 fullShare (k0_pay6 (F := F)) -∗ K ⟨⟩))
      ⊢ wp frame (wpE (defs₀ (F := F)) Variants.none c none) Set.univ (zero (F := F) arg12 harg12) K := by
  unfold owns zero
  iintro ⟨⟨%d, %f, -, H⟩, Hk⟩
  sl_exec
  sl_step
  iapply Hk
  iexists _; isplitr
  swap; · iexact H
  ipureintro
  exact (View.read_writes_eq_canon _ _ _ zero_cover).trans (funext fun y => View.canon_apply_of_pieces (Val := Elt F) (e := .f32) (k0_pay6 (F := F)) _
    (fun p hp x => by rw [List.mem_singleton] at hp; subst hp; rfl) y (zero_cover y))

set_option maxHeartbeats 3200000 in
/-- The body at any point: at the first the copies fill the weight buffers, the running sums are set to zero and the rest of the
    body runs on them; at the others the buffers already hold the weights and the sums. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = Phi m c (t.val + 1) from rfl, show (dats m 0 c).Φ t.castSucc = Phi m c t.val from rfl,
    after_0, after_1, after_2, after_3, after_4, after_5, after_6, after_7, after_8, after_9]
  unfold Dat.owesAt Pipeline.owesWithin
  rw [show (dats m 0 c).owed t.castSucc = 0 from rfl, show (dats m 0 c).owed t.succ = 0 from rfl]
  rw [show Phi m c (t.val + 1) = _ from if_neg (Nat.succ_ne_zero _)]
  by_cases h0 : t.val = 0
  · rw [show Phi m c t.val = _ from if_pos h0, launch_eq, show sums m c t.val = k0_pay6 by rw [h0]; rfl]
    rw [body_first _ (grid0.coords second) ((first_iff t).mpr h0) second_not, wp_bind]
    iintro ⟨⟨⟨HS0, HS1⟩, Hg, Hq, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (fetch_all c (grid0.coords t) _ _ _ _ _ _ _ _ _ _ _ _ _ _ _ _ _ _ _ _ (V m c main_v42) (V m c main_v43) W)
    isplitl [HS0]; · iexact HS0
    isplitl [HS1]; · iexact HS1
    isplitl [Hq]; · iexact Hq
    isplitl [Hh0]; · iexact Hh0
    isplitl [Hh1]; · iexact Hh1
    isplitl [HW]; · iexact HW
    iintro ⟨HS0, HS1, Hq, Hh0, Hh1, ⟨%W, HW⟩⟩
    rw [wp_bind]
    iapply (zero_run c _ _)
    isplitl [H9]; · iexists _; iexact H9
    iintro H9
    iapply (step c _ _ _ _ _ _ _ _ _ _ _ _ _ _ _ _ _ _ _ _ _ _ _ _ (iblk m c 0 t) (iblk m c 1 t) (iblk m c 2 t) (iblk m c 3 t) (iblk m c 4 t) k0_pay6 (w0 m c) (w1 m c))
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexact H9
    isplitl [HS0]; · iexact HS0
    isplitl [HS1]; · iexact HS1
    iintro ⟨H0, H1, H2, H3, H4, H5, H6, H7, H8, H9, HS0, HS1⟩
    isplitl [HS0 HS1 Hg Hq Hh0 Hh1]
    · isplitl [HS0 HS1]
      · isplitl [HS0]; · iexact HS0
        iexact HS1
      isplitl [Hg]; · iexact Hg
      isplitl [Hq]; · iexact Hq
      isplitl [Hh0]; · iexact Hh0
      iexact Hh1
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [show Phi m c t.val = _ from if_neg h0]
    simp only [before_9 m c t h0]
    rw [body_later _ (grid0.coords second) (fun h => h0 ((first_iff t).mp h)) second_not]
    iintro ⟨⟨⟨HS0, HS1⟩, Hg, Hq, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (step c _ _ _ _ _ _ _ _ _ _ _ _ _ _ _ _ _ _ _ _ _ _ _ _ (iblk m c 0 t) (iblk m c 1 t) (iblk m c 2 t) (iblk m c 3 t) (iblk m c 4 t) (sums m c t.val) (w0 m c) (w1 m c))
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexact H9
    isplitl [HS0]; · iexact HS0
    isplitl [HS1]; · iexact HS1
    iintro ⟨H0, H1, H2, H3, H4, H5, H6, H7, H8, H9, HS0, HS1⟩
    isplitl [HS0 HS1 Hg Hq Hh0 Hh1]
    · isplitl [HS0 HS1]
      · isplitl [HS0]; · iexact HS0
        iexact HS1
      isplitl [Hg]; · iexact Hg
      isplitl [Hq]; · iexact Hq
      isplitl [Hh0]; · iexact Hh0
      iexact Hh1
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body obligation of the pipeline, at every point. -/
theorem body_ok (c : Dev nD) : BodyObligation (dats (F := F) m 0 c) (defs₀ (F := F)) Variants.none () Set.univ := fun t => by
  have e : defs₀ (F := F) .tc cfg0.body (cfg0.bodyArgs t (cfg0.slots t)) = bodyAt0 t := by
    unfold defs₀; rw [Defs.onTc_tc]
  rw [bigSep_W0, bigSep_W0, e]
  exact triple_restated (sound_body m c t) rfl .rfl fun _ => .rfl

theorem enter (c : Dev nD) : Pipeline.ΦD osem spec0 hbm (V m) c ⊢ (dats m 0 c).Φ 0 := by
  rw [show (dats m 0 c).Φ 0 = Phi m c 0 from rfl, show Phi m c 0 = _ from if_pos rfl]

theorem leave (c : Dev nD) : (dats m 0 c).Φ (Fin.last cfg0.N) ⊢ Pipeline.ΦD osem spec0 hbm (V m) c := by
  rw [show (dats m 0 c).Φ (Fin.last cfg0.N) = Phi m c cfg0.N from rfl, show Phi m c cfg0.N = _ from if_neg (by rw [show cfg0.N = 16 from N_0]; decide), launch_eq]
  iintro ⟨⟨HS0, HS1⟩, Hg, Hq, Hh⟩
  isplitl [HS0 HS1]
  · isplitl [HS0]
    · iexists _; iexact HS0
    iexists _; iexact HS1
  isplitl [Hg]; · iexact Hg
  isplitl [Hq]; · iexact Hq
  iexact Hh

/-- The host operations run before the region leave every buffer at the contents named by `V`. -/
theorem main_ok (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

set_option backward.isDefEq.respectTransparency.types false in
/-- The launch: every run ends, each window's array as the pipeline leaves it, every other buffer as the region found it, and
    every semaphore at zero. -/
theorem run_all : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem defs₀ Variants.none osem_facts hbm hbm_sub m ρ main
    (hbody := fun c => (body_ok m c).loose) (hshare := fun c => (dats m 0 c).share_full fun _ => rfl)
    (howed := fun _ _ => rfl) (V := V m) (hmain := main_ok m Variants.none) (hA := A_eq m) (hin := enter m) (hout := leave m)

/-- Every run ends with the results as the pipeline leaves them and the arguments and semaphores as they were. -/
theorem run_results : θ_run defs (onTc (τ := τ) (main (F := F))) ⟨m, fun _ => 0, ρ⟩ (fun r => (∀ c : Dev nD,
      (r.2.mem ((c : Thread nD τ).loc main_v44_0) = (dats m 0 c).arrAt 5 cfg0.N ∧ r.2.mem ((c : Thread nD τ).loc main_v44_1) = (dats m 0 c).arrAt 6 cfg0.N ∧ r.2.mem ((c : Thread nD τ).loc main_v44_2) = (dats m 0 c).arrAt 7 cfg0.N ∧ r.2.mem ((c : Thread nD τ).loc main_v44_3) = (dats m 0 c).arrAt 8 cfg0.N)
      ∧ (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))) ∧ r.2.sem = fun _ => 0) :=
  (θ_run defs _ _).mono (fun _ h => ⟨fun c => ⟨⟨(h.1 c).1 5, (h.1 c).1 6, (h.1 c).1 7, (h.1 c).1 8⟩,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_all m ρ)

/-- The frame: every run ends with the arguments and the semaphores as they were. -/
theorem frame_ok : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run defs _ _).mono (fun _ h => ⟨fun c => (h.1 c).2, h.2⟩) (run_results m ρ)

end Cert.FfnGradIdeal.Hand

end
-- ==== Proof.FfnGrad.Arrays.lean ====
module

public import proofs.«01_k».proof.Proof.FfnGrad.Blocks
public import proofs.«01_k».proof.Proof.FfnGrad.Host
public import proofs.«01_k».proof.Proof.FfnGrad.Frame
@[expose] public section

set_option maxRecDepth 16384

noncomputable section

/-! # The arrays that the feed-forward gradient call leaves -/

namespace Cert.FfnGradIdeal.Point

open Cert.FfnGradIdeal Cert.FfnGradIdeal.Gen
open Idealize.ShloMosaic Idealize.ShloMosaic.TcCoe Idealize.ShloMosaic.Tactic
open Idealize.ShloMosaic.Pipeline (Dat Cfg Window)
open Cert.MixInIdeal.Point (hAt hAt_congr)
open Cert.FfnIdeal.Point (rowOf gatePlane upPlane swi)

variable (m : (ℓ : Loc nD τ sig) → Buf (Elt Ideal) ℓ) (c : Dev nD)

/-- Which block each window is at, at each grid point. -/
theorem idx : ∀ t : Fin grid0.N,
    win0_0.index t = ![t.val, 0] ∧ win0_1.index t = ![t.val, 0] ∧ win0_2.index t = ![0, t.val, 0] ∧ win0_4.index t = ![0, 0]
      ∧ win0_5.index t = ![t.val, 0] ∧ win0_6.index t = ![0, t.val, 0] ∧ win0_7.index t = ![0, t.val, 0] ∧ win0_8.index t = ![t.val, 0] := by
  decide +kernel

/-- Row `a` of the tile at grid point `t`. -/
abbrev row (t : Fin cfg0.N) (a : Fin 256) : Fin 4096 := ⟨256 * t.val + a.val, by have : t.val < 16 := t.isLt; omega⟩

theorem blk_e (t : Fin cfg0.N) (a : Fin 256) (k : Fin 1024) :
    (iblk m c 0 t : Vec Ideal S256x1024 .f32) (ix2 a k) = (V m c main_arg0 : Vec Ideal S4096x1024 .f32) (ix2 (row t a) k) := by
  blk_ext [iblk, (idx t).1]
theorem blk_x (t : Fin cfg0.N) (a : Fin 256) (k : Fin 1024) :
    (iblk m c 1 t : Vec Ideal S256x1024 .f32) (ix2 a k) = (V m c main_arg1 : Vec Ideal S4096x1024 .f32) (ix2 (row t a) k) := by
  blk_ext [iblk, (idx t).2.1]
theorem blk_gu (t : Fin cfg0.N) (q : Fin 8) (a : Fin 256) (b : Fin 704) :
    (iblk m c 2 t : Vec Ideal S8x256x704 .bf16) (ix3 q a b) = (V m c main_v36 : Vec Ideal S8x4096x704 .bf16) (ix3 q (row t a) b) := by
  blk_ext [iblk, (idx t).2.2.1]
theorem blk_vec (t : Fin cfg0.N) (a : Fin 8) (k : Fin 1024) :
    (iblk m c 4 t : Vec Ideal S8x1024 .f32) (ix2 a k) = (V m c main_v41 : Vec Ideal S8x1024 .f32) (ix2 a k) := by
  blk_ext [iblk, (idx t).2.2.2.1]

/-- The arguments. -/
abbrev aE : Vec Ideal S4096x1024 .f32 := m ((c : Thread nD τ).loc main_arg0)
abbrev aX : Vec Ideal S4096x1024 .f32 := m ((c : Thread nD τ).loc main_arg1)
abbrev aMod : Vec Ideal S9x1024 .f32 := m ((c : Thread nD τ).loc main_arg2)
abbrev aGain : Vec Ideal S1024 .f32 := m ((c : Thread nD τ).loc main_arg3)
abbrev aUp : Vec Ideal S8x1024x704 .f32 := m ((c : Thread nD τ).loc main_arg4)
abbrev aDown : Vec Ideal S8x352x1024 .f32 := m ((c : Thread nD τ).loc main_arg5)

/-- Row `r` of the second weight, as the argument holds it in planes. -/
def downAt (r : Fin 2816) (d : Fin 1024) : EReal := aDown m c (ix3 ⟨r.val / 352, by omega⟩ ⟨r.val % 352, by omega⟩ d)

/-- The modulated row `i`, and the first product plane by plane, of the arguments. -/
def hOf (i : Fin 4096) (d : Fin 1024) : EReal :=
  hAt (fun k => aX m c (ix2 i k)) (fun k => aGain m c (ix1 k)) (fun k => aMod m c (ix2 1 k)) (fun k => aMod m c (ix2 0 k)) d
def guOf (q : Fin 8) (i : Fin 4096) (b : Fin 704) : EReal := ∑ k : Fin 1024, hOf m c i k * aUp m c (ix3 q k b)

/-- The cotangents, of the arguments: the second product's, the gated values', the gate inputs', the up inputs', the first product's, the
    modulated rows' and the rows'; and the gated values. -/
def dfOf (i : Fin 4096) (d : Fin 1024) : EReal := Ideal.ofBits .f32 0x3F000000#32 * aMod m c (ix2 2 d) * aE m c (ix2 i d)
def daOf (q : Fin 4) (i : Fin 4096) (b : Fin 704) : EReal := ∑ d : Fin 1024, dfOf m c i d * downAt m c (rowOf q b) d
def dgOf (q : Fin 4) (i : Fin 4096) (b : Fin 704) : EReal := dgs (daOf m c q i b) (guOf m c (gatePlane q) i b) (guOf m c (upPlane q) i b)
def duOf (q : Fin 4) (i : Fin 4096) (b : Fin 704) : EReal := dus (daOf m c q i b) (guOf m c (gatePlane q) i b)
def aOf (q : Fin 4) (i : Fin 4096) (b : Fin 704) : EReal := swi (guOf m c (gatePlane q) i b) (guOf m c (upPlane q) i b)
def dguOf (p : Fin 8) (i : Fin 4096) (b : Fin 704) : EReal := planesOf (fun q => dgOf m c q i b) (fun q => duOf m c q i b) p
def dhOf (i : Fin 4096) (k : Fin 1024) : EReal :=
  ∑ q : Fin 4, ((∑ b : Fin 704, dgOf m c q i b * aUp m c (ix3 (gatePlane q) k b)) + ∑ b : Fin 704, duOf m c q i b * aUp m c (ix3 (upPlane q) k b))
def dyOf (i : Fin 4096) (k : Fin 1024) : EReal := dyAt (dhOf m c i) (fun k => aMod m c (ix2 1 k)) (fun k => aGain m c (ix1 k)) k
def dxOf (i : Fin 4096) (d : Fin 1024) : EReal := dxAt (fun k => aX m c (ix2 i k)) (dyOf m c i) (fun k => aE m c (ix2 i k)) d

/-- The blocks that the body reads, of the arguments. -/
theorem e_blk (t : Fin cfg0.N) (a : Fin 256) (k : Fin 1024) : (iblk m c 0 t : Vec Ideal S256x1024 .f32) (ix2 a k) = aE m c (ix2 (row t a) k) :=
  (blk_e m c t a k).trans (congrFun (V_main_arg0 m c) _)
theorem x_blk (t : Fin cfg0.N) (a : Fin 256) (k : Fin 1024) : (iblk m c 1 t : Vec Ideal S256x1024 .f32) (ix2 a k) = aX m c (ix2 (row t a) k) :=
  (blk_x m c t a k).trans (congrFun (V_main_arg1 m c) _)
theorem gu_blk (t : Fin cfg0.N) (q : Fin 8) (a : Fin 256) (b : Fin 704) : (iblk m c 2 t : Vec Ideal S8x256x704 .bf16) (ix3 q a b) = guOf m c q (row t a) b :=
  (blk_gu m c t q a b).trans (gu_host _ q (row t a) b)
theorem scale_blk (t : Fin cfg0.N) (k : Fin 1024) : (iblk m c 4 t : Vec Ideal S8x1024 .f32) (ix2 1 k) = aMod m c (ix2 1 k) :=
  (blk_vec m c t 1 k).trans (vec_scale _ k)
theorem gate_blk (t : Fin cfg0.N) (k : Fin 1024) : (iblk m c 4 t : Vec Ideal S8x1024 .f32) (ix2 2 k) = aMod m c (ix2 2 k) :=
  (blk_vec m c t 2 k).trans (vec_gate _ k)
theorem gain_blk (t : Fin cfg0.N) (k : Fin 1024) : (iblk m c 4 t : Vec Ideal S8x1024 .f32) (ix2 3 k) = aGain m c (ix1 k) :=
  (blk_vec m c t 3 k).trans (vec_gain _ k)
theorem up_row (q : Fin 8) (k : Fin 1024) (b : Fin 704) : (Hand.w0 m c : Vec Ideal S8x1024x704 .bf16) (ix3 q k b) = aUp m c (ix3 q k b) :=
  wgu_at _ q k b
theorem down_row (r : Fin 2816) (d : Fin 1024) : (Hand.w1 m c : Vec Ideal S2816x1024 .bf16) (ix2 r d) = downAt m c r d :=
  wdown_at _ _ _ d

/-- What the body computes from them. -/
theorem df_blk (t : Fin cfg0.N) (a : Fin 256) (d : Fin 1024) : dfBlk (iblk m c 0 t) (iblk m c 4 t) a d = dfOf m c (row t a) d :=
  congrArg₂ (· * ·) (congrArg (_ * ·) (gate_blk m c t d)) (e_blk m c t a d)
theorem da_blk (t : Fin cfg0.N) (q : Fin 4) (a : Fin 256) (b : Fin 704) :
    daBlk (iblk m c 0 t) (iblk m c 4 t) (Hand.w1 m c) q a b = daOf m c q (row t a) b :=
  Finset.sum_congr rfl fun d _ => congrArg₂ (· * ·) (df_blk m c t a d) (down_row m c _ d)
theorem dg_blk (t : Fin cfg0.N) (q : Fin 4) (a : Fin 256) (b : Fin 704) :
    dgBlk (iblk m c 0 t) (iblk m c 2 t) (iblk m c 4 t) (Hand.w1 m c) q a b = dgOf m c q (row t a) b := by
  unfold dgBlk dgOf
  rw [da_blk, gu_blk, gu_blk]
theorem du_blk (t : Fin cfg0.N) (q : Fin 4) (a : Fin 256) (b : Fin 704) :
    duBlk (iblk m c 0 t) (iblk m c 2 t) (iblk m c 4 t) (Hand.w1 m c) q a b = duOf m c q (row t a) b := by
  unfold duBlk duOf
  rw [da_blk, gu_blk]
theorem a_blk (t : Fin cfg0.N) (q : Fin 4) (a : Fin 256) (b : Fin 704) : aBlk (iblk m c 2 t) q a b = aOf m c q (row t a) b := by
  unfold aBlk aOf
  rw [gu_blk, gu_blk]
theorem dgu_blk (t : Fin cfg0.N) (p : Fin 8) (a : Fin 256) (b : Fin 704) :
    dguBlk (iblk m c 0 t) (iblk m c 2 t) (iblk m c 4 t) (Hand.w1 m c) p a b = dguOf m c p (row t a) b :=
  congrArg₂ (fun f g => planesOf f g p) (funext fun q => dg_blk m c t q a b) (funext fun q => du_blk m c t q a b)
theorem dh_blk (t : Fin cfg0.N) (a : Fin 256) (k : Fin 1024) :
    dhBlk (iblk m c 0 t) (iblk m c 2 t) (iblk m c 4 t) (Hand.w0 m c) (Hand.w1 m c) a k = dhOf m c (row t a) k :=
  Finset.sum_congr rfl fun q _ => congrArg₂ (· + ·)
    (Finset.sum_congr rfl fun b _ => congrArg₂ (· * ·) (dg_blk m c t q a b) (up_row m c _ k b))
    (Finset.sum_congr rfl fun b _ => congrArg₂ (· * ·) (du_blk m c t q a b) (up_row m c _ k b))
theorem dx_blk (t : Fin cfg0.N) (a : Fin 256) (d : Fin 1024) :
    dxBlk (iblk m c 0 t) (iblk m c 1 t) (iblk m c 2 t) (iblk m c 4 t) (Hand.w0 m c) (Hand.w1 m c) a d = dxOf m c (row t a) d := by
  unfold dxBlk dxOf dyOf
  have e1 : (fun k => (iblk m c 1 t : Vec Ideal S256x1024 .f32) (ix2 a k)) = fun k => aX m c (ix2 (row t a) k) := funext (x_blk m c t a)
  have e0 : (fun k => (iblk m c 0 t : Vec Ideal S256x1024 .f32) (ix2 a k)) = fun k => aE m c (ix2 (row t a) k) := funext (e_blk m c t a)
  have e2 : (fun k => (iblk m c 4 t : Vec Ideal S8x1024 .f32) (ix2 1 k)) = fun k => aMod m c (ix2 1 k) := funext (scale_blk m c t)
  have e3 : (fun k => (iblk m c 4 t : Vec Ideal S8x1024 .f32) (ix2 3 k)) = fun k => aGain m c (ix1 k) := funext (gain_blk m c t)
  have e4 : dhBlk (iblk m c 0 t) (iblk m c 2 t) (iblk m c 4 t) (Hand.w0 m c) (Hand.w1 m c) a = dhOf m c (row t a) := funext (dh_blk m c t a)
  rw [e0, e1, e2, e3, e4]

/-- The result of window 5. -/
theorem dx_arr : (Hand.dats m 0 c).arrAt 5 cfg0.N = ((fun i => dxOf m c (i 0) (i 1)) : Vec Ideal S4096x1024 .f32) := by
  refine (Hand.dats m 0 c).arrAt_eq_of_covers 5 _ (by decide +kernel) fun t hf y => ?_
  blk_simp
  rw [Hand.after_5]
  let a : Fin 256 := ⟨(y 0).val, (y 0).isLt⟩
  let b : Fin 1024 := ⟨(y 1).val, (y 1).isLt⟩
  have hy : y = ix2 a b := by
    funext q; fin_cases q <;> rfl
  have e0 : (win0_5.blk t).view.emb y 0 = row t a := Fin.ext (by blk_simp [(idx t).2.2.2.2.1]; simp [a]; omega)
  have e1 : (win0_5.blk t).view.emb y 1 = b := Fin.ext (by blk_simp [(idx t).2.2.2.2.1]; simp [b])
  rw [e0, e1, hy]
  exact (dx_at _ _ _ _ _ _ a b).trans (dx_blk m c t a b)

/-- The result of window 8. -/
theorem df_arr : (Hand.dats m 0 c).arrAt 8 cfg0.N = ((fun i => dfOf m c (i 0) (i 1)) : Vec Ideal S4096x1024 .bf16) := by
  refine (Hand.dats m 0 c).arrAt_eq_of_covers 8 _ (by decide +kernel) fun t hf y => ?_
  blk_simp
  rw [Hand.after_8]
  let a : Fin 256 := ⟨(y 0).val, (y 0).isLt⟩
  let b : Fin 1024 := ⟨(y 1).val, (y 1).isLt⟩
  have hy : y = ix2 a b := by
    funext q; fin_cases q <;> rfl
  have e0 : (win0_8.blk t).view.emb y 0 = row t a := Fin.ext (by blk_simp [(idx t).2.2.2.2.2.2.2]; simp [a]; omega)
  have e1 : (win0_8.blk t).view.emb y 1 = b := Fin.ext (by blk_simp [(idx t).2.2.2.2.2.2.2]; simp [b])
  rw [e0, e1, hy]
  exact (df_at _ _ a b).trans (df_blk m c t a b)

/-- The result of window 6. -/
theorem dgu_arr : (Hand.dats m 0 c).arrAt 6 cfg0.N = ((fun i => dguOf m c (i 0) (i 1) (i 2)) : Vec Ideal S8x4096x704 .bf16) := by
  refine (Hand.dats m 0 c).arrAt_eq_of_covers 6 _ (by decide +kernel) fun t hf y => ?_
  blk_simp
  rw [Hand.after_6]
  let a : Fin 256 := ⟨(y 1).val, (y 1).isLt⟩
  let q : Fin 8 := ⟨(y 0).val, (y 0).isLt⟩
  let b : Fin 704 := ⟨(y 2).val, (y 2).isLt⟩
  have e0 : (win0_6.blk t).view.emb y 0 = q := Fin.ext (by blk_simp [(idx t).2.2.2.2.2.1]; show _ = (y 0).val; omega)
  have e1 : (win0_6.blk t).view.emb y 1 = row t a := Fin.ext (by blk_simp [(idx t).2.2.2.2.2.1]; show _ = 256 * t.val + (y 1).val; omega)
  have e2 : (win0_6.blk t).view.emb y 2 = b := Fin.ext (by blk_simp [(idx t).2.2.2.2.2.1]; show _ = (y 2).val; omega)
  rw [e0, e1, e2]
  exact (dgu_at _ _ _ _ y).trans (dgu_blk m c t q a b)

/-- The result of window 7. -/
theorem a_arr : (Hand.dats m 0 c).arrAt 7 cfg0.N = ((fun i => aOf m c (i 0) (i 1) (i 2)) : Vec Ideal S4x4096x704 .bf16) := by
  refine (Hand.dats m 0 c).arrAt_eq_of_covers 7 _ (by decide +kernel) fun t hf y => ?_
  blk_simp
  rw [Hand.after_7]
  let a : Fin 256 := ⟨(y 1).val, (y 1).isLt⟩
  let q : Fin 4 := ⟨(y 0).val, (y 0).isLt⟩
  let b : Fin 704 := ⟨(y 2).val, (y 2).isLt⟩
  have e0 : (win0_7.blk t).view.emb y 0 = q := Fin.ext (by blk_simp [(idx t).2.2.2.2.2.2.1]; show _ = (y 0).val; omega)
  have e1 : (win0_7.blk t).view.emb y 1 = row t a := Fin.ext (by blk_simp [(idx t).2.2.2.2.2.2.1]; show _ = 256 * t.val + (y 1).val; omega)
  have e2 : (win0_7.blk t).view.emb y 2 = b := Fin.ext (by blk_simp [(idx t).2.2.2.2.2.2.1]; show _ = (y 2).val; omega)
  rw [e0, e1, e2]
  exact (a_at _ y).trans (a_blk m c t q a b)

end Cert.FfnGradIdeal.Point
-- ==== Proof.FfnGrad.Finite.lean ====
module

public import proofs.«01_k».proof.Defs
public import proofs.«01_k».proof.Proof.Finite
public import proofs.«01_k».proof.Proof.FfnGrad.Real
public import proofs.«01_k».proof.Proof.FfnGrad.Arrays
@[expose] public section

set_option maxRecDepth 16384

noncomputable section

/-! # The precondition of the feed-forward gradient call, read: its six arrays hold real numbers -/

namespace Cert.FfnGradIdeal.Point

open Cert.FfnGradIdeal
open Idealize.ShloMosaic Idealize.ShloMosaic.TcCoe
open Cert.KernelIdeal.Lru (real_of_lt)

/-- The shape facts of the precondition. -/
theorem preFacts : Cert.Pre_ffn_finite.Facts where
  bcast_S_S4096x1024 := by decide +kernel
  bcast_S_S9x1024 := by decide +kernel
  bcast_S_S1024 := by decide +kernel
  bcast_S_S8x1024x704 := by decide +kernel
  bcast_S_S8x352x1024 := by decide +kernel

variable (m : (ℓ : Loc nD τ sig) → Buf (Elt Ideal) ℓ) (c : Dev nD)

/-- Under the precondition every entry of each argument is real. -/
theorem real_arg0 [Cert.Pre_ffn_finite.Facts] (H : Cert.Pre_FfnGradIdeal_ffn_finite m) (i : Fin 4096) (j : Fin 1024) : IsR (aE m c (ix2 i j)) := by
  have h := congrFun (H c).1 (ix2 i j)
  refine real_of_lt _ ?_
  simp only [Cert.Pre_ffn_finite.fn] at h
  pointwise at h
  exact h
theorem real_arg1 [Cert.Pre_ffn_finite.Facts] (H : Cert.Pre_FfnGradIdeal_ffn_finite m) (i : Fin 4096) (j : Fin 1024) : IsR (aX m c (ix2 i j)) := by
  have h := congrFun (H c).2.1 (ix2 i j)
  refine real_of_lt _ ?_
  simp only [Cert.Pre_ffn_finite.fn] at h
  pointwise at h
  exact h
theorem real_arg2 [Cert.Pre_ffn_finite.Facts] (H : Cert.Pre_FfnGradIdeal_ffn_finite m) (i : Fin 9) (j : Fin 1024) : IsR (aMod m c (ix2 i j)) := by
  have h := congrFun (H c).2.2.1 (ix2 i j)
  refine real_of_lt _ ?_
  simp only [Cert.Pre_ffn_finite.fn] at h
  pointwise at h
  exact h
theorem real_arg3 [Cert.Pre_ffn_finite.Facts] (H : Cert.Pre_FfnGradIdeal_ffn_finite m) (j : Fin 1024) : IsR (aGain m c (ix1 j)) := by
  have h := congrFun (H c).2.2.2.1 (ix1 j)
  refine real_of_lt _ ?_
  simp only [Cert.Pre_ffn_finite.fn] at h
  pointwise at h
  exact h
theorem real_arg4 [Cert.Pre_ffn_finite.Facts] (H : Cert.Pre_FfnGradIdeal_ffn_finite m) (q : Fin 8) (i : Fin 1024) (j : Fin 704) : IsR (aUp m c (ix3 q i j)) := by
  have h := congrFun (H c).2.2.2.2.1 (ix3 q i j)
  refine real_of_lt _ ?_
  simp only [Cert.Pre_ffn_finite.fn] at h
  pointwise at h
  exact h
theorem real_arg5 [Cert.Pre_ffn_finite.Facts] (H : Cert.Pre_FfnGradIdeal_ffn_finite m) (q : Fin 8) (i : Fin 352) (j : Fin 1024) : IsR (aDown m c (ix3 q i j)) := by
  have h := congrFun (H c).2.2.2.2.2 (ix3 q i j)
  refine real_of_lt _ ?_
  simp only [Cert.Pre_ffn_finite.fn] at h
  pointwise at h
  exact h

end Cert.FfnGradIdeal.Point
-- ==== Proof.FfnGrad.Tie.lean ====
module

public import proofs.«01_k».proof.Defs
public import proofs.«01_k».proof.Proof.Gen.FfnGradReferenceIdeal.Run
public import proofs.«01_k».proof.Proof.MixIn.Tie
public import proofs.«01_k».proof.Proof.FfnGrad.Ref
public import proofs.«01_k».proof.Proof.FfnGrad.Arrays
public import proofs.«01_k».proof.Proof.FfnGrad.Finite
@[expose] public section

set_option maxRecDepth 16384

noncomputable section

/-! # The feed-forward gradient call and its reference give the same arrays -/

namespace Cert.FfnGradIdeal.Point

open Cert.FfnGradIdeal
open Idealize.ShloMosaic Idealize.ShloMosaic.TcCoe Idealize.SL.Sem
open Cert.FfnGradReferenceIdeal.Read
open Cert.MixInIdeal.Point (eta2 eta3 hAt)
open Cert.FfnIdeal.Point (rowOf gatePlane upPlane swi)

variable (m : (ℓ : Loc nD τ sig) → Buf (Elt Ideal) ℓ) (c : Dev nD)

/-- The reference's first product is the kernel's. -/
theorem gu_ref (q : Fin 8) (i : Fin 4096) (b : Fin 704) :
    (val_main_v31 (F := Ideal) (aX m c) (aMod m c) (aGain m c) (aUp m c) : Vec Ideal Cert.FfnGradReferenceIdeal.S4096x5632 .f32) (ix2 i ⟨704 * q.val + b.val, by omega⟩) = guOf m c q i b :=
  (Cert.FfnGradReferenceIdeal.Point.gu_at _ _ _ _ _ _ _).trans (Finset.sum_congr rfl fun k _ => congrArg (· * _) (Cert.FfnGradReferenceIdeal.Point.h_at _ _ _ _ _))

/-- The reference's gated values are the kernel's. -/
theorem a_ref : (val_main_v78 (F := Ideal) (aX m c) (aMod m c) (aGain m c) (aUp m c) : Vec Ideal Cert.FfnGradReferenceIdeal.S4x4096x704 .bf16) = fun i => aOf m c (i 0) (i 1) (i 2) := by
  funext i
  rw [eta3 i]
  exact (Cert.FfnGradReferenceIdeal.Point.a_planes_at _ _ _ _ _ _ _).trans ((Cert.FfnGradReferenceIdeal.Point.a_at _ _ _ _ _ _ _).trans (congrArg₂ swi (gu_ref m c _ _ _) (gu_ref m c _ _ _)))

/-- The reference's cotangent of the second product is the kernel's, and so is that of the gated values. -/
theorem df_ref : (val_main_v79 (F := Ideal) (aE m c) (aMod m c) : Vec Ideal Cert.FfnGradReferenceIdeal.S4096x1024 .bf16) = fun i => dfOf m c (i 0) (i 1) := by
  funext i
  rw [eta2 i]
  exact Cert.FfnGradReferenceIdeal.Point.df_at _ _ _ _
theorem da_ref (q : Fin 4) (i : Fin 4096) (b : Fin 704) :
    (val_main_v48 (F := Ideal) (aE m c) (aMod m c) (aDown m c) : Vec Ideal Cert.FfnGradReferenceIdeal.S4096x2816 .f32) (ix2 i (rowOf q b)) = daOf m c q i b :=
  (Cert.FfnGradReferenceIdeal.Point.da_at _ _ _ _ _ _).trans (Finset.sum_congr rfl fun d _ => congrArg (· * _) (Cert.FfnGradReferenceIdeal.Point.df_at _ _ _ _))

/-- Sums of products of real numbers are real: what the precondition gives for each array on the way. -/
theorem down_isR [Cert.Pre_ffn_finite.Facts] (H : Cert.Pre_FfnGradIdeal_ffn_finite m) (r : Fin 2816) (d : Fin 1024) : IsR (downAt m c r d) :=
  real_arg5 m c H _ _ _
theorem h_isR [Cert.Pre_ffn_finite.Facts] (H : Cert.Pre_FfnGradIdeal_ffn_finite m) (i : Fin 4096) (d : Fin 1024) : IsR (hOf m c i d) :=
  hAt_isR (fun k => real_arg1 m c H i k) (fun k => real_arg3 m c H k) (fun k => real_arg2 m c H 1 k) (fun k => real_arg2 m c H 0 k) d
theorem gu_isR [Cert.Pre_ffn_finite.Facts] (H : Cert.Pre_FfnGradIdeal_ffn_finite m) (q : Fin 8) (i : Fin 4096) (b : Fin 704) : IsR (guOf m c q i b) :=
  IsR.sum fun k => (h_isR m c H i k).mul (real_arg4 m c H q k b)
theorem df_isR [Cert.Pre_ffn_finite.Facts] (H : Cert.Pre_FfnGradIdeal_ffn_finite m) (i : Fin 4096) (d : Fin 1024) : IsR (dfOf m c i d) :=
  (IsR.mul ⟨_, cHalf⟩ (real_arg2 m c H 2 d)).mul (real_arg0 m c H i d)
theorem da_isR [Cert.Pre_ffn_finite.Facts] (H : Cert.Pre_FfnGradIdeal_ffn_finite m) (q : Fin 4) (i : Fin 4096) (b : Fin 704) : IsR (daOf m c q i b) :=
  IsR.sum fun d => (df_isR m c H i d).mul (down_isR m c H _ d)
theorem dg_isR [Cert.Pre_ffn_finite.Facts] (H : Cert.Pre_FfnGradIdeal_ffn_finite m) (q : Fin 4) (i : Fin 4096) (b : Fin 704) : IsR (dgOf m c q i b) :=
  dgs_isR (da_isR m c H q i b) (gu_isR m c H _ i b) (gu_isR m c H _ i b)
theorem du_isR [Cert.Pre_ffn_finite.Facts] (H : Cert.Pre_FfnGradIdeal_ffn_finite m) (q : Fin 4) (i : Fin 4096) (b : Fin 704) : IsR (duOf m c q i b) :=
  dus_isR (da_isR m c H q i b) (gu_isR m c H _ i b)
theorem dh_isR [Cert.Pre_ffn_finite.Facts] (H : Cert.Pre_FfnGradIdeal_ffn_finite m) (i : Fin 4096) (k : Fin 1024) : IsR (dhOf m c i k) :=
  IsR.sum fun q => (IsR.sum fun b => (dg_isR m c H q i b).mul (real_arg4 m c H _ k b)).add (IsR.sum fun b => (du_isR m c H q i b).mul (real_arg4 m c H _ k b))
theorem dy_isR [Cert.Pre_ffn_finite.Facts] (H : Cert.Pre_FfnGradIdeal_ffn_finite m) (i : Fin 4096) (k : Fin 1024) : IsR (dyOf m c i k) :=
  ((dh_isR m c H i k).mul (isR_one.add (real_arg2 m c H 1 k))).mul (real_arg3 m c H k)

/-- The reference's cotangents of the up inputs and of the gate inputs are the kernel's. -/
theorem du_ref (q : Fin 4) (i : Fin 4096) (b : Fin 704) :
    (val_main_v49 (F := Ideal) (aE m c) (aX m c) (aMod m c) (aGain m c) (aUp m c) (aDown m c) : Vec Ideal Cert.FfnGradReferenceIdeal.S4096x2816 .f32) (ix2 i (rowOf q b)) = duOf m c q i b :=
  (Cert.FfnGradReferenceIdeal.Point.du_at _ _ _ _ _ _ _ _ _).trans (congrArg₂ dus (da_ref m c q i b) (gu_ref m c _ _ _))
theorem dg_ref [Cert.Pre_ffn_finite.Facts] (H : Cert.Pre_FfnGradIdeal_ffn_finite m) (q : Fin 4) (i : Fin 4096) (b : Fin 704) :
    (val_main_v51 (F := Ideal) (aE m c) (aX m c) (aMod m c) (aGain m c) (aUp m c) (aDown m c) : Vec Ideal Cert.FfnGradReferenceIdeal.S4096x2816 .f32) (ix2 i (rowOf q b)) = dgOf m c q i b := by
  refine (Cert.FfnGradReferenceIdeal.Point.dg_at _ _ _ _ _ _ _ _ _).trans ?_
  rw [da_ref, gu_ref, gu_ref]
  exact dgs_eq (da_isR m c H q i b) (gu_isR m c H _ i b) (gu_isR m c H _ i b)

/-- The reference's cotangent of the first product is the kernel's. -/
theorem dgu_ref [Cert.Pre_ffn_finite.Facts] (H : Cert.Pre_FfnGradIdeal_ffn_finite m) :
    (val_main_v75 (F := Ideal) (aE m c) (aX m c) (aMod m c) (aGain m c) (aUp m c) (aDown m c) : Vec Ideal Cert.FfnGradReferenceIdeal.S8x4096x704 .bf16) = fun i => dguOf m c (i 0) (i 1) (i 2) := by
  have key : ∀ (p : Fin 8) (i : Fin 4096) (b : Fin 704),
      (val_main_v75 (F := Ideal) (aE m c) (aX m c) (aMod m c) (aGain m c) (aUp m c) (aDown m c) : Vec Ideal Cert.FfnGradReferenceIdeal.S8x4096x704 .bf16) (ix3 p i b) = dguOf m c p i b := by
    intro p i b
    refine (Cert.FfnGradReferenceIdeal.Point.dgu_at _ _ _ _ _ _ p i b).trans ?_
    unfold dguOf planesOf
    by_cases hp : p.val < 4
    · rw [dif_pos hp]
      exact (Cert.FfnGradReferenceIdeal.Point.cols_gate _ _ _ _ _ _ ⟨p.val, hp⟩ i b).trans (dg_ref m c H ⟨p.val, hp⟩ i b)
    · rw [dif_neg hp]
      have e' : (⟨704 * p.val + b.val, by omega⟩ : Fin 5632) = ⟨704 * (upPlane ⟨p.val - 4, by omega⟩).val + b.val, by have := (upPlane ⟨p.val - 4, by omega⟩).isLt; omega⟩ :=
        Fin.ext (by show 704 * p.val + b.val = 704 * (4 + (p.val - 4)) + b.val; omega)
      rw [e']
      exact (Cert.FfnGradReferenceIdeal.Point.cols_up _ _ _ _ _ _ ⟨p.val - 4, by omega⟩ i b).trans (du_ref m c ⟨p.val - 4, by omega⟩ i b)
  funext i
  rw [eta3 i]
  exact key _ _ _

/-- The reference's cotangents of the modulated and of the normalised rows are the kernel's. -/
theorem dh_ref [Cert.Pre_ffn_finite.Facts] (H : Cert.Pre_FfnGradIdeal_ffn_finite m) (i : Fin 4096) (k : Fin 1024) :
    (val_main_v53 (F := Ideal) (aE m c) (aX m c) (aMod m c) (aGain m c) (aUp m c) (aDown m c) : Vec Ideal Cert.FfnGradReferenceIdeal.S4096x1024 .f32) (ix2 i k) = dhOf m c i k :=
  (Cert.FfnGradReferenceIdeal.Point.dh_at _ _ _ _ _ _ i k).trans (Finset.sum_congr rfl fun q _ => congrArg₂ (· + ·)
    (Finset.sum_congr rfl fun b _ => congrArg (· * _) (dg_ref m c H q i b)) (Finset.sum_congr rfl fun b _ => congrArg (· * _) (du_ref m c q i b)))
theorem dy_ref [Cert.Pre_ffn_finite.Facts] (H : Cert.Pre_FfnGradIdeal_ffn_finite m) (i : Fin 4096) (k : Fin 1024) :
    (val_main_v57 (F := Ideal) (aE m c) (aX m c) (aMod m c) (aGain m c) (aUp m c) (aDown m c) : Vec Ideal Cert.FfnGradReferenceIdeal.S4096x1024 .f32) (ix2 i k) = dyOf m c i k := by
  refine (Cert.FfnGradReferenceIdeal.Point.dy_at _ _ _ _ _ _ i k).trans ?_
  exact congrArg (fun z => z * (1 + aMod m c (ix2 1 k)) * aGain m c (ix1 k)) (dh_ref m c H i k)

/-- The reference's cotangent of the rows is the kernel's. -/
theorem dx_ref [Cert.Pre_ffn_finite.Facts] (H : Cert.Pre_FfnGradIdeal_ffn_finite m) :
    (val_main_v72 (F := Ideal) (aE m c) (aX m c) (aMod m c) (aGain m c) (aUp m c) (aDown m c) : Vec Ideal Cert.FfnGradReferenceIdeal.S4096x1024 .f32) = fun i => dxOf m c (i 0) (i 1) := by
  have key : ∀ (i : Fin 4096) (d : Fin 1024), (val_main_v72 (F := Ideal) (aE m c) (aX m c) (aMod m c) (aGain m c) (aUp m c) (aDown m c) : Vec Ideal Cert.FfnGradReferenceIdeal.S4096x1024 .f32) (ix2 i d) = dxOf m c i d := by
    intro i d
    refine (Cert.FfnGradReferenceIdeal.Point.dx_at _ _ _ _ _ _ i d).trans ?_
    have e : (fun k => (val_main_v57 (F := Ideal) (aE m c) (aX m c) (aMod m c) (aGain m c) (aUp m c) (aDown m c) : Vec Ideal Cert.FfnGradReferenceIdeal.S4096x1024 .f32) (ix2 i k)) = dyOf m c i := funext (dy_ref m c H i)
    rw [e, dy_ref m c H]
    exact dxAt_eq (e := fun k => aE m c (ix2 i k)) (fun k => real_arg1 m c H i k) (fun k => dy_isR m c H i k) d
  funext i
  rw [eta2 i]
  exact key _ _

/-- The feed-forward gradient call's four results are the reference's, for real arguments. -/
theorem algebraic [Cert.Pre_ffn_finite.Facts] : Cert.algebraic_FfnGradIdeal_FfnGradReferenceIdeal_pre_ffn_finite := fun m g m' g' H hagree =>
  ⟨fun c => (fun i => dxOf m c (i 0) (i 1) : Vec Ideal S4096x1024 .f32),
   fun c => (fun i => dguOf m c (i 0) (i 1) (i 2) : Vec Ideal S8x4096x704 .bf16),
   fun c => (fun i => aOf m c (i 0) (i 1) (i 2) : Vec Ideal S4x4096x704 .bf16),
   fun c => (fun i => dfOf m c (i 0) (i 1) : Vec Ideal S4096x1024 .bf16),
   (θ_run Cert.FfnGradIdeal.defs _ _).mono (fun r h c => ⟨((h.1 c).1.1).trans (dx_arr m c), ((h.1 c).1.2.1).trans (dgu_arr m c),
      ((h.1 c).1.2.2.1).trans (a_arr m c), ((h.1 c).1.2.2.2).trans (df_arr m c), (h.1 c).2⟩)
     (Cert.FfnGradIdeal.Hand.run_results m g),
   (θ_run Cert.FfnGradReferenceIdeal.defs _ _).mono (fun r h c =>
     ⟨(h c).1.trans ((val_main_v72_eq (F := Ideal) m' c).trans (by
        obtain ⟨e0, e1, e2, e3, e4, e5⟩ := hagree c
        rw [e0, e1, e2, e3, e4, e5]
        exact dx_ref m c H)),
      (h c).2.1.trans ((val_main_v75_eq (F := Ideal) m' c).trans (by
        obtain ⟨e0, e1, e2, e3, e4, e5⟩ := hagree c
        rw [e0, e1, e2, e3, e4, e5]
        exact dgu_ref m c H)),
      (h c).2.2.1.trans ((val_main_v78_eq (F := Ideal) m' c).trans (by
        obtain ⟨e0, e1, e2, e3, e4, e5⟩ := hagree c
        rw [e1, e2, e3, e4]
        exact a_ref m c)),
      (h c).2.2.2.1.trans ((val_main_v79_eq (F := Ideal) _ _).trans (by
        obtain ⟨e0, e1, e2, e3, e4, e5⟩ := hagree c
        rw [e0, e2]
        exact df_ref m c)), (h c).2.2.2.2⟩)
     (Cert.FfnGradReferenceIdeal.Value.run m' g')⟩

end Cert.FfnGradIdeal.Point

namespace Cert.FfnGradReferenceIdeal.Point

open Cert.FfnGradReferenceIdeal
open Idealize.ShloMosaic Idealize.ShloMosaic.TcCoe Idealize.SL.Sem

/-- The reference has no semaphore, so that nothing is left in one. -/
instance noSem : IsEmpty (SemLoc sig) := by
  constructor
  rintro ⟨⟩
  all_goals exact Fin.elim0 (by assumption)

/-- The reference's runs end with the arguments as they were and, there being no semaphore, with every counter at zero. -/
theorem frame {F : FTy → Type} [FloatOps F] [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun _ h => ⟨fun c => (h c).2.2.2.2, funext fun x => isEmptyElim x.2⟩) (Value.run m ρ)

end Cert.FfnGradReferenceIdeal.Point
-- ==== Proof.lean ====
module

public import proofs.«01_k».proof.Defs
public import proofs.«01_k».proof.Proof.Bits.KRun
public import proofs.«01_k».proof.Proof.RFrame
public import proofs.«01_k».proof.Proof.Tie
public import proofs.«01_k».proof.Proof.MixIn.Tie
public import proofs.«01_k».proof.Proof.Ffn.Tie
public import proofs.«01_k».proof.Proof.FfnBits.Frame
public import proofs.«01_k».proof.Proof.FfnGrad.Tie
public import proofs.«01_k».proof.Proof.FfnGradBits.Frame
public import Idealize.ShloMosaic.Adequacy
public import Idealize.ShloMosaic.Init

@[expose] public section

set_option maxRecDepth 16384

noncomputable section

namespace Cert.Proof

open Idealize.ShloMosaic Idealize.ShloMosaic.TcCoe Idealize.SL.Sem

attribute [local instance] Cert.KernelIdeal.Lru.preFacts Cert.FfnGradIdeal.Point.preFacts

/-- Where the upstream gradient, the projections and the convolution's weights are finite, the kernel's two results are the reference's. -/
theorem algebraic : Cert.algebraic_KernelIdeal_ReferenceIdeal_pre_finite := fun m g m' g' H hagree =>
  ⟨fun c => Cert.KernelIdeal.Lru.W3 m g c (Proc.devRef .tc Cert.KernelIdeal.main_v33_0),
   fun c => Cert.KernelIdeal.Lru.W3 m g c (Proc.devRef .tc Cert.KernelIdeal.main_v34_1),
   (θ_run Cert.KernelIdeal.defs _ _).mono (fun r h c =>
     ⟨h.1 c _ (Cert.KernelIdeal.Lru.mem_uc Cert.KernelIdeal.main_v33_0 (by decide)),
      h.1 c _ (Cert.KernelIdeal.Lru.mem_uc Cert.KernelIdeal.main_v34_1 (by decide)),
      (h.1 c _ (Cert.KernelIdeal.Lru.mem_uc Cert.KernelIdeal.main_arg0 (by decide))).trans (Cert.KernelIdeal.Lru.W3_args m g c Cert.KernelIdeal.main_arg0 (by decide)),
      (h.1 c _ (Cert.KernelIdeal.Lru.mem_uc Cert.KernelIdeal.main_arg1 (by decide))).trans (Cert.KernelIdeal.Lru.W3_args m g c Cert.KernelIdeal.main_arg1 (by decide)),
      (h.1 c _ (Cert.KernelIdeal.Lru.mem_uc Cert.KernelIdeal.main_arg2 (by decide))).trans (Cert.KernelIdeal.Lru.W3_args m g c Cert.KernelIdeal.main_arg2 (by decide)),
      (h.1 c _ (Cert.KernelIdeal.Lru.mem_uc Cert.KernelIdeal.main_arg3 (by decide))).trans (Cert.KernelIdeal.Lru.W3_args m g c Cert.KernelIdeal.main_arg3 (by decide)),
      (h.1 c _ (Cert.KernelIdeal.Lru.mem_uc Cert.KernelIdeal.main_arg4 (by decide))).trans (Cert.KernelIdeal.Lru.W3_args m g c Cert.KernelIdeal.main_arg4 (by decide)),
      (h.1 c _ (Cert.KernelIdeal.Lru.mem_uc Cert.KernelIdeal.main_arg5 (by decide))).trans (Cert.KernelIdeal.Lru.W3_args m g c Cert.KernelIdeal.main_arg5 (by decide)),
      (h.1 c _ (Cert.KernelIdeal.Lru.mem_uc Cert.KernelIdeal.main_arg6 (by decide))).trans (Cert.KernelIdeal.Lru.W3_args m g c Cert.KernelIdeal.main_arg6 (by decide)),
      (h.1 c _ (Cert.KernelIdeal.Lru.mem_uc Cert.KernelIdeal.main_arg7 (by decide))).trans (Cert.KernelIdeal.Lru.W3_args m g c Cert.KernelIdeal.main_arg7 (by decide)),
      (h.1 c _ (Cert.KernelIdeal.Lru.mem_uc Cert.KernelIdeal.main_arg8 (by decide))).trans (Cert.KernelIdeal.Lru.W3_args m g c Cert.KernelIdeal.main_arg8 (by decide))⟩)
     (Cert.KernelIdeal.Lru.run m g),
   (θ_run Cert.ReferenceIdeal.defs _ _).mono (fun r h c =>
     ⟨(h c).1.1.trans (Cert.Lru.y_tie (m := m) (m' := m') g (hagree c)),
      (h c).1.2.trans (Cert.Lru.dg_tie (m := m) (m' := m') g (hagree c) H), (h c).2⟩)
     (Cert.ReferenceIdeal.Lru.run m' g')⟩

theorem claim : Cert.Claim :=
  ⟨Cert.Kernel.Gen.facts, Cert.KernelIdeal.Gen.facts, Cert.ReferenceIdeal.Gen.facts, Cert.MixIn.Gen.facts, Cert.MixInIdeal.Gen.facts,
   Cert.MixInReferenceIdeal.Gen.facts, Cert.Ffn.Gen.facts, Cert.FfnIdeal.Gen.facts, Cert.FfnReferenceIdeal.Gen.facts,
   Cert.FfnGrad.Gen.facts, Cert.FfnGradIdeal.Gen.facts, Cert.FfnGradReferenceIdeal.Gen.facts, Cert.KernelIdeal.Lru.preFacts, Cert.FfnGradIdeal.Point.preFacts,
   fun m ρ _ => Cert.Kernel.Lru.frame m ρ,
   fun m ρ _ => Cert.KernelIdeal.Lru.frame m ρ,
   fun m ρ _ => Cert.KernelIdeal.Lru.frame m ρ,
   fun m ρ _ => Cert.ReferenceIdeal.Lru.frame m ρ,
   fun m ρ _ => Cert.ReferenceIdeal.Lru.frame m ρ,
   fun m ρ _ => Cert.MixIn.Gen.frame m ρ,
   fun m ρ _ => Cert.MixInIdeal.Gen.frame m ρ,
   fun m ρ _ => Cert.MixInReferenceIdeal.Point.frame m ρ,
   fun m ρ _ => Cert.Ffn.Hand.frame_ok m ρ,
   fun m ρ _ => Cert.FfnIdeal.Hand.frame_ok m ρ,
   fun m ρ _ => Cert.FfnReferenceIdeal.Point.frame m ρ,
   fun m ρ _ => Cert.FfnGrad.Hand.frame_ok m ρ,
   fun m ρ _ => Cert.FfnGradIdeal.Hand.frame_ok m ρ,
   fun m ρ _ => Cert.FfnGradIdeal.Hand.frame_ok m ρ,
   fun m ρ _ => Cert.FfnGradReferenceIdeal.Point.frame m ρ,
   fun m ρ _ => Cert.FfnGradReferenceIdeal.Point.frame m ρ,
   ⟨IdealRules.named_const.statement Cert.KernelIdeal.κ "gelu_c" .f32 0x3D372713#32 _ rfl,
    IdealRules.named_const.statement Cert.KernelIdeal.κ "gelu_3c" .f32 0x3E095D4F#32 _ rfl⟩,
   algebraic, trivial, Cert.MixInIdeal.Point.algebraic, trivial, Cert.FfnIdeal.Point.algebraic, trivial, Cert.FfnGradIdeal.Point.algebraic⟩

end Cert.Proof

end
